-- ==== Defs.lean ====
def Pre_SampledDw (m : (ℓ : Loc Cert.SampledDw.nD Cert.SampledDw.τ Cert.SampledDw.sig) → Buf (Elt Bits) ℓ) : Prop :=
  True

def Pre_SampledDwIdeal (m : (ℓ : Loc Cert.SampledDwIdeal.nD Cert.SampledDwIdeal.τ Cert.SampledDwIdeal.sig) → Buf (Elt Ideal) ℓ) : Prop :=
  True

def Pre_SampledDwRefIdeal (m : (ℓ : Loc Cert.SampledDwRefIdeal.nD Cert.SampledDwRefIdeal.τ Cert.SampledDwRefIdeal.sig) → Buf (Elt Ideal) ℓ) : Prop :=
  True

def Pre_LogitGrads [hPre_targets_ok : Cert.Pre_targets_ok.Facts] (m : (ℓ : Loc Cert.LogitGrads.nD Cert.LogitGrads.τ Cert.LogitGrads.sig) → Buf (Elt Bits) ℓ) : Prop :=
  ∀ c : Dev Cert.LogitGrads.nD,
    (Cert.Pre_targets_ok.fn (F := Bits) (m ((c.tc : Thread Cert.LogitGrads.nD Cert.LogitGrads.τ).loc Cert.LogitGrads.main_arg0)) (m ((c.tc : Thread Cert.LogitGrads.nD Cert.LogitGrads.τ).loc Cert.LogitGrads.main_arg1)) (m ((c.tc : Thread Cert.LogitGrads.nD Cert.LogitGrads.τ).loc Cert.LogitGrads.main_arg2)) (m ((c.tc : Thread Cert.LogitGrads.nD Cert.LogitGrads.τ).loc Cert.LogitGrads.main_arg3)) (m ((c.tc : Thread Cert.LogitGrads.nD Cert.LogitGrads.τ).loc Cert.LogitGrads.main_arg4)) (m ((c.tc : Thread Cert.LogitGrads.nD Cert.LogitGrads.τ).loc Cert.LogitGrads.main_arg5)) (m ((c.tc : Thread Cert.LogitGrads.nD Cert.LogitGrads.τ).loc Cert.LogitGrads.main_arg6))) = (fun _ => 1#1)

def Pre_LogitGradsIdeal [hPre_targets_ok : Cert.Pre_targets_ok.Facts] (m : (ℓ : Loc Cert.LogitGradsIdeal.nD Cert.LogitGradsIdeal.τ Cert.LogitGradsIdeal.sig) → Buf (Elt Ideal) ℓ) : Prop :=
  ∀ c : Dev Cert.LogitGradsIdeal.nD,
    (Cert.Pre_targets_ok.fn (F := Ideal) (m ((c.tc : Thread Cert.LogitGradsIdeal.nD Cert.LogitGradsIdeal.τ).loc Cert.LogitGradsIdeal.main_arg0)) (m ((c.tc : Thread Cert.LogitGradsIdeal.nD Cert.LogitGradsIdeal.τ).loc Cert.LogitGradsIdeal.main_arg1)) (m ((c.tc : Thread Cert.LogitGradsIdeal.nD Cert.LogitGradsIdeal.τ).loc Cert.LogitGradsIdeal.main_arg2)) (m ((c.tc : Thread Cert.LogitGradsIdeal.nD Cert.LogitGradsIdeal.τ).loc Cert.LogitGradsIdeal.main_arg3)) (m ((c.tc : Thread Cert.LogitGradsIdeal.nD Cert.LogitGradsIdeal.τ).loc Cert.LogitGradsIdeal.main_arg4)) (m ((c.tc : Thread Cert.LogitGradsIdeal.nD Cert.LogitGradsIdeal.τ).loc Cert.LogitGradsIdeal.main_arg5)) (m ((c.tc : Thread Cert.LogitGradsIdeal.nD Cert.LogitGradsIdeal.τ).loc Cert.LogitGradsIdeal.main_arg6))) = (fun _ => 1#1)

def Pre_LogitGradsIdeal_inputs_ok [hPre_inputs_ok : Cert.Pre_inputs_ok.Facts] (m : (ℓ : Loc Cert.LogitGradsIdeal.nD Cert.LogitGradsIdeal.τ Cert.LogitGradsIdeal.sig) → Buf (Elt Ideal) ℓ) : Prop :=
  ∀ c : Dev Cert.LogitGradsIdeal.nD,
    (Cert.Pre_inputs_ok.fn (F := Ideal) (m ((c.tc : Thread Cert.LogitGradsIdeal.nD Cert.LogitGradsIdeal.τ).loc Cert.LogitGradsIdeal.main_arg0)) (m ((c.tc : Thread Cert.LogitGradsIdeal.nD Cert.LogitGradsIdeal.τ).loc Cert.LogitGradsIdeal.main_arg1)) (m ((c.tc : Thread Cert.LogitGradsIdeal.nD Cert.LogitGradsIdeal.τ).loc Cert.LogitGradsIdeal.main_arg2)) (m ((c.tc : Thread Cert.LogitGradsIdeal.nD Cert.LogitGradsIdeal.τ).loc Cert.LogitGradsIdeal.main_arg3)) (m ((c.tc : Thread Cert.LogitGradsIdeal.nD Cert.LogitGradsIdeal.τ).loc Cert.LogitGradsIdeal.main_arg4)) (m ((c.tc : Thread Cert.LogitGradsIdeal.nD Cert.LogitGradsIdeal.τ).loc Cert.LogitGradsIdeal.main_arg5)) (m ((c.tc : Thread Cert.LogitGradsIdeal.nD Cert.LogitGradsIdeal.τ).loc Cert.LogitGradsIdeal.main_arg6))) = (fun _ => 1#1)

def Pre_LogitGradsRefIdeal (m : (ℓ : Loc Cert.LogitGradsRefIdeal.nD Cert.LogitGradsRefIdeal.τ Cert.LogitGradsRefIdeal.sig) → Buf (Elt Ideal) ℓ) : Prop :=
  True

def Pre_LogitGradsRefIdeal_inputs_ok [hPre_inputs_ok : Cert.Pre_inputs_ok.Facts] (m : (ℓ : Loc Cert.LogitGradsRefIdeal.nD Cert.LogitGradsRefIdeal.τ Cert.LogitGradsRefIdeal.sig) → Buf (Elt Ideal) ℓ) : Prop :=
  ∀ c : Dev Cert.LogitGradsRefIdeal.nD,
    (Cert.Pre_inputs_ok.fn (F := Ideal) (m ((c.tc : Thread Cert.LogitGradsRefIdeal.nD Cert.LogitGradsRefIdeal.τ).loc Cert.LogitGradsRefIdeal.main_arg0)) (m ((c.tc : Thread Cert.LogitGradsRefIdeal.nD Cert.LogitGradsRefIdeal.τ).loc Cert.LogitGradsRefIdeal.main_arg1)) (m ((c.tc : Thread Cert.LogitGradsRefIdeal.nD Cert.LogitGradsRefIdeal.τ).loc Cert.LogitGradsRefIdeal.main_arg2)) (m ((c.tc : Thread Cert.LogitGradsRefIdeal.nD Cert.LogitGradsRefIdeal.τ).loc Cert.LogitGradsRefIdeal.main_arg3)) (m ((c.tc : Thread Cert.LogitGradsRefIdeal.nD Cert.LogitGradsRefIdeal.τ).loc Cert.LogitGradsRefIdeal.main_arg4)) (m ((c.tc : Thread Cert.LogitGradsRefIdeal.nD Cert.LogitGradsRefIdeal.τ).loc Cert.LogitGradsRefIdeal.main_arg5)) (m ((c.tc : Thread Cert.LogitGradsRefIdeal.nD Cert.LogitGradsRefIdeal.τ).loc Cert.LogitGradsRefIdeal.main_arg6))) = (fun _ => 1#1)

def Pre_SampledRows [hPre_ids_ok : Cert.Pre_ids_ok.Facts] (m : (ℓ : Loc Cert.SampledRows.nD Cert.SampledRows.τ Cert.SampledRows.sig) → Buf (Elt Bits) ℓ) : Prop :=
  ∀ c : Dev Cert.SampledRows.nD,
    (Cert.Pre_ids_ok.fn (F := Bits) (m ((c.tc : Thread Cert.SampledRows.nD Cert.SampledRows.τ).loc Cert.SampledRows.main_arg0)) (m ((c.tc : Thread Cert.SampledRows.nD Cert.SampledRows.τ).loc Cert.SampledRows.main_arg1)) (m ((c.tc : Thread Cert.SampledRows.nD Cert.SampledRows.τ).loc Cert.SampledRows.main_arg2))) = (fun _ => 1#1)

def Pre_SampledRowsIdeal [hPre_ids_ok : Cert.Pre_ids_ok.Facts] (m : (ℓ : Loc Cert.SampledRowsIdeal.nD Cert.SampledRowsIdeal.τ Cert.SampledRowsIdeal.sig) → Buf (Elt Ideal) ℓ) : Prop :=
  ∀ c : Dev Cert.SampledRowsIdeal.nD,
    (Cert.Pre_ids_ok.fn (F := Ideal) (m ((c.tc : Thread Cert.SampledRowsIdeal.nD Cert.SampledRowsIdeal.τ).loc Cert.SampledRowsIdeal.main_arg0)) (m ((c.tc : Thread Cert.SampledRowsIdeal.nD Cert.SampledRowsIdeal.τ).loc Cert.SampledRowsIdeal.main_arg1)) (m ((c.tc : Thread Cert.SampledRowsIdeal.nD Cert.SampledRowsIdeal.τ).loc Cert.SampledRowsIdeal.main_arg2))) = (fun _ => 1#1)

def Pre_SampledRowsRefIdeal (m : (ℓ : Loc Cert.SampledRowsRefIdeal.nD Cert.SampledRowsRefIdeal.τ Cert.SampledRowsRefIdeal.sig) → Buf (Elt Ideal) ℓ) : Prop :=
  True

def Pre_SampledRowsRefIdeal_ids_ok [hPre_ids_ok : Cert.Pre_ids_ok.Facts] (m : (ℓ : Loc Cert.SampledRowsRefIdeal.nD Cert.SampledRowsRefIdeal.τ Cert.SampledRowsRefIdeal.sig) → Buf (Elt Ideal) ℓ) : Prop :=
  ∀ c : Dev Cert.SampledRowsRefIdeal.nD,
    (Cert.Pre_ids_ok.fn (F := Ideal) (m ((c.tc : Thread Cert.SampledRowsRefIdeal.nD Cert.SampledRowsRefIdeal.τ).loc Cert.SampledRowsRefIdeal.main_arg0)) (m ((c.tc : Thread Cert.SampledRowsRefIdeal.nD Cert.SampledRowsRefIdeal.τ).loc Cert.SampledRowsRefIdeal.main_arg1)) (m ((c.tc : Thread Cert.SampledRowsRefIdeal.nD Cert.SampledRowsRefIdeal.τ).loc Cert.SampledRowsRefIdeal.main_arg2))) = (fun _ => 1#1)

def quiescent_SampledDw [hSampledDw : Cert.SampledDw.Facts] : Prop :=
  ∀ (m : (ℓ : Loc Cert.SampledDw.nD Cert.SampledDw.τ Cert.SampledDw.sig) → Buf (Elt Bits) ℓ) (g : Dev Cert.SampledDw.nD → PrngReg), Pre_SampledDw m →
    θ_run (Cert.SampledDw.defs (F := Bits)) (onTc (τ := Cert.SampledDw.τ) (Cert.SampledDw.main (F := Bits))) ⟨m, fun _ => 0, g⟩ (fun r => (∀ c : Dev Cert.SampledDw.nD,
      r.2.mem ((c.tc : Thread Cert.SampledDw.nD Cert.SampledDw.τ).loc Cert.SampledDw.main_arg0) = m ((c.tc : Thread Cert.SampledDw.nD Cert.SampledDw.τ).loc Cert.SampledDw.main_arg0)
      ∧ r.2.mem ((c.tc : Thread Cert.SampledDw.nD Cert.SampledDw.τ).loc Cert.SampledDw.main_arg1) = m ((c.tc : Thread Cert.SampledDw.nD Cert.SampledDw.τ).loc Cert.SampledDw.main_arg1))
      ∧ r.2.sem = fun _ => 0)

def quiescent_SampledDwIdeal [hSampledDwIdeal : Cert.SampledDwIdeal.Facts] : Prop :=
  ∀ (m : (ℓ : Loc Cert.SampledDwIdeal.nD Cert.SampledDwIdeal.τ Cert.SampledDwIdeal.sig) → Buf (Elt Ideal) ℓ) (g : Dev Cert.SampledDwIdeal.nD → PrngReg), Pre_SampledDwIdeal m →
    θ_run (Cert.SampledDwIdeal.defs (F := Ideal)) (onTc (τ := Cert.SampledDwIdeal.τ) (Cert.SampledDwIdeal.main (F := Ideal))) ⟨m, fun _ => 0, g⟩ (fun r => (∀ c : Dev Cert.SampledDwIdeal.nD,
      r.2.mem ((c.tc : Thread Cert.SampledDwIdeal.nD Cert.SampledDwIdeal.τ).loc Cert.SampledDwIdeal.main_arg0) = m ((c.tc : Thread Cert.SampledDwIdeal.nD Cert.SampledDwIdeal.τ).loc Cert.SampledDwIdeal.main_arg0)
      ∧ r.2.mem ((c.tc : Thread Cert.SampledDwIdeal.nD Cert.SampledDwIdeal.τ).loc Cert.SampledDwIdeal.main_arg1) = m ((c.tc : Thread Cert.SampledDwIdeal.nD Cert.SampledDwIdeal.τ).loc Cert.SampledDwIdeal.main_arg1))
      ∧ r.2.sem = fun _ => 0)

def quiescent_SampledDwRefIdeal [hSampledDwRefIdeal : Cert.SampledDwRefIdeal.Facts] : Prop :=
  ∀ (m : (ℓ : Loc Cert.SampledDwRefIdeal.nD Cert.SampledDwRefIdeal.τ Cert.SampledDwRefIdeal.sig) → Buf (Elt Ideal) ℓ) (g : Dev Cert.SampledDwRefIdeal.nD → PrngReg), Pre_SampledDwRefIdeal m →
    θ_run (Cert.SampledDwRefIdeal.defs (F := Ideal)) (onTc (τ := Cert.SampledDwRefIdeal.τ) (Cert.SampledDwRefIdeal.main (F := Ideal))) ⟨m, fun _ => 0, g⟩ (fun r => (∀ c : Dev Cert.SampledDwRefIdeal.nD,
      r.2.mem ((c.tc : Thread Cert.SampledDwRefIdeal.nD Cert.SampledDwRefIdeal.τ).loc Cert.SampledDwRefIdeal.main_arg0) = m ((c.tc : Thread Cert.SampledDwRefIdeal.nD Cert.SampledDwRefIdeal.τ).loc Cert.SampledDwRefIdeal.main_arg0)
      ∧ r.2.mem ((c.tc : Thread Cert.SampledDwRefIdeal.nD Cert.SampledDwRefIdeal.τ).loc Cert.SampledDwRefIdeal.main_arg1) = m ((c.tc : Thread Cert.SampledDwRefIdeal.nD Cert.SampledDwRefIdeal.τ).loc Cert.SampledDwRefIdeal.main_arg1))
      ∧ r.2.sem = fun _ => 0)

def quiescent_LogitGrads [hLogitGrads : Cert.LogitGrads.Facts] [hPre_targets_ok : Cert.Pre_targets_ok.Facts] : Prop :=
  ∀ (m : (ℓ : Loc Cert.LogitGrads.nD Cert.LogitGrads.τ Cert.LogitGrads.sig) → Buf (Elt Bits) ℓ) (g : Dev Cert.LogitGrads.nD → PrngReg), Pre_LogitGrads m →
    θ_run (Cert.LogitGrads.defs (F := Bits)) (onTc (τ := Cert.LogitGrads.τ) (Cert.LogitGrads.main (F := Bits))) ⟨m, fun _ => 0, g⟩ (fun r => (∀ c : Dev Cert.LogitGrads.nD,
      r.2.mem ((c.tc : Thread Cert.LogitGrads.nD Cert.LogitGrads.τ).loc Cert.LogitGrads.main_arg0) = m ((c.tc : Thread Cert.LogitGrads.nD Cert.LogitGrads.τ).loc Cert.LogitGrads.main_arg0)
      ∧ r.2.mem ((c.tc : Thread Cert.LogitGrads.nD Cert.LogitGrads.τ).loc Cert.LogitGrads.main_arg1) = m ((c.tc : Thread Cert.LogitGrads.nD Cert.LogitGrads.τ).loc Cert.LogitGrads.main_arg1)
      ∧ r.2.mem ((c.tc : Thread Cert.LogitGrads.nD Cert.LogitGrads.τ).loc Cert.LogitGrads.main_arg2) = m ((c.tc : Thread Cert.LogitGrads.nD Cert.LogitGrads.τ).loc Cert.LogitGrads.main_arg2)
      ∧ r.2.mem ((c.tc : Thread Cert.LogitGrads.nD Cert.LogitGrads.τ).loc Cert.LogitGrads.main_arg3) = m ((c.tc : Thread Cert.LogitGrads.nD Cert.LogitGrads.τ).loc Cert.LogitGrads.main_arg3)
      ∧ r.2.mem ((c.tc : Thread Cert.LogitGrads.nD Cert.LogitGrads.τ).loc Cert.LogitGrads.main_arg4) = m ((c.tc : Thread Cert.LogitGrads.nD Cert.LogitGrads.τ).loc Cert.LogitGrads.main_arg4)
      ∧ r.2.mem ((c.tc : Thread Cert.LogitGrads.nD Cert.LogitGrads.τ).loc Cert.LogitGrads.main_arg5) = m ((c.tc : Thread Cert.LogitGrads.nD Cert.LogitGrads.τ).loc Cert.LogitGrads.main_arg5)
      ∧ r.2.mem ((c.tc : Thread Cert.LogitGrads.nD Cert.LogitGrads.τ).loc Cert.LogitGrads.main_arg6) = m ((c.tc : Thread Cert.LogitGrads.nD Cert.LogitGrads.τ).loc Cert.LogitGrads.main_arg6))
      ∧ r.2.sem = fun _ => 0)

def quiescent_LogitGradsIdeal [hLogitGradsIdeal : Cert.LogitGradsIdeal.Facts] [hPre_targets_ok : Cert.Pre_targets_ok.Facts] : Prop :=
  ∀ (m : (ℓ : Loc Cert.LogitGradsIdeal.nD Cert.LogitGradsIdeal.τ Cert.LogitGradsIdeal.sig) → Buf (Elt Ideal) ℓ) (g : Dev Cert.LogitGradsIdeal.nD → PrngReg), Pre_LogitGradsIdeal m →
    θ_run (Cert.LogitGradsIdeal.defs (F := Ideal)) (onTc (τ := Cert.LogitGradsIdeal.τ) (Cert.LogitGradsIdeal.main (F := Ideal))) ⟨m, fun _ => 0, g⟩ (fun r => (∀ c : Dev Cert.LogitGradsIdeal.nD,
      r.2.mem ((c.tc : Thread Cert.LogitGradsIdeal.nD Cert.LogitGradsIdeal.τ).loc Cert.LogitGradsIdeal.main_arg0) = m ((c.tc : Thread Cert.LogitGradsIdeal.nD Cert.LogitGradsIdeal.τ).loc Cert.LogitGradsIdeal.main_arg0)
      ∧ r.2.mem ((c.tc : Thread Cert.LogitGradsIdeal.nD Cert.LogitGradsIdeal.τ).loc Cert.LogitGradsIdeal.main_arg1) = m ((c.tc : Thread Cert.LogitGradsIdeal.nD Cert.LogitGradsIdeal.τ).loc Cert.LogitGradsIdeal.main_arg1)
      ∧ r.2.mem ((c.tc : Thread Cert.LogitGradsIdeal.nD Cert.LogitGradsIdeal.τ).loc Cert.LogitGradsIdeal.main_arg2) = m ((c.tc : Thread Cert.LogitGradsIdeal.nD Cert.LogitGradsIdeal.τ).loc Cert.LogitGradsIdeal.main_arg2)
      ∧ r.2.mem ((c.tc : Thread Cert.LogitGradsIdeal.nD Cert.LogitGradsIdeal.τ).loc Cert.LogitGradsIdeal.main_arg3) = m ((c.tc : Thread Cert.LogitGradsIdeal.nD Cert.LogitGradsIdeal.τ).loc Cert.LogitGradsIdeal.main_arg3)
      ∧ r.2.mem ((c.tc : Thread Cert.LogitGradsIdeal.nD Cert.LogitGradsIdeal.τ).loc Cert.LogitGradsIdeal.main_arg4) = m ((c.tc : Thread Cert.LogitGradsIdeal.nD Cert.LogitGradsIdeal.τ).loc Cert.LogitGradsIdeal.main_arg4)
      ∧ r.2.mem ((c.tc : Thread Cert.LogitGradsIdeal.nD Cert.LogitGradsIdeal.τ).loc Cert.LogitGradsIdeal.main_arg5) = m ((c.tc : Thread Cert.LogitGradsIdeal.nD Cert.LogitGradsIdeal.τ).loc Cert.LogitGradsIdeal.main_arg5)
      ∧ r.2.mem ((c.tc : Thread Cert.LogitGradsIdeal.nD Cert.LogitGradsIdeal.τ).loc Cert.LogitGradsIdeal.main_arg6) = m ((c.tc : Thread Cert.LogitGradsIdeal.nD Cert.LogitGradsIdeal.τ).loc Cert.LogitGradsIdeal.main_arg6))
      ∧ r.2.sem = fun _ => 0)

def quiescent_LogitGradsIdeal_pre_inputs_ok [hLogitGradsIdeal : Cert.LogitGradsIdeal.Facts] [hPre_inputs_ok : Cert.Pre_inputs_ok.Facts] : Prop :=
  ∀ (m : (ℓ : Loc Cert.LogitGradsIdeal.nD Cert.LogitGradsIdeal.τ Cert.LogitGradsIdeal.sig) → Buf (Elt Ideal) ℓ) (g : Dev Cert.LogitGradsIdeal.nD → PrngReg), Pre_LogitGradsIdeal_inputs_ok m →
    θ_run (Cert.LogitGradsIdeal.defs (F := Ideal)) (onTc (τ := Cert.LogitGradsIdeal.τ) (Cert.LogitGradsIdeal.main (F := Ideal))) ⟨m, fun _ => 0, g⟩ (fun r => (∀ c : Dev Cert.LogitGradsIdeal.nD,
      r.2.mem ((c.tc : Thread Cert.LogitGradsIdeal.nD Cert.LogitGradsIdeal.τ).loc Cert.LogitGradsIdeal.main_arg0) = m ((c.tc : Thread Cert.LogitGradsIdeal.nD Cert.LogitGradsIdeal.τ).loc Cert.LogitGradsIdeal.main_arg0)
      ∧ r.2.mem ((c.tc : Thread Cert.LogitGradsIdeal.nD Cert.LogitGradsIdeal.τ).loc Cert.LogitGradsIdeal.main_arg1) = m ((c.tc : Thread Cert.LogitGradsIdeal.nD Cert.LogitGradsIdeal.τ).loc Cert.LogitGradsIdeal.main_arg1)
      ∧ r.2.mem ((c.tc : Thread Cert.LogitGradsIdeal.nD Cert.LogitGradsIdeal.τ).loc Cert.LogitGradsIdeal.main_arg2) = m ((c.tc : Thread Cert.LogitGradsIdeal.nD Cert.LogitGradsIdeal.τ).loc Cert.LogitGradsIdeal.main_arg2)
      ∧ r.2.mem ((c.tc : Thread Cert.LogitGradsIdeal.nD Cert.LogitGradsIdeal.τ).loc Cert.LogitGradsIdeal.main_arg3) = m ((c.tc : Thread Cert.LogitGradsIdeal.nD Cert.LogitGradsIdeal.τ).loc Cert.LogitGradsIdeal.main_arg3)
      ∧ r.2.mem ((c.tc : Thread Cert.LogitGradsIdeal.nD Cert.LogitGradsIdeal.τ).loc Cert.LogitGradsIdeal.main_arg4) = m ((c.tc : Thread Cert.LogitGradsIdeal.nD Cert.LogitGradsIdeal.τ).loc Cert.LogitGradsIdeal.main_arg4)
      ∧ r.2.mem ((c.tc : Thread Cert.LogitGradsIdeal.nD Cert.LogitGradsIdeal.τ).loc Cert.LogitGradsIdeal.main_arg5) = m ((c.tc : Thread Cert.LogitGradsIdeal.nD Cert.LogitGradsIdeal.τ).loc Cert.LogitGradsIdeal.main_arg5)
      ∧ r.2.mem ((c.tc : Thread Cert.LogitGradsIdeal.nD Cert.LogitGradsIdeal.τ).loc Cert.LogitGradsIdeal.main_arg6) = m ((c.tc : Thread Cert.LogitGradsIdeal.nD Cert.LogitGradsIdeal.τ).loc Cert.LogitGradsIdeal.main_arg6))
      ∧ r.2.sem = fun _ => 0)

def quiescent_LogitGradsRefIdeal [hLogitGradsRefIdeal : Cert.LogitGradsRefIdeal.Facts] : Prop :=
  ∀ (m : (ℓ : Loc Cert.LogitGradsRefIdeal.nD Cert.LogitGradsRefIdeal.τ Cert.LogitGradsRefIdeal.sig) → Buf (Elt Ideal) ℓ) (g : Dev Cert.LogitGradsRefIdeal.nD → PrngReg), Pre_LogitGradsRefIdeal m →
    θ_run (Cert.LogitGradsRefIdeal.defs (F := Ideal)) (onTc (τ := Cert.LogitGradsRefIdeal.τ) (Cert.LogitGradsRefIdeal.main (F := Ideal))) ⟨m, fun _ => 0, g⟩ (fun r => (∀ c : Dev Cert.LogitGradsRefIdeal.nD,
      r.2.mem ((c.tc : Thread Cert.LogitGradsRefIdeal.nD Cert.LogitGradsRefIdeal.τ).loc Cert.LogitGradsRefIdeal.main_arg0) = m ((c.tc : Thread Cert.LogitGradsRefIdeal.nD Cert.LogitGradsRefIdeal.τ).loc Cert.LogitGradsRefIdeal.main_arg0)
      ∧ r.2.mem ((c.tc : Thread Cert.LogitGradsRefIdeal.nD Cert.LogitGradsRefIdeal.τ).loc Cert.LogitGradsRefIdeal.main_arg1) = m ((c.tc : Thread Cert.LogitGradsRefIdeal.nD Cert.LogitGradsRefIdeal.τ).loc Cert.LogitGradsRefIdeal.main_arg1)
      ∧ r.2.mem ((c.tc : Thread Cert.LogitGradsRefIdeal.nD Cert.LogitGradsRefIdeal.τ).loc Cert.LogitGradsRefIdeal.main_arg2) = m ((c.tc : Thread Cert.LogitGradsRefIdeal.nD Cert.LogitGradsRefIdeal.τ).loc Cert.LogitGradsRefIdeal.main_arg2)
      ∧ r.2.mem ((c.tc : Thread Cert.LogitGradsRefIdeal.nD Cert.LogitGradsRefIdeal.τ).loc Cert.LogitGradsRefIdeal.main_arg3) = m ((c.tc : Thread Cert.LogitGradsRefIdeal.nD Cert.LogitGradsRefIdeal.τ).loc Cert.LogitGradsRefIdeal.main_arg3)
      ∧ r.2.mem ((c.tc : Thread Cert.LogitGradsRefIdeal.nD Cert.LogitGradsRefIdeal.τ).loc Cert.LogitGradsRefIdeal.main_arg4) = m ((c.tc : Thread Cert.LogitGradsRefIdeal.nD Cert.LogitGradsRefIdeal.τ).loc Cert.LogitGradsRefIdeal.main_arg4)
      ∧ r.2.mem ((c.tc : Thread Cert.LogitGradsRefIdeal.nD Cert.LogitGradsRefIdeal.τ).loc Cert.LogitGradsRefIdeal.main_arg5) = m ((c.tc : Thread Cert.LogitGradsRefIdeal.nD Cert.LogitGradsRefIdeal.τ).loc Cert.LogitGradsRefIdeal.main_arg5)
      ∧ r.2.mem ((c.tc : Thread Cert.LogitGradsRefIdeal.nD Cert.LogitGradsRefIdeal.τ).loc Cert.LogitGradsRefIdeal.main_arg6) = m ((c.tc : Thread Cert.LogitGradsRefIdeal.nD Cert.LogitGradsRefIdeal.τ).loc Cert.LogitGradsRefIdeal.main_arg6))
      ∧ r.2.sem = fun _ => 0)

def quiescent_LogitGradsRefIdeal_pre_inputs_ok [hLogitGradsRefIdeal : Cert.LogitGradsRefIdeal.Facts] [hPre_inputs_ok : Cert.Pre_inputs_ok.Facts] : Prop :=
  ∀ (m : (ℓ : Loc Cert.LogitGradsRefIdeal.nD Cert.LogitGradsRefIdeal.τ Cert.LogitGradsRefIdeal.sig) → Buf (Elt Ideal) ℓ) (g : Dev Cert.LogitGradsRefIdeal.nD → PrngReg), Pre_LogitGradsRefIdeal_inputs_ok m →
    θ_run (Cert.LogitGradsRefIdeal.defs (F := Ideal)) (onTc (τ := Cert.LogitGradsRefIdeal.τ) (Cert.LogitGradsRefIdeal.main (F := Ideal))) ⟨m, fun _ => 0, g⟩ (fun r => (∀ c : Dev Cert.LogitGradsRefIdeal.nD,
      r.2.mem ((c.tc : Thread Cert.LogitGradsRefIdeal.nD Cert.LogitGradsRefIdeal.τ).loc Cert.LogitGradsRefIdeal.main_arg0) = m ((c.tc : Thread Cert.LogitGradsRefIdeal.nD Cert.LogitGradsRefIdeal.τ).loc Cert.LogitGradsRefIdeal.main_arg0)
      ∧ r.2.mem ((c.tc : Thread Cert.LogitGradsRefIdeal.nD Cert.LogitGradsRefIdeal.τ).loc Cert.LogitGradsRefIdeal.main_arg1) = m ((c.tc : Thread Cert.LogitGradsRefIdeal.nD Cert.LogitGradsRefIdeal.τ).loc Cert.LogitGradsRefIdeal.main_arg1)
      ∧ r.2.mem ((c.tc : Thread Cert.LogitGradsRefIdeal.nD Cert.LogitGradsRefIdeal.τ).loc Cert.LogitGradsRefIdeal.main_arg2) = m ((c.tc : Thread Cert.LogitGradsRefIdeal.nD Cert.LogitGradsRefIdeal.τ).loc Cert.LogitGradsRefIdeal.main_arg2)
      ∧ r.2.mem ((c.tc : Thread Cert.LogitGradsRefIdeal.nD Cert.LogitGradsRefIdeal.τ).loc Cert.LogitGradsRefIdeal.main_arg3) = m ((c.tc : Thread Cert.LogitGradsRefIdeal.nD Cert.LogitGradsRefIdeal.τ).loc Cert.LogitGradsRefIdeal.main_arg3)
      ∧ r.2.mem ((c.tc : Thread Cert.LogitGradsRefIdeal.nD Cert.LogitGradsRefIdeal.τ).loc Cert.LogitGradsRefIdeal.main_arg4) = m ((c.tc : Thread Cert.LogitGradsRefIdeal.nD Cert.LogitGradsRefIdeal.τ).loc Cert.LogitGradsRefIdeal.main_arg4)
      ∧ r.2.mem ((c.tc : Thread Cert.LogitGradsRefIdeal.nD Cert.LogitGradsRefIdeal.τ).loc Cert.LogitGradsRefIdeal.main_arg5) = m ((c.tc : Thread Cert.LogitGradsRefIdeal.nD Cert.LogitGradsRefIdeal.τ).loc Cert.LogitGradsRefIdeal.main_arg5)
      ∧ r.2.mem ((c.tc : Thread Cert.LogitGradsRefIdeal.nD Cert.LogitGradsRefIdeal.τ).loc Cert.LogitGradsRefIdeal.main_arg6) = m ((c.tc : Thread Cert.LogitGradsRefIdeal.nD Cert.LogitGradsRefIdeal.τ).loc Cert.LogitGradsRefIdeal.main_arg6))
      ∧ r.2.sem = fun _ => 0)

def quiescent_SampledRows [hSampledRows : Cert.SampledRows.Facts] [hPre_ids_ok : Cert.Pre_ids_ok.Facts] : Prop :=
  ∀ (m : (ℓ : Loc Cert.SampledRows.nD Cert.SampledRows.τ Cert.SampledRows.sig) → Buf (Elt Bits) ℓ) (g : Dev Cert.SampledRows.nD → PrngReg), Pre_SampledRows m →
    θ_run (Cert.SampledRows.defs (F := Bits)) (onTc (τ := Cert.SampledRows.τ) (Cert.SampledRows.main (F := Bits))) ⟨m, fun _ => 0, g⟩ (fun r => (∀ c : Dev Cert.SampledRows.nD,
      r.2.mem ((c.tc : Thread Cert.SampledRows.nD Cert.SampledRows.τ).loc Cert.SampledRows.main_arg0) = m ((c.tc : Thread Cert.SampledRows.nD Cert.SampledRows.τ).loc Cert.SampledRows.main_arg0)
      ∧ r.2.mem ((c.tc : Thread Cert.SampledRows.nD Cert.SampledRows.τ).loc Cert.SampledRows.main_arg1) = m ((c.tc : Thread Cert.SampledRows.nD Cert.SampledRows.τ).loc Cert.SampledRows.main_arg1)
      ∧ r.2.mem ((c.tc : Thread Cert.SampledRows.nD Cert.SampledRows.τ).loc Cert.SampledRows.main_arg2) = m ((c.tc : Thread Cert.SampledRows.nD Cert.SampledRows.τ).loc Cert.SampledRows.main_arg2))
      ∧ r.2.sem = fun _ => 0)

def quiescent_SampledRowsIdeal [hSampledRowsIdeal : Cert.SampledRowsIdeal.Facts] [hPre_ids_ok : Cert.Pre_ids_ok.Facts] : Prop :=
  ∀ (m : (ℓ : Loc Cert.SampledRowsIdeal.nD Cert.SampledRowsIdeal.τ Cert.SampledRowsIdeal.sig) → Buf (Elt Ideal) ℓ) (g : Dev Cert.SampledRowsIdeal.nD → PrngReg), Pre_SampledRowsIdeal m →
    θ_run (Cert.SampledRowsIdeal.defs (F := Ideal)) (onTc (τ := Cert.SampledRowsIdeal.τ) (Cert.SampledRowsIdeal.main (F := Ideal))) ⟨m, fun _ => 0, g⟩ (fun r => (∀ c : Dev Cert.SampledRowsIdeal.nD,
      r.2.mem ((c.tc : Thread Cert.SampledRowsIdeal.nD Cert.SampledRowsIdeal.τ).loc Cert.SampledRowsIdeal.main_arg0) = m ((c.tc : Thread Cert.SampledRowsIdeal.nD Cert.SampledRowsIdeal.τ).loc Cert.SampledRowsIdeal.main_arg0)
      ∧ r.2.mem ((c.tc : Thread Cert.SampledRowsIdeal.nD Cert.SampledRowsIdeal.τ).loc Cert.SampledRowsIdeal.main_arg1) = m ((c.tc : Thread Cert.SampledRowsIdeal.nD Cert.SampledRowsIdeal.τ).loc Cert.SampledRowsIdeal.main_arg1)
      ∧ r.2.mem ((c.tc : Thread Cert.SampledRowsIdeal.nD Cert.SampledRowsIdeal.τ).loc Cert.SampledRowsIdeal.main_arg2) = m ((c.tc : Thread Cert.SampledRowsIdeal.nD Cert.SampledRowsIdeal.τ).loc Cert.SampledRowsIdeal.main_arg2))
      ∧ r.2.sem = fun _ => 0)

def quiescent_SampledRowsRefIdeal [hSampledRowsRefIdeal : Cert.SampledRowsRefIdeal.Facts] : Prop :=
  ∀ (m : (ℓ : Loc Cert.SampledRowsRefIdeal.nD Cert.SampledRowsRefIdeal.τ Cert.SampledRowsRefIdeal.sig) → Buf (Elt Ideal) ℓ) (g : Dev Cert.SampledRowsRefIdeal.nD → PrngReg), Pre_SampledRowsRefIdeal m →
    θ_run (Cert.SampledRowsRefIdeal.defs (F := Ideal)) (onTc (τ := Cert.SampledRowsRefIdeal.τ) (Cert.SampledRowsRefIdeal.main (F := Ideal))) ⟨m, fun _ => 0, g⟩ (fun r => (∀ c : Dev Cert.SampledRowsRefIdeal.nD,
      r.2.mem ((c.tc : Thread Cert.SampledRowsRefIdeal.nD Cert.SampledRowsRefIdeal.τ).loc Cert.SampledRowsRefIdeal.main_arg0) = m ((c.tc : Thread Cert.SampledRowsRefIdeal.nD Cert.SampledRowsRefIdeal.τ).loc Cert.SampledRowsRefIdeal.main_arg0)
      ∧ r.2.mem ((c.tc : Thread Cert.SampledRowsRefIdeal.nD Cert.SampledRowsRefIdeal.τ).loc Cert.SampledRowsRefIdeal.main_arg1) = m ((c.tc : Thread Cert.SampledRowsRefIdeal.nD Cert.SampledRowsRefIdeal.τ).loc Cert.SampledRowsRefIdeal.main_arg1)
      ∧ r.2.mem ((c.tc : Thread Cert.SampledRowsRefIdeal.nD Cert.SampledRowsRefIdeal.τ).loc Cert.SampledRowsRefIdeal.main_arg2) = m ((c.tc : Thread Cert.SampledRowsRefIdeal.nD Cert.SampledRowsRefIdeal.τ).loc Cert.SampledRowsRefIdeal.main_arg2))
      ∧ r.2.sem = fun _ => 0)

def quiescent_SampledRowsRefIdeal_pre_ids_ok [hSampledRowsRefIdeal : Cert.SampledRowsRefIdeal.Facts] [hPre_ids_ok : Cert.Pre_ids_ok.Facts] : Prop :=
  ∀ (m : (ℓ : Loc Cert.SampledRowsRefIdeal.nD Cert.SampledRowsRefIdeal.τ Cert.SampledRowsRefIdeal.sig) → Buf (Elt Ideal) ℓ) (g : Dev Cert.SampledRowsRefIdeal.nD → PrngReg), Pre_SampledRowsRefIdeal_ids_ok m →
    θ_run (Cert.SampledRowsRefIdeal.defs (F := Ideal)) (onTc (τ := Cert.SampledRowsRefIdeal.τ) (Cert.SampledRowsRefIdeal.main (F := Ideal))) ⟨m, fun _ => 0, g⟩ (fun r => (∀ c : Dev Cert.SampledRowsRefIdeal.nD,
      r.2.mem ((c.tc : Thread Cert.SampledRowsRefIdeal.nD Cert.SampledRowsRefIdeal.τ).loc Cert.SampledRowsRefIdeal.main_arg0) = m ((c.tc : Thread Cert.SampledRowsRefIdeal.nD Cert.SampledRowsRefIdeal.τ).loc Cert.SampledRowsRefIdeal.main_arg0)
      ∧ r.2.mem ((c.tc : Thread Cert.SampledRowsRefIdeal.nD Cert.SampledRowsRefIdeal.τ).loc Cert.SampledRowsRefIdeal.main_arg1) = m ((c.tc : Thread Cert.SampledRowsRefIdeal.nD Cert.SampledRowsRefIdeal.τ).loc Cert.SampledRowsRefIdeal.main_arg1)
      ∧ r.2.mem ((c.tc : Thread Cert.SampledRowsRefIdeal.nD Cert.SampledRowsRefIdeal.τ).loc Cert.SampledRowsRefIdeal.main_arg2) = m ((c.tc : Thread Cert.SampledRowsRefIdeal.nD Cert.SampledRowsRefIdeal.τ).loc Cert.SampledRowsRefIdeal.main_arg2))
      ∧ r.2.sem = fun _ => 0)

def preserves_SampledDw_SampledDwIdeal : Prop :=
  True

def algebraic_SampledDwIdeal_SampledDwRefIdeal [hSampledDwIdeal : Cert.SampledDwIdeal.Facts] [hSampledDwRefIdeal : Cert.SampledDwRefIdeal.Facts] : Prop :=
  ∀ (m : (ℓ : Loc Cert.SampledDwIdeal.nD Cert.SampledDwIdeal.τ Cert.SampledDwIdeal.sig) → Buf (Elt Ideal) ℓ) (g : Dev Cert.SampledDwIdeal.nD → PrngReg)
    (m' : (ℓ : Loc Cert.SampledDwRefIdeal.nD Cert.SampledDwRefIdeal.τ Cert.SampledDwRefIdeal.sig) → Buf (Elt Ideal) ℓ) (g' : Dev Cert.SampledDwRefIdeal.nD → PrngReg), Pre_SampledDwIdeal m →
    (∀ c : Dev Cert.SampledDwIdeal.nD,
      m' ((c.tc : Thread Cert.SampledDwRefIdeal.nD Cert.SampledDwRefIdeal.τ).loc Cert.SampledDwRefIdeal.main_arg0) = m ((c.tc : Thread Cert.SampledDwIdeal.nD Cert.SampledDwIdeal.τ).loc Cert.SampledDwIdeal.main_arg0)
      ∧ m' ((c.tc : Thread Cert.SampledDwRefIdeal.nD Cert.SampledDwRefIdeal.τ).loc Cert.SampledDwRefIdeal.main_arg1) = m ((c.tc : Thread Cert.SampledDwIdeal.nD Cert.SampledDwIdeal.τ).loc Cert.SampledDwIdeal.main_arg1)) →
    ∃ (v0 : (c : Dev Cert.SampledDwIdeal.nD) → Buf (Elt Ideal) ((c.tc : Thread Cert.SampledDwIdeal.nD Cert.SampledDwIdeal.τ).loc Cert.SampledDwIdeal.main_v0)),
      θ_run (Cert.SampledDwIdeal.defs (F := Ideal)) (onTc (τ := Cert.SampledDwIdeal.τ) (Cert.SampledDwIdeal.main (F := Ideal))) ⟨m, fun _ => 0, g⟩ (fun r => ∀ c : Dev Cert.SampledDwIdeal.nD,
          r.2.mem ((c.tc : Thread Cert.SampledDwIdeal.nD Cert.SampledDwIdeal.τ).loc Cert.SampledDwIdeal.main_v0) = v0 c
          ∧ r.2.mem ((c.tc : Thread Cert.SampledDwIdeal.nD Cert.SampledDwIdeal.τ).loc Cert.SampledDwIdeal.main_arg0) = m ((c.tc : Thread Cert.SampledDwIdeal.nD Cert.SampledDwIdeal.τ).loc Cert.SampledDwIdeal.main_arg0)
          ∧ r.2.mem ((c.tc : Thread Cert.SampledDwIdeal.nD Cert.SampledDwIdeal.τ).loc Cert.SampledDwIdeal.main_arg1) = m ((c.tc : Thread Cert.SampledDwIdeal.nD Cert.SampledDwIdeal.τ).loc Cert.SampledDwIdeal.main_arg1))
      ∧ θ_run (Cert.SampledDwRefIdeal.defs (F := Ideal)) (onTc (τ := Cert.SampledDwRefIdeal.τ) (Cert.SampledDwRefIdeal.main (F := Ideal))) ⟨m', fun _ => 0, g'⟩ (fun r => ∀ c : Dev Cert.SampledDwRefIdeal.nD,
          r.2.mem ((c.tc : Thread Cert.SampledDwRefIdeal.nD Cert.SampledDwRefIdeal.τ).loc Cert.SampledDwRefIdeal.main_v0) = v0 c
          ∧ r.2.mem ((c.tc : Thread Cert.SampledDwRefIdeal.nD Cert.SampledDwRefIdeal.τ).loc Cert.SampledDwRefIdeal.main_arg0) = m' ((c.tc : Thread Cert.SampledDwRefIdeal.nD Cert.SampledDwRefIdeal.τ).loc Cert.SampledDwRefIdeal.main_arg0)
          ∧ r.2.mem ((c.tc : Thread Cert.SampledDwRefIdeal.nD Cert.SampledDwRefIdeal.τ).loc Cert.SampledDwRefIdeal.main_arg1) = m' ((c.tc : Thread Cert.SampledDwRefIdeal.nD Cert.SampledDwRefIdeal.τ).loc Cert.SampledDwRefIdeal.main_arg1))

def preserves_LogitGrads_LogitGradsIdeal : Prop :=
  True

def algebraic_LogitGradsIdeal_LogitGradsRefIdeal_pre_inputs_ok [hLogitGradsIdeal : Cert.LogitGradsIdeal.Facts] [hLogitGradsRefIdeal : Cert.LogitGradsRefIdeal.Facts] [hPre_inputs_ok : Cert.Pre_inputs_ok.Facts] : Prop :=
  ∀ (m : (ℓ : Loc Cert.LogitGradsIdeal.nD Cert.LogitGradsIdeal.τ Cert.LogitGradsIdeal.sig) → Buf (Elt Ideal) ℓ) (g : Dev Cert.LogitGradsIdeal.nD → PrngReg)
    (m' : (ℓ : Loc Cert.LogitGradsRefIdeal.nD Cert.LogitGradsRefIdeal.τ Cert.LogitGradsRefIdeal.sig) → Buf (Elt Ideal) ℓ) (g' : Dev Cert.LogitGradsRefIdeal.nD → PrngReg), Pre_LogitGradsIdeal_inputs_ok m →
    (∀ c : Dev Cert.LogitGradsIdeal.nD,
      m' ((c.tc : Thread Cert.LogitGradsRefIdeal.nD Cert.LogitGradsRefIdeal.τ).loc Cert.LogitGradsRefIdeal.main_arg0) = m ((c.tc : Thread Cert.LogitGradsIdeal.nD Cert.LogitGradsIdeal.τ).loc Cert.LogitGradsIdeal.main_arg0)
      ∧ m' ((c.tc : Thread Cert.LogitGradsRefIdeal.nD Cert.LogitGradsRefIdeal.τ).loc Cert.LogitGradsRefIdeal.main_arg1) = m ((c.tc : Thread Cert.LogitGradsIdeal.nD Cert.LogitGradsIdeal.τ).loc Cert.LogitGradsIdeal.main_arg1)
      ∧ m' ((c.tc : Thread Cert.LogitGradsRefIdeal.nD Cert.LogitGradsRefIdeal.τ).loc Cert.LogitGradsRefIdeal.main_arg2) = m ((c.tc : Thread Cert.LogitGradsIdeal.nD Cert.LogitGradsIdeal.τ).loc Cert.LogitGradsIdeal.main_arg2)
      ∧ m' ((c.tc : Thread Cert.LogitGradsRefIdeal.nD Cert.LogitGradsRefIdeal.τ).loc Cert.LogitGradsRefIdeal.main_arg3) = m ((c.tc : Thread Cert.LogitGradsIdeal.nD Cert.LogitGradsIdeal.τ).loc Cert.LogitGradsIdeal.main_arg3)
      ∧ m' ((c.tc : Thread Cert.LogitGradsRefIdeal.nD Cert.LogitGradsRefIdeal.τ).loc Cert.LogitGradsRefIdeal.main_arg4) = m ((c.tc : Thread Cert.LogitGradsIdeal.nD Cert.LogitGradsIdeal.τ).loc Cert.LogitGradsIdeal.main_arg4)
      ∧ m' ((c.tc : Thread Cert.LogitGradsRefIdeal.nD Cert.LogitGradsRefIdeal.τ).loc Cert.LogitGradsRefIdeal.main_arg5) = m ((c.tc : Thread Cert.LogitGradsIdeal.nD Cert.LogitGradsIdeal.τ).loc Cert.LogitGradsIdeal.main_arg5)
      ∧ m' ((c.tc : Thread Cert.LogitGradsRefIdeal.nD Cert.LogitGradsRefIdeal.τ).loc Cert.LogitGradsRefIdeal.main_arg6) = m ((c.tc : Thread Cert.LogitGradsIdeal.nD Cert.LogitGradsIdeal.τ).loc Cert.LogitGradsIdeal.main_arg6)) →
    ∃ (v0 : (c : Dev Cert.LogitGradsIdeal.nD) → Buf (Elt Ideal) ((c.tc : Thread Cert.LogitGradsIdeal.nD Cert.LogitGradsIdeal.τ).loc Cert.LogitGradsIdeal.main_v21_0)) (v1 : (c : Dev Cert.LogitGradsIdeal.nD) → Buf (Elt Ideal) ((c.tc : Thread Cert.LogitGradsIdeal.nD Cert.LogitGradsIdeal.τ).loc Cert.LogitGradsIdeal.main_v21_1)) (v2 : (c : Dev Cert.LogitGradsIdeal.nD) → Buf (Elt Ideal) ((c.tc : Thread Cert.LogitGradsIdeal.nD Cert.LogitGradsIdeal.τ).loc Cert.LogitGradsIdeal.main_v23)) (v3 : (c : Dev Cert.LogitGradsIdeal.nD) → Buf (Elt Ideal) ((c.tc : Thread Cert.LogitGradsIdeal.nD Cert.LogitGradsIdeal.τ).loc Cert.LogitGradsIdeal.main_v25)),
      θ_run (Cert.LogitGradsIdeal.defs (F := Ideal)) (onTc (τ := Cert.LogitGradsIdeal.τ) (Cert.LogitGradsIdeal.main (F := Ideal))) ⟨m, fun _ => 0, g⟩ (fun r => ∀ c : Dev Cert.LogitGradsIdeal.nD,
          r.2.mem ((c.tc : Thread Cert.LogitGradsIdeal.nD Cert.LogitGradsIdeal.τ).loc Cert.LogitGradsIdeal.main_v21_0) = v0 c
          ∧ r.2.mem ((c.tc : Thread Cert.LogitGradsIdeal.nD Cert.LogitGradsIdeal.τ).loc Cert.LogitGradsIdeal.main_v21_1) = v1 c
          ∧ r.2.mem ((c.tc : Thread Cert.LogitGradsIdeal.nD Cert.LogitGradsIdeal.τ).loc Cert.LogitGradsIdeal.main_v23) = v2 c
          ∧ r.2.mem ((c.tc : Thread Cert.LogitGradsIdeal.nD Cert.LogitGradsIdeal.τ).loc Cert.LogitGradsIdeal.main_v25) = v3 c
          ∧ r.2.mem ((c.tc : Thread Cert.LogitGradsIdeal.nD Cert.LogitGradsIdeal.τ).loc Cert.LogitGradsIdeal.main_arg0) = m ((c.tc : Thread Cert.LogitGradsIdeal.nD Cert.LogitGradsIdeal.τ).loc Cert.LogitGradsIdeal.main_arg0)
          ∧ r.2.mem ((c.tc : Thread Cert.LogitGradsIdeal.nD Cert.LogitGradsIdeal.τ).loc Cert.LogitGradsIdeal.main_arg1) = m ((c.tc : Thread Cert.LogitGradsIdeal.nD Cert.LogitGradsIdeal.τ).loc Cert.LogitGradsIdeal.main_arg1)
          ∧ r.2.mem ((c.tc : Thread Cert.LogitGradsIdeal.nD Cert.LogitGradsIdeal.τ).loc Cert.LogitGradsIdeal.main_arg2) = m ((c.tc : Thread Cert.LogitGradsIdeal.nD Cert.LogitGradsIdeal.τ).loc Cert.LogitGradsIdeal.main_arg2)
          ∧ r.2.mem ((c.tc : Thread Cert.LogitGradsIdeal.nD Cert.LogitGradsIdeal.τ).loc Cert.LogitGradsIdeal.main_arg3) = m ((c.tc : Thread Cert.LogitGradsIdeal.nD Cert.LogitGradsIdeal.τ).loc Cert.LogitGradsIdeal.main_arg3)
          ∧ r.2.mem ((c.tc : Thread Cert.LogitGradsIdeal.nD Cert.LogitGradsIdeal.τ).loc Cert.LogitGradsIdeal.main_arg4) = m ((c.tc : Thread Cert.LogitGradsIdeal.nD Cert.LogitGradsIdeal.τ).loc Cert.LogitGradsIdeal.main_arg4)
          ∧ r.2.mem ((c.tc : Thread Cert.LogitGradsIdeal.nD Cert.LogitGradsIdeal.τ).loc Cert.LogitGradsIdeal.main_arg5) = m ((c.tc : Thread Cert.LogitGradsIdeal.nD Cert.LogitGradsIdeal.τ).loc Cert.LogitGradsIdeal.main_arg5)
          ∧ r.2.mem ((c.tc : Thread Cert.LogitGradsIdeal.nD Cert.LogitGradsIdeal.τ).loc Cert.LogitGradsIdeal.main_arg6) = m ((c.tc : Thread Cert.LogitGradsIdeal.nD Cert.LogitGradsIdeal.τ).loc Cert.LogitGradsIdeal.main_arg6))
      ∧ θ_run (Cert.LogitGradsRefIdeal.defs (F := Ideal)) (onTc (τ := Cert.LogitGradsRefIdeal.τ) (Cert.LogitGradsRefIdeal.main (F := Ideal))) ⟨m', fun _ => 0, g'⟩ (fun r => ∀ c : Dev Cert.LogitGradsRefIdeal.nD,
          r.2.mem ((c.tc : Thread Cert.LogitGradsRefIdeal.nD Cert.LogitGradsRefIdeal.τ).loc Cert.LogitGradsRefIdeal.main_v76) = v0 c
          ∧ r.2.mem ((c.tc : Thread Cert.LogitGradsRefIdeal.nD Cert.LogitGradsRefIdeal.τ).loc Cert.LogitGradsRefIdeal.main_v69) = v1 c
          ∧ r.2.mem ((c.tc : Thread Cert.LogitGradsRefIdeal.nD Cert.LogitGradsRefIdeal.τ).loc Cert.LogitGradsRefIdeal.main_v62) = v2 c
          ∧ r.2.mem ((c.tc : Thread Cert.LogitGradsRefIdeal.nD Cert.LogitGradsRefIdeal.τ).loc Cert.LogitGradsRefIdeal.main_v68) = v3 c
          ∧ r.2.mem ((c.tc : Thread Cert.LogitGradsRefIdeal.nD Cert.LogitGradsRefIdeal.τ).loc Cert.LogitGradsRefIdeal.main_arg0) = m' ((c.tc : Thread Cert.LogitGradsRefIdeal.nD Cert.LogitGradsRefIdeal.τ).loc Cert.LogitGradsRefIdeal.main_arg0)
          ∧ r.2.mem ((c.tc : Thread Cert.LogitGradsRefIdeal.nD Cert.LogitGradsRefIdeal.τ).loc Cert.LogitGradsRefIdeal.main_arg1) = m' ((c.tc : Thread Cert.LogitGradsRefIdeal.nD Cert.LogitGradsRefIdeal.τ).loc Cert.LogitGradsRefIdeal.main_arg1)
          ∧ r.2.mem ((c.tc : Thread Cert.LogitGradsRefIdeal.nD Cert.LogitGradsRefIdeal.τ).loc Cert.LogitGradsRefIdeal.main_arg2) = m' ((c.tc : Thread Cert.LogitGradsRefIdeal.nD Cert.LogitGradsRefIdeal.τ).loc Cert.LogitGradsRefIdeal.main_arg2)
          ∧ r.2.mem ((c.tc : Thread Cert.LogitGradsRefIdeal.nD Cert.LogitGradsRefIdeal.τ).loc Cert.LogitGradsRefIdeal.main_arg3) = m' ((c.tc : Thread Cert.LogitGradsRefIdeal.nD Cert.LogitGradsRefIdeal.τ).loc Cert.LogitGradsRefIdeal.main_arg3)
          ∧ r.2.mem ((c.tc : Thread Cert.LogitGradsRefIdeal.nD Cert.LogitGradsRefIdeal.τ).loc Cert.LogitGradsRefIdeal.main_arg4) = m' ((c.tc : Thread Cert.LogitGradsRefIdeal.nD Cert.LogitGradsRefIdeal.τ).loc Cert.LogitGradsRefIdeal.main_arg4)
          ∧ r.2.mem ((c.tc : Thread Cert.LogitGradsRefIdeal.nD Cert.LogitGradsRefIdeal.τ).loc Cert.LogitGradsRefIdeal.main_arg5) = m' ((c.tc : Thread Cert.LogitGradsRefIdeal.nD Cert.LogitGradsRefIdeal.τ).loc Cert.LogitGradsRefIdeal.main_arg5)
          ∧ r.2.mem ((c.tc : Thread Cert.LogitGradsRefIdeal.nD Cert.LogitGradsRefIdeal.τ).loc Cert.LogitGradsRefIdeal.main_arg6) = m' ((c.tc : Thread Cert.LogitGradsRefIdeal.nD Cert.LogitGradsRefIdeal.τ).loc Cert.LogitGradsRefIdeal.main_arg6))

def preserves_SampledRows_SampledRowsIdeal : Prop :=
  True

def algebraic_SampledRowsIdeal_SampledRowsRefIdeal [hSampledRowsIdeal : Cert.SampledRowsIdeal.Facts] [hSampledRowsRefIdeal : Cert.SampledRowsRefIdeal.Facts] [hPre_ids_ok : Cert.Pre_ids_ok.Facts] : Prop :=
  ∀ (m : (ℓ : Loc Cert.SampledRowsIdeal.nD Cert.SampledRowsIdeal.τ Cert.SampledRowsIdeal.sig) → Buf (Elt Ideal) ℓ) (g : Dev Cert.SampledRowsIdeal.nD → PrngReg)
    (m' : (ℓ : Loc Cert.SampledRowsRefIdeal.nD Cert.SampledRowsRefIdeal.τ Cert.SampledRowsRefIdeal.sig) → Buf (Elt Ideal) ℓ) (g' : Dev Cert.SampledRowsRefIdeal.nD → PrngReg), Pre_SampledRowsIdeal m →
    (∀ c : Dev Cert.SampledRowsIdeal.nD,
      m' ((c.tc : Thread Cert.SampledRowsRefIdeal.nD Cert.SampledRowsRefIdeal.τ).loc Cert.SampledRowsRefIdeal.main_arg0) = m ((c.tc : Thread Cert.SampledRowsIdeal.nD Cert.SampledRowsIdeal.τ).loc Cert.SampledRowsIdeal.main_arg0)
      ∧ m' ((c.tc : Thread Cert.SampledRowsRefIdeal.nD Cert.SampledRowsRefIdeal.τ).loc Cert.SampledRowsRefIdeal.main_arg1) = m ((c.tc : Thread Cert.SampledRowsIdeal.nD Cert.SampledRowsIdeal.τ).loc Cert.SampledRowsIdeal.main_arg1)
      ∧ m' ((c.tc : Thread Cert.SampledRowsRefIdeal.nD Cert.SampledRowsRefIdeal.τ).loc Cert.SampledRowsRefIdeal.main_arg2) = m ((c.tc : Thread Cert.SampledRowsIdeal.nD Cert.SampledRowsIdeal.τ).loc Cert.SampledRowsIdeal.main_arg2)) →
    ∃ (v0 : (c : Dev Cert.SampledRowsIdeal.nD) → Buf (Elt Ideal) ((c.tc : Thread Cert.SampledRowsIdeal.nD Cert.SampledRowsIdeal.τ).loc Cert.SampledRowsIdeal.main_v10)),
      θ_run (Cert.SampledRowsIdeal.defs (F := Ideal)) (onTc (τ := Cert.SampledRowsIdeal.τ) (Cert.SampledRowsIdeal.main (F := Ideal))) ⟨m, fun _ => 0, g⟩ (fun r => ∀ c : Dev Cert.SampledRowsIdeal.nD,
          r.2.mem ((c.tc : Thread Cert.SampledRowsIdeal.nD Cert.SampledRowsIdeal.τ).loc Cert.SampledRowsIdeal.main_v10) = v0 c
          ∧ r.2.mem ((c.tc : Thread Cert.SampledRowsIdeal.nD Cert.SampledRowsIdeal.τ).loc Cert.SampledRowsIdeal.main_arg0) = m ((c.tc : Thread Cert.SampledRowsIdeal.nD Cert.SampledRowsIdeal.τ).loc Cert.SampledRowsIdeal.main_arg0)
          ∧ r.2.mem ((c.tc : Thread Cert.SampledRowsIdeal.nD Cert.SampledRowsIdeal.τ).loc Cert.SampledRowsIdeal.main_arg1) = m ((c.tc : Thread Cert.SampledRowsIdeal.nD Cert.SampledRowsIdeal.τ).loc Cert.SampledRowsIdeal.main_arg1)
          ∧ r.2.mem ((c.tc : Thread Cert.SampledRowsIdeal.nD Cert.SampledRowsIdeal.τ).loc Cert.SampledRowsIdeal.main_arg2) = m ((c.tc : Thread Cert.SampledRowsIdeal.nD Cert.SampledRowsIdeal.τ).loc Cert.SampledRowsIdeal.main_arg2))
      ∧ θ_run (Cert.SampledRowsRefIdeal.defs (F := Ideal)) (onTc (τ := Cert.SampledRowsRefIdeal.τ) (Cert.SampledRowsRefIdeal.main (F := Ideal))) ⟨m', fun _ => 0, g'⟩ (fun r => ∀ c : Dev Cert.SampledRowsRefIdeal.nD,
          r.2.mem ((c.tc : Thread Cert.SampledRowsRefIdeal.nD Cert.SampledRowsRefIdeal.τ).loc Cert.SampledRowsRefIdeal.main_v17) = v0 c
          ∧ r.2.mem ((c.tc : Thread Cert.SampledRowsRefIdeal.nD Cert.SampledRowsRefIdeal.τ).loc Cert.SampledRowsRefIdeal.main_arg0) = m' ((c.tc : Thread Cert.SampledRowsRefIdeal.nD Cert.SampledRowsRefIdeal.τ).loc Cert.SampledRowsRefIdeal.main_arg0)
          ∧ r.2.mem ((c.tc : Thread Cert.SampledRowsRefIdeal.nD Cert.SampledRowsRefIdeal.τ).loc Cert.SampledRowsRefIdeal.main_arg1) = m' ((c.tc : Thread Cert.SampledRowsRefIdeal.nD Cert.SampledRowsRefIdeal.τ).loc Cert.SampledRowsRefIdeal.main_arg1)
          ∧ r.2.mem ((c.tc : Thread Cert.SampledRowsRefIdeal.nD Cert.SampledRowsRefIdeal.τ).loc Cert.SampledRowsRefIdeal.main_arg2) = m' ((c.tc : Thread Cert.SampledRowsRefIdeal.nD Cert.SampledRowsRefIdeal.τ).loc Cert.SampledRowsRefIdeal.main_arg2))

def Claim : Prop :=
  ∃ (hSampledDw : Cert.SampledDw.Facts) (hSampledDwIdeal : Cert.SampledDwIdeal.Facts) (hSampledDwRefIdeal : Cert.SampledDwRefIdeal.Facts) (hLogitGrads : Cert.LogitGrads.Facts) (hLogitGradsIdeal : Cert.LogitGradsIdeal.Facts) (hLogitGradsRefIdeal : Cert.LogitGradsRefIdeal.Facts) (hSampledRows : Cert.SampledRows.Facts) (hSampledRowsIdeal : Cert.SampledRowsIdeal.Facts) (hSampledRowsRefIdeal : Cert.SampledRowsRefIdeal.Facts) (hPre_targets_ok : Cert.Pre_targets_ok.Facts) (hPre_inputs_ok : Cert.Pre_inputs_ok.Facts) (hPre_ids_ok : Cert.Pre_ids_ok.Facts),
    quiescent_SampledDw (hSampledDw := hSampledDw)
    ∧ quiescent_SampledDwIdeal (hSampledDwIdeal := hSampledDwIdeal)
    ∧ quiescent_SampledDwRefIdeal (hSampledDwRefIdeal := hSampledDwRefIdeal)
    ∧ quiescent_LogitGrads (hLogitGrads := hLogitGrads) (hPre_targets_ok := hPre_targets_ok)
    ∧ quiescent_LogitGradsIdeal (hLogitGradsIdeal := hLogitGradsIdeal) (hPre_targets_ok := hPre_targets_ok)
    ∧ quiescent_LogitGradsIdeal_pre_inputs_ok (hLogitGradsIdeal := hLogitGradsIdeal) (hPre_inputs_ok := hPre_inputs_ok)
    ∧ quiescent_LogitGradsRefIdeal (hLogitGradsRefIdeal := hLogitGradsRefIdeal)
    ∧ quiescent_LogitGradsRefIdeal_pre_inputs_ok (hLogitGradsRefIdeal := hLogitGradsRefIdeal) (hPre_inputs_ok := hPre_inputs_ok)
    ∧ quiescent_SampledRows (hSampledRows := hSampledRows) (hPre_ids_ok := hPre_ids_ok)
    ∧ quiescent_SampledRowsIdeal (hSampledRowsIdeal := hSampledRowsIdeal) (hPre_ids_ok := hPre_ids_ok)
    ∧ quiescent_SampledRowsRefIdeal (hSampledRowsRefIdeal := hSampledRowsRefIdeal)
    ∧ quiescent_SampledRowsRefIdeal_pre_ids_ok (hSampledRowsRefIdeal := hSampledRowsRefIdeal) (hPre_ids_ok := hPre_ids_ok)
    ∧ preserves_SampledDw_SampledDwIdeal
    ∧ algebraic_SampledDwIdeal_SampledDwRefIdeal (hSampledDwIdeal := hSampledDwIdeal) (hSampledDwRefIdeal := hSampledDwRefIdeal)
    ∧ preserves_LogitGrads_LogitGradsIdeal
    ∧ algebraic_LogitGradsIdeal_LogitGradsRefIdeal_pre_inputs_ok (hLogitGradsIdeal := hLogitGradsIdeal) (hLogitGradsRefIdeal := hLogitGradsRefIdeal) (hPre_inputs_ok := hPre_inputs_ok)
    ∧ preserves_SampledRows_SampledRowsIdeal
    ∧ algebraic_SampledRowsIdeal_SampledRowsRefIdeal (hSampledRowsIdeal := hSampledRowsIdeal) (hSampledRowsRefIdeal := hSampledRowsRefIdeal) (hPre_ids_ok := hPre_ids_ok)
-- ==== Pre_ids_ok.lean ====
abbrev S5120 : Shape := ⟨1, ![5120]⟩
abbrev S50304x2560 : Shape := ⟨2, ![50304, 2560]⟩
abbrev S88x11264 : Shape := ⟨2, ![88, 11264]⟩
abbrev S_ : Shape := ⟨0, ![]⟩

class Facts : Prop where
  bcast_S_S5120 : S_.BroadcastsInDim S5120 (![] : Fin 0 → Fin S5120.rank)
  reducesTo_S5120_S_d0 : S5120.ReducesTo [0] S_
  h_S_ : 0 < S_.numel

variable [Facts]

def fn {F : FTy → Type} [FloatOps F] (main_arg0 : IVec S5120 32) (main_arg1 : IVec S50304x2560 8) (main_arg2 : FVec F S88x11264 .f32) : IVec S_ 1 :=
  let main_c : IVec S_ 32 := constantI S_ 32 0#32
  let main_v0 : IVec S5120 32 := broadcastInDim S5120 ![] bcast_S_S5120 main_c
  let main_v1 : IVec S5120 1 := cmpi .sge main_arg0 main_v0
  let main_c_0 : IVec S_ 32 := constantI S_ 32 50304#32
  let main_v2 : IVec S5120 32 := broadcastInDim S5120 ![] bcast_S_S5120 main_c_0
  let main_v3 : IVec S5120 1 := cmpi .slt main_arg0 main_v2
  let main_v4 : IVec S5120 1 := andi main_v1 main_v3
  let main_c_1 : IVec S_ 1 := constantI S_ 1 1#1
  let main_v5 : IVec S_ 1 := (fun x v => Host.reduce IntOp.andi x v reducesTo_S5120_S_d0 h_S_) main_v4 main_c_1
  main_v5
-- ==== Pre_inputs_ok.lean ====
abbrev S6144 : Shape := ⟨1, ![6144]⟩
abbrev S50304x2560 : Shape := ⟨2, ![50304, 2560]⟩
abbrev S5120x2560 : Shape := ⟨2, ![5120, 2560]⟩
abbrev S6144x2560 : Shape := ⟨2, ![6144, 2560]⟩
abbrev S88x11264 : Shape := ⟨2, ![88, 11264]⟩
abbrev S5120 : Shape := ⟨1, ![5120]⟩
abbrev S_ : Shape := ⟨0, ![]⟩
abbrev S1x5120 : Shape := ⟨2, ![1, 5120]⟩

class Facts : Prop where
  bcast_S_S6144 : S_.BroadcastsInDim S6144 (![] : Fin 0 → Fin S6144.rank)
  reducesTo_S6144_S_d0 : S6144.ReducesTo [0] S_
  h_S_ : 0 < S_.numel
  bcast_S_S5120x2560 : S_.BroadcastsInDim S5120x2560 (![] : Fin 0 → Fin S5120x2560.rank)
  reducesTo_S5120x2560_S_d0_1 : S5120x2560.ReducesTo [0, 1] S_
  bcast_S_S6144x2560 : S_.BroadcastsInDim S6144x2560 (![] : Fin 0 → Fin S6144x2560.rank)
  reducesTo_S6144x2560_S_d0_1 : S6144x2560.ReducesTo [0, 1] S_
  slices_S88x11264_S1x5120_80_0 : S88x11264.Slices ![80, 0] S1x5120
  shapeCasts_S1x5120_S5120 : S1x5120.ShapeCasts S5120
  bcast_S_S5120 : S_.BroadcastsInDim S5120 (![] : Fin 0 → Fin S5120.rank)
  reducesTo_S5120_S_d0 : S5120.ReducesTo [0] S_

variable [Facts]

def fn_part1 {F : FTy → Type} [FloatOps F] (main_v15 : IVec S_ 1) (main_v16 : FVec F S1x5120 .f32) : IVec S_ 1 :=
  let main_v17 : FVec F S5120 .f32 := shapeCast S5120 main_v16 shapeCasts_S1x5120_S5120
  let main_v18 : FVec F S5120 .f32 := Host.absf main_v17
  let main_cst_5 : FVec F S_ .f32 := constant S_ .f32 0x7F800000#32
  let main_v19 : FVec F S5120 .f32 := broadcastInDim S5120 ![] bcast_S_S5120 main_cst_5
  let main_v20 : IVec S5120 1 := cmpf .olt main_v18 main_v19
  let main_c_6 : IVec S_ 1 := constantI S_ 1 1#1
  let main_v21 : IVec S_ 1 := (fun x v => Host.reduce IntOp.andi x v reducesTo_S5120_S_d0 h_S_) main_v20 main_c_6
  let main_v22 : IVec S_ 1 := andi main_v15 main_v21
  main_v22

def fn {F : FTy → Type} [FloatOps F] (main_arg0 : IVec S6144 32) (main_arg1 : IVec S50304x2560 8) (main_arg2 : FVec F S5120x2560 .bf16) (main_arg3 : FVec F S6144x2560 .bf16) (main_arg4 : FVec F S88x11264 .f32) (main_arg5 : FVec F S6144 .f32) (main_arg6 : IVec S5120 32) : IVec S_ 1 :=
  let main_c : IVec S_ 32 := constantI S_ 32 0#32
  let main_v0 : IVec S6144 32 := broadcastInDim S6144 ![] bcast_S_S6144 main_c
  let main_v1 : IVec S6144 1 := cmpi .sge main_arg0 main_v0
  let main_c_0 : IVec S_ 32 := constantI S_ 32 50304#32
  let main_v2 : IVec S6144 32 := broadcastInDim S6144 ![] bcast_S_S6144 main_c_0
  let main_v3 : IVec S6144 1 := cmpi .slt main_arg0 main_v2
  let main_v4 : IVec S6144 1 := andi main_v1 main_v3
  let main_c_1 : IVec S_ 1 := constantI S_ 1 1#1
  let main_v5 : IVec S_ 1 := (fun x v => Host.reduce IntOp.andi x v reducesTo_S6144_S_d0 h_S_) main_v4 main_c_1
  let main_v6 : FVec F S5120x2560 .bf16 := Host.absf main_arg2
  let main_cst : FVec F S_ .bf16 := constant S_ .bf16 0x7F80#16
  let main_v7 : FVec F S5120x2560 .bf16 := broadcastInDim S5120x2560 ![] bcast_S_S5120x2560 main_cst
  let main_v8 : IVec S5120x2560 1 := cmpf .olt main_v6 main_v7
  let main_c_2 : IVec S_ 1 := constantI S_ 1 1#1
  let main_v9 : IVec S_ 1 := (fun x v => Host.reduce IntOp.andi x v reducesTo_S5120x2560_S_d0_1 h_S_) main_v8 main_c_2
  let main_v10 : IVec S_ 1 := andi main_v5 main_v9
  let main_v11 : FVec F S6144x2560 .bf16 := Host.absf main_arg3
  let main_cst_3 : FVec F S_ .bf16 := constant S_ .bf16 0x7F80#16
  let main_v12 : FVec F S6144x2560 .bf16 := broadcastInDim S6144x2560 ![] bcast_S_S6144x2560 main_cst_3
  let main_v13 : IVec S6144x2560 1 := cmpf .olt main_v11 main_v12
  let main_c_4 : IVec S_ 1 := constantI S_ 1 1#1
  let main_v14 : IVec S_ 1 := (fun x v => Host.reduce IntOp.andi x v reducesTo_S6144x2560_S_d0_1 h_S_) main_v13 main_c_4
  let main_v15 : IVec S_ 1 := andi main_v10 main_v14
  let main_v16 : FVec F S1x5120 .f32 := (extractStridedSlice S1x5120 ![80, 0] · slices_S88x11264_S1x5120_80_0) main_arg4
  fn_part1 (F := F) main_v15 main_v16
-- ==== Pre_targets_ok.lean ====
abbrev S6144 : Shape := ⟨1, ![6144]⟩
abbrev S50304x2560 : Shape := ⟨2, ![50304, 2560]⟩
abbrev S5120x2560 : Shape := ⟨2, ![5120, 2560]⟩
abbrev S6144x2560 : Shape := ⟨2, ![6144, 2560]⟩
abbrev S88x11264 : Shape := ⟨2, ![88, 11264]⟩
abbrev S5120 : Shape := ⟨1, ![5120]⟩
abbrev S_ : Shape := ⟨0, ![]⟩

class Facts : Prop where
  bcast_S_S6144 : S_.BroadcastsInDim S6144 (![] : Fin 0 → Fin S6144.rank)
  reducesTo_S6144_S_d0 : S6144.ReducesTo [0] S_
  h_S_ : 0 < S_.numel

variable [Facts]

def fn {F : FTy → Type} [FloatOps F] (main_arg0 : IVec S6144 32) (main_arg1 : IVec S50304x2560 8) (main_arg2 : FVec F S5120x2560 .bf16) (main_arg3 : FVec F S6144x2560 .bf16) (main_arg4 : FVec F S88x11264 .f32) (main_arg5 : FVec F S6144 .f32) (main_arg6 : IVec S5120 32) : IVec S_ 1 :=
  let main_c : IVec S_ 32 := constantI S_ 32 0#32
  let main_v0 : IVec S6144 32 := broadcastInDim S6144 ![] bcast_S_S6144 main_c
  let main_v1 : IVec S6144 1 := cmpi .sge main_arg0 main_v0
  let main_c_0 : IVec S_ 32 := constantI S_ 32 50304#32
  let main_v2 : IVec S6144 32 := broadcastInDim S6144 ![] bcast_S_S6144 main_c_0
  let main_v3 : IVec S6144 1 := cmpi .slt main_arg0 main_v2
  let main_v4 : IVec S6144 1 := andi main_v1 main_v3
  let main_c_1 : IVec S_ 1 := constantI S_ 1 1#1
  let main_v5 : IVec S_ 1 := (fun x v => Host.reduce IntOp.andi x v reducesTo_S6144_S_d0 h_S_) main_v4 main_c_1
  main_v5
-- ==== SampledDw.lean ====
abbrev S6144x2560 : Shape := ⟨2, ![6144, 2560]⟩
abbrev S6144x5120 : Shape := ⟨2, ![6144, 5120]⟩
abbrev S5120x2560 : Shape := ⟨2, ![5120, 2560]⟩
abbrev S6144x256 : Shape := ⟨2, ![6144, 256]⟩
abbrev S256x2560 : Shape := ⟨2, ![256, 2560]⟩
abbrev S_ : Shape := ⟨0, ![]⟩
abbrev S1024x256 : Shape := ⟨2, ![1024, 256]⟩
abbrev S1024x2560 : Shape := ⟨2, ![1024, 2560]⟩

abbrev nBuf : Space → Nat
  | .hbm => 3
  | .vmem => 5
  | .smem => 0
  | _ => 0

abbrev bufTy : (tb : Table) → Fin (tcTables nBuf tb) → BufTy
  | .hbm, ⟨0, _⟩ => ⟨S6144x2560, .bf16⟩
  | .hbm, ⟨1, _⟩ => ⟨S6144x5120, .bf16⟩
  | .hbm, ⟨2, _⟩ => ⟨S5120x2560, .f32⟩
  | .local _ .vmem, ⟨0, _⟩ => ⟨S6144x256, .bf16⟩
  | .local _ .vmem, ⟨1, _⟩ => ⟨S6144x256, .bf16⟩
  | .local _ .vmem, ⟨2, _⟩ => ⟨S256x2560, .f32⟩
  | .local _ .vmem, ⟨3, _⟩ => ⟨S256x2560, .f32⟩
  | .local _ .vmem, ⟨4, _⟩ => ⟨S6144x2560, .bf16⟩
  | _, _ => ⟨S6144x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def k0_mult1 : BitVec 32 :=
  let c0_i32_1 : BitVec 32 := 0#32
  c0_i32_1
@[reducible] def k0_t1_loop : Scf.Loop 32 :=
  let c1_i32 : BitVec 32 := 1#32
  let c5_i32 : BitVec 32 := 5#32
  let v10 : BitVec 32 := Scalar.addi c1_i32 c5_i32
  let c1_i32_5 : BitVec 32 := 1#32
  ⟨c1_i32, v10, c1_i32_5⟩
def k0_mult2 (k0_t1 : Fin k0_t1_loop.trips) : BitVec 32 :=
  let c1_i32 : BitVec 32 := 1#32
  let c1_i32_5 : BitVec 32 := 1#32
  let arg6 : BitVec 32 := Scf.iv c1_i32 c1_i32_5 k0_t1
  let c1024_i32 : BitVec 32 := 1024#32
  let v13 : BitVec 32 := Scalar.muli arg6 c1024_i32
  v13
def k0_off1 (k0_t1 : Fin k0_t1_loop.trips) : Fin 2 → Nat :=
  let c1_i32 : BitVec 32 := 1#32
  let c1_i32_5 : BitVec 32 := 1#32
  let arg6 : BitVec 32 := Scf.iv c1_i32 c1_i32_5 k0_t1
  let c1024_i32 : BitVec 32 := 1024#32
  let v13 : BitVec 32 := Scalar.muli arg6 c1024_i32
  let v14 : BitVec 32 := v13
  let v15 : Index := Scalar.indexCast v14
  let c0_9 : Index := 0#32
  ![v15.toNat, 0]
def k0_off2 (k0_t1 : Fin k0_t1_loop.trips) : Fin 2 → Nat :=
  let c1_i32 : BitVec 32 := 1#32
  let c1_i32_5 : BitVec 32 := 1#32
  let arg6 : BitVec 32 := Scf.iv c1_i32 c1_i32_5 k0_t1
  let c1024_i32 : BitVec 32 := 1024#32
  let v13 : BitVec 32 := Scalar.muli arg6 c1024_i32
  let v14 : BitVec 32 := v13
  let v17 : Index := Scalar.indexCast v14
  let c0_10 : Index := 0#32
  ![v17.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SampledDwRefIdeal.lean ====
abbrev S6144x2560 : Shape := ⟨2, ![6144, 2560]⟩
abbrev S6144x5120 : Shape := ⟨2, ![6144, 5120]⟩
abbrev S5120x2560 : Shape := ⟨2, ![5120, 2560]⟩

abbrev nBuf : Space → Nat
  | .hbm => 3
  | .vmem => 0
  | .smem => 0
  | _ => 0

abbrev bufTy : (tb : Table) → Fin (tcTables nBuf tb) → BufTy
  | .hbm, ⟨0, _⟩ => ⟨S6144x2560, .bf16⟩
  | .hbm, ⟨1, _⟩ => ⟨S6144x5120, .bf16⟩
  | .hbm, ⟨2, _⟩ => ⟨S5120x2560, .f32⟩
  | _, _ => ⟨S6144x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LogitGrads.lean ====
abbrev S6144 : Shape := ⟨1, ![6144]⟩
abbrev S50304x2560 : Shape := ⟨2, ![50304, 2560]⟩
abbrev S5120x2560 : Shape := ⟨2, ![5120, 2560]⟩
abbrev S6144x2560 : Shape := ⟨2, ![6144, 2560]⟩
abbrev S88x11264 : Shape := ⟨2, ![88, 11264]⟩
abbrev S5120 : Shape := ⟨1, ![5120]⟩
abbrev S_ : Shape := ⟨0, ![]⟩
abbrev S1x6144 : Shape := ⟨2, ![1, 6144]⟩
abbrev S6144x1 : Shape := ⟨2, ![6144, 1]⟩
abbrev S6144x4 : Shape := ⟨2, ![6144, 4]⟩
abbrev S12576x4x2560 : Shape := ⟨3, ![12576, 4, 2560]⟩
abbrev S12576x2560x4 : Shape := ⟨3, ![12576, 2560, 4]⟩
abbrev S12576x2560 : Shape := ⟨2, ![12576, 2560]⟩
abbrev S1x5120 : Shape := ⟨2, ![1, 5120]⟩
abbrev S6144x5120 : Shape := ⟨2, ![6144, 5120]⟩
abbrev S6144x128 : Shape := ⟨2, ![6144, 128]⟩
abbrev S256x2560 : Shape := ⟨2, ![256, 2560]⟩
abbrev S256x4 : Shape := ⟨2, ![256, 4]⟩
abbrev S80x256 : Shape := ⟨2, ![80, 256]⟩
abbrev S256x5120 : Shape := ⟨2, ![256, 5120]⟩
abbrev S256x128 : Shape := ⟨2, ![256, 128]⟩
abbrev S2x256x2560 : Shape := ⟨3, ![2, 256, 2560]⟩
abbrev S80x2560 : Shape := ⟨2, ![80, 2560]⟩
abbrev S10x256x128 : Shape := ⟨3, ![10, 256, 128]⟩
abbrev S2 : Shape := ⟨1, ![2]⟩
abbrev S1 : Shape := ⟨1, ![1]⟩
abbrev S1x256x2560 : Shape := ⟨3, ![1, 256, 2560]⟩
abbrev S1x2560 : Shape := ⟨2, ![1, 2560]⟩
abbrev S256x1 : Shape := ⟨2, ![256, 1]⟩
abbrev S512x2560 : Shape := ⟨2, ![512, 2560]⟩
abbrev S256x512 : Shape := ⟨2, ![256, 512]⟩
abbrev S1x512 : Shape := ⟨2, ![1, 512]⟩
abbrev S1x256x128 : Shape := ⟨3, ![1, 256, 128]⟩
abbrev S256 : Shape := ⟨1, ![256]⟩

abbrev nBuf : Space → Nat
  | .hbm => 38
  | .vmem => 20
  | .smem => 1
  | _ => 0

abbrev bufTy : (tb : Table) → Fin (tcTables nBuf tb) → BufTy
  | .hbm, ⟨0, _⟩ => ⟨S6144, .i32⟩
  | .hbm, ⟨1, _⟩ => ⟨S50304x2560, .i8⟩
  | .hbm, ⟨2, _⟩ => ⟨S5120x2560, .bf16⟩
  | .hbm, ⟨3, _⟩ => ⟨S6144x2560, .bf16⟩
  | .hbm, ⟨4, _⟩ => ⟨S88x11264, .f32⟩
  | .hbm, ⟨5, _⟩ => ⟨S6144, .f32⟩
  | .hbm, ⟨6, _⟩ => ⟨S5120, .i32⟩
  | .hbm, ⟨7, _⟩ => ⟨S_, .i32⟩
  | .hbm, ⟨8, _⟩ => ⟨S6144, .i32⟩
  | .hbm, ⟨9, _⟩ => ⟨S6144, .i32⟩
  | .hbm, ⟨10, _⟩ => ⟨S_, .i32⟩
  | .hbm, ⟨11, _⟩ => ⟨S6144, .i32⟩
  | .hbm, ⟨12, _⟩ => ⟨S6144, .i32⟩
  | .hbm, ⟨13, _⟩ => ⟨S_, .i32⟩
  | .hbm, ⟨14, _⟩ => ⟨S6144, .i32⟩
  | .hbm, ⟨15, _⟩ => ⟨S6144, .i32⟩
  | .hbm, ⟨16, _⟩ => ⟨S6144, .f32⟩
  | .hbm, ⟨17, _⟩ => ⟨S1x6144, .f32⟩
  | .hbm, ⟨18, _⟩ => ⟨S6144, .f32⟩
  | .hbm, ⟨19, _⟩ => ⟨S6144, .f32⟩
  | .hbm, ⟨20, _⟩ => ⟨S6144x1, .f32⟩
  | .hbm, ⟨21, _⟩ => ⟨S6144x1, .f32⟩
  | .hbm, ⟨22, _⟩ => ⟨S6144x1, .f32⟩
  | .hbm, ⟨23, _⟩ => ⟨S6144x1, .f32⟩
  | .hbm, ⟨24, _⟩ => ⟨S6144x4, .f32⟩
  | .hbm, ⟨25, _⟩ => ⟨S12576x4x2560, .i8⟩
  | .hbm, ⟨26, _⟩ => ⟨S12576x2560x4, .i8⟩
  | .hbm, ⟨27, _⟩ => ⟨S12576x2560, .i32⟩
  | .hbm, ⟨28, _⟩ => ⟨S1x5120, .f32⟩
  | .hbm, ⟨29, _⟩ => ⟨S5120, .f32⟩
  | .hbm, ⟨30, _⟩ => ⟨S1x5120, .f32⟩
  | .hbm, ⟨31, _⟩ => ⟨S6144x2560, .bf16⟩
  | .hbm, ⟨32, _⟩ => ⟨S6144x5120, .bf16⟩
  | .hbm, ⟨33, _⟩ => ⟨S6144x128, .f32⟩
  | .hbm, ⟨34, _⟩ => ⟨S6144x1, .f32⟩
  | .hbm, ⟨35, _⟩ => ⟨S6144, .f32⟩
  | .hbm, ⟨36, _⟩ => ⟨S6144x1, .f32⟩
  | .hbm, ⟨37, _⟩ => ⟨S6144, .f32⟩
  | .local _ .vmem, ⟨0, _⟩ => ⟨S256x2560, .bf16⟩
  | .local _ .vmem, ⟨1, _⟩ => ⟨S256x2560, .bf16⟩
  | .local _ .vmem, ⟨2, _⟩ => ⟨S256x4, .f32⟩
  | .local _ .vmem, ⟨3, _⟩ => ⟨S256x4, .f32⟩
  | .local _ .vmem, ⟨4, _⟩ => ⟨S80x256, .f32⟩
  | .local _ .vmem, ⟨5, _⟩ => ⟨S80x256, .f32⟩
  | .local _ .vmem, ⟨6, _⟩ => ⟨S1x5120, .f32⟩
  | .local _ .vmem, ⟨7, _⟩ => ⟨S1x5120, .f32⟩
  | .local _ .vmem, ⟨8, _⟩ => ⟨S256x2560, .bf16⟩
  | .local _ .vmem, ⟨9, _⟩ => ⟨S256x2560, .bf16⟩
  | .local _ .vmem, ⟨10, _⟩ => ⟨S256x5120, .bf16⟩
  | .local _ .vmem, ⟨11, _⟩ => ⟨S256x5120, .bf16⟩
  | .local _ .vmem, ⟨12, _⟩ => ⟨S256x128, .f32⟩
  | .local _ .vmem, ⟨13, _⟩ => ⟨S256x128, .f32⟩
  | .local _ .vmem, ⟨14, _⟩ => ⟨S5120x2560, .bf16⟩
  | .local _ .vmem, ⟨15, _⟩ => ⟨S2x256x2560, .i32⟩
  | .local _ .vmem, ⟨16, _⟩ => ⟨S80x2560, .bf16⟩
  | .local _ .vmem, ⟨17, _⟩ => ⟨S256x5120, .f32⟩
  | .local _ .vmem, ⟨18, _⟩ => ⟨S10x256x128, .f32⟩
  | .local _ .vmem, ⟨19, _⟩ => ⟨S256x2560, .f32⟩
  | .local _ .smem, ⟨0, _⟩ => ⟨S6144, .i32⟩
  | _, _ => ⟨S6144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_53 : BitVec 32 := 0#32
  let c32_i32_54 : BitVec 32 := 32#32
  let v119 : BitVec 32 := Scalar.addi c0_i32_53 c32_i32_54
  let c1_i32_55 : BitVec 32 := 1#32
  ⟨c0_i32_53, v119, c1_i32_55⟩
def k0_off1 (k0_t1 : Fin k0_t1_loop.trips) : Fin 1 → Nat :=
  let c0_i32_58 : BitVec 32 := 0#32
  let c0_i32_53 : BitVec 32 := 0#32
  let c1_i32_55 : BitVec 32 := 1#32
  let arg20 : BitVec 32 := Scf.iv c0_i32_53 c1_i32_55 k0_t1
  let c8_i32 : BitVec 32 := 8#32
  let v120 : BitVec 32 := Scalar.muli arg20 c8_i32
  let c0_i32_57 : BitVec 32 := 0#32
  let v121 : BitVec 32 := Scalar.addi v120 c0_i32_57
  let v122 : BitVec 32 := Scalar.addi c0_i32_58 v121
  let v123 : Index := Scalar.indexCast v122
  ![v123.toNat]
def k0_off2 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32 : BitVec 32 := 8#32
  let v120 : BitVec 32 := Scalar.muli arg20 c8_i32
  let c0_i32_57 : BitVec 32 := 0#32
  let v121 : BitVec 32 := Scalar.addi v120 c0_i32_57
  let c0_i32_62 : BitVec 32 := 0#32
  ![v121.toNat, 0]
def k0_off3 (v124 : BitVec 32) : Fin 2 → Nat :=
  let c2_i32_59 : BitVec 32 := 2#32
  let v125 : BitVec 32 := Scalar.shrsi v124 c2_i32_59
  let c0_i32_63 : BitVec 32 := 0#32
  ![v125.toNat, 0]

def k0_chk1 (i : grid0.Coords) (v124 : BitVec 32) : Prop :=
  (∀ (k0_h1 : k0_cond1 i = 1#1), ∀ a, (k0_off3 v124) a + S1x2560.size a ≤ S12576x2560.size a)
theorem k0_off3_inb : ∀ (i : grid0.Coords) (v124 : BitVec 32) (k0_hw1 : k0_chk1 i v124), ∀ (k0_h1 : k0_cond1 i = 1#1), ∀ a, (k0_off3 v124) a + S1x2560.size a ≤ S12576x2560.size a := fun i v124 k0_hw1 k0_h1 => k0_hw1 k0_h1

def k0_off4 (k0_t1 : Fin k0_t1_loop.trips) : Fin 1 → Nat :=
  let c0_i32_66 : BitVec 32 := 0#32
  let c0_i32_53 : BitVec 32 := 0#32
  let c1_i32_55 : BitVec 32 := 1#32
  let arg20 : BitVec 32 := Scf.iv c0_i32_53 c1_i32_55 k0_t1
  let c8_i32_64 : BitVec 32 := 8#32
  let v132 : BitVec 32 := Scalar.muli arg20 c8_i32_64
  let c1_i32_65 : BitVec 32 := 1#32
  let v133 : BitVec 32 := Scalar.addi v132 c1_i32_65
  let v134 : BitVec 32 := Scalar.addi c0_i32_66 v133
  let v135 : Index := Scalar.indexCast v134
  ![v135.toNat]
def k0_off5 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32_64 : BitVec 32 := 8#32
  let v132 : BitVec 32 := Scalar.muli arg20 c8_i32_64
  let c1_i32_65 : BitVec 32 := 1#32
  let v133 : BitVec 32 := Scalar.addi v132 c1_i32_65
  let c0_i32_70 : BitVec 32 := 0#32
  ![v133.toNat, 0]
def k0_off6 (v136 : BitVec 32) : Fin 2 → Nat :=
  let c2_i32_67 : BitVec 32 := 2#32
  let v137 : BitVec 32 := Scalar.shrsi v136 c2_i32_67
  let c0_i32_71 : BitVec 32 := 0#32
  ![v137.toNat, 0]

def k0_chk2 (i : grid0.Coords) (v136 : BitVec 32) : Prop :=
  (∀ (k0_h1 : k0_cond1 i = 1#1), ∀ a, (k0_off6 v136) a + S1x2560.size a ≤ S12576x2560.size a)
theorem k0_off6_inb : ∀ (i : grid0.Coords) (v136 : BitVec 32) (k0_hw2 : k0_chk2 i v136), ∀ (k0_h1 : k0_cond1 i = 1#1), ∀ a, (k0_off6 v136) a + S1x2560.size a ≤ S12576x2560.size a := fun i v136 k0_hw2 k0_h1 => k0_hw2 k0_h1

def k0_off7 (k0_t1 : Fin k0_t1_loop.trips) : Fin 1 → Nat :=
  let c0_i32_74 : BitVec 32 := 0#32
  let c0_i32_53 : BitVec 32 := 0#32
  let c1_i32_55 : BitVec 32 := 1#32
  let arg20 : BitVec 32 := Scf.iv c0_i32_53 c1_i32_55 k0_t1
  let c8_i32_72 : BitVec 32 := 8#32
  let v144 : BitVec 32 := Scalar.muli arg20 c8_i32_72
  let c2_i32_73 : BitVec 32 := 2#32
  let v145 : BitVec 32 := Scalar.addi v144 c2_i32_73
  let v146 : BitVec 32 := Scalar.addi c0_i32_74 v145
  let v147 : Index := Scalar.indexCast v146
  ![v147.toNat]
def k0_off8 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32_72 : BitVec 32 := 8#32
  let v144 : BitVec 32 := Scalar.muli arg20 c8_i32_72
  let c2_i32_73 : BitVec 32 := 2#32
  let v145 : BitVec 32 := Scalar.addi v144 c2_i32_73
  let c0_i32_78 : BitVec 32 := 0#32
  ![v145.toNat, 0]
def k0_off9 (v148 : BitVec 32) : Fin 2 → Nat :=
  let c2_i32_75 : BitVec 32 := 2#32
  let v149 : BitVec 32 := Scalar.shrsi v148 c2_i32_75
  let c0_i32_79 : BitVec 32 := 0#32
  ![v149.toNat, 0]

def k0_chk3 (i : grid0.Coords) (v148 : BitVec 32) : Prop :=
  (∀ (k0_h1 : k0_cond1 i = 1#1), ∀ a, (k0_off9 v148) a + S1x2560.size a ≤ S12576x2560.size a)
theorem k0_off9_inb : ∀ (i : grid0.Coords) (v148 : BitVec 32) (k0_hw3 : k0_chk3 i v148), ∀ (k0_h1 : k0_cond1 i = 1#1), ∀ a, (k0_off9 v148) a + S1x2560.size a ≤ S12576x2560.size a := fun i v148 k0_hw3 k0_h1 => k0_hw3 k0_h1

def k0_off10 (k0_t1 : Fin k0_t1_loop.trips) : Fin 1 → Nat :=
  let c0_i32_81 : BitVec 32 := 0#32
  let c0_i32_53 : BitVec 32 := 0#32
  let c1_i32_55 : BitVec 32 := 1#32
  let arg20 : BitVec 32 := Scf.iv c0_i32_53 c1_i32_55 k0_t1
  let c8_i32_80 : BitVec 32 := 8#32
  let v156 : BitVec 32 := Scalar.muli arg20 c8_i32_80
  let c3_i32 : BitVec 32 := 3#32
  let v157 : BitVec 32 := Scalar.addi v156 c3_i32
  let v158 : BitVec 32 := Scalar.addi c0_i32_81 v157
  let v159 : Index := Scalar.indexCast v158
  ![v159.toNat]
def k0_off11 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32_80 : BitVec 32 := 8#32
  let v156 : BitVec 32 := Scalar.muli arg20 c8_i32_80
  let c3_i32 : BitVec 32 := 3#32
  let v157 : BitVec 32 := Scalar.addi v156 c3_i32
  let c0_i32_85 : BitVec 32 := 0#32
  ![v157.toNat, 0]
def k0_off12 (v160 : BitVec 32) : Fin 2 → Nat :=
  let c2_i32_82 : BitVec 32 := 2#32
  let v161 : BitVec 32 := Scalar.shrsi v160 c2_i32_82
  let c0_i32_86 : BitVec 32 := 0#32
  ![v161.toNat, 0]

def k0_chk4 (i : grid0.Coords) (v160 : BitVec 32) : Prop :=
  (∀ (k0_h1 : k0_cond1 i = 1#1), ∀ a, (k0_off12 v160) a + S1x2560.size a ≤ S12576x2560.size a)
theorem k0_off12_inb : ∀ (i : grid0.Coords) (v160 : BitVec 32) (k0_hw4 : k0_chk4 i v160), ∀ (k0_h1 : k0_cond1 i = 1#1), ∀ a, (k0_off12 v160) a + S1x2560.size a ≤ S12576x2560.size a := fun i v160 k0_hw4 k0_h1 => k0_hw4 k0_h1

def k0_off13 (k0_t1 : Fin k0_t1_loop.trips) : Fin 1 → Nat :=
  let c0_i32_88 : BitVec 32 := 0#32
  let c0_i32_53 : BitVec 32 := 0#32
  let c1_i32_55 : BitVec 32 := 1#32
  let arg20 : BitVec 32 := Scf.iv c0_i32_53 c1_i32_55 k0_t1
  let c8_i32_87 : BitVec 32 := 8#32
  let v168 : BitVec 32 := Scalar.muli arg20 c8_i32_87
  let c4_i32 : BitVec 32 := 4#32
  let v169 : BitVec 32 := Scalar.addi v168 c4_i32
  let v170 : BitVec 32 := Scalar.addi c0_i32_88 v169
  let v171 : Index := Scalar.indexCast v170
  ![v171.toNat]
def k0_off14 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32_87 : BitVec 32 := 8#32
  let v168 : BitVec 32 := Scalar.muli arg20 c8_i32_87
  let c4_i32 : BitVec 32 := 4#32
  let v169 : BitVec 32 := Scalar.addi v168 c4_i32
  let c0_i32_92 : BitVec 32 := 0#32
  ![v169.toNat, 0]
def k0_off15 (v172 : BitVec 32) : Fin 2 → Nat :=
  let c2_i32_89 : BitVec 32 := 2#32
  let v173 : BitVec 32 := Scalar.shrsi v172 c2_i32_89
  let c0_i32_93 : BitVec 32 := 0#32
  ![v173.toNat, 0]

def k0_chk5 (i : grid0.Coords) (v172 : BitVec 32) : Prop :=
  (∀ (k0_h1 : k0_cond1 i = 1#1), ∀ a, (k0_off15 v172) a + S1x2560.size a ≤ S12576x2560.size a)
theorem k0_off15_inb : ∀ (i : grid0.Coords) (v172 : BitVec 32) (k0_hw5 : k0_chk5 i v172), ∀ (k0_h1 : k0_cond1 i = 1#1), ∀ a, (k0_off15 v172) a + S1x2560.size a ≤ S12576x2560.size a := fun i v172 k0_hw5 k0_h1 => k0_hw5 k0_h1

def k0_off16 (k0_t1 : Fin k0_t1_loop.trips) : Fin 1 → Nat :=
  let c0_i32_95 : BitVec 32 := 0#32
  let c0_i32_53 : BitVec 32 := 0#32
  let c1_i32_55 : BitVec 32 := 1#32
  let arg20 : BitVec 32 := Scf.iv c0_i32_53 c1_i32_55 k0_t1
  let c8_i32_94 : BitVec 32 := 8#32
  let v180 : BitVec 32 := Scalar.muli arg20 c8_i32_94
  let c5_i32 : BitVec 32 := 5#32
  let v181 : BitVec 32 := Scalar.addi v180 c5_i32
  let v182 : BitVec 32 := Scalar.addi c0_i32_95 v181
  let v183 : Index := Scalar.indexCast v182
  ![v183.toNat]
def k0_off17 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32_94 : BitVec 32 := 8#32
  let v180 : BitVec 32 := Scalar.muli arg20 c8_i32_94
  let c5_i32 : BitVec 32 := 5#32
  let v181 : BitVec 32 := Scalar.addi v180 c5_i32
  let c0_i32_99 : BitVec 32 := 0#32
  ![v181.toNat, 0]
def k0_off18 (v184 : BitVec 32) : Fin 2 → Nat :=
  let c2_i32_96 : BitVec 32 := 2#32
  let v185 : BitVec 32 := Scalar.shrsi v184 c2_i32_96
  let c0_i32_100 : BitVec 32 := 0#32
  ![v185.toNat, 0]

def k0_chk6 (i : grid0.Coords) (v184 : BitVec 32) : Prop :=
  (∀ (k0_h1 : k0_cond1 i = 1#1), ∀ a, (k0_off18 v184) a + S1x2560.size a ≤ S12576x2560.size a)
theorem k0_off18_inb : ∀ (i : grid0.Coords) (v184 : BitVec 32) (k0_hw6 : k0_chk6 i v184), ∀ (k0_h1 : k0_cond1 i = 1#1), ∀ a, (k0_off18 v184) a + S1x2560.size a ≤ S12576x2560.size a := fun i v184 k0_hw6 k0_h1 => k0_hw6 k0_h1

def k0_off19 (k0_t1 : Fin k0_t1_loop.trips) : Fin 1 → Nat :=
  let c0_i32_102 : BitVec 32 := 0#32
  let c0_i32_53 : BitVec 32 := 0#32
  let c1_i32_55 : BitVec 32 := 1#32
  let arg20 : BitVec 32 := Scf.iv c0_i32_53 c1_i32_55 k0_t1
  let c8_i32_101 : BitVec 32 := 8#32
  let v192 : BitVec 32 := Scalar.muli arg20 c8_i32_101
  let c6_i32 : BitVec 32 := 6#32
  let v193 : BitVec 32 := Scalar.addi v192 c6_i32
  let v194 : BitVec 32 := Scalar.addi c0_i32_102 v193
  let v195 : Index := Scalar.indexCast v194
  ![v195.toNat]
def k0_off20 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32_101 : BitVec 32 := 8#32
  let v192 : BitVec 32 := Scalar.muli arg20 c8_i32_101
  let c6_i32 : BitVec 32 := 6#32
  let v193 : BitVec 32 := Scalar.addi v192 c6_i32
  let c0_i32_106 : BitVec 32 := 0#32
  ![v193.toNat, 0]
def k0_off21 (v196 : BitVec 32) : Fin 2 → Nat :=
  let c2_i32_103 : BitVec 32 := 2#32
  let v197 : BitVec 32 := Scalar.shrsi v196 c2_i32_103
  let c0_i32_107 : BitVec 32 := 0#32
  ![v197.toNat, 0]

def k0_chk7 (i : grid0.Coords) (v196 : BitVec 32) : Prop :=
  (∀ (k0_h1 : k0_cond1 i = 1#1), ∀ a, (k0_off21 v196) a + S1x2560.size a ≤ S12576x2560.size a)
theorem k0_off21_inb : ∀ (i : grid0.Coords) (v196 : BitVec 32) (k0_hw7 : k0_chk7 i v196), ∀ (k0_h1 : k0_cond1 i = 1#1), ∀ a, (k0_off21 v196) a + S1x2560.size a ≤ S12576x2560.size a := fun i v196 k0_hw7 k0_h1 => k0_hw7 k0_h1

def k0_off22 (k0_t1 : Fin k0_t1_loop.trips) : Fin 1 → Nat :=
  let c0_i32_109 : BitVec 32 := 0#32
  let c0_i32_53 : BitVec 32 := 0#32
  let c1_i32_55 : BitVec 32 := 1#32
  let arg20 : BitVec 32 := Scf.iv c0_i32_53 c1_i32_55 k0_t1
  let c8_i32_108 : BitVec 32 := 8#32
  let v204 : BitVec 32 := Scalar.muli arg20 c8_i32_108
  let c7_i32 : BitVec 32 := 7#32
  let v205 : BitVec 32 := Scalar.addi v204 c7_i32
  let v206 : BitVec 32 := Scalar.addi c0_i32_109 v205
  let v207 : Index := Scalar.indexCast v206
  ![v207.toNat]
def k0_off23 (k0_t1 : Fin k0_t1_loop.trips) : Fin 2 → Nat :=
  let c0_i32_53 : BitVec 32 := 0#32
  let c1_i32_55 : BitVec 32 := 1#32
  let arg20 : BitVec 32 := Scf.iv c0_i32_53 c1_i32_55 k0_t1
  let c8_i32_108 : BitVec 32 := 8#32
  let v204 : BitVec 32 := Scalar.muli arg20 c8_i32_108
  let c7_i32 : BitVec 32 := 7#32
  let v205 : BitVec 32 := Scalar.addi v204 c7_i32
  let c0_i32_113 : BitVec 32 := 0#32
  ![v205.toNat, 0]
def k0_off24 (v208 : BitVec 32) : Fin 2 → Nat :=
  let c2_i32_110 : BitVec 32 := 2#32
  let v209 : BitVec 32 := Scalar.shrsi v208 c2_i32_110
  let c0_i32_114 : BitVec 32 := 0#32
  ![v209.toNat, 0]

def k0_chk8 (i : grid0.Coords) (v208 : BitVec 32) : Prop :=
  (∀ (k0_h1 : k0_cond1 i = 1#1), ∀ a, (k0_off24 v208) a + S1x2560.size a ≤ S12576x2560.size a)
theorem k0_off24_inb : ∀ (i : grid0.Coords) (v208 : BitVec 32) (k0_hw8 : k0_chk8 i v208), ∀ (k0_h1 : k0_cond1 i = 1#1), ∀ a, (k0_off24 v208) a + S1x2560.size a ≤ S12576x2560.size a := fun i v208 k0_hw8 k0_h1 => k0_hw8 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c24_i32 : BitVec 32 := 24#32
  let v5 : BitVec 1 := Scalar.cmpi .slt v4 c24_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_45 : BitVec 32 := 0#32
  let c32_i32 : BitVec 32 := 32#32
  let v89 : BitVec 32 := Scalar.addi c0_i32_45 c32_i32
  let c1_i32_46 : BitVec 32 := 1#32
  ⟨c0_i32_45, v89, c1_i32_46⟩
def k0_off25 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32 : BitVec 32 := 8#32
  let v90 : BitVec 32 := Scalar.muli arg20 c8_i32
  let c0_i32_48 : BitVec 32 := 0#32
  let v91 : BitVec 32 := Scalar.addi v90 c0_i32_48
  let v92 : BitVec 32 := Scalar.addi v86 v91
  let v93 : Index := Scalar.indexCast v92
  ![v93.toNat]
def k0_off26 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off27 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_50 : BitVec 32 := 0#32
  let c0_i32_51 : BitVec 32 := 0#32
  ![v87.toNat, 0, 0]
def k0_off28 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32 : BitVec 32 := 8#32
  let v90 : BitVec 32 := Scalar.muli arg20 c8_i32
  let c0_i32_48 : BitVec 32 := 0#32
  let v91 : BitVec 32 := Scalar.addi v90 c0_i32_48
  let c0_i32_52 : BitVec 32 := 0#32
  ![v91.toNat, 0]
def k0_off29 (v94 : BitVec 32) : Fin 2 → Nat :=
  let c2_i32_49 : BitVec 32 := 2#32
  let v95 : BitVec 32 := Scalar.shrsi v94 c2_i32_49
  let c0_i32_53 : BitVec 32 := 0#32
  ![v95.toNat, 0]

def k0_chk9 (i : grid0.Coords) (v94 : BitVec 32) : Prop :=
  (∀ (k0_h2 : k0_cond2 i = 1#1), ∀ a, (k0_off29 v94) a + S1x2560.size a ≤ S12576x2560.size a)
theorem k0_off29_inb : ∀ (i : grid0.Coords) (v94 : BitVec 32) (k0_hw9 : k0_chk9 i v94), ∀ (k0_h2 : k0_cond2 i = 1#1), ∀ a, (k0_off29 v94) a + S1x2560.size a ≤ S12576x2560.size a := fun i v94 k0_hw9 k0_h2 => k0_hw9 k0_h2

def k0_off30 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32_54 : BitVec 32 := 8#32
  let v102 : BitVec 32 := Scalar.muli arg20 c8_i32_54
  let c1_i32_55 : BitVec 32 := 1#32
  let v103 : BitVec 32 := Scalar.addi v102 c1_i32_55
  let v104 : BitVec 32 := Scalar.addi v86 v103
  let v105 : Index := Scalar.indexCast v104
  ![v105.toNat]
def k0_off31 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off32 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_57 : BitVec 32 := 0#32
  let c0_i32_58 : BitVec 32 := 0#32
  ![v87.toNat, 0, 0]
def k0_off33 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32_54 : BitVec 32 := 8#32
  let v102 : BitVec 32 := Scalar.muli arg20 c8_i32_54
  let c1_i32_55 : BitVec 32 := 1#32
  let v103 : BitVec 32 := Scalar.addi v102 c1_i32_55
  let c0_i32_59 : BitVec 32 := 0#32
  ![v103.toNat, 0]
def k0_off34 (v106 : BitVec 32) : Fin 2 → Nat :=
  let c2_i32_56 : BitVec 32 := 2#32
  let v107 : BitVec 32 := Scalar.shrsi v106 c2_i32_56
  let c0_i32_60 : BitVec 32 := 0#32
  ![v107.toNat, 0]

def k0_chk10 (i : grid0.Coords) (v106 : BitVec 32) : Prop :=
  (∀ (k0_h2 : k0_cond2 i = 1#1), ∀ a, (k0_off34 v106) a + S1x2560.size a ≤ S12576x2560.size a)
theorem k0_off34_inb : ∀ (i : grid0.Coords) (v106 : BitVec 32) (k0_hw10 : k0_chk10 i v106), ∀ (k0_h2 : k0_cond2 i = 1#1), ∀ a, (k0_off34 v106) a + S1x2560.size a ≤ S12576x2560.size a := fun i v106 k0_hw10 k0_h2 => k0_hw10 k0_h2

def k0_off35 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32_61 : BitVec 32 := 8#32
  let v114 : BitVec 32 := Scalar.muli arg20 c8_i32_61
  let c2_i32_62 : BitVec 32 := 2#32
  let v115 : BitVec 32 := Scalar.addi v114 c2_i32_62
  let v116 : BitVec 32 := Scalar.addi v86 v115
  let v117 : Index := Scalar.indexCast v116
  ![v117.toNat]
def k0_off36 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off37 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_64 : BitVec 32 := 0#32
  let c0_i32_65 : BitVec 32 := 0#32
  ![v87.toNat, 0, 0]
def k0_off38 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32_61 : BitVec 32 := 8#32
  let v114 : BitVec 32 := Scalar.muli arg20 c8_i32_61
  let c2_i32_62 : BitVec 32 := 2#32
  let v115 : BitVec 32 := Scalar.addi v114 c2_i32_62
  let c0_i32_66 : BitVec 32 := 0#32
  ![v115.toNat, 0]
def k0_off39 (v118 : BitVec 32) : Fin 2 → Nat :=
  let c2_i32_63 : BitVec 32 := 2#32
  let v119 : BitVec 32 := Scalar.shrsi v118 c2_i32_63
  let c0_i32_67 : BitVec 32 := 0#32
  ![v119.toNat, 0]

def k0_chk11 (i : grid0.Coords) (v118 : BitVec 32) : Prop :=
  (∀ (k0_h2 : k0_cond2 i = 1#1), ∀ a, (k0_off39 v118) a + S1x2560.size a ≤ S12576x2560.size a)
theorem k0_off39_inb : ∀ (i : grid0.Coords) (v118 : BitVec 32) (k0_hw11 : k0_chk11 i v118), ∀ (k0_h2 : k0_cond2 i = 1#1), ∀ a, (k0_off39 v118) a + S1x2560.size a ≤ S12576x2560.size a := fun i v118 k0_hw11 k0_h2 => k0_hw11 k0_h2

def k0_off40 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32_68 : BitVec 32 := 8#32
  let v126 : BitVec 32 := Scalar.muli arg20 c8_i32_68
  let c3_i32 : BitVec 32 := 3#32
  let v127 : BitVec 32 := Scalar.addi v126 c3_i32
  let v128 : BitVec 32 := Scalar.addi v86 v127
  let v129 : Index := Scalar.indexCast v128
  ![v129.toNat]
def k0_off41 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off42 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_70 : BitVec 32 := 0#32
  let c0_i32_71 : BitVec 32 := 0#32
  ![v87.toNat, 0, 0]
def k0_off43 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32_68 : BitVec 32 := 8#32
  let v126 : BitVec 32 := Scalar.muli arg20 c8_i32_68
  let c3_i32 : BitVec 32 := 3#32
  let v127 : BitVec 32 := Scalar.addi v126 c3_i32
  let c0_i32_72 : BitVec 32 := 0#32
  ![v127.toNat, 0]
def k0_off44 (v130 : BitVec 32) : Fin 2 → Nat :=
  let c2_i32_69 : BitVec 32 := 2#32
  let v131 : BitVec 32 := Scalar.shrsi v130 c2_i32_69
  let c0_i32_73 : BitVec 32 := 0#32
  ![v131.toNat, 0]

def k0_chk12 (i : grid0.Coords) (v130 : BitVec 32) : Prop :=
  (∀ (k0_h2 : k0_cond2 i = 1#1), ∀ a, (k0_off44 v130) a + S1x2560.size a ≤ S12576x2560.size a)
theorem k0_off44_inb : ∀ (i : grid0.Coords) (v130 : BitVec 32) (k0_hw12 : k0_chk12 i v130), ∀ (k0_h2 : k0_cond2 i = 1#1), ∀ a, (k0_off44 v130) a + S1x2560.size a ≤ S12576x2560.size a := fun i v130 k0_hw12 k0_h2 => k0_hw12 k0_h2

def k0_off45 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32_74 : BitVec 32 := 8#32
  let v138 : BitVec 32 := Scalar.muli arg20 c8_i32_74
  let c4_i32 : BitVec 32 := 4#32
  let v139 : BitVec 32 := Scalar.addi v138 c4_i32
  let v140 : BitVec 32 := Scalar.addi v86 v139
  let v141 : Index := Scalar.indexCast v140
  ![v141.toNat]
def k0_off46 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off47 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_76 : BitVec 32 := 0#32
  let c0_i32_77 : BitVec 32 := 0#32
  ![v87.toNat, 0, 0]
def k0_off48 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32_74 : BitVec 32 := 8#32
  let v138 : BitVec 32 := Scalar.muli arg20 c8_i32_74
  let c4_i32 : BitVec 32 := 4#32
  let v139 : BitVec 32 := Scalar.addi v138 c4_i32
  let c0_i32_78 : BitVec 32 := 0#32
  ![v139.toNat, 0]
def k0_off49 (v142 : BitVec 32) : Fin 2 → Nat :=
  let c2_i32_75 : BitVec 32 := 2#32
  let v143 : BitVec 32 := Scalar.shrsi v142 c2_i32_75
  let c0_i32_79 : BitVec 32 := 0#32
  ![v143.toNat, 0]

def k0_chk13 (i : grid0.Coords) (v142 : BitVec 32) : Prop :=
  (∀ (k0_h2 : k0_cond2 i = 1#1), ∀ a, (k0_off49 v142) a + S1x2560.size a ≤ S12576x2560.size a)
theorem k0_off49_inb : ∀ (i : grid0.Coords) (v142 : BitVec 32) (k0_hw13 : k0_chk13 i v142), ∀ (k0_h2 : k0_cond2 i = 1#1), ∀ a, (k0_off49 v142) a + S1x2560.size a ≤ S12576x2560.size a := fun i v142 k0_hw13 k0_h2 => k0_hw13 k0_h2

def k0_off50 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32_80 : BitVec 32 := 8#32
  let v150 : BitVec 32 := Scalar.muli arg20 c8_i32_80
  let c5_i32 : BitVec 32 := 5#32
  let v151 : BitVec 32 := Scalar.addi v150 c5_i32
  let v152 : BitVec 32 := Scalar.addi v86 v151
  let v153 : Index := Scalar.indexCast v152
  ![v153.toNat]
def k0_off51 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off52 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_82 : BitVec 32 := 0#32
  let c0_i32_83 : BitVec 32 := 0#32
  ![v87.toNat, 0, 0]
def k0_off53 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32_80 : BitVec 32 := 8#32
  let v150 : BitVec 32 := Scalar.muli arg20 c8_i32_80
  let c5_i32 : BitVec 32 := 5#32
  let v151 : BitVec 32 := Scalar.addi v150 c5_i32
  let c0_i32_84 : BitVec 32 := 0#32
  ![v151.toNat, 0]
def k0_off54 (v154 : BitVec 32) : Fin 2 → Nat :=
  let c2_i32_81 : BitVec 32 := 2#32
  let v155 : BitVec 32 := Scalar.shrsi v154 c2_i32_81
  let c0_i32_85 : BitVec 32 := 0#32
  ![v155.toNat, 0]

def k0_chk14 (i : grid0.Coords) (v154 : BitVec 32) : Prop :=
  (∀ (k0_h2 : k0_cond2 i = 1#1), ∀ a, (k0_off54 v154) a + S1x2560.size a ≤ S12576x2560.size a)
theorem k0_off54_inb : ∀ (i : grid0.Coords) (v154 : BitVec 32) (k0_hw14 : k0_chk14 i v154), ∀ (k0_h2 : k0_cond2 i = 1#1), ∀ a, (k0_off54 v154) a + S1x2560.size a ≤ S12576x2560.size a := fun i v154 k0_hw14 k0_h2 => k0_hw14 k0_h2

def k0_off55 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32_86 : BitVec 32 := 8#32
  let v162 : BitVec 32 := Scalar.muli arg20 c8_i32_86
  let c6_i32 : BitVec 32 := 6#32
  let v163 : BitVec 32 := Scalar.addi v162 c6_i32
  let v164 : BitVec 32 := Scalar.addi v86 v163
  let v165 : Index := Scalar.indexCast v164
  ![v165.toNat]
def k0_off56 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off57 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_88 : BitVec 32 := 0#32
  let c0_i32_89 : BitVec 32 := 0#32
  ![v87.toNat, 0, 0]
def k0_off58 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32_86 : BitVec 32 := 8#32
  let v162 : BitVec 32 := Scalar.muli arg20 c8_i32_86
  let c6_i32 : BitVec 32 := 6#32
  let v163 : BitVec 32 := Scalar.addi v162 c6_i32
  let c0_i32_90 : BitVec 32 := 0#32
  ![v163.toNat, 0]
def k0_off59 (v166 : BitVec 32) : Fin 2 → Nat :=
  let c2_i32_87 : BitVec 32 := 2#32
  let v167 : BitVec 32 := Scalar.shrsi v166 c2_i32_87
  let c0_i32_91 : BitVec 32 := 0#32
  ![v167.toNat, 0]

def k0_chk15 (i : grid0.Coords) (v166 : BitVec 32) : Prop :=
  (∀ (k0_h2 : k0_cond2 i = 1#1), ∀ a, (k0_off59 v166) a + S1x2560.size a ≤ S12576x2560.size a)
theorem k0_off59_inb : ∀ (i : grid0.Coords) (v166 : BitVec 32) (k0_hw15 : k0_chk15 i v166), ∀ (k0_h2 : k0_cond2 i = 1#1), ∀ a, (k0_off59 v166) a + S1x2560.size a ≤ S12576x2560.size a := fun i v166 k0_hw15 k0_h2 => k0_hw15 k0_h2

def k0_off60 (i : grid0.Coords) (k0_t2 : Fin k0_t2_loop.trips) : Fin 1 → Nat :=
  let arg0 : BitVec 32 := BitVec.ofNat 32 (i 0).val
  let c1_i32_41 : BitVec 32 := 1#32
  let v85 : BitVec 32 := Scalar.addi arg0 c1_i32_41
  let c256_i32_42 : BitVec 32 := 256#32
  let v86 : BitVec 32 := Scalar.muli v85 c256_i32_42
  let c0_i32_45 : BitVec 32 := 0#32
  let c1_i32_46 : BitVec 32 := 1#32
  let arg20 : BitVec 32 := Scf.iv c0_i32_45 c1_i32_46 k0_t2
  let c8_i32_92 : BitVec 32 := 8#32
  let v174 : BitVec 32 := Scalar.muli arg20 c8_i32_92
  let c7_i32 : BitVec 32 := 7#32
  let v175 : BitVec 32 := Scalar.addi v174 c7_i32
  let v176 : BitVec 32 := Scalar.addi v86 v175
  let v177 : Index := Scalar.indexCast v176
  ![v177.toNat]
def k0_off61 (i : grid0.Coords) : Fin 1 → Nat :=
  let c1_i32_44 : BitVec 32 := 1#32
  let arg0 : BitVec 32 := BitVec.ofNat 32 (i 0).val
  let c2_i32 : BitVec 32 := 2#32
  let v0 : BitVec 32 := Scalar.remsi arg0 c2_i32
  let v88 : BitVec 32 := Scalar.subi c1_i32_44 v0
  ![v88.toNat]
def k0_off62 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v87 : BitVec 32 := Scalar.subi c1_i32_43 v0
  let c0_i32_94 : BitVec 32 := 0#32
  let c0_i32_95 : BitVec 32 := 0#32
  ![v87.toNat, 0, 0]
def k0_off63 (k0_t2 : Fin k0_t2_loop.trips) : Fin 2 → Nat :=
  let c0_i32_45 : BitVec 32 := 0#32
  let c1_i32_46 : BitVec 32 := 1#32
  let arg20 : BitVec 32 := Scf.iv c0_i32_45 c1_i32_46 k0_t2
  let c8_i32_92 : BitVec 32 := 8#32
  let v174 : BitVec 32 := Scalar.muli arg20 c8_i32_92
  let c7_i32 : BitVec 32 := 7#32
  let v175 : BitVec 32 := Scalar.addi v174 c7_i32
  let c0_i32_96 : BitVec 32 := 0#32
  ![v175.toNat, 0]
def k0_off64 (v178 : BitVec 32) : Fin 2 → Nat :=
  let c2_i32_93 : BitVec 32 := 2#32
  let v179 : BitVec 32 := Scalar.shrsi v178 c2_i32_93
  let c0_i32_97 : BitVec 32 := 0#32
  ![v179.toNat, 0]

def k0_chk16 (i : grid0.Coords) (v178 : BitVec 32) : Prop :=
  (∀ (k0_h2 : k0_cond2 i = 1#1), ∀ a, (k0_off64 v178) a + S1x2560.size a ≤ S12576x2560.size a)
theorem k0_off64_inb : ∀ (i : grid0.Coords) (v178 : BitVec 32) (k0_hw16 : k0_chk16 i v178), ∀ (k0_h2 : k0_cond2 i = 1#1), ∀ a, (k0_off64 v178) a + S1x2560.size a ≤ S12576x2560.size a := fun i v178 k0_hw16 k0_h2 => k0_hw16 k0_h2

@[reducible] def k0_t3_loop : Scf.Loop 32 :=
  let c0_i32_7 : BitVec 32 := 0#32
  let c10_i32 : BitVec 32 := 10#32
  let v19 : BitVec 32 := Scalar.addi c0_i32_7 c10_i32
  let c1_i32_8 : BitVec 32 := 1#32
  ⟨c0_i32_7, v19, c1_i32_8⟩
def k0_mult1 (k0_t3 : Fin k0_t3_loop.trips) : BitVec 32 :=
  let c0_i32_7 : BitVec 32 := 0#32
  let c1_i32_8 : BitVec 32 := 1#32
  let arg20 : BitVec 32 := Scf.iv c0_i32_7 c1_i32_8 k0_t3
  let c512_i32 : BitVec 32 := 512#32
  let v85 : BitVec 32 := Scalar.muli arg20 c512_i32
  v85
def k0_off65 (k0_t3 : Fin k0_t3_loop.trips) : Fin 2 → Nat :=
  let c0_i32_7 : BitVec 32 := 0#32
  let c1_i32_8 : BitVec 32 := 1#32
  let arg20 : BitVec 32 := Scf.iv c0_i32_7 c1_i32_8 k0_t3
  let c512_i32 : BitVec 32 := 512#32
  let v85 : BitVec 32 := Scalar.muli arg20 c512_i32
  let v86 : BitVec 32 := v85
  let v88 : Index := Scalar.indexCast v86
  let c0_43 : Index := 0#32
  ![v88.toNat, 0]
def k0_off66 (k0_t3 : Fin k0_t3_loop.trips) : Fin 2 → Nat :=
  let c0_45 : Index := 0#32
  let c0_i32_7 : BitVec 32 := 0#32
  let c1_i32_8 : BitVec 32 := 1#32
  let arg20 : BitVec 32 := Scf.iv c0_i32_7 c1_i32_8 k0_t3
  let c512_i32 : BitVec 32 := 512#32
  let v85 : BitVec 32 := Scalar.muli arg20 c512_i32
  let v86 : BitVec 32 := v85
  let v91 : Index := Scalar.indexCast v86
  ![0, v91.toNat]
def k0_mult2 (k0_t3 : Fin k0_t3_loop.trips) : BitVec 32 :=
  let c0_i32_7 : BitVec 32 := 0#32
  let c1_i32_8 : BitVec 32 := 1#32
  let arg20 : BitVec 32 := Scf.iv c0_i32_7 c1_i32_8 k0_t3
  let c512_i32_48 : BitVec 32 := 512#32
  let v118 : BitVec 32 := Scalar.muli arg20 c512_i32_48
  let c0_i32_49 : BitVec 32 := 0#32
  let v119 : BitVec 32 := Scalar.addi v118 c0_i32_49
  v119
def k0_off67 (k0_t3 : Fin k0_t3_loop.trips) (c0_i32_49 : BitVec 32) : Fin 2 → Nat :=
  let c0_50 : Index := 0#32
  let c0_i32_7 : BitVec 32 := 0#32
  let c1_i32_8 : BitVec 32 := 1#32
  let arg20 : BitVec 32 := Scf.iv c0_i32_7 c1_i32_8 k0_t3
  let c512_i32_48 : BitVec 32 := 512#32
  let v118 : BitVec 32 := Scalar.muli arg20 c512_i32_48
  let v119 : BitVec 32 := Scalar.addi v118 c0_i32_49
  let v120 : BitVec 32 := v119
  let v121 : Index := Scalar.indexCast v120
  ![0, v121.toNat]
def k0_mult3 (k0_t3 : Fin k0_t3_loop.trips) : BitVec 32 :=
  let c0_i32_7 : BitVec 32 := 0#32
  let c1_i32_8 : BitVec 32 := 1#32
  let arg20 : BitVec 32 := Scf.iv c0_i32_7 c1_i32_8 k0_t3
  let c512_i32_51 : BitVec 32 := 512#32
  let v128 : BitVec 32 := Scalar.muli arg20 c512_i32_51
  let c128_i32 : BitVec 32 := 128#32
  let v129 : BitVec 32 := Scalar.addi v128 c128_i32
  v129
def k0_mult4 (k0_t3 : Fin k0_t3_loop.trips) : BitVec 32 :=
  let c0_i32_7 : BitVec 32 := 0#32
  let c1_i32_8 : BitVec 32 := 1#32
  let arg20 : BitVec 32 := Scf.iv c0_i32_7 c1_i32_8 k0_t3
  let c512_i32_53 : BitVec 32 := 512#32
  let v138 : BitVec 32 := Scalar.muli arg20 c512_i32_53
  let c256_i32_54 : BitVec 32 := 256#32
  let v139 : BitVec 32 := Scalar.addi v138 c256_i32_54
  v139
def k0_mult5 (k0_t3 : Fin k0_t3_loop.trips) : BitVec 32 :=
  let c0_i32_7 : BitVec 32 := 0#32
  let c1_i32_8 : BitVec 32 := 1#32
  let arg20 : BitVec 32 := Scf.iv c0_i32_7 c1_i32_8 k0_t3
  let c512_i32_56 : BitVec 32 := 512#32
  let v148 : BitVec 32 := Scalar.muli arg20 c512_i32_56
  let c384_i32 : BitVec 32 := 384#32
  let v149 : BitVec 32 := Scalar.addi v148 c384_i32
  v149
def k0_off68 (k0_t3 : Fin k0_t3_loop.trips) : Fin 3 → Nat :=
  let c0_i32_7 : BitVec 32 := 0#32
  let c1_i32_8 : BitVec 32 := 1#32
  let arg20 : BitVec 32 := Scf.iv c0_i32_7 c1_i32_8 k0_t3
  let v155 : Index := Scalar.indexCast arg20
  let c0_58 : Index := 0#32
  let c0_59 : Index := 0#32
  ![v155.toNat, 0, 0]
@[reducible] def k0_t4_loop : Scf.Loop 32 :=
  let c0_i32_10 : BitVec 32 := 0#32
  let c256_i32 : BitVec 32 := 256#32
  let v21 : BitVec 32 := Scalar.addi c0_i32_10 c256_i32
  let c1_i32_11 : BitVec 32 := 1#32
  ⟨c0_i32_10, v21, c1_i32_11⟩
def k0_off69 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off70 (i : grid0.Coords) : Fin 3 → Nat :=
  let arg0 : BitVec 32 := BitVec.ofNat 32 (i 0).val
  let c2_i32 : BitVec 32 := 2#32
  let v0 : BitVec 32 := Scalar.remsi arg0 c2_i32
  let c0_i32_41 : BitVec 32 := 0#32
  let c0_i32_42 : BitVec 32 := 0#32
  ![v0.toNat, 0, 0]
def k0_off71 (k0_t4 : Fin k0_t4_loop.trips) : Fin 2 → Nat :=
  let c0_i32_10 : BitVec 32 := 0#32
  let c1_i32_11 : BitVec 32 := 1#32
  let arg20 : BitVec 32 := Scf.iv c0_i32_10 c1_i32_11 k0_t4
  let c0_i32_43 : BitVec 32 := 0#32
  ![arg20.toNat, 0]
def k0_off72 (i : grid0.Coords) : Fin 3 → Nat :=
  let arg0 : BitVec 32 := BitVec.ofNat 32 (i 0).val
  let c2_i32 : BitVec 32 := 2#32
  let v0 : BitVec 32 := Scalar.remsi arg0 c2_i32
  let v22 : Index := Scalar.indexCast v0
  let c0_13 : Index := 0#32
  let c0_14 : Index := 0#32
  ![v22.toNat, 0, 0]
@[reducible] def k0_t5_loop : Scf.Loop 32 :=
  let c0_i32_33 : BitVec 32 := 0#32
  let c10_i32_34 : BitVec 32 := 10#32
  let v81 : BitVec 32 := Scalar.addi c0_i32_33 c10_i32_34
  let c1_i32_35 : BitVec 32 := 1#32
  ⟨c0_i32_33, v81, c1_i32_35⟩
def k0_off73 (k0_t5 : Fin k0_t5_loop.trips) : Fin 3 → Nat :=
  let c0_i32_33 : BitVec 32 := 0#32
  let c1_i32_35 : BitVec 32 := 1#32
  let arg20 : BitVec 32 := Scf.iv c0_i32_33 c1_i32_35 k0_t5
  let v85 : Index := Scalar.indexCast arg20
  let c0_41 : Index := 0#32
  let c0_42 : Index := 0#32
  ![v85.toNat, 0, 0]
def k0_mult6 (k0_t5 : Fin k0_t5_loop.trips) : BitVec 32 :=
  let c0_i32_33 : BitVec 32 := 0#32
  let c1_i32_35 : BitVec 32 := 1#32
  let arg20 : BitVec 32 := Scf.iv c0_i32_33 c1_i32_35 k0_t5
  let c512_i32 : BitVec 32 := 512#32
  let v93 : BitVec 32 := Scalar.muli arg20 c512_i32
  let c0_i32_43 : BitVec 32 := 0#32
  let v94 : BitVec 32 := Scalar.addi v93 c0_i32_43
  v94
def k0_off74 (k0_t5 : Fin k0_t5_loop.trips) (c0_i32_43 : BitVec 32) : Fin 2 → Nat :=
  let c0_44 : Index := 0#32
  let c0_i32_33 : BitVec 32 := 0#32
  let c1_i32_35 : BitVec 32 := 1#32
  let arg20 : BitVec 32 := Scf.iv c0_i32_33 c1_i32_35 k0_t5
  let c512_i32 : BitVec 32 := 512#32
  let v93 : BitVec 32 := Scalar.muli arg20 c512_i32
  let v94 : BitVec 32 := Scalar.addi v93 c0_i32_43
  let v95 : BitVec 32 := v94
  let v96 : Index := Scalar.indexCast v95
  ![0, v96.toNat]
def k0_mult7 (k0_t5 : Fin k0_t5_loop.trips) : BitVec 32 :=
  let c0_i32_33 : BitVec 32 := 0#32
  let c1_i32_35 : BitVec 32 := 1#32
  let arg20 : BitVec 32 := Scf.iv c0_i32_33 c1_i32_35 k0_t5
  let c512_i32_46 : BitVec 32 := 512#32
  let v102 : BitVec 32 := Scalar.muli arg20 c512_i32_46
  let c128_i32 : BitVec 32 := 128#32
  let v103 : BitVec 32 := Scalar.addi v102 c128_i32
  v103
def k0_mult8 (k0_t5 : Fin k0_t5_loop.trips) : BitVec 32 :=
  let c0_i32_33 : BitVec 32 := 0#32
  let c1_i32_35 : BitVec 32 := 1#32
  let arg20 : BitVec 32 := Scf.iv c0_i32_33 c1_i32_35 k0_t5
  let c512_i32_49 : BitVec 32 := 512#32
  let v111 : BitVec 32 := Scalar.muli arg20 c512_i32_49
  let c256_i32_50 : BitVec 32 := 256#32
  let v112 : BitVec 32 := Scalar.addi v111 c256_i32_50
  v112
def k0_mult9 (k0_t5 : Fin k0_t5_loop.trips) : BitVec 32 :=
  let c0_i32_33 : BitVec 32 := 0#32
  let c1_i32_35 : BitVec 32 := 1#32
  let arg20 : BitVec 32 := Scf.iv c0_i32_33 c1_i32_35 k0_t5
  let c512_i32_53 : BitVec 32 := 512#32
  let v120 : BitVec 32 := Scalar.muli arg20 c512_i32_53
  let c384_i32 : BitVec 32 := 384#32
  let v121 : BitVec 32 := Scalar.addi v120 c384_i32
  v121
def k0_mult10 (k0_t5 : Fin k0_t5_loop.trips) : BitVec 32 :=
  let c0_i32_33 : BitVec 32 := 0#32
  let c1_i32_35 : BitVec 32 := 1#32
  let arg20 : BitVec 32 := Scf.iv c0_i32_33 c1_i32_35 k0_t5
  let c512_i32_56 : BitVec 32 := 512#32
  let v129 : BitVec 32 := Scalar.muli arg20 c512_i32_56
  v129
def k0_off75 (k0_t5 : Fin k0_t5_loop.trips) : Fin 2 → Nat :=
  let c0_59 : Index := 0#32
  let c0_i32_33 : BitVec 32 := 0#32
  let c1_i32_35 : BitVec 32 := 1#32
  let arg20 : BitVec 32 := Scf.iv c0_i32_33 c1_i32_35 k0_t5
  let c512_i32_56 : BitVec 32 := 512#32
  let v129 : BitVec 32 := Scalar.muli arg20 c512_i32_56
  let v130 : BitVec 32 := v129
  let v132 : Index := Scalar.indexCast v130
  ![0, v132.toNat]
def k0_off76 (k0_t5 : Fin k0_t5_loop.trips) : Fin 2 → Nat :=
  let c0_i32_33 : BitVec 32 := 0#32
  let c1_i32_35 : BitVec 32 := 1#32
  let arg20 : BitVec 32 := Scf.iv c0_i32_33 c1_i32_35 k0_t5
  let c512_i32_56 : BitVec 32 := 512#32
  let v129 : BitVec 32 := Scalar.muli arg20 c512_i32_56
  let v130 : BitVec 32 := v129
  let v135 : Index := Scalar.indexCast v130
  let c0_60 : Index := 0#32
  ![v135.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S6144 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LogitGradsRefIdeal.lean ====
abbrev S6144 : Shape := ⟨1, ![6144]⟩
abbrev S50304x2560 : Shape := ⟨2, ![50304, 2560]⟩
abbrev S5120x2560 : Shape := ⟨2, ![5120, 2560]⟩
abbrev S6144x2560 : Shape := ⟨2, ![6144, 2560]⟩
abbrev S88x11264 : Shape := ⟨2, ![88, 11264]⟩
abbrev S5120 : Shape := ⟨1, ![5120]⟩
abbrev S_ : Shape := ⟨0, ![]⟩
abbrev S6144x1 : Shape := ⟨2, ![6144, 1]⟩
abbrev S6144x80x32 : Shape := ⟨3, ![6144, 80, 32]⟩
abbrev S80x6144 : Shape := ⟨2, ![80, 6144]⟩
abbrev S6144x80 : Shape := ⟨2, ![6144, 80]⟩
abbrev S6144x80x1 : Shape := ⟨3, ![6144, 80, 1]⟩
abbrev S6144x5120 : Shape := ⟨2, ![6144, 5120]⟩
abbrev S1x5120 : Shape := ⟨2, ![1, 5120]⟩
abbrev S1x6144 : Shape := ⟨2, ![1, 6144]⟩

abbrev nBuf : Space → Nat
  | .hbm => 96
  | .vmem => 0
  | .smem => 0
  | _ => 0

abbrev bufTy : (tb : Table) → Fin (tcTables nBuf tb) → BufTy
  | .hbm, ⟨0, _⟩ => ⟨S6144, .i32⟩
  | .hbm, ⟨1, _⟩ => ⟨S50304x2560, .i8⟩
  | .hbm, ⟨2, _⟩ => ⟨S5120x2560, .bf16⟩
  | .hbm, ⟨3, _⟩ => ⟨S6144x2560, .bf16⟩
  | .hbm, ⟨4, _⟩ => ⟨S88x11264, .f32⟩
  | .hbm, ⟨5, _⟩ => ⟨S6144, .f32⟩
  | .hbm, ⟨6, _⟩ => ⟨S5120, .i32⟩
  | .hbm, ⟨7, _⟩ => ⟨S_, .i32⟩
  | .hbm, ⟨8, _⟩ => ⟨S6144, .i32⟩
  | .hbm, ⟨9, _⟩ => ⟨S6144, .i1⟩
  | .hbm, ⟨10, _⟩ => ⟨S_, .i32⟩
  | .hbm, ⟨11, _⟩ => ⟨S6144, .i32⟩
  | .hbm, ⟨12, _⟩ => ⟨S6144, .i32⟩
  | .hbm, ⟨13, _⟩ => ⟨S6144, .i32⟩
  | .hbm, ⟨14, _⟩ => ⟨S6144x1, .i32⟩
  | .hbm, ⟨15, _⟩ => ⟨S6144x2560, .i8⟩
  | .hbm, ⟨16, _⟩ => ⟨S6144x2560, .i32⟩
  | .hbm, ⟨17, _⟩ => ⟨S6144x2560, .f32⟩
  | .hbm, ⟨18, _⟩ => ⟨S6144x2560, .bf16⟩
  | .hbm, ⟨19, _⟩ => ⟨S6144x80x32, .bf16⟩
  | .hbm, ⟨20, _⟩ => ⟨S80x6144, .f32⟩
  | .hbm, ⟨21, _⟩ => ⟨S6144x80, .f32⟩
  | .hbm, ⟨22, _⟩ => ⟨S6144x80, .bf16⟩
  | .hbm, ⟨23, _⟩ => ⟨S6144x80x1, .bf16⟩
  | .hbm, ⟨24, _⟩ => ⟨S6144x80x32, .bf16⟩
  | .hbm, ⟨25, _⟩ => ⟨S6144x80x32, .bf16⟩
  | .hbm, ⟨26, _⟩ => ⟨S6144x2560, .bf16⟩
  | .hbm, ⟨27, _⟩ => ⟨S6144x5120, .f32⟩
  | .hbm, ⟨28, _⟩ => ⟨S1x5120, .f32⟩
  | .hbm, ⟨29, _⟩ => ⟨S5120, .f32⟩
  | .hbm, ⟨30, _⟩ => ⟨S1x5120, .f32⟩
  | .hbm, ⟨31, _⟩ => ⟨S6144x5120, .f32⟩
  | .hbm, ⟨32, _⟩ => ⟨S6144x5120, .f32⟩
  | .hbm, ⟨33, _⟩ => ⟨S6144x1, .i32⟩
  | .hbm, ⟨34, _⟩ => ⟨S1x5120, .i32⟩
  | .hbm, ⟨35, _⟩ => ⟨S6144x5120, .i32⟩
  | .hbm, ⟨36, _⟩ => ⟨S6144x5120, .i32⟩
  | .hbm, ⟨37, _⟩ => ⟨S6144x5120, .i1⟩
  | .hbm, ⟨38, _⟩ => ⟨S_, .f32⟩
  | .hbm, ⟨39, _⟩ => ⟨S_, .f32⟩
  | .hbm, ⟨40, _⟩ => ⟨S6144x5120, .f32⟩
  | .hbm, ⟨41, _⟩ => ⟨S6144x5120, .f32⟩
  | .hbm, ⟨42, _⟩ => ⟨S6144, .f32⟩
  | .hbm, ⟨43, _⟩ => ⟨S1x6144, .f32⟩
  | .hbm, ⟨44, _⟩ => ⟨S6144, .f32⟩
  | .hbm, ⟨45, _⟩ => ⟨S6144, .f32⟩
  | .hbm, ⟨46, _⟩ => ⟨S_, .f32⟩
  | .hbm, ⟨47, _⟩ => ⟨S6144, .f32⟩
  | .hbm, ⟨48, _⟩ => ⟨S6144, .f32⟩
  | .hbm, ⟨49, _⟩ => ⟨S_, .f32⟩
  | .hbm, ⟨50, _⟩ => ⟨S6144, .f32⟩
  | .hbm, ⟨51, _⟩ => ⟨S6144, .i1⟩
  | .hbm, ⟨52, _⟩ => ⟨S_, .f32⟩
  | .hbm, ⟨53, _⟩ => ⟨S_, .f32⟩
  | .hbm, ⟨54, _⟩ => ⟨S6144, .f32⟩
  | .hbm, ⟨55, _⟩ => ⟨S6144, .f32⟩
  | .hbm, ⟨56, _⟩ => ⟨S6144x1, .f32⟩
  | .hbm, ⟨57, _⟩ => ⟨S6144x5120, .f32⟩
  | .hbm, ⟨58, _⟩ => ⟨S6144x5120, .f32⟩
  | .hbm, ⟨59, _⟩ => ⟨S6144x5120, .f32⟩
  | .hbm, ⟨60, _⟩ => ⟨S_, .f32⟩
  | .hbm, ⟨61, _⟩ => ⟨S6144, .f32⟩
  | .hbm, ⟨62, _⟩ => ⟨S6144, .f32⟩
  | .hbm, ⟨63, _⟩ => ⟨S6144, .f32⟩
  | .hbm, ⟨64, _⟩ => ⟨S6144, .f32⟩
  | .hbm, ⟨65, _⟩ => ⟨S6144, .f32⟩
  | .hbm, ⟨66, _⟩ => ⟨S6144, .i1⟩
  | .hbm, ⟨67, _⟩ => ⟨S6144, .f32⟩
  | .hbm, ⟨68, _⟩ => ⟨S6144, .f32⟩
  | .hbm, ⟨69, _⟩ => ⟨S6144, .f32⟩
  | .hbm, ⟨70, _⟩ => ⟨S6144, .f32⟩
  | .hbm, ⟨71, _⟩ => ⟨S6144, .f32⟩
  | .hbm, ⟨72, _⟩ => ⟨S6144, .f32⟩
  | .hbm, ⟨73, _⟩ => ⟨S6144, .f32⟩
  | .hbm, ⟨74, _⟩ => ⟨S6144x1, .f32⟩
  | .hbm, ⟨75, _⟩ => ⟨S6144x5120, .f32⟩
  | .hbm, ⟨76, _⟩ => ⟨S6144x5120, .f32⟩
  | .hbm, ⟨77, _⟩ => ⟨S6144x5120, .f32⟩
  | .hbm, ⟨78, _⟩ => ⟨S6144, .f32⟩
  | .hbm, ⟨79, _⟩ => ⟨S6144, .f32⟩
  | .hbm, ⟨80, _⟩ => ⟨S6144, .f32⟩
  | .hbm, ⟨81, _⟩ => ⟨S6144x1, .f32⟩
  | .hbm, ⟨82, _⟩ => ⟨S6144x5120, .f32⟩
  | .hbm, ⟨83, _⟩ => ⟨S6144x5120, .f32⟩
  | .hbm, ⟨84, _⟩ => ⟨S_, .f32⟩
  | .hbm, ⟨85, _⟩ => ⟨S6144, .f32⟩
  | .hbm, ⟨86, _⟩ => ⟨S6144, .f32⟩
  | .hbm, ⟨87, _⟩ => ⟨S6144, .f32⟩
  | .hbm, ⟨88, _⟩ => ⟨S6144x5120, .bf16⟩
  | .hbm, ⟨89, _⟩ => ⟨S6144x2560, .f32⟩
  | .hbm, ⟨90, _⟩ => ⟨S6144x1, .f32⟩
  | .hbm, ⟨91, _⟩ => ⟨S6144x2560, .f32⟩
  | .hbm, ⟨92, _⟩ => ⟨S6144x2560, .f32⟩
  | .hbm, ⟨93, _⟩ => ⟨S6144x2560, .f32⟩
  | .hbm, ⟨94, _⟩ => ⟨S6144x2560, .f32⟩
  | .hbm, ⟨95, _⟩ => ⟨S6144x2560, .bf16⟩
  | _, _ => ⟨S6144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== SampledRows.lean ====
abbrev S5120 : Shape := ⟨1, ![5120]⟩
abbrev S50304x2560 : Shape := ⟨2, ![50304, 2560]⟩
abbrev S88x11264 : Shape := ⟨2, ![88, 11264]⟩
abbrev S_ : Shape := ⟨0, ![]⟩
abbrev S12576x4x2560 : Shape := ⟨3, ![12576, 4, 2560]⟩
abbrev S12576x2560x4 : Shape := ⟨3, ![12576, 2560, 4]⟩
abbrev S12576x2560 : Shape := ⟨2, ![12576, 2560]⟩
abbrev S5120x1 : Shape := ⟨2, ![5120, 1]⟩
abbrev S5120x2560 : Shape := ⟨2, ![5120, 2560]⟩
abbrev S256x1 : Shape := ⟨2, ![256, 1]⟩
abbrev S80x256 : Shape := ⟨2, ![80, 256]⟩
abbrev S256x2560 : Shape := ⟨2, ![256, 2560]⟩
abbrev S2x256x2560 : Shape := ⟨3, ![2, 256, 2560]⟩
abbrev S80x2560 : Shape := ⟨2, ![80, 2560]⟩
abbrev S2 : Shape := ⟨1, ![2]⟩
abbrev S1 : Shape := ⟨1, ![1]⟩
abbrev S1x256x2560 : Shape := ⟨3, ![1, 256, 2560]⟩
abbrev S1x2560 : Shape := ⟨2, ![1, 2560]⟩

abbrev nBuf : Space → Nat
  | .hbm => 17
  | .vmem => 8
  | .smem => 1
  | _ => 0

abbrev bufTy : (tb : Table) → Fin (tcTables nBuf tb) → BufTy
  | .hbm, ⟨0, _⟩ => ⟨S5120, .i32⟩
  | .hbm, ⟨1, _⟩ => ⟨S50304x2560, .i8⟩
  | .hbm, ⟨2, _⟩ => ⟨S88x11264, .f32⟩
  | .hbm, ⟨3, _⟩ => ⟨S_, .i32⟩
  | .hbm, ⟨4, _⟩ => ⟨S5120, .i32⟩
  | .hbm, ⟨5, _⟩ => ⟨S5120, .i32⟩
  | .hbm, ⟨6, _⟩ => ⟨S_, .i32⟩
  | .hbm, ⟨7, _⟩ => ⟨S5120, .i32⟩
  | .hbm, ⟨8, _⟩ => ⟨S5120, .i32⟩
  | .hbm, ⟨9, _⟩ => ⟨S_, .i32⟩
  | .hbm, ⟨10, _⟩ => ⟨S5120, .i32⟩
  | .hbm, ⟨11, _⟩ => ⟨S5120, .i32⟩
  | .hbm, ⟨12, _⟩ => ⟨S12576x4x2560, .i8⟩
  | .hbm, ⟨13, _⟩ => ⟨S12576x2560x4, .i8⟩
  | .hbm, ⟨14, _⟩ => ⟨S12576x2560, .i32⟩
  | .hbm, ⟨15, _⟩ => ⟨S5120x1, .i32⟩
  | .hbm, ⟨16, _⟩ => ⟨S5120x2560, .bf16⟩
  | .local _ .vmem, ⟨0, _⟩ => ⟨S256x1, .i32⟩
  | .local _ .vmem, ⟨1, _⟩ => ⟨S256x1, .i32⟩
  | .local _ .vmem, ⟨2, _⟩ => ⟨S80x256, .f32⟩
  | .local _ .vmem, ⟨3, _⟩ => ⟨S80x256, .f32⟩
  | .local _ .vmem, ⟨4, _⟩ => ⟨S256x2560, .bf16⟩
  | .local _ .vmem, ⟨5, _⟩ => ⟨S256x2560, .bf16⟩
  | .local _ .vmem, ⟨6, _⟩ => ⟨S2x256x2560, .i32⟩
  | .local _ .vmem, ⟨7, _⟩ => ⟨S80x2560, .bf16⟩
  | .local _ .smem, ⟨0, _⟩ => ⟨S5120, .i32⟩
  | _, _ => ⟨S5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_26 : BitVec 32 := 0#32
  let c32_i32_27 : BitVec 32 := 32#32
  let v60 : BitVec 32 := Scalar.addi c0_i32_26 c32_i32_27
  let c1_i32_28 : BitVec 32 := 1#32
  ⟨c0_i32_26, v60, c1_i32_28⟩
def k0_off1 (k0_t1 : Fin k0_t1_loop.trips) : Fin 1 → Nat :=
  let c0_i32_31 : BitVec 32 := 0#32
  let c0_i32_26 : BitVec 32 := 0#32
  let c1_i32_28 : BitVec 32 := 1#32
  let arg9 : BitVec 32 := Scf.iv c0_i32_26 c1_i32_28 k0_t1
  let c8_i32 : BitVec 32 := 8#32
  let v61 : BitVec 32 := Scalar.muli arg9 c8_i32
  let c0_i32_30 : BitVec 32 := 0#32
  let v62 : BitVec 32 := Scalar.addi v61 c0_i32_30
  let v63 : BitVec 32 := Scalar.addi c0_i32_31 v62
  let v64 : Index := Scalar.indexCast v63
  ![v64.toNat]
def k0_off2 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32 : BitVec 32 := 8#32
  let v61 : BitVec 32 := Scalar.muli arg9 c8_i32
  let c0_i32_30 : BitVec 32 := 0#32
  let v62 : BitVec 32 := Scalar.addi v61 c0_i32_30
  let c0_i32_35 : BitVec 32 := 0#32
  ![v62.toNat, 0]
def k0_off3 (v65 : BitVec 32) : Fin 2 → Nat :=
  let c2_i32_32 : BitVec 32 := 2#32
  let v66 : BitVec 32 := Scalar.shrsi v65 c2_i32_32
  let c0_i32_36 : BitVec 32 := 0#32
  ![v66.toNat, 0]

def k0_chk1 (i : grid0.Coords) (v65 : BitVec 32) : Prop :=
  (∀ (k0_h1 : k0_cond1 i = 1#1), ∀ a, (k0_off3 v65) a + S1x2560.size a ≤ S12576x2560.size a)
theorem k0_off3_inb : ∀ (i : grid0.Coords) (v65 : BitVec 32) (k0_hw1 : k0_chk1 i v65), ∀ (k0_h1 : k0_cond1 i = 1#1), ∀ a, (k0_off3 v65) a + S1x2560.size a ≤ S12576x2560.size a := fun i v65 k0_hw1 k0_h1 => k0_hw1 k0_h1

def k0_off4 (k0_t1 : Fin k0_t1_loop.trips) : Fin 1 → Nat :=
  let c0_i32_39 : BitVec 32 := 0#32
  let c0_i32_26 : BitVec 32 := 0#32
  let c1_i32_28 : BitVec 32 := 1#32
  let arg9 : BitVec 32 := Scf.iv c0_i32_26 c1_i32_28 k0_t1
  let c8_i32_37 : BitVec 32 := 8#32
  let v73 : BitVec 32 := Scalar.muli arg9 c8_i32_37
  let c1_i32_38 : BitVec 32 := 1#32
  let v74 : BitVec 32 := Scalar.addi v73 c1_i32_38
  let v75 : BitVec 32 := Scalar.addi c0_i32_39 v74
  let v76 : Index := Scalar.indexCast v75
  ![v76.toNat]
def k0_off5 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32_37 : BitVec 32 := 8#32
  let v73 : BitVec 32 := Scalar.muli arg9 c8_i32_37
  let c1_i32_38 : BitVec 32 := 1#32
  let v74 : BitVec 32 := Scalar.addi v73 c1_i32_38
  let c0_i32_43 : BitVec 32 := 0#32
  ![v74.toNat, 0]
def k0_off6 (v77 : BitVec 32) : Fin 2 → Nat :=
  let c2_i32_40 : BitVec 32 := 2#32
  let v78 : BitVec 32 := Scalar.shrsi v77 c2_i32_40
  let c0_i32_44 : BitVec 32 := 0#32
  ![v78.toNat, 0]

def k0_chk2 (i : grid0.Coords) (v77 : BitVec 32) : Prop :=
  (∀ (k0_h1 : k0_cond1 i = 1#1), ∀ a, (k0_off6 v77) a + S1x2560.size a ≤ S12576x2560.size a)
theorem k0_off6_inb : ∀ (i : grid0.Coords) (v77 : BitVec 32) (k0_hw2 : k0_chk2 i v77), ∀ (k0_h1 : k0_cond1 i = 1#1), ∀ a, (k0_off6 v77) a + S1x2560.size a ≤ S12576x2560.size a := fun i v77 k0_hw2 k0_h1 => k0_hw2 k0_h1

def k0_off7 (k0_t1 : Fin k0_t1_loop.trips) : Fin 1 → Nat :=
  let c0_i32_47 : BitVec 32 := 0#32
  let c0_i32_26 : BitVec 32 := 0#32
  let c1_i32_28 : BitVec 32 := 1#32
  let arg9 : BitVec 32 := Scf.iv c0_i32_26 c1_i32_28 k0_t1
  let c8_i32_45 : BitVec 32 := 8#32
  let v85 : BitVec 32 := Scalar.muli arg9 c8_i32_45
  let c2_i32_46 : BitVec 32 := 2#32
  let v86 : BitVec 32 := Scalar.addi v85 c2_i32_46
  let v87 : BitVec 32 := Scalar.addi c0_i32_47 v86
  let v88 : Index := Scalar.indexCast v87
  ![v88.toNat]
def k0_off8 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32_45 : BitVec 32 := 8#32
  let v85 : BitVec 32 := Scalar.muli arg9 c8_i32_45
  let c2_i32_46 : BitVec 32 := 2#32
  let v86 : BitVec 32 := Scalar.addi v85 c2_i32_46
  let c0_i32_51 : BitVec 32 := 0#32
  ![v86.toNat, 0]
def k0_off9 (v89 : BitVec 32) : Fin 2 → Nat :=
  let c2_i32_48 : BitVec 32 := 2#32
  let v90 : BitVec 32 := Scalar.shrsi v89 c2_i32_48
  let c0_i32_52 : BitVec 32 := 0#32
  ![v90.toNat, 0]

def k0_chk3 (i : grid0.Coords) (v89 : BitVec 32) : Prop :=
  (∀ (k0_h1 : k0_cond1 i = 1#1), ∀ a, (k0_off9 v89) a + S1x2560.size a ≤ S12576x2560.size a)
theorem k0_off9_inb : ∀ (i : grid0.Coords) (v89 : BitVec 32) (k0_hw3 : k0_chk3 i v89), ∀ (k0_h1 : k0_cond1 i = 1#1), ∀ a, (k0_off9 v89) a + S1x2560.size a ≤ S12576x2560.size a := fun i v89 k0_hw3 k0_h1 => k0_hw3 k0_h1

def k0_off10 (k0_t1 : Fin k0_t1_loop.trips) : Fin 1 → Nat :=
  let c0_i32_54 : BitVec 32 := 0#32
  let c0_i32_26 : BitVec 32 := 0#32
  let c1_i32_28 : BitVec 32 := 1#32
  let arg9 : BitVec 32 := Scf.iv c0_i32_26 c1_i32_28 k0_t1
  let c8_i32_53 : BitVec 32 := 8#32
  let v97 : BitVec 32 := Scalar.muli arg9 c8_i32_53
  let c3_i32 : BitVec 32 := 3#32
  let v98 : BitVec 32 := Scalar.addi v97 c3_i32
  let v99 : BitVec 32 := Scalar.addi c0_i32_54 v98
  let v100 : Index := Scalar.indexCast v99
  ![v100.toNat]
def k0_off11 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32_53 : BitVec 32 := 8#32
  let v97 : BitVec 32 := Scalar.muli arg9 c8_i32_53
  let c3_i32 : BitVec 32 := 3#32
  let v98 : BitVec 32 := Scalar.addi v97 c3_i32
  let c0_i32_58 : BitVec 32 := 0#32
  ![v98.toNat, 0]
def k0_off12 (v101 : BitVec 32) : Fin 2 → Nat :=
  let c2_i32_55 : BitVec 32 := 2#32
  let v102 : BitVec 32 := Scalar.shrsi v101 c2_i32_55
  let c0_i32_59 : BitVec 32 := 0#32
  ![v102.toNat, 0]

def k0_chk4 (i : grid0.Coords) (v101 : BitVec 32) : Prop :=
  (∀ (k0_h1 : k0_cond1 i = 1#1), ∀ a, (k0_off12 v101) a + S1x2560.size a ≤ S12576x2560.size a)
theorem k0_off12_inb : ∀ (i : grid0.Coords) (v101 : BitVec 32) (k0_hw4 : k0_chk4 i v101), ∀ (k0_h1 : k0_cond1 i = 1#1), ∀ a, (k0_off12 v101) a + S1x2560.size a ≤ S12576x2560.size a := fun i v101 k0_hw4 k0_h1 => k0_hw4 k0_h1

def k0_off13 (k0_t1 : Fin k0_t1_loop.trips) : Fin 1 → Nat :=
  let c0_i32_61 : BitVec 32 := 0#32
  let c0_i32_26 : BitVec 32 := 0#32
  let c1_i32_28 : BitVec 32 := 1#32
  let arg9 : BitVec 32 := Scf.iv c0_i32_26 c1_i32_28 k0_t1
  let c8_i32_60 : BitVec 32 := 8#32
  let v109 : BitVec 32 := Scalar.muli arg9 c8_i32_60
  let c4_i32 : BitVec 32 := 4#32
  let v110 : BitVec 32 := Scalar.addi v109 c4_i32
  let v111 : BitVec 32 := Scalar.addi c0_i32_61 v110
  let v112 : Index := Scalar.indexCast v111
  ![v112.toNat]
def k0_off14 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32_60 : BitVec 32 := 8#32
  let v109 : BitVec 32 := Scalar.muli arg9 c8_i32_60
  let c4_i32 : BitVec 32 := 4#32
  let v110 : BitVec 32 := Scalar.addi v109 c4_i32
  let c0_i32_65 : BitVec 32 := 0#32
  ![v110.toNat, 0]
def k0_off15 (v113 : BitVec 32) : Fin 2 → Nat :=
  let c2_i32_62 : BitVec 32 := 2#32
  let v114 : BitVec 32 := Scalar.shrsi v113 c2_i32_62
  let c0_i32_66 : BitVec 32 := 0#32
  ![v114.toNat, 0]

def k0_chk5 (i : grid0.Coords) (v113 : BitVec 32) : Prop :=
  (∀ (k0_h1 : k0_cond1 i = 1#1), ∀ a, (k0_off15 v113) a + S1x2560.size a ≤ S12576x2560.size a)
theorem k0_off15_inb : ∀ (i : grid0.Coords) (v113 : BitVec 32) (k0_hw5 : k0_chk5 i v113), ∀ (k0_h1 : k0_cond1 i = 1#1), ∀ a, (k0_off15 v113) a + S1x2560.size a ≤ S12576x2560.size a := fun i v113 k0_hw5 k0_h1 => k0_hw5 k0_h1

def k0_off16 (k0_t1 : Fin k0_t1_loop.trips) : Fin 1 → Nat :=
  let c0_i32_68 : BitVec 32 := 0#32
  let c0_i32_26 : BitVec 32 := 0#32
  let c1_i32_28 : BitVec 32 := 1#32
  let arg9 : BitVec 32 := Scf.iv c0_i32_26 c1_i32_28 k0_t1
  let c8_i32_67 : BitVec 32 := 8#32
  let v121 : BitVec 32 := Scalar.muli arg9 c8_i32_67
  let c5_i32 : BitVec 32 := 5#32
  let v122 : BitVec 32 := Scalar.addi v121 c5_i32
  let v123 : BitVec 32 := Scalar.addi c0_i32_68 v122
  let v124 : Index := Scalar.indexCast v123
  ![v124.toNat]
def k0_off17 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32_67 : BitVec 32 := 8#32
  let v121 : BitVec 32 := Scalar.muli arg9 c8_i32_67
  let c5_i32 : BitVec 32 := 5#32
  let v122 : BitVec 32 := Scalar.addi v121 c5_i32
  let c0_i32_72 : BitVec 32 := 0#32
  ![v122.toNat, 0]
def k0_off18 (v125 : BitVec 32) : Fin 2 → Nat :=
  let c2_i32_69 : BitVec 32 := 2#32
  let v126 : BitVec 32 := Scalar.shrsi v125 c2_i32_69
  let c0_i32_73 : BitVec 32 := 0#32
  ![v126.toNat, 0]

def k0_chk6 (i : grid0.Coords) (v125 : BitVec 32) : Prop :=
  (∀ (k0_h1 : k0_cond1 i = 1#1), ∀ a, (k0_off18 v125) a + S1x2560.size a ≤ S12576x2560.size a)
theorem k0_off18_inb : ∀ (i : grid0.Coords) (v125 : BitVec 32) (k0_hw6 : k0_chk6 i v125), ∀ (k0_h1 : k0_cond1 i = 1#1), ∀ a, (k0_off18 v125) a + S1x2560.size a ≤ S12576x2560.size a := fun i v125 k0_hw6 k0_h1 => k0_hw6 k0_h1

def k0_off19 (k0_t1 : Fin k0_t1_loop.trips) : Fin 1 → Nat :=
  let c0_i32_75 : BitVec 32 := 0#32
  let c0_i32_26 : BitVec 32 := 0#32
  let c1_i32_28 : BitVec 32 := 1#32
  let arg9 : BitVec 32 := Scf.iv c0_i32_26 c1_i32_28 k0_t1
  let c8_i32_74 : BitVec 32 := 8#32
  let v133 : BitVec 32 := Scalar.muli arg9 c8_i32_74
  let c6_i32 : BitVec 32 := 6#32
  let v134 : BitVec 32 := Scalar.addi v133 c6_i32
  let v135 : BitVec 32 := Scalar.addi c0_i32_75 v134
  let v136 : Index := Scalar.indexCast v135
  ![v136.toNat]
def k0_off20 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32_74 : BitVec 32 := 8#32
  let v133 : BitVec 32 := Scalar.muli arg9 c8_i32_74
  let c6_i32 : BitVec 32 := 6#32
  let v134 : BitVec 32 := Scalar.addi v133 c6_i32
  let c0_i32_79 : BitVec 32 := 0#32
  ![v134.toNat, 0]
def k0_off21 (v137 : BitVec 32) : Fin 2 → Nat :=
  let c2_i32_76 : BitVec 32 := 2#32
  let v138 : BitVec 32 := Scalar.shrsi v137 c2_i32_76
  let c0_i32_80 : BitVec 32 := 0#32
  ![v138.toNat, 0]

def k0_chk7 (i : grid0.Coords) (v137 : BitVec 32) : Prop :=
  (∀ (k0_h1 : k0_cond1 i = 1#1), ∀ a, (k0_off21 v137) a + S1x2560.size a ≤ S12576x2560.size a)
theorem k0_off21_inb : ∀ (i : grid0.Coords) (v137 : BitVec 32) (k0_hw7 : k0_chk7 i v137), ∀ (k0_h1 : k0_cond1 i = 1#1), ∀ a, (k0_off21 v137) a + S1x2560.size a ≤ S12576x2560.size a := fun i v137 k0_hw7 k0_h1 => k0_hw7 k0_h1

def k0_off22 (k0_t1 : Fin k0_t1_loop.trips) : Fin 1 → Nat :=
  let c0_i32_82 : BitVec 32 := 0#32
  let c0_i32_26 : BitVec 32 := 0#32
  let c1_i32_28 : BitVec 32 := 1#32
  let arg9 : BitVec 32 := Scf.iv c0_i32_26 c1_i32_28 k0_t1
  let c8_i32_81 : BitVec 32 := 8#32
  let v145 : BitVec 32 := Scalar.muli arg9 c8_i32_81
  let c7_i32 : BitVec 32 := 7#32
  let v146 : BitVec 32 := Scalar.addi v145 c7_i32
  let v147 : BitVec 32 := Scalar.addi c0_i32_82 v146
  let v148 : Index := Scalar.indexCast v147
  ![v148.toNat]
def k0_off23 (k0_t1 : Fin k0_t1_loop.trips) : Fin 2 → Nat :=
  let c0_i32_26 : BitVec 32 := 0#32
  let c1_i32_28 : BitVec 32 := 1#32
  let arg9 : BitVec 32 := Scf.iv c0_i32_26 c1_i32_28 k0_t1
  let c8_i32_81 : BitVec 32 := 8#32
  let v145 : BitVec 32 := Scalar.muli arg9 c8_i32_81
  let c7_i32 : BitVec 32 := 7#32
  let v146 : BitVec 32 := Scalar.addi v145 c7_i32
  let c0_i32_86 : BitVec 32 := 0#32
  ![v146.toNat, 0]
def k0_off24 (v149 : BitVec 32) : Fin 2 → Nat :=
  let c2_i32_83 : BitVec 32 := 2#32
  let v150 : BitVec 32 := Scalar.shrsi v149 c2_i32_83
  let c0_i32_87 : BitVec 32 := 0#32
  ![v150.toNat, 0]

def k0_chk8 (i : grid0.Coords) (v149 : BitVec 32) : Prop :=
  (∀ (k0_h1 : k0_cond1 i = 1#1), ∀ a, (k0_off24 v149) a + S1x2560.size a ≤ S12576x2560.size a)
theorem k0_off24_inb : ∀ (i : grid0.Coords) (v149 : BitVec 32) (k0_hw8 : k0_chk8 i v149), ∀ (k0_h1 : k0_cond1 i = 1#1), ∀ a, (k0_off24 v149) a + S1x2560.size a ≤ S12576x2560.size a := fun i v149 k0_hw8 k0_h1 => k0_hw8 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c20_i32 : BitVec 32 := 20#32
  let v5 : BitVec 1 := Scalar.cmpi .slt v4 c20_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_18 : BitVec 32 := 0#32
  let c32_i32 : BitVec 32 := 32#32
  let v30 : BitVec 32 := Scalar.addi c0_i32_18 c32_i32
  let c1_i32_19 : BitVec 32 := 1#32
  ⟨c0_i32_18, v30, c1_i32_19⟩
def k0_off25 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32 : BitVec 32 := 8#32
  let v31 : BitVec 32 := Scalar.muli arg9 c8_i32
  let c0_i32_21 : BitVec 32 := 0#32
  let v32 : BitVec 32 := Scalar.addi v31 c0_i32_21
  let v33 : BitVec 32 := Scalar.addi v27 v32
  let v34 : Index := Scalar.indexCast v33
  ![v34.toNat]
def k0_off26 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off27 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_23 : BitVec 32 := 0#32
  let c0_i32_24 : BitVec 32 := 0#32
  ![v28.toNat, 0, 0]
def k0_off28 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32 : BitVec 32 := 8#32
  let v31 : BitVec 32 := Scalar.muli arg9 c8_i32
  let c0_i32_21 : BitVec 32 := 0#32
  let v32 : BitVec 32 := Scalar.addi v31 c0_i32_21
  let c0_i32_25 : BitVec 32 := 0#32
  ![v32.toNat, 0]
def k0_off29 (v35 : BitVec 32) : Fin 2 → Nat :=
  let c2_i32_22 : BitVec 32 := 2#32
  let v36 : BitVec 32 := Scalar.shrsi v35 c2_i32_22
  let c0_i32_26 : BitVec 32 := 0#32
  ![v36.toNat, 0]

def k0_chk9 (i : grid0.Coords) (v35 : BitVec 32) : Prop :=
  (∀ (k0_h2 : k0_cond2 i = 1#1), ∀ a, (k0_off29 v35) a + S1x2560.size a ≤ S12576x2560.size a)
theorem k0_off29_inb : ∀ (i : grid0.Coords) (v35 : BitVec 32) (k0_hw9 : k0_chk9 i v35), ∀ (k0_h2 : k0_cond2 i = 1#1), ∀ a, (k0_off29 v35) a + S1x2560.size a ≤ S12576x2560.size a := fun i v35 k0_hw9 k0_h2 => k0_hw9 k0_h2

def k0_off30 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32_27 : BitVec 32 := 8#32
  let v43 : BitVec 32 := Scalar.muli arg9 c8_i32_27
  let c1_i32_28 : BitVec 32 := 1#32
  let v44 : BitVec 32 := Scalar.addi v43 c1_i32_28
  let v45 : BitVec 32 := Scalar.addi v27 v44
  let v46 : Index := Scalar.indexCast v45
  ![v46.toNat]
def k0_off31 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off32 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_30 : BitVec 32 := 0#32
  let c0_i32_31 : BitVec 32 := 0#32
  ![v28.toNat, 0, 0]
def k0_off33 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32_27 : BitVec 32 := 8#32
  let v43 : BitVec 32 := Scalar.muli arg9 c8_i32_27
  let c1_i32_28 : BitVec 32 := 1#32
  let v44 : BitVec 32 := Scalar.addi v43 c1_i32_28
  let c0_i32_32 : BitVec 32 := 0#32
  ![v44.toNat, 0]
def k0_off34 (v47 : BitVec 32) : Fin 2 → Nat :=
  let c2_i32_29 : BitVec 32 := 2#32
  let v48 : BitVec 32 := Scalar.shrsi v47 c2_i32_29
  let c0_i32_33 : BitVec 32 := 0#32
  ![v48.toNat, 0]

def k0_chk10 (i : grid0.Coords) (v47 : BitVec 32) : Prop :=
  (∀ (k0_h2 : k0_cond2 i = 1#1), ∀ a, (k0_off34 v47) a + S1x2560.size a ≤ S12576x2560.size a)
theorem k0_off34_inb : ∀ (i : grid0.Coords) (v47 : BitVec 32) (k0_hw10 : k0_chk10 i v47), ∀ (k0_h2 : k0_cond2 i = 1#1), ∀ a, (k0_off34 v47) a + S1x2560.size a ≤ S12576x2560.size a := fun i v47 k0_hw10 k0_h2 => k0_hw10 k0_h2

def k0_off35 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32_34 : BitVec 32 := 8#32
  let v55 : BitVec 32 := Scalar.muli arg9 c8_i32_34
  let c2_i32_35 : BitVec 32 := 2#32
  let v56 : BitVec 32 := Scalar.addi v55 c2_i32_35
  let v57 : BitVec 32 := Scalar.addi v27 v56
  let v58 : Index := Scalar.indexCast v57
  ![v58.toNat]
def k0_off36 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off37 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_37 : BitVec 32 := 0#32
  let c0_i32_38 : BitVec 32 := 0#32
  ![v28.toNat, 0, 0]
def k0_off38 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32_34 : BitVec 32 := 8#32
  let v55 : BitVec 32 := Scalar.muli arg9 c8_i32_34
  let c2_i32_35 : BitVec 32 := 2#32
  let v56 : BitVec 32 := Scalar.addi v55 c2_i32_35
  let c0_i32_39 : BitVec 32 := 0#32
  ![v56.toNat, 0]
def k0_off39 (v59 : BitVec 32) : Fin 2 → Nat :=
  let c2_i32_36 : BitVec 32 := 2#32
  let v60 : BitVec 32 := Scalar.shrsi v59 c2_i32_36
  let c0_i32_40 : BitVec 32 := 0#32
  ![v60.toNat, 0]

def k0_chk11 (i : grid0.Coords) (v59 : BitVec 32) : Prop :=
  (∀ (k0_h2 : k0_cond2 i = 1#1), ∀ a, (k0_off39 v59) a + S1x2560.size a ≤ S12576x2560.size a)
theorem k0_off39_inb : ∀ (i : grid0.Coords) (v59 : BitVec 32) (k0_hw11 : k0_chk11 i v59), ∀ (k0_h2 : k0_cond2 i = 1#1), ∀ a, (k0_off39 v59) a + S1x2560.size a ≤ S12576x2560.size a := fun i v59 k0_hw11 k0_h2 => k0_hw11 k0_h2

def k0_off40 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32_41 : BitVec 32 := 8#32
  let v67 : BitVec 32 := Scalar.muli arg9 c8_i32_41
  let c3_i32 : BitVec 32 := 3#32
  let v68 : BitVec 32 := Scalar.addi v67 c3_i32
  let v69 : BitVec 32 := Scalar.addi v27 v68
  let v70 : Index := Scalar.indexCast v69
  ![v70.toNat]
def k0_off41 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off42 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_43 : BitVec 32 := 0#32
  let c0_i32_44 : BitVec 32 := 0#32
  ![v28.toNat, 0, 0]
def k0_off43 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32_41 : BitVec 32 := 8#32
  let v67 : BitVec 32 := Scalar.muli arg9 c8_i32_41
  let c3_i32 : BitVec 32 := 3#32
  let v68 : BitVec 32 := Scalar.addi v67 c3_i32
  let c0_i32_45 : BitVec 32 := 0#32
  ![v68.toNat, 0]
def k0_off44 (v71 : BitVec 32) : Fin 2 → Nat :=
  let c2_i32_42 : BitVec 32 := 2#32
  let v72 : BitVec 32 := Scalar.shrsi v71 c2_i32_42
  let c0_i32_46 : BitVec 32 := 0#32
  ![v72.toNat, 0]

def k0_chk12 (i : grid0.Coords) (v71 : BitVec 32) : Prop :=
  (∀ (k0_h2 : k0_cond2 i = 1#1), ∀ a, (k0_off44 v71) a + S1x2560.size a ≤ S12576x2560.size a)
theorem k0_off44_inb : ∀ (i : grid0.Coords) (v71 : BitVec 32) (k0_hw12 : k0_chk12 i v71), ∀ (k0_h2 : k0_cond2 i = 1#1), ∀ a, (k0_off44 v71) a + S1x2560.size a ≤ S12576x2560.size a := fun i v71 k0_hw12 k0_h2 => k0_hw12 k0_h2

def k0_off45 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32_47 : BitVec 32 := 8#32
  let v79 : BitVec 32 := Scalar.muli arg9 c8_i32_47
  let c4_i32 : BitVec 32 := 4#32
  let v80 : BitVec 32 := Scalar.addi v79 c4_i32
  let v81 : BitVec 32 := Scalar.addi v27 v80
  let v82 : Index := Scalar.indexCast v81
  ![v82.toNat]
def k0_off46 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off47 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_49 : BitVec 32 := 0#32
  let c0_i32_50 : BitVec 32 := 0#32
  ![v28.toNat, 0, 0]
def k0_off48 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32_47 : BitVec 32 := 8#32
  let v79 : BitVec 32 := Scalar.muli arg9 c8_i32_47
  let c4_i32 : BitVec 32 := 4#32
  let v80 : BitVec 32 := Scalar.addi v79 c4_i32
  let c0_i32_51 : BitVec 32 := 0#32
  ![v80.toNat, 0]
def k0_off49 (v83 : BitVec 32) : Fin 2 → Nat :=
  let c2_i32_48 : BitVec 32 := 2#32
  let v84 : BitVec 32 := Scalar.shrsi v83 c2_i32_48
  let c0_i32_52 : BitVec 32 := 0#32
  ![v84.toNat, 0]

def k0_chk13 (i : grid0.Coords) (v83 : BitVec 32) : Prop :=
  (∀ (k0_h2 : k0_cond2 i = 1#1), ∀ a, (k0_off49 v83) a + S1x2560.size a ≤ S12576x2560.size a)
theorem k0_off49_inb : ∀ (i : grid0.Coords) (v83 : BitVec 32) (k0_hw13 : k0_chk13 i v83), ∀ (k0_h2 : k0_cond2 i = 1#1), ∀ a, (k0_off49 v83) a + S1x2560.size a ≤ S12576x2560.size a := fun i v83 k0_hw13 k0_h2 => k0_hw13 k0_h2

def k0_off50 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32_53 : BitVec 32 := 8#32
  let v91 : BitVec 32 := Scalar.muli arg9 c8_i32_53
  let c5_i32 : BitVec 32 := 5#32
  let v92 : BitVec 32 := Scalar.addi v91 c5_i32
  let v93 : BitVec 32 := Scalar.addi v27 v92
  let v94 : Index := Scalar.indexCast v93
  ![v94.toNat]
def k0_off51 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off52 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_55 : BitVec 32 := 0#32
  let c0_i32_56 : BitVec 32 := 0#32
  ![v28.toNat, 0, 0]
def k0_off53 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32_53 : BitVec 32 := 8#32
  let v91 : BitVec 32 := Scalar.muli arg9 c8_i32_53
  let c5_i32 : BitVec 32 := 5#32
  let v92 : BitVec 32 := Scalar.addi v91 c5_i32
  let c0_i32_57 : BitVec 32 := 0#32
  ![v92.toNat, 0]
def k0_off54 (v95 : BitVec 32) : Fin 2 → Nat :=
  let c2_i32_54 : BitVec 32 := 2#32
  let v96 : BitVec 32 := Scalar.shrsi v95 c2_i32_54
  let c0_i32_58 : BitVec 32 := 0#32
  ![v96.toNat, 0]

def k0_chk14 (i : grid0.Coords) (v95 : BitVec 32) : Prop :=
  (∀ (k0_h2 : k0_cond2 i = 1#1), ∀ a, (k0_off54 v95) a + S1x2560.size a ≤ S12576x2560.size a)
theorem k0_off54_inb : ∀ (i : grid0.Coords) (v95 : BitVec 32) (k0_hw14 : k0_chk14 i v95), ∀ (k0_h2 : k0_cond2 i = 1#1), ∀ a, (k0_off54 v95) a + S1x2560.size a ≤ S12576x2560.size a := fun i v95 k0_hw14 k0_h2 => k0_hw14 k0_h2

def k0_off55 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32_59 : BitVec 32 := 8#32
  let v103 : BitVec 32 := Scalar.muli arg9 c8_i32_59
  let c6_i32 : BitVec 32 := 6#32
  let v104 : BitVec 32 := Scalar.addi v103 c6_i32
  let v105 : BitVec 32 := Scalar.addi v27 v104
  let v106 : Index := Scalar.indexCast v105
  ![v106.toNat]
def k0_off56 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off57 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_61 : BitVec 32 := 0#32
  let c0_i32_62 : BitVec 32 := 0#32
  ![v28.toNat, 0, 0]
def k0_off58 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32_59 : BitVec 32 := 8#32
  let v103 : BitVec 32 := Scalar.muli arg9 c8_i32_59
  let c6_i32 : BitVec 32 := 6#32
  let v104 : BitVec 32 := Scalar.addi v103 c6_i32
  let c0_i32_63 : BitVec 32 := 0#32
  ![v104.toNat, 0]
def k0_off59 (v107 : BitVec 32) : Fin 2 → Nat :=
  let c2_i32_60 : BitVec 32 := 2#32
  let v108 : BitVec 32 := Scalar.shrsi v107 c2_i32_60
  let c0_i32_64 : BitVec 32 := 0#32
  ![v108.toNat, 0]

def k0_chk15 (i : grid0.Coords) (v107 : BitVec 32) : Prop :=
  (∀ (k0_h2 : k0_cond2 i = 1#1), ∀ a, (k0_off59 v107) a + S1x2560.size a ≤ S12576x2560.size a)
theorem k0_off59_inb : ∀ (i : grid0.Coords) (v107 : BitVec 32) (k0_hw15 : k0_chk15 i v107), ∀ (k0_h2 : k0_cond2 i = 1#1), ∀ a, (k0_off59 v107) a + S1x2560.size a ≤ S12576x2560.size a := fun i v107 k0_hw15 k0_h2 => k0_hw15 k0_h2

def k0_off60 (i : grid0.Coords) (k0_t2 : Fin k0_t2_loop.trips) : Fin 1 → Nat :=
  let arg0 : BitVec 32 := BitVec.ofNat 32 (i 0).val
  let c1_i32_14 : BitVec 32 := 1#32
  let v26 : BitVec 32 := Scalar.addi arg0 c1_i32_14
  let c256_i32_15 : BitVec 32 := 256#32
  let v27 : BitVec 32 := Scalar.muli v26 c256_i32_15
  let c0_i32_18 : BitVec 32 := 0#32
  let c1_i32_19 : BitVec 32 := 1#32
  let arg9 : BitVec 32 := Scf.iv c0_i32_18 c1_i32_19 k0_t2
  let c8_i32_65 : BitVec 32 := 8#32
  let v115 : BitVec 32 := Scalar.muli arg9 c8_i32_65
  let c7_i32 : BitVec 32 := 7#32
  let v116 : BitVec 32 := Scalar.addi v115 c7_i32
  let v117 : BitVec 32 := Scalar.addi v27 v116
  let v118 : Index := Scalar.indexCast v117
  ![v118.toNat]
def k0_off61 (i : grid0.Coords) : Fin 1 → Nat :=
  let c1_i32_17 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_17 v0
  ![v29.toNat]
def k0_off62 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v28 : BitVec 32 := Scalar.subi c1_i32_16 v0
  let c0_i32_67 : BitVec 32 := 0#32
  let c0_i32_68 : BitVec 32 := 0#32
  ![v28.toNat, 0, 0]
def k0_off63 (k0_t2 : Fin k0_t2_loop.trips) : Fin 2 → Nat :=
  let c0_i32_18 : BitVec 32 := 0#32
  let c1_i32_19 : BitVec 32 := 1#32
  let arg9 : BitVec 32 := Scf.iv c0_i32_18 c1_i32_19 k0_t2
  let c8_i32_65 : BitVec 32 := 8#32
  let v115 : BitVec 32 := Scalar.muli arg9 c8_i32_65
  let c7_i32 : BitVec 32 := 7#32
  let v116 : BitVec 32 := Scalar.addi v115 c7_i32
  let c0_i32_69 : BitVec 32 := 0#32
  ![v116.toNat, 0]
def k0_off64 (v119 : BitVec 32) : Fin 2 → Nat :=
  let c2_i32_66 : BitVec 32 := 2#32
  let v120 : BitVec 32 := Scalar.shrsi v119 c2_i32_66
  let c0_i32_70 : BitVec 32 := 0#32
  ![v120.toNat, 0]

def k0_chk16 (i : grid0.Coords) (v119 : BitVec 32) : Prop :=
  (∀ (k0_h2 : k0_cond2 i = 1#1), ∀ a, (k0_off64 v119) a + S1x2560.size a ≤ S12576x2560.size a)
theorem k0_off64_inb : ∀ (i : grid0.Coords) (v119 : BitVec 32) (k0_hw16 : k0_chk16 i v119), ∀ (k0_h2 : k0_cond2 i = 1#1), ∀ a, (k0_off64 v119) a + S1x2560.size a ≤ S12576x2560.size a := fun i v119 k0_hw16 k0_h2 => k0_hw16 k0_h2

@[reducible] def k0_t3_loop : Scf.Loop 32 :=
  let c0_i32_2 : BitVec 32 := 0#32
  let c256_i32 : BitVec 32 := 256#32
  let v8 : BitVec 32 := Scalar.addi c0_i32_2 c256_i32
  let c1_i32_3 : BitVec 32 := 1#32
  ⟨c0_i32_2, v8, c1_i32_3⟩
def k0_off65 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off66 (i : grid0.Coords) : Fin 3 → Nat :=
  let arg0 : BitVec 32 := BitVec.ofNat 32 (i 0).val
  let c2_i32 : BitVec 32 := 2#32
  let v0 : BitVec 32 := Scalar.remsi arg0 c2_i32
  let c0_i32_14 : BitVec 32 := 0#32
  let c0_i32_15 : BitVec 32 := 0#32
  ![v0.toNat, 0, 0]
def k0_off67 (k0_t3 : Fin k0_t3_loop.trips) : Fin 2 → Nat :=
  let c0_i32_2 : BitVec 32 := 0#32
  let c1_i32_3 : BitVec 32 := 1#32
  let arg9 : BitVec 32 := Scf.iv c0_i32_2 c1_i32_3 k0_t3
  let c0_i32_16 : BitVec 32 := 0#32
  ![arg9.toNat, 0]
def k0_off68 (i : grid0.Coords) : Fin 3 → Nat :=
  let arg0 : BitVec 32 := BitVec.ofNat 32 (i 0).val
  let c2_i32 : BitVec 32 := 2#32
  let v0 : BitVec 32 := Scalar.remsi arg0 c2_i32
  let v9 : Index := Scalar.indexCast v0
  let c0 : Index := 0#32
  let c0_5 : Index := 0#32
  ![v9.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S5120 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SampledRowsRefIdeal.lean ====
abbrev S5120 : Shape := ⟨1, ![5120]⟩
abbrev S50304x2560 : Shape := ⟨2, ![50304, 2560]⟩
abbrev S88x11264 : Shape := ⟨2, ![88, 11264]⟩
abbrev S_ : Shape := ⟨0, ![]⟩
abbrev S5120x1 : Shape := ⟨2, ![5120, 1]⟩
abbrev S5120x2560 : Shape := ⟨2, ![5120, 2560]⟩
abbrev S5120x80x32 : Shape := ⟨3, ![5120, 80, 32]⟩
abbrev S80x5120 : Shape := ⟨2, ![80, 5120]⟩
abbrev S5120x80 : Shape := ⟨2, ![5120, 80]⟩
abbrev S5120x80x1 : Shape := ⟨3, ![5120, 80, 1]⟩

abbrev nBuf : Space → Nat
  | .hbm => 23
  | .vmem => 0
  | .smem => 0
  | _ => 0

abbrev bufTy : (tb : Table) → Fin (tcTables nBuf tb) → BufTy
  | .hbm, ⟨0, _⟩ => ⟨S5120, .i32⟩
  | .hbm, ⟨1, _⟩ => ⟨S50304x2560, .i8⟩
  | .hbm, ⟨2, _⟩ => ⟨S88x11264, .f32⟩
  | .hbm, ⟨3, _⟩ => ⟨S_, .i32⟩
  | .hbm, ⟨4, _⟩ => ⟨S5120, .i32⟩
  | .hbm, ⟨5, _⟩ => ⟨S5120, .i1⟩
  | .hbm, ⟨6, _⟩ => ⟨S_, .i32⟩
  | .hbm, ⟨7, _⟩ => ⟨S5120, .i32⟩
  | .hbm, ⟨8, _⟩ => ⟨S5120, .i32⟩
  | .hbm, ⟨9, _⟩ => ⟨S5120, .i32⟩
  | .hbm, ⟨10, _⟩ => ⟨S5120x1, .i32⟩
  | .hbm, ⟨11, _⟩ => ⟨S5120x2560, .i8⟩
  | .hbm, ⟨12, _⟩ => ⟨S5120x2560, .i32⟩
  | .hbm, ⟨13, _⟩ => ⟨S5120x2560, .f32⟩
  | .hbm, ⟨14, _⟩ => ⟨S5120x2560, .bf16⟩
  | .hbm, ⟨15, _⟩ => ⟨S5120x80x32, .bf16⟩
  | .hbm, ⟨16, _⟩ => ⟨S80x5120, .f32⟩
  | .hbm, ⟨17, _⟩ => ⟨S5120x80, .f32⟩
  | .hbm, ⟨18, _⟩ => ⟨S5120x80, .bf16⟩
  | .hbm, ⟨19, _⟩ => ⟨S5120x80x1, .bf16⟩
  | .hbm, ⟨20, _⟩ => ⟨S5120x80x32, .bf16⟩
  | .hbm, ⟨21, _⟩ => ⟨S5120x80x32, .bf16⟩
  | .hbm, ⟨22, _⟩ => ⟨S5120x2560, .bf16⟩
  | _, _ => ⟨S5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Proof.DwBlock.lean ====
/-
  What one grid point of the sampled-weight gradient kernel leaves in its output block and in the scratch array that carries
  `x` from point to point: the generated frame run's pieces, read as values, at any float instance. The block is the first
  product of 1024 tokens, to which each trip of the loop adds the product of the next 1024 tokens; the scratch is `x` itself.
-/
module

public import proofs.«01_k».proof.Proof.Gen.SampledDwIdeal.Value
public import Idealize.ShloMosaic.Lib.VecWindow

@[expose] public section

noncomputable section

namespace Cert.SampledDwIdeal.Block

open Cert.SampledDwIdeal Cert.SampledDwIdeal.Gen Idealize.ShloMosaic Idealize.ShloMosaic.TcCoe Idealize.SL.Sem

variable {F : FTy → Type} [FloatOps F]

/-- 1024 rows of the `dz` block from row `o` on lie inside it, for the six blocks there are. -/
theorem inb_dz (k : ℕ) (h : k < 6) (a : Fin 2) : (![1024 * k, 0] : Fin 2 → ℕ) a + S1024x256.size a ≤ S6144x256.size a := by
  match a with
  | ⟨0, _⟩ => show 1024 * k + 1024 ≤ 6144; omega
  | ⟨1, _⟩ => show 0 + 256 ≤ 256; omega

/-- 1024 rows of `x` from row `o` on lie inside it, for the six blocks there are. -/
theorem inb_x (k : ℕ) (h : k < 6) (a : Fin 2) : (![1024 * k, 0] : Fin 2 → ℕ) a + S1024x2560.size a ≤ S6144x2560.size a := by
  match a with
  | ⟨0, _⟩ => show 1024 * k + 1024 ≤ 6144; omega
  | ⟨1, _⟩ => show 0 + 2560 ≤ 2560; omega

/-- The loop makes five trips. -/
theorem trips_eq : k0_t1_loop.trips = 5 := by decide +kernel

/-- The output block after the first product and `k` trips: the products of the first `k + 1` blocks of 1024 tokens, added in order. -/
def acc (dz : Vec F S6144x256 .bf16) (x : Vec F S6144x2560 .bf16) : (k : ℕ) → k < 6 → Vec F S256x2560 .f32
  | 0, h => k0_pay1 (VecWindow.window (s := S6144x256) dz ![1024 * 0, 0] S1024x256.size (inb_dz 0 h)) (VecWindow.window (s := S6144x2560) x ![1024 * 0, 0] S1024x2560.size (inb_x 0 h))
  | k + 1, h => k0_pay2 (acc dz x k (by omega)) (VecWindow.window (s := S6144x256) dz ![1024 * (k + 1), 0] S1024x256.size (inb_dz (k + 1) h))
      (VecWindow.window (s := S6144x2560) x ![1024 * (k + 1), 0] S1024x2560.size (inb_x (k + 1) h))

/-- One trip stores the block whole: what it held plus the product of the trip's 1024 tokens. -/
theorem trip_piece (𝒱 : Variants) (c : Dev nD) (bd : Option 𝒱.V) (i : grid0.Coords) (arg1 : Memref sig .tc .hbm S6144x2560 .bf16) (harg1 : arg1.IsWhole) (arg2 : Memref sig .tc .vmem S6144x256 .bf16) (harg2 : arg2.IsWhole) (arg3 : Memref sig .tc .vmem S256x2560 .f32) (harg3 : arg3.IsWhole) (arg4 : Memref sig .tc .vmem S6144x2560 .bf16) (harg4 : arg4.IsWhole) (arg5 : DmaSems sig S_)
    (X2 : BufTy.Contents (Elt F) arg2.view.ty) (X4 : BufTy.Contents (Elt F) arg4.view.ty) (k : Fin k0_t1_loop.trips) (f : BufTy.Contents (Elt F) arg3.view.ty) (hk : k.val + 1 < 6) :
    tripL_k0_t1 (F := F) 𝒱 c bd i arg1 harg1 arg2 harg2 arg3 harg3 arg4 harg4 arg5 X2 X4 k f
      = [⟨Rect.unit (s := S256x2560) ![0, 0] S256x2560.size inb_S256x2560_S256x2560_0_0,
          k0_pay2 (arg3.view.read (Elt F) f)
            (VecWindow.window (s := S6144x256) (arg2.view.read (Elt F) X2) ![1024 * (k.val + 1), 0] S1024x256.size (inb_dz (k.val + 1) hk))
            (VecWindow.window (s := S6144x2560) (arg4.view.read (Elt F) X4) ![1024 * (k.val + 1), 0] S1024x2560.size (inb_x (k.val + 1) hk))⟩] := by
  have e1 : k0_off1 k = ![1024 * (k.val + 1), 0] := by rw [k0_off1_eq]; rfl
  have e2 : k0_off2 k = ![1024 * (k.val + 1), 0] := by rw [k0_off2_eq]; rfl
  have h3 := View.readAt_full arg3.view f (off := ![0, 0]) inb_S256x2560_S256x2560_0_0
  have h2 := View.readAt_unit arg2.view X2 (k0_off1_inb k) e1 (inb_dz (k.val + 1) hk)
  have h4 := View.readAt_unit arg4.view X4 (k0_off2_inb k) e2 (inb_x (k.val + 1) hk)
  rw [← h3, ← h2, ← h4]
  unfold tripL_k0_t1 trip_k0_t1
  dsimp only

/-- After `k` trips the pieces, read through any view of the block, are the products of the first `k + 1` blocks of tokens, added. -/
theorem pieces_read (𝒱 : Variants) (c : Dev nD) (bd : Option 𝒱.V) (i : grid0.Coords) (arg1 : Memref sig .tc .hbm S6144x2560 .bf16) (harg1 : arg1.IsWhole) (arg2 : Memref sig .tc .vmem S6144x256 .bf16) (harg2 : arg2.IsWhole) (arg3 : Memref sig .tc .vmem S256x2560 .f32) (harg3 : arg3.IsWhole) (arg4 : Memref sig .tc .vmem S6144x2560 .bf16) (harg4 : arg4.IsWhole) (arg5 : DmaSems sig S_)
    (X2 : BufTy.Contents (Elt F) arg2.view.ty) (X4 : BufTy.Contents (Elt F) arg4.view.ty) (f0 : BufTy.Contents (Elt F) arg3.view.ty) (dz : Vec F S6144x256 .bf16) (x : Vec F S6144x2560 .bf16)
    (hdz : arg2.view.read (Elt F) X2 = dz) (hx : arg4.view.read (Elt F) X4 = x) (P0 : Vec F S256x2560 .f32) (hP0 : P0 = acc dz x 0 (by omega)) :
    ∀ (k : ℕ) (hk : k < 6) (v : View sig .tc .vmem S256x2560 .f32) (f : v.ty.Contents (Elt F)),
      v.read (Elt F) (v.writes (Elt F) f (pb_k0_t1 (F := F) 𝒱 c bd i arg1 harg1 arg2 harg2 arg3 harg3 arg4 harg4 arg5 X2 X4
          (arg3.view.writes (Elt F) f0 [⟨Rect.unit (s := S256x2560) ![0, 0] S256x2560.size inb_S256x2560_S256x2560_0_0, P0⟩]) k
        ++ [⟨Rect.unit (s := S256x2560) ![0, 0] S256x2560.size inb_S256x2560_S256x2560_0_0, P0⟩])) = acc dz x k hk
  | 0, hk, v, f => by
    rw [pb_k0_t1.eq_1, List.nil_append, View.read_writes_full, hP0]
  | k + 1, hk, v, f => by
    have hk' : k < k0_t1_loop.trips := by rw [trips_eq]; omega
    have e := pb_k0_t1_succ (F := F) 𝒱 c bd i arg1 harg1 arg2 harg2 arg3 harg3 arg4 harg4 arg5 X2 X4
          (arg3.view.writes (Elt F) f0 [⟨Rect.unit (s := S256x2560) ![0, 0] S256x2560.size inb_S256x2560_S256x2560_0_0, P0⟩]) ⟨k, hk'⟩
    dsimp only at e
    rw [e, trip_piece (hk := hk), List.cons_append, List.nil_append, List.cons_append, View.read_writes_full, hdz, hx, ← View.writes_append]
    dsimp only
    rw [pieces_read 𝒱 c bd i arg1 harg1 arg2 harg2 arg3 harg3 arg4 harg4 arg5 X2 X4 f0 dz x hdz hx P0 hP0 k (by omega) arg3.view f0]
    rfl

/-- At the first point the scratch takes all of `x`. -/
theorem scratch_A (c : Dev nD) (i : grid0.Coords) (arg2 : Memref sig .tc .vmem S6144x256 .bf16) (harg2 : arg2.IsWhole) (arg3 : Memref sig .tc .vmem S256x2560 .f32) (harg3 : arg3.IsWhole) (arg4 : Memref sig .tc .vmem S6144x2560 .bf16) (harg4 : arg4.IsWhole) (hc0 : cond0_0 i)
    (x0 : Vec F S6144x256 .bf16) (fh0 : HbBuf0 (F := F) c hbM0_0) :
    sout0_A_0 c i arg2 harg2 arg3 harg3 arg4 harg4 hc0 x0 fh0 = fh0 := by
  unfold sout0_A_0
  unfold kernelRun0_A
  dsimp only
  exact View.read_writes_full VS0_0 VS0_0.junk (off := fun _ => 0) _ _ []

/-- At the first point the output block holds the six products, added in order. -/
theorem out_A (c : Dev nD) (i : grid0.Coords) (arg2 : Memref sig .tc .vmem S6144x256 .bf16) (harg2 : arg2.IsWhole) (arg3 : Memref sig .tc .vmem S256x2560 .f32) (harg3 : arg3.IsWhole) (arg4 : Memref sig .tc .vmem S6144x2560 .bf16) (harg4 : arg4.IsWhole) (hc0 : cond0_0 i)
    (x0 : Vec F S6144x256 .bf16) (fh0 : HbBuf0 (F := F) c hbM0_0) :
    out0_A_1 c i arg2 harg2 arg3 harg3 arg4 harg4 hc0 x0 fh0 = acc x0 fh0 5 (by omega) := by
  unfold out0_A_1
  unfold kernelRun0_A
  dsimp only
  sl_unfold_words
  have hX : arg4.view.read (Elt F) (arg4.view.writes (Elt F) arg4.view.junk
      [⟨Rect.whole S6144x2560, ReadAs.same.apply (View.read (Elt F) (Memref.whole main_arg0).view fh0)⟩]) = fh0 := by
    exact View.read_writes_full arg4.view arg4.view.junk (off := fun _ => 0) _ _ []
  rw [show Scf.trips (1#32) (Scalar.addi 1#32 5#32) 1#32 = 5 from trips_eq]
  refine pieces_read Variants.none c none i _ _ arg2 harg2 arg3 harg3 arg4 harg4 _ _ _ arg3.view.junk x0 fh0 (harg2.read_unread x0) hX _ ?_ 5 (by omega) VO0_1 VO0_1.junk
  show k0_pay1 _ _ = k0_pay1 _ _
  have h2 := View.readAt_unit arg2.view (harg2.unread x0) inb_S6144x256_S1024x256_0_0 (show (![0, 0] : Fin 2 → ℕ) = ![1024 * 0, 0] from rfl) (inb_dz 0 (by omega))
  have h4 := View.readAt_unit arg4.view (arg4.view.writes (Elt F) arg4.view.junk
      [⟨Rect.whole S6144x2560, ReadAs.same.apply (View.read (Elt F) (Memref.whole main_arg0).view fh0)⟩]) inb_S6144x2560_S1024x2560_0_0 (show (![0, 0] : Fin 2 → ℕ) = ![1024 * 0, 0] from rfl) (inb_x 0 (by omega))
  rw [harg2.read_unread] at h2
  rw [hX] at h4
  exact congrArg₂ k0_pay1 h2 h4

/-- At a later point the output block holds the same six products, `x` read from the scratch. -/
theorem out_B (c : Dev nD) (i : grid0.Coords) (arg2 : Memref sig .tc .vmem S6144x256 .bf16) (harg2 : arg2.IsWhole) (arg3 : Memref sig .tc .vmem S256x2560 .f32) (harg3 : arg3.IsWhole) (arg4 : Memref sig .tc .vmem S6144x2560 .bf16) (harg4 : arg4.IsWhole) (hc0 : ¬ cond0_0 i)
    (x0 : Vec F S6144x256 .bf16) (xs0 : Vec F S6144x2560 .bf16) (fh0 : HbBuf0 (F := F) c hbM0_0) :
    out0_B_1 c i arg2 harg2 arg3 harg3 arg4 harg4 hc0 x0 xs0 fh0 = acc x0 xs0 5 (by omega) := by
  unfold out0_B_1
  unfold kernelRun0_B
  dsimp only
  sl_unfold_words
  rw [show Scf.trips (1#32) (Scalar.addi 1#32 5#32) 1#32 = 5 from trips_eq]
  refine pieces_read Variants.none c none i _ _ arg2 harg2 arg3 harg3 arg4 harg4 _ _ _ arg3.view.junk x0 xs0 (harg2.read_unread x0) (harg4.read_unread xs0) _ ?_ 5 (by omega) VO0_1 VO0_1.junk
  show k0_pay1 _ _ = k0_pay1 _ _
  have h2 := View.readAt_unit arg2.view (harg2.unread x0) inb_S6144x256_S1024x256_0_0 (show (![0, 0] : Fin 2 → ℕ) = ![1024 * 0, 0] from rfl) (inb_dz 0 (by omega))
  have h4 := View.readAt_unit arg4.view (harg4.unread xs0) inb_S6144x2560_S1024x2560_0_0 (show (![0, 0] : Fin 2 → ℕ) = ![1024 * 0, 0] from rfl) (inb_x 0 (by omega))
  rw [harg2.read_unread] at h2
  rw [harg4.read_unread] at h4
  exact congrArg₂ k0_pay1 h2 h4

variable (m : (ℓ : Loc nD τ sig) → Buf (Elt F) ℓ)

/-- After the first point the scratch holds `x`. -/
theorem scratch_first (c : Dev nD) (t : Fin cfg0.N) (h0 : t.val % 20 = 0) : (outsAt0 m c t.val t.isLt).2 = V m c main_arg0 := by
  rw [outsAt0_A m c t h0]
  dsimp only
  rw [scratch_A]

/-- A later point leaves the scratch as the point before left it. -/
theorem scratch_later (c : Dev nD) (t : Fin cfg0.N) (h0 : ¬t.val % 20 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After every point the scratch holds `x`. -/
theorem scratch_eq (c : Dev nD) : ∀ (n : ℕ) (h : n < cfg0.N), (outsAt0 m c n h).2 = V m c main_arg0
  | 0, h => scratch_first m c ⟨0, h⟩ (Nat.zero_mod _)
  | n + 1, h => by
    have hN : n + 1 < 20 := lt_of_lt_of_eq h (show cfg0.N = 20 from N_0)
    exact (scratch_later m c ⟨n + 1, h⟩ (by dsimp only; omega)).trans (scratch_eq c n _)

/-- What every point leaves in its output block: the six products of its `dz` block with `x`, added in order. -/
theorem out_eq (c : Dev nD) (t : Fin cfg0.N) :
    (outsAt0 m c t.val t.isLt).1 = acc (iblk m c 0 t) (V m c main_arg0) 5 (by omega) := by
  by_cases h0 : t.val % 20 = 0
  · exact (congrArg Prod.fst (outsAt0_A m c t h0)).trans (out_A (F := F) ..)
  · refine (congrArg Prod.fst (outsAt0_B m c t h0)).trans ((out_B (F := F) ..).trans ?_)
    rw [scratch_eq]

end Cert.SampledDwIdeal.Block

end
-- ==== Proof.DwSum.lean ====
/-
  The sampled-weight gradient at the ideal instance: what the kernel's output array ends holding, element by element, is the
  sum over all 6144 tokens of `dz[t, n] * x[t, d]`, which is what the reference's one product holds there. Six sums over
  consecutive blocks of 1024 tokens, added in order, are the one sum.
-/
module

public import proofs.«01_k».proof.Proof.DwBlock
public import proofs.«01_k».proof.Proof.Gen.SampledDwRefIdeal.Run
public import Idealize.ShloMosaic.PureOps.Ideal
public import Idealize.ShloMosaic.PureOps.Ideal.Laws
public import Idealize.ShloMosaic.Lib.ValueIdx
public import Idealize.ShloMosaic.Lib.Pipeline.ValueKit
public import Idealize.ShloMosaic.Lib.Pipeline.Value

@[expose] public section

noncomputable section

namespace Cert.SampledDwIdeal.Sum

open Cert.SampledDwIdeal Cert.SampledDwIdeal.Gen Cert.SampledDwIdeal.Block Idealize.ShloMosaic.TcCoe Idealize.SL.Sem
open Idealize.ShloMosaic hiding ix2
open Idealize.ShloMosaic.ValueIdx
open scoped BigOperators

/-- The contraction index of one block's product is its one coordinate, the token within the block. -/
abbrev contrB : dot_S1024x256_S1024x2560_S256x2560_0_0_1_1_n_n.contr.Idx ≃ Fin 1024 :=
  contrEquiv1 _ 1024 (by rfl) (by rfl)

/-- One block's product at (n, d): the sum over its 1024 tokens. -/
theorem dot_block (a : FVec Ideal S1024x256 .bf16) (b : FVec Ideal S1024x2560 .bf16) (acc : FVec Ideal S256x2560 .f32) (n : Fin 256) (d : Fin 2560) :
    matmul dot_S1024x256_S1024x2560_S256x2560_0_0_1_1_n_n none a b acc (ix2 n d)
      = acc (ix2 n d) + ∑ k : Fin 1024, a (ix2 k n) * b (ix2 k d) := by
  show FloatOps.matmul _ _ _ _ _ _ = _
  rw [Ideal.matmul_apply, ← Equiv.sum_comp contrB.symm]
  refine congrArg (acc (ix2 n d) + ·) (Finset.sum_congr rfl fun k _ => ?_)
  have hk := contrEquiv1_symm_val dot_S1024x256_S1024x2560_S256x2560_0_0_1_1_n_n 1024 (by rfl) (by rfl) k
  have el : dot_S1024x256_S1024x2560_S256x2560_0_0_1_1_n_n.lhsIdx (ix2 n d) (contrB.symm k) = ix2 k n := by
    funext a; apply Fin.ext
    match a with
    | ⟨0, _⟩ => exact hk
    | ⟨1, _⟩ => rfl
  have er : dot_S1024x256_S1024x2560_S256x2560_0_0_1_1_n_n.rhsIdx (ix2 n d) (contrB.symm k) = ix2 k d := by
    funext a; apply Fin.ext
    match a with
    | ⟨0, _⟩ => exact hk
    | ⟨1, _⟩ => rfl
  rw [el, er]

/-- Token `t`'s term of the sum for row `n`, column `d` of a block (zero past the last token). -/
def term (dz : Vec Ideal S6144x256 .bf16) (x : Vec Ideal S6144x2560 .bf16) (n : Fin 256) (d : Fin 2560) (t : ℕ) : EReal :=
  if h : t < 6144 then dz (ix2 ⟨t, h⟩ n) * x (ix2 ⟨t, h⟩ d) else 0

/-- Block `k`'s sum over its own tokens, each read through the block's window of `dz` and of `x`. -/
theorem block_sum (dz : Vec Ideal S6144x256 .bf16) (x : Vec Ideal S6144x2560 .bf16) (n : Fin 256) (d : Fin 2560) (k : ℕ) (hk : k < 6) :
    (∑ r : Fin 1024, (VecWindow.window (s := S6144x256) dz ![1024 * k, 0] S1024x256.size (inb_dz k hk) : Vec Ideal S1024x256 .bf16) (ix2 r n)
        * (VecWindow.window (s := S6144x2560) x ![1024 * k, 0] S1024x2560.size (inb_x k hk) : Vec Ideal S1024x2560 .bf16) (ix2 r d))
      = ∑ r ∈ Finset.range 1024, term dz x n d (1024 * k + r) := by
  rw [Finset.sum_range]
  refine Finset.sum_congr rfl fun r _ => ?_
  unfold term
  rw [dif_pos (by omega)]
  refine congrArg₂ (· * ·) (congrArg dz ?_) (congrArg x ?_)
  · funext a; apply Fin.ext
    match a with
    | ⟨0, _⟩ => show 1024 * k + 1 * r.val = 1024 * k + r.val; omega
    | ⟨1, _⟩ => show 0 + 1 * n.val = n.val; omega
  · funext a; apply Fin.ext
    match a with
    | ⟨0, _⟩ => show 1024 * k + 1 * r.val = 1024 * k + r.val; omega
    | ⟨1, _⟩ => show 0 + 1 * d.val = d.val; omega

/-- After `k` trips the block holds the sum over the first `1024 * (k + 1)` tokens. -/
theorem acc_eq (dz : Vec Ideal S6144x256 .bf16) (x : Vec Ideal S6144x2560 .bf16) (n : Fin 256) (d : Fin 2560) : ∀ (k : ℕ) (hk : k < 6),
    acc dz x k hk (ix2 n d) = ∑ t ∈ Finset.range (1024 * (k + 1)), term dz x n d t
  | 0, hk => by
    unfold acc k0_pay1
    dsimp only
    rw [dot_block, block_sum (hk := hk)]
    simp [constant, Ideal.ofBits, Ideal.ieee]
  | k + 1, hk => by
    unfold acc k0_pay2
    dsimp only
    rw [show 1024 * (k + 1 + 1) = 1024 * (k + 1) + 1024 by ring, Finset.sum_range_add, ← acc_eq dz x n d k (by omega), shapeCast_self, addf]
    rw [dot_block, block_sum (hk := hk)]
    simp [constant, Ideal.ofBits, Ideal.ieee]

end Cert.SampledDwIdeal.Sum

namespace Cert.SampledDwRefIdeal.Sum

open Cert.SampledDwRefIdeal Cert.SampledDwRefIdeal.Gen
open Idealize.ShloMosaic hiding ix2
open Idealize.ShloMosaic.ValueIdx
open scoped BigOperators

/-- The contraction index of the reference's product is its one coordinate, the token. -/
abbrev contrR : dot_S6144x5120_S6144x2560_S5120x2560_0_0_1_1_n_n.contr.Idx ≃ Fin 6144 :=
  contrEquiv1 _ 6144 (by rfl) (by rfl)

/-- The reference at (n, d): the sum over all tokens of `dz[t, n] * x[t, d]`. -/
theorem ref_apply (dz : FVec Ideal S6144x5120 .bf16) (x : FVec Ideal S6144x2560 .bf16) (n : Fin 5120) (d : Fin 2560) :
    Host.dotGeneral dot_S6144x5120_S6144x2560_S5120x2560_0_0_1_1_n_n none dz x (ix2 n d)
      = ∑ t : Fin 6144, dz (ix2 t n) * x (ix2 t d) := by
  simp only [Host.dotGeneral]
  rw [Ideal.dotGeneral_apply, ← Equiv.sum_comp contrR.symm]
  refine Finset.sum_congr rfl fun k _ => ?_
  have hk := contrEquiv1_symm_val dot_S6144x5120_S6144x2560_S5120x2560_0_0_1_1_n_n 6144 (by rfl) (by rfl) k
  have el : dot_S6144x5120_S6144x2560_S5120x2560_0_0_1_1_n_n.lhsIdx (ix2 n d) (contrR.symm k) = ix2 k n := by
    funext a; apply Fin.ext
    match a with
    | ⟨0, _⟩ => exact hk
    | ⟨1, _⟩ => rfl
  have er : dot_S6144x5120_S6144x2560_S5120x2560_0_0_1_1_n_n.rhsIdx (ix2 n d) (contrR.symm k) = ix2 k d := by
    funext a; apply Fin.ext
    match a with
    | ⟨0, _⟩ => exact hk
    | ⟨1, _⟩ => rfl
  rw [el, er]

end Cert.SampledDwRefIdeal.Sum

namespace Cert.SampledDwIdeal.Sum

open Cert.SampledDwIdeal Cert.SampledDwIdeal.Gen Cert.SampledDwIdeal.Block Idealize.ShloMosaic.TcCoe Idealize.SL.Sem
open Idealize.ShloMosaic hiding ix2
open Idealize.ShloMosaic.ValueIdx
open scoped BigOperators

variable (m : (ℓ : Loc nD τ sig) → Buf (Elt Ideal) ℓ)

/-- The gradient as one product of the argument arrays. -/
def grad (c : Dev nD) : Buf (Elt Ideal) ((c : Thread nD τ).loc main_v0) :=
  (Host.dotGeneral (F := Ideal) (φ₁ := .bf16) (φ₂ := .bf16) Cert.SampledDwRefIdeal.dot_S6144x5120_S6144x2560_S5120x2560_0_0_1_1_n_n none (m ((c : Thread nD τ).loc main_arg1) : FVec Ideal S6144x5120 .bf16) (m ((c : Thread nD τ).loc main_arg0) : FVec Ideal S6144x2560 .bf16) : FVec Ideal S5120x2560 .f32)

/-- Column block `t` of `dz`: element (r, n) of the block is element (r, 256 t + n) of the array. -/
theorem iblk_apply (c : Dev nD) (t : Fin cfg0.N) (r : Fin 6144) (n : Fin 256) (h : 256 * t.val + n.val < 5120) :
    (iblk m c 0 t : Vec Ideal S6144x256 .bf16) (ix2 r n) = (m ((c : Thread nD τ).loc main_arg1) : FVec Ideal S6144x5120 .bf16) (ix2 r ⟨256 * t.val + n.val, h⟩) := by
  unfold iblk
  rw [View.read_apply]
  show V m c main_arg1 _ = m (c.tc.loc main_arg1) _
  unfold V
  congr 1
  have hi : win0_0.index t 0 = 0 ∧ win0_0.index t 1 = t.val :=
    (by decide +kernel : ∀ t : Fin grid0.N, win0_0.index t 0 = 0 ∧ win0_0.index t 1 = t.val) t
  funext a; apply Fin.ext
  match a with
  | ⟨0, _⟩ => show win0_0.index t 0 * 6144 + 1 * r.val = r.val; rw [hi.1]; omega
  | ⟨1, _⟩ => show win0_0.index t 1 * 256 + 1 * n.val = 256 * t.val + n.val; rw [hi.2]; omega

/-- What a point leaves at (n, d) of its block is the gradient at (256 t + n, d). -/
theorem point_eq (c : Dev nD) (t : Fin cfg0.N) (n : Fin 256) (d : Fin 2560) (h : 256 * t.val + n.val < 5120) :
    (outsAt0 m c t.val t.isLt).1 (ix2 n d) = (grad m c : FVec Ideal S5120x2560 .f32) (ix2 ⟨256 * t.val + n.val, h⟩ d) := by
  rw [out_eq, acc_eq]
  unfold grad
  rw [Cert.SampledDwRefIdeal.Sum.ref_apply, Finset.sum_range]
  refine Finset.sum_congr rfl fun r _ => ?_
  unfold term
  rw [dif_pos r.isLt, iblk_apply m c t ⟨r.val, r.isLt⟩ n h]

/-- The kernel's output array ends holding that product. -/
theorem final (c : Dev nD) : (Gen.dats m 0 c).arrAt 1 cfg0.N = grad m c := by
  refine (dats m 0 c).arrAt_eq_of_covers 1 _ (by decide +kernel) fun t hf y => ?_
  rw [show ((dats m 0 c).after 1 t) = (outsAt0 m c t.val t.isLt).1 from after0_1 m c t]
  have hN : t.val < 20 := lt_of_lt_of_eq t.isLt (show cfg0.N = 20 from N_0)
  have h0 : (y 0).val < 256 := (y 0).isLt
  have h1 : (y 1).val < 2560 := (y 1).isLt
  have hi : win0_1.index t 0 = t.val ∧ win0_1.index t 1 = 0 :=
    (by decide +kernel : ∀ t : Fin grid0.N, win0_1.index t 0 = t.val ∧ win0_1.index t 1 = 0) t
  refine Eq.trans ?_ ((point_eq m c t ⟨(y 0).val, h0⟩ ⟨(y 1).val, h1⟩ (by dsimp only; omega)).trans (congrArg (grad m c) ?_))
  · refine congrArg (outsAt0 m c t.val t.isLt).1 ?_
    funext a; apply Fin.ext
    match a with
    | ⟨0, _⟩ => rfl
    | ⟨1, _⟩ => rfl
  · funext a; apply Fin.ext
    match a with
    | ⟨0, _⟩ => show 256 * t.val + (y 0).val = win0_1.index t 0 * 256 + 1 * (y 0).val; rw [hi.1]; omega
    | ⟨1, _⟩ => show (y 1).val = win0_1.index t 1 * 2560 + 1 * (y 1).val; rw [hi.2]; omega

end Cert.SampledDwIdeal.Sum

end
-- ==== Proof.LgRows.lean ====
/- The gathered rows: where a row of the word table and a row of a slot lie, what a row's transfer leaves, and the batch of
   256 row transfers a slot has in flight. -/
module

public import proofs.«01_k».proof.Proof.Gen.LogitGrads.Frame
public import Idealize.ShloMosaic.Lib.Batch
public import Idealize.ShloMosaic.Lib.Ring

@[expose] public section

set_option maxRecDepth 8192

noncomputable section

namespace Cert.LogitGrads.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGrads.Gen

variable {F : FTy → Type} [FloatOps F]

/-- The resource algebra: the frame kit's with counters. -/
local notation "𝕄" => MT nD τ sig Unit (Elt F) ℕ (Pipeline.UD sig nD τ) ℕ

/-- The two slots of gathered words, in fast memory. -/
abbrev bufW : Memref sig .tc .vmem S2x256x2560 .i32 := Memref.whole cc0_scratch1
/-- The word table, in main memory. -/
abbrev tabW : Memref sig .tc .hbm S12576x2560 .i32 := Memref.whole main_v17
/-- A slot's semaphore. -/
def gs (s : ℕ) : DmaSem sig := cc0_scratch7.ix (fun | 0 => (⟨s % 2, Nat.mod_lt _ (by decide)⟩ : Fin 2))

theorem gs_of {off : Fin 1 → ℕ} {h} {hq} (s : ℕ) (hs : s < 2) (ho : off = ![s]) :
    ((cc0_scratch7.slice (Rect.unit (s := S2) off S1.size h)).squeeze S_ hq).sem = gs s := by
  subst ho
  unfold gs
  show cc0_scratch7.ix _ = cc0_scratch7.ix _
  congr 1
  funext a
  apply Fin.ext
  have key : ∀ x : S1.Idx, s + 1 * (x 0).val = s % 2 := by
    intro x
    have : (x 0).val < 1 := (x 0).isLt
    omega
  fin_cases a
  exact key _

/-- The rows of a slot as a view: the slot cut out at `off`, squeezed, then the row cut out at `off2`. -/
abbrev dstM (off : Fin 3 → ℕ) (h : ∀ a, off a + S1x256x2560.size a ≤ S2x256x2560.size a) (off2 : Fin 2 → ℕ) (h2 : ∀ a, off2 a + S1x2560.size a ≤ S256x2560.size a) (hq : S1x256x2560.Squeezes S256x2560) : Memref sig .tc .vmem S1x2560 .i32 :=
  (((bufW.slice (Rect.unit (s := S2x256x2560) off S1x256x2560.size h) (fun _ => rfl)).squeeze S256x2560 hq).slice
    (Rect.unit (s := S256x2560) off2 S1x2560.size h2) (fun _ => rfl))

/-- A row of the word table as a view. -/
abbrev srcM (off : Fin 2 → ℕ) (h : ∀ a, off a + S1x2560.size a ≤ S12576x2560.size a) : Memref sig .tc .hbm S1x2560 .i32 :=
  tabW.slice (Rect.unit (s := S12576x2560) off S1x2560.size h) (fun _ => rfl)

/-- The elements of row `r` of slot `s`. -/
def rowSet (c : Dev nD) (s r : ℕ) : Finset (Idx ((c : Thread nD τ).loc cc0_scratch1)) :=
  (Finset.univ : Finset S2x256x2560.Idx).filter fun x => (x 0).val = s ∧ (x 1).val = r
/-- The elements of slot `s`. -/
def slotSet (c : Dev nD) (s : ℕ) : Finset (Idx ((c : Thread nD τ).loc cc0_scratch1)) :=
  (Finset.univ : Finset S2x256x2560.Idx).filter fun x => (x 0).val = s

theorem dstM_emb {off h off2 h2 hq} (s r : ℕ) (ho : off = ![s, 0, 0]) (ho2 : off2 = ![r, 0]) (j : S1x2560.Idx) :
    (((dstM off h off2 h2 hq).view.emb j : S2x256x2560.Idx) 0).val = s
    ∧ (((dstM off h off2 h2 hq).view.emb j : S2x256x2560.Idx) 1).val = r
    ∧ (((dstM off h off2 h2 hq).view.emb j : S2x256x2560.Idx) 2).val = (j 1).val := by
  subst ho; subst ho2
  have e : (dstM ![s, 0, 0] h ![r, 0] h2 hq).view.emb j
      = (Rect.unit (s := S2x256x2560) ![s, 0, 0] S1x256x2560.size h).emb
          (Shape.reshapeEquiv hq.numel_eq ((Rect.unit (s := S256x2560) ![r, 0] S1x2560.size h2).emb j)) := rfl
  rw [e, Shape.reshapeEquiv_cons_one (n := 2) (d := ![256, 2560]) hq.numel_eq]
  have hj : (j 0).val = 0 := by have := (j 0).isLt; change (j 0).val < 1 at this; omega
  refine ⟨?_, ?_, ?_⟩
  · show s + 1 * 0 = s; omega
  · show 0 + 1 * (r + 1 * (j 0).val) = r; omega
  · show 0 + 1 * (0 + 1 * (j 1).val) = (j 1).val; omega

theorem srcM_emb {off h} (w : ℕ) (ho : off = ![w, 0]) (j : S1x2560.Idx) :
    (((srcM off h).view.emb j : S12576x2560.Idx) 0).val = w
    ∧ (((srcM off h).view.emb j : S12576x2560.Idx) 1).val = (j 1).val := by
  subst ho
  have hj : (j 0).val = 0 := by have := (j 0).isLt; change (j 0).val < 1 at this; omega
  refine ⟨?_, ?_⟩
  · show w + 1 * (j 0).val = w; omega
  · show 0 + 1 * (j 1).val = (j 1).val; omega

theorem dstM_set (c : Dev nD) {off h off2 h2 hq} (s r : ℕ) (ho : off = ![s, 0, 0]) (ho2 : off2 = ![r, 0]) :
    (dstM off h off2 h2 hq).view.set = rowSet c s r := by
  ext x
  unfold rowSet
  rw [Finset.mem_filter]
  constructor
  · intro hx
    obtain ⟨j, -, rfl⟩ := Finset.mem_map.mp hx
    obtain ⟨a, b, -⟩ := dstM_emb (h := h) (h2 := h2) (hq := hq) s r ho ho2 j
    exact ⟨Finset.mem_univ _, a, b⟩
  · rintro ⟨-, a, b⟩
    refine Finset.mem_map.mpr ⟨(fun | 0 => (⟨0, by decide⟩ : Fin 1) | 1 => ((x : S2x256x2560.Idx) 2 : Fin 2560) : S1x2560.Idx), Finset.mem_univ _, ?_⟩
    obtain ⟨a', b', c'⟩ := dstM_emb (h := h) (h2 := h2) (hq := hq) s r ho ho2
      (fun | 0 => (⟨0, by decide⟩ : Fin 1) | 1 => ((x : S2x256x2560.Idx) 2 : Fin 2560) : S1x2560.Idx)
    funext k
    apply Fin.ext
    fin_cases k
    · exact a'.trans a.symm
    · exact b'.trans b.symm
    · exact c'

/-- The table's element at row `w` (of those there are), column `d`. -/
def tix (w : ℕ) (d : Fin 2560) : S12576x2560.Idx := fun | 0 => (⟨w % 12576, Nat.mod_lt _ (by decide)⟩ : Fin 12576) | 1 => d
/-- Slots filled with the table rows `W r`. -/
def gath (T : BufTy.Contents (Elt F) tabW.view.ty) (W : ℕ → ℕ) : BufTy.Contents (Elt F) bufW.view.ty :=
  fun x => T (tix (W ((x : S2x256x2560.Idx) 1).val) ((x : S2x256x2560.Idx) 2))

theorem write_row (c : Dev nD) {off h off2 h2 hq off3 h3} (s r : ℕ) (W : ℕ → ℕ) (hW : W r < 12576)
    (ho : off = ![s, 0, 0]) (ho2 : off2 = ![r, 0]) (ho3 : off3 = ![W r, 0])
    (T : BufTy.Contents (Elt F) tabW.view.ty) (fd : BufTy.Contents (Elt F) bufW.view.ty) :
    ∀ x ∈ rowSet c s r, (dstM off h off2 h2 hq).view.write (Elt F) fd ((srcM off3 h3).view.read (Elt F) T) Finset.univ x = gath T W x := by
  intro x hx
  rw [← dstM_set c (h := h) (h2 := h2) (hq := hq) s r ho ho2] at hx
  obtain ⟨j, -, rfl⟩ := Finset.mem_map.mp hx
  rw [View.write_emb_of_mem _ _ (Finset.mem_univ j), View.read_apply]
  obtain ⟨a, b, d⟩ := dstM_emb (h := h) (h2 := h2) (hq := hq) s r ho ho2 j
  obtain ⟨p, q⟩ := srcM_emb (h := h3) (W r) ho3 j
  show T ((srcM off3 h3).view.emb j) = gath T W _
  unfold gath
  congr 1
  funext k
  apply Fin.ext
  fin_cases k
  · refine p.trans ?_
    show W r = W _ % 12576
    rw [b, Nat.mod_eq_of_lt hW]
  · exact q.trans d.symm

/-- The amount a row's transfer counts. -/
def NN : ℕ := (dstM ![0, 0, 0] inb_S2x256x2560_S1x256x2560_0_0_0 ![0, 0] (by decide) squeezes_S1x256x2560_S256x2560).view.amount (.dma (gs 0))

/-- A row of slot `s` holding the table row `W r`, and the read token of the table its transfer used. -/
def D (c : Dev nD) (s : ℕ) (T : BufTy.Contents (Elt F) tabW.view.ty) (q : PosShare TreeShare) (W : ℕ → ℕ) (r : Fin 256) : sProp 𝕄 :=
  iprop((bufW.view.loc (c : Thread nD τ) ↦[rowSet c s r.val]{fullShare} (gath T W : Buf (Elt F) _)) ∗ (tabW.view.loc (c : Thread nD τ) ↦{Transfers.shareTokN q r.val} (T : Buf (Elt F) _)))

instance D_storable (c : Dev nD) (s : ℕ) (T : BufTy.Contents (Elt F) tabW.view.ty) (q : PosShare TreeShare) (W : ℕ → ℕ) (r : Fin 256) :
    BI.Storable (upEmb : UEmb _ 𝕄) (D (F := F) c s T q W r) := by
  unfold D; infer_instance

/-- What is left to hand to the transfers from row `j` on: their rows, at any contents, and their tokens. -/
def left (c : Dev nD) (s : ℕ) (T : BufTy.Contents (Elt F) tabW.view.ty) (q : PosShare TreeShare) (r : Fin 256) : sProp 𝕄 :=
  iprop((∃ g : Buf (Elt F) (bufW.view.loc (c : Thread nD τ)), bufW.view.loc (c : Thread nD τ) ↦[rowSet c s r.val]{fullShare} g) ∗ (tabW.view.loc (c : Thread nD τ) ↦{Transfers.shareTokN q r.val} (T : Buf (Elt F) _)))

/-- Slot `s` with `j` of its 256 row transfers issued and none waited for. -/
def issuing (c : Dev nD) (s : ℕ) (T : BufTy.Contents (Elt F) tabW.view.ty) (q : PosShare TreeShare) (W : ℕ → ℕ) (j : ℕ) : sProp 𝕄 :=
  iprop(Transfers.Batch (countersEmb (U := Pipeline.UD sig nD τ)) (c : Thread nD τ) (.dma (gs s)) () NN (D (F := F) c s T q W) j 0
    ∗ bigSep (Transfers.pending (n := 256) j) (left (F := F) c s T q)
    ∗ (tabW.view.loc (c : Thread nD τ) ↦{Transfers.shareDrop q 256} (T : Buf (Elt F) _)))

/-- A batch's next transfer, the issuer adding resources `put` of its own to the delivery. -/
theorem wp_dmaBatchWith (c : Dev nD) (bd : Option Variants.none.V) {n : ℕ} {sp sp' : Space} {s : Shape} {e : EltTy}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (.here dst)}
    {α : Type} {Q : α → sProp 𝕄}
    {k : PUnit → Prog (TpuEff nD τ sig (Elt F) Λ₀ (c : Thread nD τ).2) α} {q : PosShare TreeShare} {fs : Buf (Elt F) (src.view.loc (c : Thread nD τ))}
    {Sd : Finset (Idx (dst.view.loc (c : Thread nD τ)))} {fd : Buf (Elt F) (dst.view.loc (c : Thread nD τ))}
    {D : Fin n → sProp 𝕄} {j u : ℕ} (put : sProp 𝕄)
    (N : ℕ) (hN : dst.view.amount sm = N) (hSd : dst.view.set ⊆ Sd) (hj : j < n) (hu : u ≤ j * N)
    (hD : iprop(put ∗ (dst.view.loc (c : Thread nD τ) ↦[Sd]{fullShare} (dst.view.write (Elt F) fd (src.view.read (Elt F) fs) Finset.univ))
              ∗ (src.view.loc (c : Thread nD τ) ↦[src.view.set]{q} fs)) ⊢ D ⟨j, hj⟩) :
    iprop(put ∗ (src.view.loc (c : Thread nD τ) ↦[src.view.set]{q} fs) ∗ (dst.view.loc (c : Thread nD τ) ↦[Sd]{fullShare} fd)
        ∗ Transfers.Batch (countersEmb (U := Pipeline.UD sig nD τ)) (c : Thread nD τ) sm () N D j u)
      ⊢ iprop((Transfers.Batch (countersEmb (U := Pipeline.UD sig nD τ)) (c : Thread nD τ) sm () N D (j + 1) u
            -∗ wp frame (wpE (defs₀ (F := F)) Variants.none (c : Thread nD τ) bd) Set.univ (k ⟨⟩) Q)
          -∗ wp frame (wpE (defs₀ (F := F)) Variants.none (c : Thread nD τ) bd) Set.univ (.op (.enqueueDmaAs src (.here dst) .same sm hsrc hdst hsem) k) Q) := by
  unfold Transfers.Batch
  iintro ⟨Hput, Hs, Hd, ⟨%γ, %γ₀, %κ, #Hinv, HI, H0, Hcred⟩⟩ Hk
  ihave HI' := (Entails.of_eq (Transfers.bigSep_pending_step _ j hj)) $$ HI
  icases HI' with ⟨Ht, HI⟩
  iapply (wp_enqueueDmaAs Variants.none (c : Thread nD τ) bd Set.univ () N hN) $$ [Hs Hd] [Ht Hput]
  · isplitl [Hs]; · iexact Hs
    iapply (pointsTo_writeUpdate (c : Thread nD τ) hSd) $$ Hd
  · iapply (Transfers.batch_creditUpdate_with (countersEmb (U := Pipeline.UD sig nD τ)) ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

theorem NN_pos : 0 < NN := by unfold NN; decide

theorem dstM_amount {off h off2 h2 hq} (s : ℕ) : (dstM off h off2 h2 hq).view.amount (.dma (gs s)) = NN := rfl

/-- ONE ROW ISSUED: the transfer of row `j`, from the table row `W j` to slot `s`. -/
theorem wp_issueRow (c : Dev nD) (bd : Option Variants.none.V) {s : ℕ} {T : BufTy.Contents (Elt F) tabW.view.ty}
    {q : PosShare TreeShare} {W : ℕ → ℕ} {j : ℕ} (hj : j < 256) (hW : W j < 12576)
    {off h off2 h2 hq off3 h3} (ho : off = ![s, 0, 0]) (ho2 : off2 = ![j, 0]) (ho3 : off3 = ![W j, 0])
    {sm : SemLoc sig} (hsm : sm = .dma (gs s)) {α : Type} {Q : α → sProp 𝕄}
    {hsrc hdst hsem} {k : PUnit → Prog (TpuEff nD τ sig (Elt F) Λ₀ (c : Thread nD τ).2) α} :
    issuing (F := F) c s T q W j
      ⊢ iprop((issuing (F := F) c s T q W (j + 1) -∗ wp frame (wpE (defs₀ (F := F)) Variants.none (c : Thread nD τ) bd) Set.univ (k ⟨⟩) Q)
          -∗ wp frame (wpE (defs₀ (F := F)) Variants.none (c : Thread nD τ) bd) Set.univ
            (.op (.enqueueDmaAs (srcM off3 h3) (.here (dstM off h off2 h2 hq)) .same sm hsrc hdst hsem) k) Q) := by
  subst hsm
  unfold issuing
  rw [Transfers.bigSep_pending_step (left (F := F) c s T q) j hj]
  unfold left
  iintro ⟨HB, ⟨⟨⟨%g, Hrow⟩, Htok⟩, Hleft⟩, Hrest⟩ Hk
  ihave Htok' := (show (tabW.view.loc (c : Thread nD τ) ↦{Transfers.shareTokN q j} (T : Buf (Elt F) _) : sProp 𝕄)
    ⊢ iprop(((srcM off3 h3).view.loc (c : Thread nD τ) ↦[(srcM off3 h3).view.set]{Transfers.shareTokN q j} (T : Buf (Elt F) _))
      ∗ (tabW.view.loc (c : Thread nD τ) ↦[Finset.univ \ (srcM off3 h3).view.set]{Transfers.shareTokN q j} (T : Buf (Elt F) _)))
    from (pointsTo_split_subset (Finset.subset_univ _)).1) $$ Htok
  icases Htok' with ⟨Hs, Hcompl⟩
  iapply (wp_dmaBatchWith (F := F) c bd (src := srcM off3 h3) (dst := dstM off h off2 h2 hq) (D := D (F := F) c s T q W) (j := j) (u := 0) (fs := (T : Buf (Elt F) _)) (fd := g) (Sd := rowSet c s j) (q := Transfers.shareTokN q j)
    iprop(tabW.view.loc (c : Thread nD τ) ↦[Finset.univ \ (srcM off3 h3).view.set]{Transfers.shareTokN q j} (T : Buf (Elt F) _))
    NN (dstM_amount s) (by rw [dstM_set c s j ho ho2]) hj (Nat.zero_le _) (hD := by
      unfold D
      rw [pointsTo_congr (write_row (F := F) c (h := h) (h2 := h2) (hq := hq) (h3 := h3) s j W hW ho ho2 ho3 T g)]
      iintro ⟨Hcompl, Hrow, Hs⟩
      isplitl [Hrow]; · iexact Hrow
      iapply (pointsTo_split_subset (Finset.subset_univ (srcM off3 h3).view.set)).2
      isplitl [Hs]; · iexact Hs
      iexact Hcompl)) $$ [Hcompl Hs Hrow HB]
  · isplitl [Hcompl]; · iexact Hcompl
    isplitl [Hs]; · iexact Hs
    isplitl [Hrow]; · iexact Hrow
    iexact HB
  iintro HB
  iapply Hk
  isplitl [HB]; · iexact HB
  isplitl [Hleft]; · iexact Hleft
  iexact Hrest

/-- Slot `s` with nothing in flight: its semaphore at zero, its elements at any contents, and its share of the table. -/
def free (c : Dev nD) (s : ℕ) (T : BufTy.Contents (Elt F) tabW.view.ty) (q : PosShare TreeShare) : sProp 𝕄 :=
  iprop(semVal ((c : Thread nD τ), SemLoc.dma (gs s)) 0
    ∗ (∃ g : Buf (Elt F) (bufW.view.loc (c : Thread nD τ)), bufW.view.loc (c : Thread nD τ) ↦[slotSet c s]{fullShare} g)
    ∗ (tabW.view.loc (c : Thread nD τ) ↦{q} (T : Buf (Elt F) _)))

theorem slotSet_eq (c : Dev nD) (s : ℕ) : slotSet c s = (Finset.univ : Finset (Fin 256)).biUnion fun r => rowSet c s r.val := by
  ext x
  rw [Finset.mem_biUnion]
  unfold slotSet rowSet
  constructor
  · intro h
    exact ⟨(x : S2x256x2560.Idx) 1, Finset.mem_univ _, Finset.mem_filter.mpr ⟨Finset.mem_univ _, (Finset.mem_filter.mp h).2, rfl⟩⟩
  · rintro ⟨r, -, h⟩
    exact Finset.mem_filter.mpr ⟨Finset.mem_univ _, (Finset.mem_filter.mp h).2.1⟩

theorem rowSet_disjoint (c : Dev nD) (s : ℕ) (a : Fin 256) (b : Fin 256) (h : a ≠ b) : Disjoint (rowSet c s a.val) (rowSet c s b.val) := by
  rw [Finset.disjoint_left]
  intro x hx hy
  exact h (Fin.ext ((Finset.mem_filter.mp hx).2.2.symm.trans (Finset.mem_filter.mp hy).2.2))

theorem slot_rows (c : Dev nD) (s : ℕ) (g : Buf (Elt F) (bufW.view.loc (c : Thread nD τ))) :
    (bufW.view.loc (c : Thread nD τ) ↦[slotSet c s]{fullShare} g : sProp 𝕄)
      = bigSep (Finset.univ : Finset (Fin 256)) fun r => (bufW.view.loc (c : Thread nD τ) ↦[rowSet c s r.val]{fullShare} g) := by
  rw [slotSet_eq]
  exact pointsTo_biUnion _ _ (fun a _ b _ h => rowSet_disjoint c s a b h)

theorem table_toksN (c : Dev nD) (T : BufTy.Contents (Elt F) tabW.view.ty) (q : PosShare TreeShare) (n : ℕ) :
    (tabW.view.loc (c : Thread nD τ) ↦{q} (T : Buf (Elt F) _) : sProp 𝕄)
      ⊣⊢ iprop((tabW.view.loc (c : Thread nD τ) ↦{Transfers.shareDrop q n} (T : Buf (Elt F) _))
        ∗ bigSep (Finset.univ : Finset (Fin n)) fun r => (tabW.view.loc (c : Thread nD τ) ↦{Transfers.shareTokN q r.val} (T : Buf (Elt F) _))) := by
  have e := Ring.bigSep_fin_eq_range n (fun r : Fin n => (fun r : ℕ => (tabW.view.loc (c : Thread nD τ) ↦{Transfers.shareTokN q r} (T : Buf (Elt F) _) : sProp 𝕄)) r.val)
    (fun r => (tabW.view.loc (c : Thread nD τ) ↦{Transfers.shareTokN q r} (T : Buf (Elt F) _))) (by intro t h; dsimp only)
  rw [e]
  exact Transfers.pointsTo_toks_range q n

theorem table_toks (c : Dev nD) (T : BufTy.Contents (Elt F) tabW.view.ty) (q : PosShare TreeShare) :
    (tabW.view.loc (c : Thread nD τ) ↦{q} (T : Buf (Elt F) _) : sProp 𝕄)
      ⊣⊢ iprop((tabW.view.loc (c : Thread nD τ) ↦{Transfers.shareDrop q 256} (T : Buf (Elt F) _))
        ∗ bigSep (Finset.univ : Finset (Fin 256)) fun r => (tabW.view.loc (c : Thread nD τ) ↦{Transfers.shareTokN q r.val} (T : Buf (Elt F) _))) :=
  table_toksN c T q 256

theorem rows_sep (s : Finset (Fin 256)) (Φ Ψ : Fin 256 → sProp 𝕄) :
    bigSep s (fun i => iprop(Φ i ∗ Ψ i)) = (iprop(bigSep s Φ ∗ bigSep s Ψ) : sProp 𝕄) := bigSep_sep s Φ Ψ

theorem rows_some (c : Dev nD) (s : ℕ) (g : Buf (Elt F) (bufW.view.loc (c : Thread nD τ))) :
    (bigSep (Finset.univ : Finset (Fin 256)) (fun r => iprop(bufW.view.loc (c : Thread nD τ) ↦[rowSet c s r.val]{fullShare} g)) : sProp 𝕄)
      ⊢ bigSep (Finset.univ : Finset (Fin 256)) (fun r => iprop(∃ g : Buf (Elt F) (bufW.view.loc (c : Thread nD τ)), bufW.view.loc (c : Thread nD τ) ↦[rowSet c s r.val]{fullShare} g)) := by
  exact bigSep_mono fun r _ => (show (iprop(bufW.view.loc (c : Thread nD τ) ↦[rowSet c s r.val]{fullShare} g) : sProp 𝕄)
      ⊢ iprop(∃ g : Buf (Elt F) (bufW.view.loc (c : Thread nD τ)), bufW.view.loc (c : Thread nD τ) ↦[rowSet c s r.val]{fullShare} g) from by
    iintro H
    iexists g
    iexact H)

/-- THE START of a slot's gather. -/
theorem issue_start (c : Dev nD) (s : ℕ) (T : BufTy.Contents (Elt F) tabW.view.ty) (q : PosShare TreeShare) (W : ℕ → ℕ) :
    free (F := F) c s T q ⊢ |={Set.univ}=> issuing (F := F) c s T q W 0 := by
  unfold free issuing
  iintro ⟨Hc, ⟨%g, Hg⟩, Ht⟩
  imod (Transfers.batch_alloc' (Lvl := ℕ) (countersEmb (U := Pipeline.UD sig nD τ)) (c : Thread nD τ) () NN (D (F := F) c s T q W) (sm := .dma (gs s)) (E := Set.univ)) $$ Hc with HB
  imodintro
  isplitl [HB]; · iexact HB
  ihave Ht' := (table_toks c T q).1 $$ Ht
  icases Ht' with ⟨Hd, Htoks⟩
  isplitl [Hg Htoks]
  · rw [← Transfers.bigSep_pending_zero]
    unfold left
    iapply (Entails.of_eq (rows_sep (Finset.univ : Finset (Fin 256)) (fun r => iprop(∃ g : Buf (Elt F) (bufW.view.loc (c : Thread nD τ)), bufW.view.loc (c : Thread nD τ) ↦[rowSet c s r.val]{fullShare} g)) (fun r => iprop(tabW.view.loc (c : Thread nD τ) ↦{Transfers.shareTokN q r.val} (T : Buf (Elt F) _)))).symm)
    isplitl [Hg]
    · ihave Hg' := (Entails.of_eq (slot_rows c s g)) $$ Hg
      iapply (rows_some c s g) $$ Hg'
    · iexact Htoks
  · iexact Hd

/-- THE END of a slot's gather: every row landed. -/
theorem drain_done (c : Dev nD) (s : ℕ) (T : BufTy.Contents (Elt F) tabW.view.ty) (q : PosShare TreeShare) (W : ℕ → ℕ) :
    iprop(bigSep Finset.univ (D (F := F) c s T q W) ∗ (tabW.view.loc (c : Thread nD τ) ↦{Transfers.shareDrop q 256} (T : Buf (Elt F) _)))
      ⊢ (iprop((bufW.view.loc (c : Thread nD τ) ↦[slotSet c s]{fullShare} (gath T W : Buf (Elt F) _)) ∗ (tabW.view.loc (c : Thread nD τ) ↦{q} (T : Buf (Elt F) _))) : sProp 𝕄) := by
  unfold D
  iintro ⟨H, Hd⟩
  ihave H' := (Entails.of_eq (rows_sep (Finset.univ : Finset (Fin 256)) (fun r => iprop(bufW.view.loc (c : Thread nD τ) ↦[rowSet c s r.val]{fullShare} (gath T W : Buf (Elt F) _))) (fun r => iprop(tabW.view.loc (c : Thread nD τ) ↦{Transfers.shareTokN q r.val} (T : Buf (Elt F) _))))) $$ H
  icases H' with ⟨Hr, Ht⟩
  isplitl [Hr]
  · iapply (Entails.of_eq (slot_rows c s (gath T W)).symm) $$ Hr
  iapply (table_toks c T q).2
  isplitl [Hd]; · iexact Hd
  iexact Ht

end Cert.LogitGrads.Hand

end
-- ==== Proof.LgGather.lean ====
/- The gathers' loops: a slot's 256 rows issued eight to a trip, and the 256 waits of a slot's drain. -/
module

public import proofs.«01_k».proof.Proof.LgRows
public import proofs.«01_k».proof.Proof.Gen.LogitGrads.Loops

@[expose] public section

set_option maxRecDepth 8192
set_option maxHeartbeats 4000000

noncomputable section

namespace Cert.LogitGrads.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGrads.Gen

variable {F : FTy → Type} [FloatOps F]

/-- The resource algebra: the frame kit's with counters. -/
local notation "𝕄" => MT nD τ sig Unit (Elt F) ℕ (Pipeline.UD sig nD τ) ℕ

/-- The target word at index `n`. -/
def tword (arg1 : Memref sig .tc .smem S6144 .i32) (X : BufTy.Contents (Elt F) arg1.view.ty) (n : ℕ) : BitVec 32 :=
  arg1.view.read (Elt F) X (fun | 0 => (⟨n % 6144, Nat.mod_lt _ (by decide)⟩ : Fin 6144))
/-- The table row of the target at index `n`: four vocabulary rows to a row of words. -/
def wrow (arg1 : Memref sig .tc .smem S6144 .i32) (X : BufTy.Contents (Elt F) arg1.view.ty) (n : ℕ) : ℕ :=
  (Scalar.shrsi (tword arg1 X n) 2#32).toNat

theorem read_word (arg1 : Memref sig .tc .smem S6144 .i32) (X : BufTy.Contents (Elt F) arg1.view.ty) {off : Fin 1 → ℕ} {h} (n : ℕ) (ho : off = ![n]) (hn : n < 6144)
    (x : (Rect.unit (s := S6144) off S1.size h).toLoadRect.shape.Idx) :
    View.readAt (Elt F) arg1.view (Rect.unit (s := S6144) off S1.size h).toLoadRect X x = tword arg1 X n := by
  subst ho
  unfold tword
  show arg1.view.read (Elt F) X ((Rect.unit (s := S6144) ![n] S1.size h).emb x) = _
  congr 1
  funext a
  apply Fin.ext
  fin_cases a
  have hx : (x 0).val < 1 := (x 0).isLt
  show n + 1 * (x 0).val = n % 6144
  rw [Nat.mod_eq_of_lt hn]; omega

theorem chk_of (arg1 : Memref sig .tc .smem S6144 .i32) (X : BufTy.Contents (Elt F) arg1.view.ty)
    (hX : ∀ n < 6144, wrow arg1 X n < 12576) (w : BitVec 32) (n : ℕ) (hn : n < 6144) (hw : w = tword arg1 X n) :
    ∀ a, (![(Scalar.shrsi w 2#32).toNat, 0] : Fin 2 → ℕ) a + S1x2560.size a ≤ S12576x2560.size a := by
  subst hw
  have := hX n hn
  unfold wrow at this
  intro a
  fin_cases a
  · show (Scalar.shrsi (tword arg1 X n) 2#32).toNat + 1 ≤ 12576; omega
  · show 0 + 2560 ≤ 2560; omega

theorem off_of (arg1 : Memref sig .tc .smem S6144 .i32) (X : BufTy.Contents (Elt F) arg1.view.ty)
    (w : BitVec 32) (n : ℕ) (hw : w = tword arg1 X n) :
    (![(Scalar.shrsi w 2#32).toNat, 0] : Fin 2 → ℕ) = ![wrow arg1 X n, 0] := by
  subst hw; rfl

theorem vec1 {off : Fin 1 → ℕ} {a b : ℕ} (h : off = ![a]) (e : a = b) : off = ![b] := e ▸ h

section T1
variable (c : Dev nD) (i : grid0.Coords)

theorem trip_t1 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (k0_h1 : k0_cond1 i = 1#1) (X : BufTy.Contents (Elt F) arg1.view.ty)
    (hX : ∀ n < 6144, wrow arg1 X n < 12576) (T : BufTy.Contents (Elt F) tabW.view.ty) (q : PosShare TreeShare) (k : Fin k0_t1_loop.trips) :
    iprop((arg1.view.loc (c : Thread nD τ) ↦[arg1.view.set]{fullShare} X) ∗ issuing (F := F) c 0 T q (fun r => wrow arg1 X r) (8 * k.val))
      ⊢ wp frame (wpE (defs₀ (F := F)) Variants.none (c : Thread nD τ) none) Set.univ (k0_t1_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 k0_h1 k PUnit.unit)
          (fun _ => iprop((arg1.view.loc (c : Thread nD τ) ↦[arg1.view.set]{fullShare} X) ∗ issuing (F := F) c 0 T q (fun r => wrow arg1 X r) (8 * (k.val + 1)))) := by
  have hk : k.val < 32 := Nat.lt_of_lt_of_le k.isLt k0_t1_abs.2.1
  unfold k0_t1_body
  iintro ⟨H1, HI⟩
  sl_exec
  iapply (wp_assume Variants.none (c : Thread nD τ) none Set.univ (fun _ => chk_of arg1 X hX _ (8 * k.val) (by omega) (read_word arg1 X (8 * k.val) (k0_off1_eq k) (by omega) _)))
  sl_exec
  iapply (wp_issueRow (F := F) c none (j := 8 * k.val + 0) (W := (fun r => wrow arg1 X r)) (by omega) (hX (8 * k.val) (by omega)) rfl (k0_off2_eq k) (off_of arg1 X _ (8 * k.val) (read_word arg1 X (8 * k.val) (k0_off1_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 1) (by omega) (read_word arg1 X (8 * k.val + 1) (k0_off4_eq k) (by omega) _)))
  sl_exec
  iapply (wp_issueRow (F := F) c none (j := 8 * k.val + 1) (W := (fun r => wrow arg1 X r)) (by omega) (hX (8 * k.val + 1) (by omega)) rfl (k0_off5_eq k) (off_of arg1 X _ (8 * k.val + 1) (read_word arg1 X (8 * k.val + 1) (k0_off4_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 2) (by omega) (read_word arg1 X (8 * k.val + 2) (k0_off7_eq k) (by omega) _)))
  sl_exec
  iapply (wp_issueRow (F := F) c none (j := 8 * k.val + 2) (W := (fun r => wrow arg1 X r)) (by omega) (hX (8 * k.val + 2) (by omega)) rfl (k0_off8_eq k) (off_of arg1 X _ (8 * k.val + 2) (read_word arg1 X (8 * k.val + 2) (k0_off7_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 3) (by omega) (read_word arg1 X (8 * k.val + 3) (k0_off10_eq k) (by omega) _)))
  sl_exec
  iapply (wp_issueRow (F := F) c none (j := 8 * k.val + 3) (W := (fun r => wrow arg1 X r)) (by omega) (hX (8 * k.val + 3) (by omega)) rfl (k0_off11_eq k) (off_of arg1 X _ (8 * k.val + 3) (read_word arg1 X (8 * k.val + 3) (k0_off10_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 4) (by omega) (read_word arg1 X (8 * k.val + 4) (k0_off13_eq k) (by omega) _)))
  sl_exec
  iapply (wp_issueRow (F := F) c none (j := 8 * k.val + 4) (W := (fun r => wrow arg1 X r)) (by omega) (hX (8 * k.val + 4) (by omega)) rfl (k0_off14_eq k) (off_of arg1 X _ (8 * k.val + 4) (read_word arg1 X (8 * k.val + 4) (k0_off13_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 5) (by omega) (read_word arg1 X (8 * k.val + 5) (k0_off16_eq k) (by omega) _)))
  sl_exec
  iapply (wp_issueRow (F := F) c none (j := 8 * k.val + 5) (W := (fun r => wrow arg1 X r)) (by omega) (hX (8 * k.val + 5) (by omega)) rfl (k0_off17_eq k) (off_of arg1 X _ (8 * k.val + 5) (read_word arg1 X (8 * k.val + 5) (k0_off16_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 6) (by omega) (read_word arg1 X (8 * k.val + 6) (k0_off19_eq k) (by omega) _)))
  sl_exec
  iapply (wp_issueRow (F := F) c none (j := 8 * k.val + 6) (W := (fun r => wrow arg1 X r)) (by omega) (hX (8 * k.val + 6) (by omega)) rfl (k0_off20_eq k) (off_of arg1 X _ (8 * k.val + 6) (read_word arg1 X (8 * k.val + 6) (k0_off19_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 7) (by omega) (read_word arg1 X (8 * k.val + 7) (k0_off22_eq k) (by omega) _)))
  sl_exec
  iapply (wp_issueRow (F := F) c none (j := 8 * k.val + 7) (W := (fun r => wrow arg1 X r)) (by omega) (hX (8 * k.val + 7) (by omega)) rfl (k0_off23_eq k) (off_of arg1 X _ (8 * k.val + 7) (read_word arg1 X (8 * k.val + 7) (k0_off22_eq k) (by omega) _)) (congrArg SemLoc.dma (gs_of (s := 0) (by decide) rfl))) $$ HI
  iintro HI
  sl_step
  isplitl [H1]; · iexact H1
  iexact HI

theorem trip_t2 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (k0_h2 : k0_cond2 i = 1#1) (v86 : BitVec 32) (hi : (i 0).val + 1 < 24) (X : BufTy.Contents (Elt F) arg1.view.ty)
    (hX : ∀ n < 6144, wrow arg1 X n < 12576) (T : BufTy.Contents (Elt F) tabW.view.ty) (q : PosShare TreeShare) (k : Fin k0_t2_loop.trips) :
    iprop((arg1.view.loc (c : Thread nD τ) ↦[arg1.view.set]{fullShare} X) ∗ issuing (F := F) c (1 - (i 0).val % 2) T q (fun r => wrow arg1 X (256 * ((i 0).val + 1) + r)) (8 * k.val))
      ⊢ wp frame (wpE (defs₀ (F := F)) Variants.none (c : Thread nD τ) none) Set.univ (k0_t2_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 k0_h2 v86 k PUnit.unit)
          (fun _ => iprop((arg1.view.loc (c : Thread nD τ) ↦[arg1.view.set]{fullShare} X) ∗ issuing (F := F) c (1 - (i 0).val % 2) T q (fun r => wrow arg1 X (256 * ((i 0).val + 1) + r)) (8 * (k.val + 1)))) := by
  have hk : k.val < 32 := Nat.lt_of_lt_of_le k.isLt k0_t2_abs.2.1
  unfold k0_t2_body
  iintro ⟨H1, HI⟩
  sl_exec
  iapply (wp_assume Variants.none (c : Thread nD τ) none Set.univ (fun _ => chk_of arg1 X hX _ (256 * ((i 0).val + 1) + (8 * k.val + 0)) (by omega) (read_word arg1 X (256 * ((i 0).val + 1) + (8 * k.val + 0)) (vec1 (k0_off25_eq i k) (by omega)) (by omega) _)))
  sl_exec
  iapply (wp_issueRow (F := F) c none (j := 8 * k.val + 0) (W := (fun r => wrow arg1 X (256 * ((i 0).val + 1) + r))) (by omega) (hX (256 * ((i 0).val + 1) + (8 * k.val + 0)) (by omega)) (k0_off27_eq i) (k0_off28_eq k) (off_of arg1 X _ (256 * ((i 0).val + 1) + (8 * k.val + 0)) (read_word arg1 X (256 * ((i 0).val + 1) + (8 * k.val + 0)) (vec1 (k0_off25_eq i k) (by omega)) (by omega) _)) (congrArg SemLoc.dma (gs_of (s := (1 - (i 0).val % 2)) (by omega) (k0_off26_eq i)))) $$ HI
  iintro HI
  sl_exec
  iapply (wp_assume Variants.none (c : Thread nD τ) none Set.univ (fun _ => chk_of arg1 X hX _ (256 * ((i 0).val + 1) + (8 * k.val + 1)) (by omega) (read_word arg1 X (256 * ((i 0).val + 1) + (8 * k.val + 1)) (vec1 (k0_off30_eq i k) (by omega)) (by omega) _)))
  sl_exec
  iapply (wp_issueRow (F := F) c none (j := 8 * k.val + 1) (W := (fun r => wrow arg1 X (256 * ((i 0).val + 1) + r))) (by omega) (hX (256 * ((i 0).val + 1) + (8 * k.val + 1)) (by omega)) (k0_off32_eq i) (k0_off33_eq k) (off_of arg1 X _ (256 * ((i 0).val + 1) + (8 * k.val + 1)) (read_word arg1 X (256 * ((i 0).val + 1) + (8 * k.val + 1)) (vec1 (k0_off30_eq i k) (by omega)) (by omega) _)) (congrArg SemLoc.dma (gs_of (s := (1 - (i 0).val % 2)) (by omega) (k0_off31_eq i)))) $$ HI
  iintro HI
  sl_exec
  iapply (wp_assume Variants.none (c : Thread nD τ) none Set.univ (fun _ => chk_of arg1 X hX _ (256 * ((i 0).val + 1) + (8 * k.val + 2)) (by omega) (read_word arg1 X (256 * ((i 0).val + 1) + (8 * k.val + 2)) (vec1 (k0_off35_eq i k) (by omega)) (by omega) _)))
  sl_exec
  iapply (wp_issueRow (F := F) c none (j := 8 * k.val + 2) (W := (fun r => wrow arg1 X (256 * ((i 0).val + 1) + r))) (by omega) (hX (256 * ((i 0).val + 1) + (8 * k.val + 2)) (by omega)) (k0_off37_eq i) (k0_off38_eq k) (off_of arg1 X _ (256 * ((i 0).val + 1) + (8 * k.val + 2)) (read_word arg1 X (256 * ((i 0).val + 1) + (8 * k.val + 2)) (vec1 (k0_off35_eq i k) (by omega)) (by omega) _)) (congrArg SemLoc.dma (gs_of (s := (1 - (i 0).val % 2)) (by omega) (k0_off36_eq i)))) $$ HI
  iintro HI
  sl_exec
  iapply (wp_assume Variants.none (c : Thread nD τ) none Set.univ (fun _ => chk_of arg1 X hX _ (256 * ((i 0).val + 1) + (8 * k.val + 3)) (by omega) (read_word arg1 X (256 * ((i 0).val + 1) + (8 * k.val + 3)) (vec1 (k0_off40_eq i k) (by omega)) (by omega) _)))
  sl_exec
  iapply (wp_issueRow (F := F) c none (j := 8 * k.val + 3) (W := (fun r => wrow arg1 X (256 * ((i 0).val + 1) + r))) (by omega) (hX (256 * ((i 0).val + 1) + (8 * k.val + 3)) (by omega)) (k0_off42_eq i) (k0_off43_eq k) (off_of arg1 X _ (256 * ((i 0).val + 1) + (8 * k.val + 3)) (read_word arg1 X (256 * ((i 0).val + 1) + (8 * k.val + 3)) (vec1 (k0_off40_eq i k) (by omega)) (by omega) _)) (congrArg SemLoc.dma (gs_of (s := (1 - (i 0).val % 2)) (by omega) (k0_off41_eq i)))) $$ HI
  iintro HI
  sl_exec
  iapply (wp_assume Variants.none (c : Thread nD τ) none Set.univ (fun _ => chk_of arg1 X hX _ (256 * ((i 0).val + 1) + (8 * k.val + 4)) (by omega) (read_word arg1 X (256 * ((i 0).val + 1) + (8 * k.val + 4)) (vec1 (k0_off45_eq i k) (by omega)) (by omega) _)))
  sl_exec
  iapply (wp_issueRow (F := F) c none (j := 8 * k.val + 4) (W := (fun r => wrow arg1 X (256 * ((i 0).val + 1) + r))) (by omega) (hX (256 * ((i 0).val + 1) + (8 * k.val + 4)) (by omega)) (k0_off47_eq i) (k0_off48_eq k) (off_of arg1 X _ (256 * ((i 0).val + 1) + (8 * k.val + 4)) (read_word arg1 X (256 * ((i 0).val + 1) + (8 * k.val + 4)) (vec1 (k0_off45_eq i k) (by omega)) (by omega) _)) (congrArg SemLoc.dma (gs_of (s := (1 - (i 0).val % 2)) (by omega) (k0_off46_eq i)))) $$ HI
  iintro HI
  sl_exec
  iapply (wp_assume Variants.none (c : Thread nD τ) none Set.univ (fun _ => chk_of arg1 X hX _ (256 * ((i 0).val + 1) + (8 * k.val + 5)) (by omega) (read_word arg1 X (256 * ((i 0).val + 1) + (8 * k.val + 5)) (vec1 (k0_off50_eq i k) (by omega)) (by omega) _)))
  sl_exec
  iapply (wp_issueRow (F := F) c none (j := 8 * k.val + 5) (W := (fun r => wrow arg1 X (256 * ((i 0).val + 1) + r))) (by omega) (hX (256 * ((i 0).val + 1) + (8 * k.val + 5)) (by omega)) (k0_off52_eq i) (k0_off53_eq k) (off_of arg1 X _ (256 * ((i 0).val + 1) + (8 * k.val + 5)) (read_word arg1 X (256 * ((i 0).val + 1) + (8 * k.val + 5)) (vec1 (k0_off50_eq i k) (by omega)) (by omega) _)) (congrArg SemLoc.dma (gs_of (s := (1 - (i 0).val % 2)) (by omega) (k0_off51_eq i)))) $$ HI
  iintro HI
  sl_exec
  iapply (wp_assume Variants.none (c : Thread nD τ) none Set.univ (fun _ => chk_of arg1 X hX _ (256 * ((i 0).val + 1) + (8 * k.val + 6)) (by omega) (read_word arg1 X (256 * ((i 0).val + 1) + (8 * k.val + 6)) (vec1 (k0_off55_eq i k) (by omega)) (by omega) _)))
  sl_exec
  iapply (wp_issueRow (F := F) c none (j := 8 * k.val + 6) (W := (fun r => wrow arg1 X (256 * ((i 0).val + 1) + r))) (by omega) (hX (256 * ((i 0).val + 1) + (8 * k.val + 6)) (by omega)) (k0_off57_eq i) (k0_off58_eq k) (off_of arg1 X _ (256 * ((i 0).val + 1) + (8 * k.val + 6)) (read_word arg1 X (256 * ((i 0).val + 1) + (8 * k.val + 6)) (vec1 (k0_off55_eq i k) (by omega)) (by omega) _)) (congrArg SemLoc.dma (gs_of (s := (1 - (i 0).val % 2)) (by omega) (k0_off56_eq i)))) $$ HI
  iintro HI
  sl_exec
  iapply (wp_assume Variants.none (c : Thread nD τ) none Set.univ (fun _ => chk_of arg1 X hX _ (256 * ((i 0).val + 1) + (8 * k.val + 7)) (by omega) (read_word arg1 X (256 * ((i 0).val + 1) + (8 * k.val + 7)) (vec1 (k0_off60_eq i k) (by omega)) (by omega) _)))
  sl_exec
  iapply (wp_issueRow (F := F) c none (j := 8 * k.val + 7) (W := (fun r => wrow arg1 X (256 * ((i 0).val + 1) + r))) (by omega) (hX (256 * ((i 0).val + 1) + (8 * k.val + 7)) (by omega)) (k0_off62_eq i) (k0_off63_eq k) (off_of arg1 X _ (256 * ((i 0).val + 1) + (8 * k.val + 7)) (read_word arg1 X (256 * ((i 0).val + 1) + (8 * k.val + 7)) (vec1 (k0_off60_eq i k) (by omega)) (by omega) _)) (congrArg SemLoc.dma (gs_of (s := (1 - (i 0).val % 2)) (by omega) (k0_off61_eq i)))) $$ HI
  iintro HI
  sl_step
  isplitl [H1]; · iexact H1
  iexact HI

/-- Slot `s`'s drain after `k` of its 256 waits: every transfer issued and `k` waited for, and after the last the rows
    themselves, the semaphore at zero and the table whole again. -/
def draining (c : Dev nD) (s : ℕ) (T : BufTy.Contents (Elt F) tabW.view.ty) (q : PosShare TreeShare) (W : ℕ → ℕ) (k : ℕ) : sProp 𝕄 :=
  iprop((∃ S : Waits sig Unit, owes (c : Thread nD τ) 0 S)
    ∗ (if k < 256 then iprop(Transfers.Batch (countersEmb (U := Pipeline.UD sig nD τ)) (c : Thread nD τ) (.dma (gs s)) () NN (D (F := F) c s T q W) 256 (k * NN)
          ∗ (tabW.view.loc (c : Thread nD τ) ↦{Transfers.shareDrop q 256} (T : Buf (Elt F) _)))
      else iprop(semVal ((c : Thread nD τ), SemLoc.dma (gs s)) 0
        ∗ (bufW.view.loc (c : Thread nD τ) ↦[slotSet c s]{fullShare} (gath T W : Buf (Elt F) _)) ∗ (tabW.view.loc (c : Thread nD τ) ↦{q} (T : Buf (Elt F) _)))))

theorem drain_start (c : Dev nD) (s : ℕ) (T : BufTy.Contents (Elt F) tabW.view.ty) (q : PosShare TreeShare) (W : ℕ → ℕ) (S : Waits sig Unit) :
    iprop(owes (c : Thread nD τ) 0 S ∗ issuing (F := F) c s T q W 256) ⊢ draining (F := F) c s T q W 0 := by
  unfold draining issuing
  rw [if_pos (by decide), Nat.zero_mul]
  iintro ⟨HO, HB, -, HT⟩
  isplitl [HO]; · iexists S; iexact HO
  isplitl [HB]; · iexact HB
  iexact HT

theorem drain_step (c : Dev nD) (bd : Option Variants.none.V) {s : ℕ} {T : BufTy.Contents (Elt F) tabW.view.ty} {q : PosShare TreeShare} {W : ℕ → ℕ} {j : ℕ} (hj : j < 256)
    {off h off2 h2 hq off3 h3} {sem : DmaSem sig} (hsm : sem = gs s) {α : Type} {Q : α → sProp 𝕄}
    {hsrc hdst} {k : PUnit → Prog (TpuEff nD τ sig (Elt F) Λ₀ (c : Thread nD τ).2) α} :
    draining (F := F) c s T q W j
      ⊢ iprop((draining (F := F) c s T q W (j + 1) -∗ wp frame (wpE (defs₀ (F := F)) Variants.none (c : Thread nD τ) bd) Set.univ (k ⟨⟩) Q)
          -∗ wp frame (wpE (defs₀ (F := F)) Variants.none (c : Thread nD τ) bd) Set.univ
            (.op (.waitDma2 sem (srcM off3 h3) (dstM off h off2 h2 hq) hsrc hdst) k) Q) := by
  subst hsm
  unfold draining
  rw [if_pos hj]
  iintro ⟨⟨%S, HO⟩, HB, HT⟩ Hk
  by_cases hl : j + 1 < 256
  · rw [if_pos hl]
    iapply (Transfers.wp_waitBatch (countersEmb (U := Pipeline.UD sig nD τ)) Variants.none (c : Thread nD τ) bd () (N := NN) (u := j * NN) (W := S) (show (dstM off h off2 h2 hq).view.dmaCredit = NN from rfl)
      (by have := NN_pos; rw [Nat.mul_comm NN, ← Nat.succ_mul]; exact Nat.mul_lt_mul_of_pos_right hl this)) $$ [HB HO]
    · isplitl [HB]; · iexact HB
      iexact HO
    iintro ⟨HB, HO⟩
    iapply Hk
    isplitl [HO]; · iexists _; iexact HO
    isplitl [HB]; · rw [Nat.succ_mul]; iexact HB
    iexact HT
  · rw [if_neg hl]
    obtain rfl : j = 255 := by omega
    iapply (Transfers.wp_waitBatchLast (countersEmb (U := Pipeline.UD sig nD τ)) Variants.none (c : Thread nD τ) bd () (N := NN) (u := 255 * NN) (W := S) (show (dstM off h off2 h2 hq).view.dmaCredit = NN from rfl) NN_pos
      (by rw [Nat.mul_comm NN, ← Nat.succ_mul])) $$ [HB HO]
    · isplitl [HB]; · iexact HB
      iexact HO
    iintro ⟨HD, HS, HO⟩
    iapply Hk
    isplitl [HO]; · iexists _; iexact HO
    isplitl [HS]; · iexact HS
    iapply (drain_done (F := F) c s T q W)
    isplitl [HD]; · iexact HD
    iexact HT

theorem trip_t4 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) {s : ℕ} (hs : s = (i 0).val % 2) (T : BufTy.Contents (Elt F) tabW.view.ty) (q : PosShare TreeShare) (W : ℕ → ℕ) (k : Fin k0_t4_loop.trips) :
    draining (F := F) c s T q W k.val
      ⊢ wp frame (wpE (defs₀ (F := F)) Variants.none (c : Thread nD τ) none) Set.univ (k0_t4_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 k PUnit.unit)
          (fun _ => draining (F := F) c s T q W (k.val + 1)) := by
  have hk : k.val < 256 := Nat.lt_of_lt_of_le k.isLt k0_t4_abs.2.1
  unfold k0_t4_body
  iintro H
  sl_exec
  iapply (drain_step (F := F) c none hk (gs_of (s := s) (by omega) (by rw [k0_off69_eq i, hs]))) $$ H
  iintro H
  sl_step
  iexact H

theorem trips_t1 : k0_t1_loop.trips = 32 := by decide +kernel
theorem trips_t2 : k0_t2_loop.trips = 32 := by decide +kernel
theorem trips_t4 : k0_t4_loop.trips = 256 := by decide +kernel

end T1

end Cert.LogitGrads.Hand

end
-- ==== Proof.LgChunks.lean ====
/- The two chunk loops of the logits kernel at any float instance: ten chunks of 512 sampled rows, forward (the running
   maximum and sum of each lane, the exponentials and the maximum each chunk took) and back (the gradient of the negatives'
   logits, and its product with the sampled rows added up), each trip's effect on the arrays stated as values. -/
module

public import proofs.«01_k».proof.Proof.Gen.LogitGrads.Frame
public import proofs.«01_k».proof.Proof.Gen.LogitGrads.Skeleton
public import proofs.«01_k».proof.Proof.LgRows
public import Idealize.ShloMosaic.Lib.VecWindow
public import Idealize.ShloMosaic.Lib.WritesUnit

@[expose] public section

set_option maxRecDepth 8192
set_option maxHeartbeats 1000000

noncomputable section

namespace Cert.LogitGrads.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGrads.Gen

variable {F : FTy → Type} [FloatOps F]

/-- The resource algebra: the frame kit's with counters. -/
local notation "𝕄" => MT nD τ sig Unit (Elt F) ℕ (Pipeline.UD sig nD τ) ℕ

theorem inb_rows (k : ℕ) (a : Fin 2) : (![512 * (k % 10), 0] : Fin 2 → ℕ) a + S512x2560.size a ≤ S5120x2560.size a := by
  have := Nat.mod_lt k (show 0 < 10 by decide)
  match a with
  | ⟨0, _⟩ => show 512 * (k % 10) + 512 ≤ 5120; omega
  | ⟨1, _⟩ => show 0 + 2560 ≤ 2560; omega
theorem inb_line (k : ℕ) (a : Fin 2) : (![0, 512 * (k % 10)] : Fin 2 → ℕ) a + S1x512.size a ≤ S1x5120.size a := by
  have := Nat.mod_lt k (show 0 < 10 by decide)
  match a with
  | ⟨0, _⟩ => show 0 + 1 ≤ 1; omega
  | ⟨1, _⟩ => show 512 * (k % 10) + 512 ≤ 5120; omega
theorem inb_cols (k : ℕ) (a : Fin 2) : (![0, 512 * (k % 10)] : Fin 2 → ℕ) a + S256x512.size a ≤ S256x5120.size a := by
  have := Nat.mod_lt k (show 0 < 10 by decide)
  match a with
  | ⟨0, _⟩ => show 0 + 256 ≤ 256; omega
  | ⟨1, _⟩ => show 512 * (k % 10) + 512 ≤ 5120; omega
theorem inb_tile (k j : ℕ) (a : Fin 2) : (![0, 512 * (k % 10) + 128 * (j % 4)] : Fin 2 → ℕ) a + S256x128.size a ≤ S256x5120.size a := by
  have := Nat.mod_lt k (show 0 < 10 by decide)
  have := Nat.mod_lt j (show 0 < 4 by decide)
  match a with
  | ⟨0, _⟩ => show 0 + 256 ≤ 256; omega
  | ⟨1, _⟩ => show 512 * (k % 10) + 128 * (j % 4) + 128 ≤ 5120; omega
theorem inb_m (k : ℕ) (a : Fin 3) : (![k % 10, 0, 0] : Fin 3 → ℕ) a + S1x256x128.size a ≤ S10x256x128.size a := by
  have := Nat.mod_lt k (show 0 < 10 by decide)
  match a with
  | ⟨0, _⟩ => show k % 10 + 1 ≤ 10; omega
  | ⟨1, _⟩ => show 0 + 256 ≤ 256; omega
  | ⟨2, _⟩ => show 0 + 128 ≤ 128; omega

/-- The sampled rows of chunk `k`. -/
def wsC (w : Vec F S5120x2560 .bf16) (k : ℕ) : Vec F S512x2560 .bf16 := VecWindow.window (s := S5120x2560) w ![512 * (k % 10), 0] S512x2560.size (inb_rows k)
/-- Chunk `k` of a line over the sampled ids. -/
def lineC (l : Vec F S1x5120 .f32) (k : ℕ) : Vec F S1x512 .f32 := VecWindow.window (s := S1x5120) l ![0, 512 * (k % 10)] S1x512.size (inb_line k)

/-- What a block of tokens is given: its `x`, the sampled rows, their log-probabilities and ids, and the block's targets. -/
structure Arg (F : FTy → Type) [FloatOps F] where
  x : Vec F S256x2560 .bf16
  w : Vec F S5120x2560 .bf16
  lq : Vec F S1x5120 .f32
  sid : Vec F S1x5120 .f32
  tg : Vec F S256x1 .f32

namespace Arg
variable (A : Arg F)
/-- The running maximum and sum of each lane before chunk `k`. -/
def st : ℕ → FVec F S256x128 .f32 × FVec F S256x128 .f32
  | 0 => (k0_pay24 (F := F), k0_pay25 (F := F))
  | k + 1 => (k0_pay10 (k0_pay20 A.tg) (st k).1 A.x (wsC A.w k) (lineC A.lq k) (lineC A.sid k),
      k0_pay30 (k0_pay8 (k0_pay20 A.tg) A.x (wsC A.w k) (lineC A.lq k) (lineC A.sid k)) (k0_pay9 (k0_pay20 A.tg) A.x (wsC A.w k) (lineC A.lq k) (lineC A.sid k))
        (k0_pay10 (k0_pay20 A.tg) (st k).1 A.x (wsC A.w k) (lineC A.lq k) (lineC A.sid k))
        (k0_pay14 (k0_pay20 A.tg) (st k).1 (st k).2 A.x (wsC A.w k) (lineC A.lq k) (lineC A.sid k)))
/-- Tile `j` of the exponentials of chunk `k`. -/
def eT (k : ℕ) : ℕ → FVec F S256x128 .f32
  | 0 => k0_pay12 (k0_pay20 A.tg) (A.st k).1 A.x (wsC A.w k) (lineC A.lq k) (lineC A.sid k)
  | 1 => k0_pay26 (k0_pay13 (k0_pay20 A.tg) (A.st k).1 A.x (wsC A.w k) (lineC A.lq k) (lineC A.sid k))
  | 2 => k0_pay28 (k0_pay8 (k0_pay20 A.tg) A.x (wsC A.w k) (lineC A.lq k) (lineC A.sid k)) (A.st (k + 1)).1
  | _ => k0_pay31 (k0_pay9 (k0_pay20 A.tg) A.x (wsC A.w k) (lineC A.lq k) (lineC A.sid k)) (A.st (k + 1)).1
/-- All the exponentials. -/
def eA : Vec F S256x5120 .f32 := fun y => A.eT ((y 1).val / 512) ((y 1).val % 512 / 128)
  (fun | 0 => (y 0 : Fin 256) | 1 => (⟨(y 1).val % 128, Nat.mod_lt _ (by decide)⟩ : Fin 128) : S256x128.Idx)
/-- The maximum each chunk took. -/
def mA : Vec F S10x256x128 .f32 := fun y => k0_pay32 (A.st ((y 0).val + 1)).1
  (fun | 0 => (⟨0, by decide⟩ : Fin 1) | 1 => (y 1 : Fin 256) | 2 => (y 2 : Fin 128) : S1x256x128.Idx)
/-- The gradient of the negatives' logits, tile `j` of chunk `k`, with the gradient scale `g` and the log-sum `l`. -/
def dT (g l : FVec F S256x1 .f32) (k : ℕ) : ℕ → FVec F S256x128 .bf16
  | 0 => k0_pay16 g l (VecWindow.window (s := S10x256x128) A.mA ![k % 10, 0, 0] S1x256x128.size (inb_m k)) (VecWindow.window (s := S256x5120) A.eA ![0, 512 * (k % 10) + 128 * (0 % 4)] S256x128.size (inb_tile k 0))
  | 1 => k0_pay17 g l (VecWindow.window (s := S10x256x128) A.mA ![k % 10, 0, 0] S1x256x128.size (inb_m k)) (VecWindow.window (s := S256x5120) A.eA ![0, 512 * (k % 10) + 128 * (1 % 4)] S256x128.size (inb_tile k 1))
  | 2 => k0_pay18 g l (VecWindow.window (s := S10x256x128) A.mA ![k % 10, 0, 0] S1x256x128.size (inb_m k)) (VecWindow.window (s := S256x5120) A.eA ![0, 512 * (k % 10) + 128 * (2 % 4)] S256x128.size (inb_tile k 2))
  | _ => k0_pay2 (k0_pay15 g l (VecWindow.window (s := S10x256x128) A.mA ![k % 10, 0, 0] S1x256x128.size (inb_m k))) (VecWindow.window (s := S256x5120) A.eA ![0, 512 * (k % 10) + 128 * (3 % 4)] S256x128.size (inb_tile k 3))
/-- All of it. -/
def dA (g l : FVec F S256x1 .f32) : Vec F S256x5120 .bf16 := fun y => A.dT g l ((y 1).val / 512) ((y 1).val % 512 / 128)
  (fun | 0 => (y 0 : Fin 256) | 1 => (⟨(y 1).val % 128, Nat.mod_lt _ (by decide)⟩ : Fin 128) : S256x128.Idx)
/-- The accumulator before chunk `k` of the way back, from `a0`. -/
def ac (g l : FVec F S256x1 .f32) (a0 : Vec F S256x2560 .f32) : ℕ → Vec F S256x2560 .f32
  | 0 => a0
  | k + 1 => k0_pay3 (ac g l a0 k) (VecWindow.window (s := S256x5120) (A.dA g l) ![0, 512 * (k % 10)] S256x512.size (inb_cols k)) (wsC A.w k)
end Arg

/-- Four tiles of 128 columns written side by side over the columns of chunk `k`, read back: what each tile holds there, and
    before chunk `k` what was there. -/
theorem four_tiles {e : EltTy} (v : View sig .tc .vmem S256x5120 e) (f : v.ty.Contents (Elt F)) (G : S256x5120.Idx → Elt F e) (k : ℕ)
    {o0 o1 o2 o3 : Fin 2 → ℕ} {b0 : ∀ a, o0 a + S256x128.size a ≤ S256x5120.size a} {b1 : ∀ a, o1 a + S256x128.size a ≤ S256x5120.size a} {b2 : ∀ a, o2 a + S256x128.size a ≤ S256x5120.size a} {b3 : ∀ a, o3 a + S256x128.size a ≤ S256x5120.size a}
    (h0 : o0 = ![0, 512 * k + 128 * 0]) (h1 : o1 = ![0, 512 * k + 128 * 1]) (h2 : o2 = ![0, 512 * k + 128 * 2]) (h3 : o3 = ![0, 512 * k + 128 * 3])
    (w0 w1 w2 w3 : S256x128.Idx → Elt F e)
    (g0 : ∀ (y : S256x5120.Idx) (x : S256x128.Idx), (y 0).val = (x 0).val → (y 1).val = 512 * k + 128 * 0 + (x 1).val → w0 x = G y)
    (g1 : ∀ (y : S256x5120.Idx) (x : S256x128.Idx), (y 0).val = (x 0).val → (y 1).val = 512 * k + 128 * 1 + (x 1).val → w1 x = G y)
    (g2 : ∀ (y : S256x5120.Idx) (x : S256x128.Idx), (y 0).val = (x 0).val → (y 1).val = 512 * k + 128 * 2 + (x 1).val → w2 x = G y)
    (g3 : ∀ (y : S256x5120.Idx) (x : S256x128.Idx), (y 0).val = (x 0).val → (y 1).val = 512 * k + 128 * 3 + (x 1).val → w3 x = G y)
    (y : S256x5120.Idx) (hy : (y 1).val < 512 * (k + 1)) (hold : (y 1).val < 512 * k → v.read (Elt F) f y = G y) :
    v.read (Elt F) (v.writes (Elt F) f [⟨Rect.unit (s := S256x5120) o3 S256x128.size b3, w3⟩, ⟨Rect.unit (s := S256x5120) o2 S256x128.size b2, w2⟩,
      ⟨Rect.unit (s := S256x5120) o1 S256x128.size b1, w1⟩, ⟨Rect.unit (s := S256x5120) o0 S256x128.size b0, w0⟩]) y = G y := by
  have key : ∀ (n : ℕ) (hn : (y 1).val / 128 = 4 * k + n) , (y 1).val = 512 * k + 128 * n + (y 1).val % 128 := by intro n hn; omega
  have mem : ∀ (n : ℕ) (hn : (y 1).val / 128 = 4 * k + n) (a : Fin 2), (y a).val = (![0, 512 * k + 128 * n] : Fin 2 → ℕ) a
      + ((fun | 0 => (y 0 : Fin 256) | 1 => (⟨(y 1).val % 128, Nat.mod_lt _ (by decide)⟩ : Fin 128) : S256x128.Idx) a).val := by
    intro n hn a
    match a with
    | ⟨0, _⟩ => show (y 0).val = 0 + (y 0).val; omega
    | ⟨1, _⟩ => show (y 1).val = 512 * k + 128 * n + (y 1).val % 128; omega
  by_cases hb : (y 1).val < 512 * k
  · rw [View.read_writes_cons_unit_of_not_mem v f b3 w3 _ y h3 (1 : Fin 2) (Or.inl (by show (y 1).val < 512 * k + 128 * 3; omega)),
      View.read_writes_cons_unit_of_not_mem v f b2 w2 _ y h2 (1 : Fin 2) (Or.inl (by show (y 1).val < 512 * k + 128 * 2; omega)),
      View.read_writes_cons_unit_of_not_mem v f b1 w1 _ y h1 (1 : Fin 2) (Or.inl (by show (y 1).val < 512 * k + 128 * 1; omega)),
      View.read_writes_cons_unit_of_not_mem v f b0 w0 _ y h0 (1 : Fin 2) (Or.inl (by show (y 1).val < 512 * k + 128 * 0; omega)), View.writes_nil]
    exact hold hb
  have hc : (y 1).val / 128 = 4 * k + 0 ∨ (y 1).val / 128 = 4 * k + 1 ∨ (y 1).val / 128 = 4 * k + 2 ∨ (y 1).val / 128 = 4 * k + 3 := by omega
  rcases hc with hn | hn | hn | hn
  · rw [View.read_writes_cons_unit_of_not_mem v f b3 w3 _ y h3 (1 : Fin 2) (Or.inl (by show (y 1).val < 512 * k + 128 * 3; omega)),
      View.read_writes_cons_unit_of_not_mem v f b2 w2 _ y h2 (1 : Fin 2) (Or.inl (by show (y 1).val < 512 * k + 128 * 2; omega)),
      View.read_writes_cons_unit_of_not_mem v f b1 w1 _ y h1 (1 : Fin 2) (Or.inl (by show (y 1).val < 512 * k + 128 * 1; omega)),
      View.read_writes_cons_unit_of_mem v f b0 w0 _ y _ h0 (mem 0 hn)]
    exact g0 y _ rfl (key 0 hn)
  · rw [View.read_writes_cons_unit_of_not_mem v f b3 w3 _ y h3 (1 : Fin 2) (Or.inl (by show (y 1).val < 512 * k + 128 * 3; omega)),
      View.read_writes_cons_unit_of_not_mem v f b2 w2 _ y h2 (1 : Fin 2) (Or.inl (by show (y 1).val < 512 * k + 128 * 2; omega)),
      View.read_writes_cons_unit_of_mem v f b1 w1 _ y _ h1 (mem 1 hn)]
    exact g1 y _ rfl (key 1 hn)
  · rw [View.read_writes_cons_unit_of_not_mem v f b3 w3 _ y h3 (1 : Fin 2) (Or.inl (by show (y 1).val < 512 * k + 128 * 3; omega)),
      View.read_writes_cons_unit_of_mem v f b2 w2 _ y _ h2 (mem 2 hn)]
    exact g2 y _ rfl (key 2 hn)
  · rw [View.read_writes_cons_unit_of_mem v f b3 w3 _ y _ h3 (mem 3 hn)]
    exact g3 y _ rfl (key 3 hn)

/-- The exponentials at a place of tile `j` of chunk `k`. -/
theorem Arg.eA_at (A : Arg F) (k j : ℕ) (hj : j < 4) (y : S256x5120.Idx) (x : S256x128.Idx) (h0 : (y 0).val = (x 0).val) (h1 : (y 1).val = 512 * k + 128 * j + (x 1).val) :
    A.eT k j x = A.eA y := by
  have hx : (x 1).val < 128 := (x 1).isLt
  unfold Arg.eA
  rw [show (y 1).val / 512 = k by omega, show (y 1).val % 512 / 128 = j by omega]
  congr 1
  funext a
  apply Fin.ext
  match a with
  | ⟨0, _⟩ => exact h0.symm
  | ⟨1, _⟩ => show (x 1).val = (y 1).val % 128; omega

/-- A slab written at place `k` of the maxima's array, read back. -/
theorem one_slab (v : View sig .tc .vmem S10x256x128 .f32) (f : v.ty.Contents (Elt F)) (G : S10x256x128.Idx → Elt F .f32) (k : ℕ)
    {o : Fin 3 → ℕ} {b : ∀ a, o a + S1x256x128.size a ≤ S10x256x128.size a} (h : o = ![k, 0, 0]) (w : S1x256x128.Idx → Elt F .f32)
    (g : ∀ (y : S10x256x128.Idx) (x : S1x256x128.Idx), (y 0).val = k → (y 1).val = (x 1).val → (y 2).val = (x 2).val → w x = G y)
    (hold : ∀ y : S10x256x128.Idx, (y 0).val < k → v.read (Elt F) f y = G y) (y : S10x256x128.Idx) (hy : (y 0).val < k + 1) :
    v.read (Elt F) (v.writes (Elt F) f [⟨Rect.unit (s := S10x256x128) o S1x256x128.size b, w⟩]) y = G y := by
  by_cases hb : (y 0).val < k
  · rw [View.read_writes_cons_unit_of_not_mem v f b w _ y h (0 : Fin 3) (Or.inl (by show (y 0).val < k; omega)), View.writes_nil]
    exact hold y hb
  · have e : (y 0).val = k := by omega
    rw [View.read_writes_cons_unit_of_mem v f b w _ y (fun | 0 => (⟨0, by decide⟩ : Fin 1) | 1 => (y 1 : Fin 256) | 2 => (y 2 : Fin 128) : S1x256x128.Idx) h (fun a => by
      match a with
      | ⟨0, _⟩ => show (y 0).val = k + 0; omega
      | ⟨1, _⟩ => show (y 1).val = 0 + (y 1).val; omega
      | ⟨2, _⟩ => show (y 2).val = 0 + (y 2).val; omega)]
    exact g y _ e rfl rfl

theorem Arg.mA_at (A : Arg F) (k : ℕ) (y : S10x256x128.Idx) (x : S1x256x128.Idx) (h0 : (y 0).val = k) (h1 : (y 1).val = (x 1).val) (h2 : (y 2).val = (x 2).val) :
    k0_pay32 (A.st (k + 1)).1 x = A.mA y := by
  have hx : (x 0).val < 1 := (x 0).isLt
  unfold Arg.mA
  rw [h0]
  congr 1
  funext a
  apply Fin.ext
  match a with
  | ⟨0, _⟩ => show (x 0).val = 0; omega
  | ⟨1, _⟩ => exact h1.symm
  | ⟨2, _⟩ => exact h2.symm

theorem Arg.dA_at (A : Arg F) (g l : FVec F S256x1 .f32) (k j : ℕ) (hj : j < 4) (y : S256x5120.Idx) (x : S256x128.Idx) (h0 : (y 0).val = (x 0).val) (h1 : (y 1).val = 512 * k + 128 * j + (x 1).val) :
    A.dT g l k j x = A.dA g l y := by
  have hx : (x 1).val < 128 := (x 1).isLt
  unfold Arg.dA
  rw [show (y 1).val / 512 = k by omega, show (y 1).val % 512 / 128 = j by omega]
  congr 1
  funext a
  apply Fin.ext
  match a with
  | ⟨0, _⟩ => exact h0.symm
  | ⟨1, _⟩ => show (x 1).val = (y 1).val % 128; omega

section T1
variable (c : Dev nD) (i : grid0.Coords)

theorem trip_t3 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (A : Arg F) (X4 : BufTy.Contents (Elt F) arg4.view.ty) (X7 : BufTy.Contents (Elt F) arg7.view.ty) (X8 : BufTy.Contents (Elt F) arg8.view.ty) (X12 : BufTy.Contents (Elt F) arg12.view.ty)
    (h4 : arg4.view.read (Elt F) X4 = A.x) (h7 : arg7.view.read (Elt F) X7 = A.lq) (h8 : arg8.view.read (Elt F) X8 = A.sid) (h12 : arg12.view.read (Elt F) X12 = A.w)
    (f15 : BufTy.Contents (Elt F) arg15.view.ty) (f16 : BufTy.Contents (Elt F) arg16.view.ty) (k : Fin k0_t3_loop.trips)
    (h15 : ∀ y : S256x5120.Idx, (y 1).val < 512 * k.val → arg15.view.read (Elt F) f15 y = A.eA y)
    (h16 : ∀ y : S10x256x128.Idx, (y 0).val < k.val → arg16.view.read (Elt F) f16 y = A.mA y) :
    (iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (arg15.view.loc (c : Thread nD τ) ↦[arg15.view.set]{fullShare} f15) ∗ (arg16.view.loc (c : Thread nD τ) ↦[arg16.view.set]{fullShare} f16)) : sProp 𝕄)
      ⊢ wp frame (wpE (defs₀ (F := F)) Variants.none (c : Thread nD τ) none) Set.univ (k0_t3_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 A.tg k (A.st k.val))
          (fun yld => iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (∃ f15 : BufTy.Contents (Elt F) arg15.view.ty, (arg15.view.loc (c : Thread nD τ) ↦[arg15.view.set]{fullShare} f15) ∗ ⌜∀ y : S256x5120.Idx, (y 1).val < 512 * (k.val + 1) → arg15.view.read (Elt F) f15 y = A.eA y⌝)
      ∗ (∃ f16 : BufTy.Contents (Elt F) arg16.view.ty, (arg16.view.loc (c : Thread nD τ) ↦[arg16.view.set]{fullShare} f16) ∗ ⌜∀ y : S10x256x128.Idx, (y 0).val < k.val + 1 → arg16.view.read (Elt F) f16 y = A.mA y⌝)
      ∗ ⌜yld = A.st (k.val + 1)⌝)) := by
  have hk : k.val < 10 := Nat.lt_of_lt_of_le k.isLt k0_t3_abs.2.1
  have hkm : k.val % 10 = k.val := Nat.mod_eq_of_lt hk
  have e4 := View.readAt_full arg4.view X4 (off := ![0, 0]) inb_S256x2560_S256x2560_0_0
  have e12 := View.readAt_unit arg12.view X12 (k0_off65_inb k) (show k0_off65 k = ![512 * (k.val % 10), 0] by rw [hkm]; exact k0_off65_eq k) (inb_rows k.val)
  have e7 := View.readAt_unit arg7.view X7 (k0_off66_inb k) (show k0_off66 k = ![0, 512 * (k.val % 10)] by rw [hkm]; exact k0_off66_eq k) (inb_line k.val)
  have e8 := View.readAt_unit arg8.view X8 (k0_off66_inb k) (show k0_off66 k = ![0, 512 * (k.val % 10)] by rw [hkm]; exact k0_off66_eq k) (inb_line k.val)
  rw [h4] at e4; rw [h12] at e12; rw [h7] at e7; rw [h8] at e8
  unfold k0_t3_body
  iintro ⟨H4, H7, H8, H12, H15, H16⟩
  sl_exec
  sl_step
  isplitl [H4]; · iexact H4
  isplitl [H7]; · iexact H7
  isplitl [H8]; · iexact H8
  isplitl [H12]; · iexact H12
  isplitl [H15]
  · iexists _; isplitl [H15]; · iexact H15
    ipureintro
    exact fun y hy => four_tiles arg15.view f15 A.eA k.val (k0_off67_eq k 0) (k0_off67_eq k 1) (k0_off67_eq k 2) (k0_off67_eq k 3)
      (A.eT k.val 0) (A.eT k.val 1) (A.eT k.val 2) (A.eT k.val 3) (A.eA_at k.val 0 (by decide)) (A.eA_at k.val 1 (by decide)) (A.eA_at k.val 2 (by decide)) (A.eA_at k.val 3 (by decide)) y hy (h15 y)
  isplitl [H16]
  · iexists _; isplitl [H16]; · iexact H16
    ipureintro
    exact one_slab arg16.view f16 A.mA k.val (k0_off68_eq k) (k0_pay32 (A.st (k.val + 1)).1) (A.mA_at k.val) h16
  ipureintro
  rfl

theorem trip_t5 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (A : Arg F) (g l : FVec F S256x1 .f32) (a0 : Vec F S256x2560 .f32) (X12 : BufTy.Contents (Elt F) arg12.view.ty) (X15 : BufTy.Contents (Elt F) arg15.view.ty) (X16 : BufTy.Contents (Elt F) arg16.view.ty)
    (h12 : arg12.view.read (Elt F) X12 = A.w) (h15 : arg15.view.read (Elt F) X15 = A.eA) (h16 : arg16.view.read (Elt F) X16 = A.mA)
    (f10 : BufTy.Contents (Elt F) arg10.view.ty) (f17 : BufTy.Contents (Elt F) arg17.view.ty) (k : Fin k0_t5_loop.trips)
    (h10 : ∀ y : S256x5120.Idx, (y 1).val < 512 * k.val → arg10.view.read (Elt F) f10 y = A.dA g l y)
    (h17 : arg17.view.read (Elt F) f17 = A.ac g l a0 k.val) :
    (iprop((arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16)
      ∗ (arg10.view.loc (c : Thread nD τ) ↦[arg10.view.set]{fullShare} f10) ∗ (arg17.view.loc (c : Thread nD τ) ↦[arg17.view.set]{fullShare} f17)) : sProp 𝕄)
      ⊢ wp frame (wpE (defs₀ (F := F)) Variants.none (c : Thread nD τ) none) Set.univ (k0_t5_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 g l k PUnit.unit)
          (fun _ => iprop((arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16)
      ∗ (∃ f10 : BufTy.Contents (Elt F) arg10.view.ty, (arg10.view.loc (c : Thread nD τ) ↦[arg10.view.set]{fullShare} f10) ∗ ⌜∀ y : S256x5120.Idx, (y 1).val < 512 * (k.val + 1) → arg10.view.read (Elt F) f10 y = A.dA g l y⌝)
      ∗ (∃ f17 : BufTy.Contents (Elt F) arg17.view.ty, (arg17.view.loc (c : Thread nD τ) ↦[arg17.view.set]{fullShare} f17) ∗ ⌜arg17.view.read (Elt F) f17 = A.ac g l a0 (k.val + 1)⌝))) := by
  have hk : k.val < 10 := Nat.lt_of_lt_of_le k.isLt k0_t5_abs.2.1
  have hkm : k.val % 10 = k.val := Nat.mod_eq_of_lt hk
  have e12 := View.readAt_unit arg12.view X12 (k0_off76_inb k) (show k0_off76 k = ![512 * (k.val % 10), 0] by rw [hkm]; exact k0_off76_eq k) (inb_rows k.val)
  have e16 := View.readAt_unit arg16.view X16 (k0_off73_inb k) (show k0_off73 k = ![k.val % 10, 0, 0] by rw [hkm]; exact k0_off73_eq k) (inb_m k.val)
  have e15_0 := View.readAt_unit arg15.view X15 (k0_off74_inb k 0) (show k0_off74 k (BitVec.ofNat 32 (128 * (0 : Fin 4).val)) = ![0, 512 * (k.val % 10) + 128 * (0 % 4)] by rw [hkm]; exact k0_off74_eq k 0) (inb_tile k.val 0)
  have e15_1 := View.readAt_unit arg15.view X15 (k0_off74_inb k 1) (show k0_off74 k (BitVec.ofNat 32 (128 * (1 : Fin 4).val)) = ![0, 512 * (k.val % 10) + 128 * (1 % 4)] by rw [hkm]; exact k0_off74_eq k 1) (inb_tile k.val 1)
  have e15_2 := View.readAt_unit arg15.view X15 (k0_off74_inb k 2) (show k0_off74 k (BitVec.ofNat 32 (128 * (2 : Fin 4).val)) = ![0, 512 * (k.val % 10) + 128 * (2 % 4)] by rw [hkm]; exact k0_off74_eq k 2) (inb_tile k.val 2)
  have e15_3 := View.readAt_unit arg15.view X15 (k0_off74_inb k 3) (show k0_off74 k (BitVec.ofNat 32 (128 * (3 : Fin 4).val)) = ![0, 512 * (k.val % 10) + 128 * (3 % 4)] by rw [hkm]; exact k0_off74_eq k 3) (inb_tile k.val 3)
  have e17 := View.readAt_full arg17.view f17 (off := ![0, 0]) inb_S256x2560_S256x2560_0_0
  rw [h12] at e12; rw [h15] at e15_0 e15_1 e15_2 e15_3; rw [h16] at e16; rw [h17] at e17
  unfold k0_t5_body
  iintro ⟨H12, H15, H16, H10, H17⟩
  sl_exec
  sl_step
  isplitl [H12]; · iexact H12
  isplitl [H15]; · iexact H15
  isplitl [H16]; · iexact H16
  have p10 := fun y hy => four_tiles arg10.view f10 (A.dA g l) k.val (b0 := k0_off74_inb k 0) (b1 := k0_off74_inb k 1) (b2 := k0_off74_inb k 2) (b3 := k0_off74_inb k 3) (k0_off74_eq k 0) (k0_off74_eq k 1) (k0_off74_eq k 2) (k0_off74_eq k 3)
      (A.dT g l k.val 0) (A.dT g l k.val 1) (A.dT g l k.val 2) (A.dT g l k.val 3) (A.dA_at g l k.val 0 (by decide)) (A.dA_at g l k.val 1 (by decide)) (A.dA_at g l k.val 2 (by decide)) (A.dA_at g l k.val 3 (by decide)) y hy (h10 y)
  have p17 := (View.readAt_unit arg10.view (arg10.view.writes (Elt F) arg10.view.junk [⟨Rect.unit (k0_off74 k (BitVec.ofNat 32 (128 * (3 : Fin 4).val))) S256x128.size (k0_off74_inb k 3), A.dT g l k.val 3⟩,
        ⟨Rect.unit (k0_off74 k (BitVec.ofNat 32 (128 * (2 : Fin 4).val))) S256x128.size (k0_off74_inb k 2), A.dT g l k.val 2⟩,
        ⟨Rect.unit (k0_off74 k (BitVec.ofNat 32 (128 * (1 : Fin 4).val))) S256x128.size (k0_off74_inb k 1), A.dT g l k.val 1⟩,
        ⟨Rect.unit (k0_off74 k (BitVec.ofNat 32 (128 * (0 : Fin 4).val))) S256x128.size (k0_off74_inb k 0), A.dT g l k.val 0⟩])
      (k0_off75_inb k) (show k0_off75 k = ![0, 512 * (k.val % 10)] by rw [hkm]; exact k0_off75_eq k) (inb_cols k.val)).trans
    (show _ = VecWindow.window (s := S256x5120) (A.dA g l) ![0, 512 * (k.val % 10)] S256x512.size (inb_cols k.val) from funext fun x => by
      have hx : (x 1).val < 512 := (x 1).isLt
      refine four_tiles arg10.view _ (A.dA g l) k.val (b0 := k0_off74_inb k 0) (b1 := k0_off74_inb k 1) (b2 := k0_off74_inb k 2) (b3 := k0_off74_inb k 3) (k0_off74_eq k 0) (k0_off74_eq k 1) (k0_off74_eq k 2) (k0_off74_eq k 3)
        (A.dT g l k.val 0) (A.dT g l k.val 1) (A.dT g l k.val 2) (A.dT g l k.val 3) (A.dA_at g l k.val 0 (by decide)) (A.dA_at g l k.val 1 (by decide)) (A.dA_at g l k.val 2 (by decide)) (A.dA_at g l k.val 3 (by decide)) _ ?_ ?_
      · show 512 * (k.val % 10) + 1 * (x 1).val < _; omega
      · intro h; exfalso; have h' : 512 * (k.val % 10) + 1 * (x 1).val < 512 * k.val := h; omega)
  isplitl [H10]
  · iexists _; isplitl [H10]; · iexact H10
    ipureintro
    sl_unfold_words
    simp only [e16, e15_0, e15_1, e15_2, e15_3]
    exact p10
  iexists _; isplitl [H17]; · iexact H17
  ipureintro
  sl_unfold_words
  simp only [e16, e15_0, e15_1, e15_2, e15_3, e17, e12]
  refine (View.read_writes_full arg17.view f17 _ _ []).trans ?_
  exact congrArg (fun z => k0_pay3 (A.ac g l a0 k.val) z (wsC A.w k.val)) p17
end T1

end Cert.LogitGrads.Hand

end
-- ==== Proof.LgParts.lean ====
/- The kernel's body cut in three: the first point's work, the next block's issue, the rest. -/
module

public import proofs.«01_k».proof.Proof.Gen.LogitGrads.Frame
public import proofs.«01_k».proof.Proof.Gen.LogitGrads.Skeleton

@[expose] public section

set_option maxRecDepth 8192
set_option maxHeartbeats 4000000

noncomputable section

namespace Cert.LogitGrads.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGrads.Gen

variable {F : FTy → Type} [FloatOps F]

/-- The resource algebra: the frame kit's with counters. -/
local notation "𝕄" => MT nD τ sig Unit (Elt F) ℕ (Pipeline.UD sig nD τ) ℕ

/-- The first point's work: the weights fetched, the expansion matrix made, block 0's rows issued. -/
def headA (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) PUnit := do
  let arg0 : BitVec 32 := BitVec.ofNat 32 (i 0).val
  if k0_h1 : k0_cond1 i = 1#1 then do
    Prog.lift (.enqueueDma arg3 (.here arg12) (.dma arg18.sem) harg3.wordExact harg12.wordExact ⟨Or.inl rfl, trivial⟩)
    let v116 : Vec F S80x2560 .bf16 ← Prog.lift (.load arg14 (Rect.unit (s := S80x2560) ![0, 0] S80x2560.size inb_S80x2560_S80x2560_0_0).toLoadRect (View.loadsAt_vmem h_S80x2560))
    Prog.lift (.store arg14 (Rect.unit (s := S80x2560) ![0, 0] S80x2560.size inb_S80x2560_S80x2560_0_0) (k0_pay19 (F := F)) Finset.univ (View.stores_vmem h_S80x2560 (harg14.storeExact_slice rfl _ packedbf16_S80x2560_S80x2560_0_0) (fun _ => rfl)) (.inl rfl))
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 k0_h1)
    Prog.lift (.waitDma2 arg18.sem arg3 arg12 harg3.wordExact harg12.wordExact)
    pure ⟨⟩
  else do
    pure ⟨⟩

/-- The next block's rows issued, if there is a next block. -/
def headB (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) PUnit := do
  let arg0 : BitVec 32 := BitVec.ofNat 32 (i 0).val
  if k0_h2 : k0_cond2 i = 1#1 then do
    let v85 : BitVec 32 := Scalar.addi arg0 1#32
    let v86 : BitVec 32 := Scalar.muli v85 256#32
    Scf.Loop.for k0_t2_loop (k0_t2_ok i k0_h2) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 k0_h2 v86)
    pure ⟨⟩
  else do
    pure ⟨⟩

/-- The forward pass over the chunks and the drain of this block's rows. -/
def partC (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) (Σ' (v11 : FVec F S256x1 .f32) (v13 : FVec F S256x1 .f32) (v16 : IVec S256x1 32) (v20_0 : FVec F S256x128 .f32) (v20_1 : FVec F S256x128 .f32) (v24 : IVec S256x2560 32), Vec F S80x256 .f32) := do
  let v8 : Vec F S256x1 .f32 ← Prog.lift (.load arg5 (Rect.unit (s := S256x4) ![0, 0] S256x1.size inb_S256x4_S256x1_0_0).toLoadRect (View.loadsAt_vmem h_S256x1))
  let v10 : Vec F S256x1 .f32 ← Prog.lift (.load arg5 (Rect.unit (s := S256x4) ![0, 1] S256x1.size inb_S256x4_S256x1_0_1).toLoadRect (View.loadsAt_vmem h_S256x1))
  let v12 : Vec F S256x1 .f32 ← Prog.lift (.load arg5 (Rect.unit (s := S256x4) ![0, 2] S256x1.size inb_S256x4_S256x1_0_2).toLoadRect (View.loadsAt_vmem h_S256x1))
  let v14 : Vec F S256x1 .f32 ← Prog.lift (.load arg5 (Rect.unit (s := S256x4) ![0, 3] S256x1.size inb_S256x4_S256x1_0_3).toLoadRect (View.loadsAt_vmem h_S256x1))
  let (v20_0, v20_1) ← Scf.Loop.for k0_t3_loop k0_t3_ok (k0_pay24 (F := F), k0_pay25 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v8)
  Scf.Loop.for k0_t4_loop k0_t4_ok ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19)
  let v23 : Vec F S1x256x2560 .i32 ← Prog.lift (.load arg13 (Rect.unit (s := S2x256x2560) (k0_off72 i) S1x256x2560.size (k0_off72_inb i)).toLoadRect (View.loadsAt_vmem h_S1x256x2560))
  let v25 : Vec F S80x256 .f32 ← Prog.lift (.load arg6 (Rect.unit (s := S80x256) ![0, 0] S80x256.size inb_S80x256_S80x256_0_0).toLoadRect (View.loadsAt_vmem h_S80x256))
  pure ⟨k0_pay21 v10, k0_pay22 v12, k0_pay23 v14, v20_0, v20_1, k0_pay33 v23, v25⟩

/-- The rest of the body. -/
def tailC (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) PUnit := do
  let ⟨v11, v13, v16, v20_0, v20_1, v24, v25⟩ : Σ' (v11 : FVec F S256x1 .f32) (v13 : FVec F S256x1 .f32) (v16 : IVec S256x1 32) (v20_0 : FVec F S256x128 .f32) (v20_1 : FVec F S256x128 .f32) (v24 : IVec S256x2560 32), Vec F S80x256 .f32 ← partC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
  let ⟨v36, v60, v65, v74⟩ : Σ' (v36 : FVec F S256x2560 .f32) (v60 : FVec F S256x1 .f32) (v65 : FVec F S256x1 .f32), FVec F S256x128 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v11 v13 v16 v20_0 v20_1 v24 v25
  let v75 : Vec F S256x128 .f32 ← Prog.lift (.load arg11 (Rect.unit (s := S256x128) ![0, 0] S256x128.size inb_S256x128_S256x128_0_0).toLoadRect (View.loadsAt_vmem h_S256x128))
  Prog.lift (.store arg11 (Rect.unit (s := S256x128) ![0, 0] S256x128.size inb_S256x128_S256x128_0_0) v74 Finset.univ (View.stores_vmem_bits_univ h_S256x128 rfl) (.inl rfl))
  let v78 : Vec F S256x2560 .f32 ← Prog.lift (.load arg17 (Rect.unit (s := S256x2560) ![0, 0] S256x2560.size inb_S256x2560_S256x2560_0_0).toLoadRect (View.loadsAt_vmem h_S256x2560))
  Prog.lift (.store arg17 (Rect.unit (s := S256x2560) ![0, 0] S256x2560.size inb_S256x2560_S256x2560_0_0) (k0_pay1 v36 v65) Finset.univ (View.stores_vmem_bits_univ h_S256x2560 rfl) (.inl rfl))
  Scf.Loop.for k0_t5_loop k0_t5_ok ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v13 v60)
  let v82 : Vec F S256x2560 .f32 ← Prog.lift (.load arg17 (Rect.unit (s := S256x2560) ![0, 0] S256x2560.size inb_S256x2560_S256x2560_0_0).toLoadRect (View.loadsAt_vmem h_S256x2560))
  let v84 : Vec F S256x2560 .bf16 ← Prog.lift (.load arg9 (Rect.unit (s := S256x2560) ![0, 0] S256x2560.size inb_S256x2560_S256x2560_0_0).toLoadRect (View.loadsAt_vmem h_S256x2560))
  Prog.lift (.store arg9 (Rect.unit (s := S256x2560) ![0, 0] S256x2560.size inb_S256x2560_S256x2560_0_0) (k0_pay4 v82) Finset.univ (View.stores_vmem h_S256x2560 (harg9.storeExact_slice rfl _ packedbf16_S256x2560_S256x2560_0_0) (fun _ => rfl)) (.inl rfl))
  pure ⟨⟩

theorem part7_split : k0_part7_skel (F := F) = fun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 => headA (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => headB (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => partC (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 := by
  funext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
  unfold k0_part7_skel headA headB partC
  by_cases h1 : k0_cond1 i = 1#1 <;> by_cases h2 : k0_cond2 i = 1#1
  all_goals simp only [h1, h2, dif_pos, dif_neg, ↓reduceDIte, Prog.bind_assoc, Prog.pure_eq_ret, Prog.bind_ret, not_false_eq_true]
theorem body_split : cc0_logit_grads (F := F) = fun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 => headA (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => headB (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => tailC (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 := by
  rw [cc0_logit_grads_eq_skeleton]
  funext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
  unfold cc0_logit_grads_skel tailC
  rw [k0_part7_eq_skeleton, part7_split]
  simp only [Prog.bind_assoc]

end Cert.LogitGrads.Hand
end
-- ==== Proof.LgBody.lean ====
/- The kernel's body on whole staging buffers: one block of 256 rows. -/
module

public import proofs.«01_k».proof.Proof.LgGather
public import proofs.«01_k».proof.Proof.LgChunks
public import proofs.«01_k».proof.Proof.LgParts

@[expose] public section

set_option maxRecDepth 8192
set_option maxHeartbeats 4000000

noncomputable section

namespace Cert.LogitGrads.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGrads.Gen

variable {F : FTy → Type} [FloatOps F]

/-- The resource algebra: the frame kit's with counters. -/
local notation "𝕄" => MT nD τ sig Unit (Elt F) ℕ (Pipeline.UD sig nD τ) ℕ

/-- What slot `s` is in before point `t`: at the first point nothing is in flight, after it block `t`'s rows are. -/
def slotAt (c : Dev nD) (s : ℕ) (T : BufTy.Contents (Elt F) tabW.view.ty) (q : PosShare TreeShare) (W : ℕ → ℕ) (b : Prop) [Decidable b] : sProp 𝕄 :=
  if b then issuing (F := F) c s T q W 256 else free (F := F) c s T q

section T1
variable (c : Dev nD) (i : grid0.Coords)

theorem cond1_iff : Iff (k0_cond1 i = 1#1) ((i 0).val = 0) := by
  have h : ∀ t : Fin 24, Iff (Scalar.cmpi .ne (Scalar.extui (Scalar.cmpi .eq (BitVec.ofNat 32 t.val) 0#32) : BitVec 32) 0#32 = 1#1) (t.val = 0) := by decide +kernel
  exact h (i 0)
theorem cond2_iff : Iff (k0_cond2 i = 1#1) ((i 0).val + 1 < 24) := by
  have h : ∀ t : Fin 24, Iff (Scalar.cmpi .ne (Scalar.extui (Scalar.cmpi .slt (Scalar.addi (BitVec.ofNat 32 t.val) 1#32) 24#32) : BitVec 32) 0#32 = 1#1) (t.val + 1 < 24) := by decide +kernel
  exact h (i 0)

/-- The first point's work, or none: after it the weights and the expansion matrix are in place and this block's rows are in flight. -/
theorem head_A (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (X : BufTy.Contents (Elt F) arg1.view.ty) (X3 : BufTy.Contents (Elt F) arg3.view.ty)
    (hX : ∀ n < 6144, wrow arg1 X n < 12576) (T : BufTy.Contents (Elt F) tabW.view.ty) (q : PosShare TreeShare) (W : ℕ → ℕ)
    (hW : (i 0).val = 0 → W = fun r => wrow arg1 X r)
    (f12 : BufTy.Contents (Elt F) arg12.view.ty) (f14 : BufTy.Contents (Elt F) arg14.view.ty)
    (h12 : (i 0).val ≠ 0 → arg12.view.read (Elt F) f12 = arg3.view.read (Elt F) X3) (h14 : (i 0).val ≠ 0 → arg14.view.read (Elt F) f14 = k0_pay19 (F := F)) (S : Waits sig Unit) :
    (iprop((arg1.view.loc (c : Thread nD τ) ↦[arg1.view.set]{fullShare} X) ∗ (arg3.view.loc (c : Thread nD τ) ↦[arg3.view.set]{fullShare} X3)
      ∗ (arg12.view.loc (c : Thread nD τ) ↦[arg12.view.set]{fullShare} f12) ∗ (arg14.view.loc (c : Thread nD τ) ↦[arg14.view.set]{fullShare} f14)
      ∗ semVal ((c : Thread nD τ), SemLoc.dma arg18.sem) 0 ∗ owes (c : Thread nD τ) 0 S
      ∗ slotAt (F := F) c ((i 0).val % 2) T q W ((i 0).val ≠ 0)) : sProp 𝕄)
      ⊢ wp frame (wpE (defs₀ (F := F)) Variants.none (c : Thread nD τ) none) Set.univ (headA (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg1.view.loc (c : Thread nD τ) ↦[arg1.view.set]{fullShare} X) ∗ (arg3.view.loc (c : Thread nD τ) ↦[arg3.view.set]{fullShare} X3)
      ∗ (∃ f12 : BufTy.Contents (Elt F) arg12.view.ty, (arg12.view.loc (c : Thread nD τ) ↦[arg12.view.set]{fullShare} f12) ∗ ⌜arg12.view.read (Elt F) f12 = arg3.view.read (Elt F) X3⌝)
      ∗ (∃ f14 : BufTy.Contents (Elt F) arg14.view.ty, (arg14.view.loc (c : Thread nD τ) ↦[arg14.view.set]{fullShare} f14) ∗ ⌜arg14.view.read (Elt F) f14 = k0_pay19 (F := F)⌝)
      ∗ semVal ((c : Thread nD τ), SemLoc.dma arg18.sem) 0 ∗ (∃ S : Waits sig Unit, owes (c : Thread nD τ) 0 S)
      ∗ issuing (F := F) c ((i 0).val % 2) T q W 256)) := by
  unfold headA slotAt
  by_cases hi : (i 0).val = 0
  · have hc : k0_cond1 i = 1#1 := (cond1_iff i).2 hi
    rw [dif_pos hc, if_neg (not_not.mpr hi), hi, Nat.zero_mod]
    obtain rfl := hW hi
    iintro ⟨H1, H3, H12, H14, HS, HO, HT⟩
    imod (issue_start (F := F) c 0 T q (fun r => wrow arg1 X r)) $$ HT with HI
    sl_exec
    sl_for (fun (k : ℕ) (_ : PUnit) => iprop((arg1.view.loc (c : Thread nD τ) ↦[arg1.view.set]{fullShare} X) ∗ issuing (F := F) c 0 T q (fun r => wrow arg1 X r) (8 * k))) $$ [H1 HI]
    · intro k _
      exact trip_t1 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 hc X hX T q k
    · isplitl [H1]; · iexact H1
      iexact HI
    iintro %acc ⟨H1, HI⟩
    sl_exec
    sl_step
    isplitl [H1]; · iexact H1
    isplitl [H3]; · iexact H3
    isplitl [H12]
    · iexists _; isplitl [H12]; · iexact H12
      ipureintro
      sl_unfold_words
      exact View.read_writes_full arg12.view f12 _ _ []
    isplitl [H14]
    · iexists _; isplitl [H14]; · iexact H14
      ipureintro
      sl_unfold_words
      exact View.read_writes_full arg14.view _ _ _ []
    isplitl [HS]; · iexact HS
    isplitl [HO]; · iexists _; iexact HO
    iexact HI
  · have hc : ¬ k0_cond1 i = 1#1 := fun h => hi ((cond1_iff i).1 h)
    rw [dif_neg hc, if_pos hi]
    iintro ⟨H1, H3, H12, H14, HS, HO, HT⟩
    sl_step
    isplitl [H1]; · iexact H1
    isplitl [H3]; · iexact H3
    isplitl [H12]; · iexists f12; isplitl [H12]; · iexact H12
                     ipureintro; exact h12 hi
    isplitl [H14]; · iexists f14; isplitl [H14]; · iexact H14
                     ipureintro; exact h14 hi
    isplitl [HS]; · iexact HS
    isplitl [HO]; · iexists S; iexact HO
    iexact HT

/-- The next block's rows issued, when there is a next block. -/
theorem head_B (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (X : BufTy.Contents (Elt F) arg1.view.ty)
    (hX : ∀ n < 6144, wrow arg1 X n < 12576) (T : BufTy.Contents (Elt F) tabW.view.ty) (q : PosShare TreeShare) :
    (iprop((arg1.view.loc (c : Thread nD τ) ↦[arg1.view.set]{fullShare} X) ∗ free (F := F) c (1 - (i 0).val % 2) T q) : sProp 𝕄)
      ⊢ wp frame (wpE (defs₀ (F := F)) Variants.none (c : Thread nD τ) none) Set.univ (headB (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg1.view.loc (c : Thread nD τ) ↦[arg1.view.set]{fullShare} X)
            ∗ slotAt (F := F) c (1 - (i 0).val % 2) T q (fun r => wrow arg1 X (256 * ((i 0).val + 1) + r)) ((i 0).val + 1 < 24))) := by
  unfold headB slotAt
  by_cases hi : (i 0).val + 1 < 24
  · have hc : k0_cond2 i = 1#1 := (cond2_iff i).2 hi
    simp only [hc, hi, ↓reduceDIte, ↓reduceIte]
    iintro ⟨H1, HT⟩
    imod (issue_start (F := F) c (1 - (i 0).val % 2) T q (fun r => wrow arg1 X (256 * ((i 0).val + 1) + r))) $$ HT with HI
    sl_exec
    sl_for (fun (k : ℕ) (_ : PUnit) => iprop((arg1.view.loc (c : Thread nD τ) ↦[arg1.view.set]{fullShare} X) ∗ issuing (F := F) c (1 - (i 0).val % 2) T q (fun r => wrow arg1 X (256 * ((i 0).val + 1) + r)) (8 * k))) $$ [H1 HI]
    · intro k _
      exact trip_t2 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 hc _ hi X hX T q k
    · isplitl [H1]; · iexact H1
      iexact HI
    iintro %acc ⟨H1, HI⟩
    sl_exec
    sl_step
    isplitl [H1]; · iexact H1
    iexact HI
  · have hc : ¬ k0_cond2 i = 1#1 := fun h => hi ((cond2_iff i).1 h)
    simp only [hc, hi, ↓reduceDIte, ↓reduceIte]
    iintro ⟨H1, HT⟩
    sl_step
    isplitl [H1]; · iexact H1
    iexact HT

/-- A block's gathered words as the body reads them. -/
def wordsV (T : BufTy.Contents (Elt F) tabW.view.ty) (W : ℕ → ℕ) : Vec F S1x256x2560 .i32 :=
  fun x => T (tix (W ((x : S1x256x2560.Idx) 1).val) ((x : S1x256x2560.Idx) 2))

theorem slot_load (s : ℕ) {off : Fin 3 → ℕ} {h} (ho : off = ![s, 0, 0]) :
    bufW.view.setOn (Rect.unit (s := S2x256x2560) off S1x256x2560.size h).toLoadRect.set ⊆ slotSet c s := by
  subst ho
  intro x hx
  obtain ⟨y, hy, rfl⟩ := Finset.mem_map.mp hx
  have h1 := (Rect.mem_set_unit.mp hy) 0
  refine Finset.mem_filter.mpr ⟨Finset.mem_univ _, ?_⟩
  have h2 : s ≤ (y 0).val ∧ (y 0).val < s + 1 := h1
  show (y 0).val = s
  omega

theorem words_load (T : BufTy.Contents (Elt F) tabW.view.ty) (W : ℕ → ℕ) (s : ℕ) {off : Fin 3 → ℕ} {h} (ho : off = ![s, 0, 0]) :
    View.readAt (Elt F) bufW.view (Rect.unit (s := S2x256x2560) off S1x256x2560.size h).toLoadRect (gath T W) = wordsV T W := by
  subst ho
  funext x
  show T (tix (W (0 + 1 * (x 1).val)) _) = T (tix (W (x 1).val) (x 2))
  congr 2
  · congr 1; omega
  · apply Fin.ext; show 0 + 1 * (x 2).val = (x 2).val; omega

/-- The load of a block's gathered words. -/
theorem load_words (c : Dev nD) (bd : Option Variants.none.V) (T : BufTy.Contents (Elt F) tabW.view.ty) (W : ℕ → ℕ) (s : ℕ) {off : Fin 3 → ℕ} {h} (ho : off = ![s, 0, 0])
    {hl} {α : Type} {Q : α → sProp 𝕄} {k : Vec F S1x256x2560 .i32 → Prog (TpuEff nD τ sig (Elt F) Λ₀ (c : Thread nD τ).2) α} :
    (iprop(bufW.view.loc (c : Thread nD τ) ↦[slotSet c s]{fullShare} (gath T W : Buf (Elt F) _)) : sProp 𝕄)
      ⊢ iprop(((bufW.view.loc (c : Thread nD τ) ↦[slotSet c s]{fullShare} (gath T W : Buf (Elt F) _)) -∗ wp frame (wpE (defs₀ (F := F)) Variants.none (c : Thread nD τ) bd) Set.univ (k (wordsV T W)) Q)
        -∗ wp frame (wpE (defs₀ (F := F)) Variants.none (c : Thread nD τ) bd) Set.univ
          (Prog.lift (.load bufW (Rect.unit (s := S2x256x2560) off S1x256x2560.size h).toLoadRect hl) >>= k) Q) := by
  rw [← words_load T W s (h := h) ho]
  exact wp_load Variants.none (c : Thread nD τ) bd Set.univ (slot_load c s (h := h) ho)

/-- What one block of tokens is given, whole. -/
structure Inp (F : FTy → Type) [FloatOps F] where
  x : Vec F S256x2560 .bf16
  w : Vec F S5120x2560 .bf16
  lq : Vec F S1x5120 .f32
  sid : Vec F S1x5120 .f32
  cols : Vec F S256x4 .f32
  sc : Vec F S80x256 .f32
  wd : Vec F S1x256x2560 .i32

namespace Inp
variable (I : Inp F)
/-- Column `k` of the block's four. -/
def c0 : Vec F S256x1 .f32 := VecWindow.window (s := S256x4) I.cols ![0, 0] S256x1.size inb_S256x4_S256x1_0_0
def c1 : Vec F S256x1 .f32 := VecWindow.window (s := S256x4) I.cols ![0, 1] S256x1.size inb_S256x4_S256x1_0_1
def c2 : Vec F S256x1 .f32 := VecWindow.window (s := S256x4) I.cols ![0, 2] S256x1.size inb_S256x4_S256x1_0_2
def c3 : Vec F S256x1 .f32 := VecWindow.window (s := S256x4) I.cols ![0, 3] S256x1.size inb_S256x4_S256x1_0_3
/-- What the chunks are given. -/
def arg : Arg F := ⟨I.x, I.w, I.lq, I.sid, I.c0⟩
/-- The log-sum of the block. -/
def lse : FVec F S256x1 .f32 := k0_pay36 (k0_pay21 I.c1) (k0_pay23 I.c3) (I.arg.st 10).1 (I.arg.st 10).2 (k0_pay33 I.wd) I.sc (k0_pay19 (F := F)) I.x
/-- The gradient of the targets' logits. -/
def dzt : FVec F S256x1 .f32 := k0_pay37 (k0_pay21 I.c1) (k0_pay22 I.c2) (k0_pay23 I.c3) (I.arg.st 10).1 (I.arg.st 10).2 (k0_pay33 I.wd) I.sc (k0_pay19 (F := F)) I.x
/-- The loss and that gradient, a lane each. -/
def stat : FVec F S256x128 .f32 := k0_pay38 (k0_pay21 I.c1) (k0_pay22 I.c2) (k0_pay23 I.c3) (I.arg.st 10).1 (I.arg.st 10).2 (k0_pay33 I.wd) I.sc (k0_pay19 (F := F)) I.x
/-- The gradient of the negatives' logits. -/
def dz : Vec F S256x5120 .bf16 := I.arg.dA (k0_pay22 I.c2) I.lse
/-- The gradient of the hidden rows. -/
def dh : Vec F S256x2560 .bf16 := k0_pay4 (I.arg.ac (k0_pay22 I.c2) I.lse (k0_pay1 (k0_pay34 (k0_pay23 I.c3) (k0_pay33 I.wd) I.sc (k0_pay19 (F := F))) I.dzt) 10)
end Inp

theorem trips_t3 : k0_t3_loop.trips = 10 := by decide +kernel
theorem trips_t5 : k0_t5_loop.trips = 10 := by decide +kernel

theorem full15 {A : Arg F} {r : Vec F S256x5120 .f32} (h : ∀ y : S256x5120.Idx, (y 1).val < 512 * k0_t3_loop.trips → r y = A.eA y) : r = A.eA := by
  rw [trips_t3] at h
  funext y
  have hy : (y 1).val < 5120 := (y 1).isLt
  exact h y (by omega)

theorem full16 {A : Arg F} {r : Vec F S10x256x128 .f32} (h : ∀ y : S10x256x128.Idx, (y 0).val < k0_t3_loop.trips → r y = A.mA y) : r = A.mA := by
  rw [trips_t3] at h
  funext y
  have hy : (y 0).val < 10 := (y 0).isLt
  exact h y hy

theorem full10 {A : Arg F} {g l : FVec F S256x1 .f32} {r : Vec F S256x5120 .bf16} (h : ∀ y : S256x5120.Idx, (y 1).val < 512 * k0_t5_loop.trips → r y = A.dA g l y) : r = A.dA g l := by
  rw [trips_t5] at h
  funext y
  have hy : (y 1).val < 5120 := (y 1).isLt
  exact h y (by omega)

theorem stDone {A : Arg F} {acc : FVec F S256x128 .f32 × FVec F S256x128 .f32} (h : acc = A.st k0_t3_loop.trips) : acc = A.st 10 := by
  rwa [trips_t3] at h

theorem acDone {A : Arg F} {g l : FVec F S256x1 .f32} {a0 r : Vec F S256x2560 .f32} (h : r = A.ac g l a0 k0_t5_loop.trips) : r = A.ac g l a0 10 := by
  rwa [trips_t5] at h

/-- All rows waited for. -/
theorem drained (c : Dev nD) (s : ℕ) (T : BufTy.Contents (Elt F) tabW.view.ty) (q : PosShare TreeShare) (W : ℕ → ℕ) :
    draining (F := F) c s T q W k0_t4_loop.trips ⊢ iprop((∃ S : Waits sig Unit, owes (c : Thread nD τ) 0 S) ∗ semVal ((c : Thread nD τ), SemLoc.dma (gs s)) 0
        ∗ (bufW.view.loc (c : Thread nD τ) ↦[slotSet c s]{fullShare} (gath T W : Buf (Elt F) _)) ∗ (tabW.view.loc (c : Thread nD τ) ↦{q} (T : Buf (Elt F) _))) := by
  rw [trips_t4]
  unfold draining
  rw [if_neg (by decide)]

/-- The chunks' first pass and the wait for the rows. -/
theorem part_C (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (I : Inp F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (X12 : BufTy.Contents (Elt F) arg12.view.ty)
    (h4 : arg4.view.read (Elt F) X4 = I.x) (h5 : arg5.view.read (Elt F) X5 = I.cols) (h6 : arg6.view.read (Elt F) X6 = I.sc) (h7 : arg7.view.read (Elt F) X7 = I.lq) (h8 : arg8.view.read (Elt F) X8 = I.sid)
    (h12 : arg12.view.read (Elt F) X12 = I.w)
    (f15 : BufTy.Contents (Elt F) arg15.view.ty) (f16 : BufTy.Contents (Elt F) arg16.view.ty)
    (T : BufTy.Contents (Elt F) tabW.view.ty) (q : PosShare TreeShare) (W : ℕ → ℕ) (hI : I.wd = wordsV T W) (S : Waits sig Unit) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12) ∗ (arg15.view.loc (c : Thread nD τ) ↦[arg15.view.set]{fullShare} f15) ∗ (arg16.view.loc (c : Thread nD τ) ↦[arg16.view.set]{fullShare} f16) ∗ owes (c : Thread nD τ) 0 S ∗ issuing (F := F) c ((i 0).val % 2) T q W 256) : sProp 𝕄)
      ⊢ wp frame (wpE (defs₀ (F := F)) Variants.none (c : Thread nD τ) none) Set.univ (partC (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun r => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (∃ f15 : BufTy.Contents (Elt F) arg15.view.ty, (arg15.view.loc (c : Thread nD τ) ↦[arg15.view.set]{fullShare} f15) ∗ ⌜arg15.view.read (Elt F) f15 = I.arg.eA⌝)
      ∗ (∃ f16 : BufTy.Contents (Elt F) arg16.view.ty, (arg16.view.loc (c : Thread nD τ) ↦[arg16.view.set]{fullShare} f16) ∗ ⌜arg16.view.read (Elt F) f16 = I.arg.mA⌝)
      ∗ (∃ S : Waits sig Unit, owes (c : Thread nD τ) 0 S) ∗ free (F := F) c ((i 0).val % 2) T q
      ∗ ⌜r = ⟨k0_pay21 I.c1, k0_pay22 I.c2, k0_pay23 I.c3, (I.arg.st 10).1, (I.arg.st 10).2, k0_pay33 I.wd, I.sc⟩⌝)) := by
  have e5_0 := View.readAt_unit arg5.view X5 inb_S256x4_S256x1_0_0 rfl inb_S256x4_S256x1_0_0
  have e5_1 := View.readAt_unit arg5.view X5 inb_S256x4_S256x1_0_1 rfl inb_S256x4_S256x1_0_1
  have e5_2 := View.readAt_unit arg5.view X5 inb_S256x4_S256x1_0_2 rfl inb_S256x4_S256x1_0_2
  have e5_3 := View.readAt_unit arg5.view X5 inb_S256x4_S256x1_0_3 rfl inb_S256x4_S256x1_0_3
  have e6 := View.readAt_full arg6.view X6 (off := ![0, 0]) inb_S80x256_S80x256_0_0
  rw [h5] at e5_0 e5_1 e5_2 e5_3; rw [h6] at e6
  unfold partC
  iintro ⟨H4, H5, H6, H7, H8, H12, H15, H16, HO, HI⟩
  sl_exec
  sl_for (fun (k : ℕ) (acc : FVec F S256x128 .f32 × FVec F S256x128 .f32) => iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (∃ f15 : BufTy.Contents (Elt F) arg15.view.ty, (arg15.view.loc (c : Thread nD τ) ↦[arg15.view.set]{fullShare} f15) ∗ ⌜∀ y : S256x5120.Idx, (y 1).val < 512 * k → arg15.view.read (Elt F) f15 y = I.arg.eA y⌝)
      ∗ (∃ f16 : BufTy.Contents (Elt F) arg16.view.ty, (arg16.view.loc (c : Thread nD τ) ↦[arg16.view.set]{fullShare} f16) ∗ ⌜∀ y : S10x256x128.Idx, (y 0).val < k → arg16.view.read (Elt F) f16 y = I.arg.mA y⌝)
      ∗ ⌜acc = I.arg.st k⌝)) $$ [H4 H7 H8 H12 H15 H16]
  · intro k acc
    iintro ⟨H4, H7, H8, H12, ⟨%f15, H15, %h15⟩, ⟨%f16, H16, %h16⟩, %hacc⟩
    subst hacc
    iapply (trip_t3 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I.arg X4 X7 X8 X12 h4 h7 h8 h12 f15 f16 k h15 h16)
    isplitl [H4]; · iexact H4
    isplitl [H7]; · iexact H7
    isplitl [H8]; · iexact H8
    isplitl [H12]; · iexact H12
    isplitl [H15]; · iexact H15
    iexact H16
  · isplitl [H4]; · iexact H4
    isplitl [H7]; · iexact H7
    isplitl [H8]; · iexact H8
    isplitl [H12]; · iexact H12
    isplitl [H15]
    · iexists f15; isplitl [H15]; · iexact H15
      ipureintro; intro y hy; omega
    isplitl [H16]
    · iexists f16; isplitl [H16]; · iexact H16
      ipureintro; intro y hy; omega
    ipureintro; rfl
  iintro %acc ⟨H4, H7, H8, H12, ⟨%g15, H15, %h15⟩, ⟨%g16, H16, %h16⟩, %hacc⟩
  replace h15 := full15 h15
  replace h16 := full16 h16
  replace hacc := stDone hacc
  obtain ⟨acc0, acc1⟩ := acc
  ihave HD := (drain_start (F := F) c ((i 0).val % 2) T q W S) $$ [HO HI]
  · isplitl [HO]; · iexact HO
    iexact HI
  sl_exec
  sl_for (fun (k : ℕ) (_ : PUnit) => draining (F := F) c ((i 0).val % 2) T q W k) $$ [HD]
  · intro k _
    exact trip_t4 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 rfl T q W k
  · iexact HD
  iintro %acc HD
  ihave HD := (drained c ((i 0).val % 2) T q W) $$ HD
  icases HD with ⟨HO, Hsem, Hbuf, Htab⟩
  iapply (load_words c none T W ((i 0).val % 2) (k0_off72_eq i)) $$ Hbuf
  iintro Hbuf
  sl_exec
  sl_step
  isplitl [H4]; · iexact H4
  isplitl [H5]; · iexact H5
  isplitl [H6]; · iexact H6
  isplitl [H7]; · iexact H7
  isplitl [H8]; · iexact H8
  isplitl [H12]; · iexact H12
  isplitl [H15]
  · iexists g15; isplitl [H15]; · iexact H15
    ipureintro; exact h15
  isplitl [H16]
  · iexists g16; isplitl [H16]; · iexact H16
    ipureintro; exact h16
  isplitl [HO]; · iexact HO
  unfold free
  isplitl [Hsem Hbuf Htab]
  · isplitl [Hsem]; · iexact Hsem
    isplitl [Hbuf]; · iexists _; iexact Hbuf
    iexact Htab
  ipureintro
  rw [← hacc, hI]
  rfl

/-- Where the way back starts. -/
def Inp.a0 (I : Inp F) : Vec F S256x2560 .f32 := k0_pay1 (k0_pay34 (k0_pay23 I.c3) (k0_pay33 I.wd) I.sc (k0_pay19 (F := F))) I.dzt

/-- The rest of the body: the outputs as functions of what the block is given. -/
theorem tail_C (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (I : Inp F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (X12 : BufTy.Contents (Elt F) arg12.view.ty) (X14 : BufTy.Contents (Elt F) arg14.view.ty)
    (h4 : arg4.view.read (Elt F) X4 = I.x) (h5 : arg5.view.read (Elt F) X5 = I.cols) (h6 : arg6.view.read (Elt F) X6 = I.sc) (h7 : arg7.view.read (Elt F) X7 = I.lq) (h8 : arg8.view.read (Elt F) X8 = I.sid)
    (h12 : arg12.view.read (Elt F) X12 = I.w) (h14 : arg14.view.read (Elt F) X14 = k0_pay19 (F := F))
    (f9 : BufTy.Contents (Elt F) arg9.view.ty) (f10 : BufTy.Contents (Elt F) arg10.view.ty) (f11 : BufTy.Contents (Elt F) arg11.view.ty)
    (f15 : BufTy.Contents (Elt F) arg15.view.ty) (f16 : BufTy.Contents (Elt F) arg16.view.ty) (f17 : BufTy.Contents (Elt F) arg17.view.ty)
    (T : BufTy.Contents (Elt F) tabW.view.ty) (q : PosShare TreeShare) (W : ℕ → ℕ) (hI : I.wd = wordsV T W) (S : Waits sig Unit) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg12.view.loc (c : Thread nD τ) ↦[arg12.view.set]{fullShare} X12) ∗ (arg14.view.loc (c : Thread nD τ) ↦[arg14.view.set]{fullShare} X14)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ owes (c : Thread nD τ) 0 S ∗ issuing (F := F) c ((i 0).val % 2) T q W 256) : sProp 𝕄)
      ⊢ wp frame (wpE (defs₀ (F := F)) Variants.none (c : Thread nD τ) none) Set.univ (tailC (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg12.view.loc (c : Thread nD τ) ↦[arg12.view.set]{fullShare} X12) ∗ (arg14.view.loc (c : Thread nD τ) ↦[arg14.view.set]{fullShare} X14)
      ∗ (∃ f : BufTy.Contents (Elt F) arg9.view.ty, (arg9.view.loc (c : Thread nD τ) ↦[arg9.view.set]{fullShare} f) ∗ ⌜arg9.view.read (Elt F) f = I.dh⌝)
      ∗ (∃ f : BufTy.Contents (Elt F) arg10.view.ty, (arg10.view.loc (c : Thread nD τ) ↦[arg10.view.set]{fullShare} f) ∗ ⌜arg10.view.read (Elt F) f = I.dz⌝)
      ∗ (∃ f : BufTy.Contents (Elt F) arg11.view.ty, (arg11.view.loc (c : Thread nD τ) ↦[arg11.view.set]{fullShare} f) ∗ ⌜arg11.view.read (Elt F) f = I.stat⌝)
      ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))
      ∗ (∃ S : Waits sig Unit, owes (c : Thread nD τ) 0 S) ∗ free (F := F) c ((i 0).val % 2) T q)) := by
  have e14 := View.readAt_full arg14.view X14 (off := ![0, 0]) inb_S80x2560_S80x2560_0_0
  have e4 := View.readAt_full arg4.view X4 (off := ![0, 0]) inb_S256x2560_S256x2560_0_0
  rw [h14] at e14; rw [h4] at e4
  unfold tailC
  rw [wp_bind]
  iintro ⟨H4, H5, H6, H7, H8, H12, H14, H9, H10, H11, H15, H16, H17, HO, HI⟩
  iapply (wp_wand_r _ _ _)
  isplitl [H4 H5 H6 H7 H8 H12 H15 H16 HO HI]
  · iapply (part_C c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I X4 X5 X6 X7 X8 X12 h4 h5 h6 h7 h8 h12 f15 f16 T q W hI S)
    isplitl [H4]; · iexact H4
    isplitl [H5]; · iexact H5
    isplitl [H6]; · iexact H6
    isplitl [H7]; · iexact H7
    isplitl [H8]; · iexact H8
    isplitl [H12]; · iexact H12
    isplitl [H15]; · iexact H15
    isplitl [H16]; · iexact H16
    isplitl [HO]; · iexact HO
    iexact HI
  iintro %r ⟨H4, H5, H6, H7, H8, H12, ⟨%g15, H15, %h15⟩, ⟨%g16, H16, %h16⟩, HO, HF, %hr⟩
  subst hr
  rw [k0_part8_eq_skeleton]
  sl_exec
  sl_for (fun (k : ℕ) (_ : PUnit) => iprop((arg12.view.loc (c : Thread nD τ) ↦[arg12.view.set]{fullShare} X12) ∗ (arg15.view.loc (c : Thread nD τ) ↦[arg15.view.set]{fullShare} g15) ∗ (arg16.view.loc (c : Thread nD τ) ↦[arg16.view.set]{fullShare} g16)
      ∗ (∃ f10 : BufTy.Contents (Elt F) arg10.view.ty, (arg10.view.loc (c : Thread nD τ) ↦[arg10.view.set]{fullShare} f10) ∗ ⌜∀ y : S256x5120.Idx, (y 1).val < 512 * k → arg10.view.read (Elt F) f10 y = I.arg.dA (k0_pay22 I.c2) I.lse y⌝)
      ∗ (∃ f17 : BufTy.Contents (Elt F) arg17.view.ty, (arg17.view.loc (c : Thread nD τ) ↦[arg17.view.set]{fullShare} f17) ∗ ⌜arg17.view.read (Elt F) f17 = I.arg.ac (k0_pay22 I.c2) I.lse I.a0 k⌝))) $$ [H12 H15 H16 H10 H17]
  · intro k _
    iintro ⟨H12, H15, H16, ⟨%f10, H10, %h10⟩, ⟨%f17, H17, %h17⟩⟩
    iapply (trip_t5 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I.arg (k0_pay22 I.c2) I.lse I.a0 X12 g15 g16 h12 h15 h16 f10 f17 k h10 h17)
    isplitl [H12]; · iexact H12
    isplitl [H15]; · iexact H15
    isplitl [H16]; · iexact H16
    isplitl [H10]; · iexact H10
    iexact H17
  · isplitl [H12]; · iexact H12
    isplitl [H15]; · iexact H15
    isplitl [H16]; · iexact H16
    isplitl [H10]
    · iexists f10; isplitl [H10]; · iexact H10
      ipureintro; intro y hy; omega
    iexists _; isplitl [H17]; · iexact H17
    ipureintro
    sl_unfold_words
    exact View.read_writes_full _ _ _ _ []
  iintro %acc ⟨H12, H15, H16, ⟨%g10, H10, %h10⟩, ⟨%g17, H17, %h17⟩⟩
  replace h10 := full10 h10
  replace h17 := acDone h17
  have e17 := View.readAt_full arg17.view g17 (off := ![0, 0]) inb_S256x2560_S256x2560_0_0
  rw [h17] at e17
  sl_exec
  sl_step
  isplitl [H4]; · iexact H4
  isplitl [H5]; · iexact H5
  isplitl [H6]; · iexact H6
  isplitl [H7]; · iexact H7
  isplitl [H8]; · iexact H8
  isplitl [H12]; · iexact H12
  isplitl [H14]; · iexact H14
  isplitl [H9]
  · iexists _; isplitl [H9]; · iexact H9
    ipureintro
    sl_unfold_words
    exact View.read_writes_full _ _ _ _ []
  isplitl [H10]
  · iexists _; isplitl [H10]; · iexact H10
    ipureintro; exact h10
  isplitl [H11]
  · iexists _; isplitl [H11]; · iexact H11
    ipureintro
    sl_unfold_words
    exact View.read_writes_full _ _ _ _ []
  isplitl [H15]; · iexists _; iexact H15
  isplitl [H16]; · iexists _; iexact H16
  isplitl [H17]; · iexists _; iexact H17
  isplitl [HO]; · iexact HO
  iexact HF

/-- One block of tokens, whole: what the body leaves in its outputs, with this block's rows on the way when it starts (but for the
    first block) and the next block's on the way when it ends (but for the last). -/
theorem body_L (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (X1 : BufTy.Contents (Elt F) arg1.view.ty) (X3 : BufTy.Contents (Elt F) arg3.view.ty) (I : Inp F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (h4 : arg4.view.read (Elt F) X4 = I.x) (h5 : arg5.view.read (Elt F) X5 = I.cols) (h6 : arg6.view.read (Elt F) X6 = I.sc) (h7 : arg7.view.read (Elt F) X7 = I.lq) (h8 : arg8.view.read (Elt F) X8 = I.sid)
    (h3 : arg3.view.read (Elt F) X3 = I.w)
    (hX : ∀ n < 6144, wrow arg1 X1 n < 12576)
    (f9 : BufTy.Contents (Elt F) arg9.view.ty) (f10 : BufTy.Contents (Elt F) arg10.view.ty) (f11 : BufTy.Contents (Elt F) arg11.view.ty)
    (f12 : BufTy.Contents (Elt F) arg12.view.ty) (f14 : BufTy.Contents (Elt F) arg14.view.ty)
    (f15 : BufTy.Contents (Elt F) arg15.view.ty) (f16 : BufTy.Contents (Elt F) arg16.view.ty) (f17 : BufTy.Contents (Elt F) arg17.view.ty)
    (h12 : (i 0).val ≠ 0 → arg12.view.read (Elt F) f12 = arg3.view.read (Elt F) X3) (h14 : (i 0).val ≠ 0 → arg14.view.read (Elt F) f14 = k0_pay19 (F := F))
    (T : BufTy.Contents (Elt F) tabW.view.ty) (q q' : PosShare TreeShare)
    (hI : I.wd = wordsV T (fun r => wrow arg1 X1 (256 * (i 0).val + r))) (S : Waits sig Unit) :
    (iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ semVal ((c : Thread nD τ), SemLoc.dma arg18.sem) 0 ∗ owes (c : Thread nD τ) 0 S
      ∗ slotAt (F := F) c ((i 0).val % 2) T q (fun r => wrow arg1 X1 (256 * (i 0).val + r)) ((i 0).val ≠ 0) ∗ free (F := F) c (1 - (i 0).val % 2) T q') : sProp 𝕄)
      ⊢ wp frame (wpE (defs₀ (F := F)) Variants.none (c : Thread nD τ) none) Set.univ (cc0_logit_grads (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f : BufTy.Contents (Elt F) arg9.view.ty, (arg9.view.loc (c : Thread nD τ) ↦[arg9.view.set]{fullShare} f) ∗ ⌜arg9.view.read (Elt F) f = I.dh⌝) ∗ (∃ f : BufTy.Contents (Elt F) arg10.view.ty, (arg10.view.loc (c : Thread nD τ) ↦[arg10.view.set]{fullShare} f) ∗ ⌜arg10.view.read (Elt F) f = I.dz⌝) ∗ (∃ f : BufTy.Contents (Elt F) arg11.view.ty, (arg11.view.loc (c : Thread nD τ) ↦[arg11.view.set]{fullShare} f) ∗ ⌜arg11.view.read (Elt F) f = I.stat⌝)
      ∗ (∃ f : BufTy.Contents (Elt F) arg12.view.ty, (arg12.view.loc (c : Thread nD τ) ↦[arg12.view.set]{fullShare} f) ∗ ⌜arg12.view.read (Elt F) f = I.w⌝) ∗ (∃ f : BufTy.Contents (Elt F) arg14.view.ty, (arg14.view.loc (c : Thread nD τ) ↦[arg14.view.set]{fullShare} f) ∗ ⌜arg14.view.read (Elt F) f = k0_pay19 (F := F)⌝) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))
      ∗ semVal ((c : Thread nD τ), SemLoc.dma arg18.sem) 0 ∗ (∃ S : Waits sig Unit, owes (c : Thread nD τ) 0 S)
      ∗ slotAt (F := F) c (1 - (i 0).val % 2) T q' (fun r => wrow arg1 X1 (256 * ((i 0).val + 1) + r)) ((i 0).val + 1 < 24) ∗ free (F := F) c ((i 0).val % 2) T q)) := by
  have hW : (i 0).val = 0 → (fun r => wrow arg1 X1 (256 * (i 0).val + r)) = fun r => wrow arg1 X1 r := by
    intro h0; funext r; rw [h0, Nat.mul_zero, Nat.zero_add]
  rw [body_split, wp_bind]
  iintro ⟨H1, H3, H4, H5, H6, H7, H8, H9, H10, H11, H12, H14, H15, H16, H17, HS, HO, HT, HF⟩
  iapply (wp_wand_r _ _ _)
  isplitl [H1 H3 H12 H14 HS HO HT]
  · iapply (head_A c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 X1 X3 hX T q (fun r => wrow arg1 X1 (256 * (i 0).val + r)) hW f12 f14 h12 h14 S)
    isplitl [H1]; · iexact H1
    isplitl [H3]; · iexact H3
    isplitl [H12]; · iexact H12
    isplitl [H14]; · iexact H14
    isplitl [HS]; · iexact HS
    isplitl [HO]; · iexact HO
    iexact HT
  iintro %_ ⟨H1, H3, ⟨%g12, H12, %h12'⟩, ⟨%g14, H14, %h14'⟩, HS, ⟨%S', HO⟩, HI⟩
  iapply (Entails.of_eq (wp_bind _ _ _ _ _ _).symm)
  iapply (wp_wand_r _ _ _)
  isplitl [H1 HF]
  · iapply (head_B c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 X1 hX T q')
    isplitl [H1]; · iexact H1
    iexact HF
  iintro %_ ⟨H1, HN⟩
  iapply (wp_wand_r _ _ _)
  isplitl [H4 H5 H6 H7 H8 H12 H14 H9 H10 H11 H15 H16 H17 HO HI]
  · iapply (tail_C c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I X4 X5 X6 X7 X8 g12 g14 h4 h5 h6 h7 h8 (h12'.trans h3) h14' f9 f10 f11 f15 f16 f17 T q (fun r => wrow arg1 X1 (256 * (i 0).val + r)) hI S')
    isplitl [H4]; · iexact H4
    isplitl [H5]; · iexact H5
    isplitl [H6]; · iexact H6
    isplitl [H7]; · iexact H7
    isplitl [H8]; · iexact H8
    isplitl [H12]; · iexact H12
    isplitl [H14]; · iexact H14
    isplitl [H9]; · iexact H9
    isplitl [H10]; · iexact H10
    isplitl [H11]; · iexact H11
    isplitl [H15]; · iexact H15
    isplitl [H16]; · iexact H16
    isplitl [H17]; · iexact H17
    isplitl [HO]; · iexact HO
    iexact HI
  iintro %_ ⟨H4, H5, H6, H7, H8, H12, H14, H9, H10, H11, H15, H16, H17, HO, HF⟩
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists g12; isplitl [H12]; · iexact H12
    ipureintro; exact h12'.trans h3
  isplitl [H14]
  · iexists g14; isplitl [H14]; · iexact H14
    ipureintro; exact h14'
  isplitl [H15]; · iexact H15
  isplitl [H16]; · iexact H16
  isplitl [H17]; · iexact H17
  isplitl [HS]; · iexact HS
  isplitl [HO]; · iexact HO
  isplitl [HN]; · iexact HN
  iexact HF

end T1
end Cert.LogitGrads.Hand
end
-- ==== Proof.LgFrame.lean ====
/- The region run: what is kept from block to block, the body at each point, the launch. -/
module

public import proofs.«01_k».proof.Proof.LgBody

@[expose] public section

set_option maxRecDepth 8192
set_option maxHeartbeats 4000000

noncomputable section

namespace Cert.LogitGrads.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LogitGrads.Gen hiding hmain W_main_arg1 W_main_arg2 W_main_arg5 W_main_arg6 before0_0_of before0_1_of before0_2_of before0_3_of before0_4_of before0_5_of frame_of

variable {F : FTy → Type} [FloatOps F]

/-- The resource algebra: the frame kit's with counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes this argument. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes this argument. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes this argument. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes this argument. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- What the staging buffer holds when the body runs. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = X0_3 m c t) (t : Fin cfg0.N) (d) : dat.before 3 t d = X0_3 m c t :=
  (dat.before_in_eq_fetched 3 rfl (fun _ => rfl)
      (fun t t' h => funext fun a => congrArg (fun n => Pipeline.Clip.of n ((cfg0.win 3).size a) (S88x11264.size a)) (congrFun h a))
      (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)

/-- What the staging buffer holds when the body runs. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged and the semaphores at zero, from the region's run. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (Pipeline.afterTail₀ cfgs dats 0 (V0 m) [hostOps1]) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 0).trans (((dats 0 c).arrAt_in 0 rfl _).trans ((hA c 0).trans (V_main_arg0 m c))),
      (((h.1 c).2 main_arg1 (Pipeline.mem_restRefs_of main_arg1 (by decide) (by decide))).trans (W_main_arg1 m dats c)),
      (((h.1 c).2 main_arg2 (Pipeline.mem_restRefs_of main_arg2 (by decide) (by decide))).trans (W_main_arg2 m dats c)),
      ((h.1 c).1 1).trans (((dats 0 c).arrAt_in 1 rfl _).trans ((hA c 1).trans (V_main_arg3 m c))),
      ((h.1 c).1 3).trans (((dats 0 c).arrAt_in 3 rfl _).trans ((hA c 3).trans (V_main_arg4 m c))),
      (((h.1 c).2 main_arg5 (Pipeline.mem_restRefs_of main_arg5 (by decide) (by decide))).trans (W_main_arg5 m dats c)),
      (((h.1 c).2 main_arg6 (Pipeline.mem_restRefs_of main_arg6 (by decide) (by decide))).trans (W_main_arg6 m dats c))⟩, h.2⟩) h

/-! ## What the body keeps from block to block -/

abbrev H0 : Finset (Ref sig .tc) := {main_v17, main_arg2}
theorem H0_sub : H0 ⊆ Pipeline.restRefs sig spec0 := by decide
abbrev osem0 : Fin 3 → SemLoc sig := fun j => (![SemLoc.dma 15, SemLoc.dma 16, SemLoc.dma 17] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0
          ∗ semVal ((c : Thread nD τ), SemLoc.dma 17) 0) := by
  rw [Pipeline.ownSems0_eq_of_list c osem0 [0, 1, 2] (by decide) (by decide)]; rfl
theorem hbmPts0_eq (c : Dev nD) :
    (bigSep H0 (fun b => ((c : Thread nD τ).loc b) ↦{fullShare} V m c b) : sProp 𝕄)
      = iprop((((c : Thread nD τ).loc main_v17) ↦{fullShare} V m c main_v17) ∗ (((c : Thread nD τ).loc main_arg2) ↦{fullShare} V m c main_arg2)) := by
  rw [BI.bigSep_eq_bigSepL_of_eq [main_v17, main_arg2] (by decide) (by decide)]; rfl

/-- The lines after the region touch neither the word table nor the negatives' weights. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl
    all_goals intro b hb; simp only [H0, Finset.mem_insert, Finset.mem_singleton] at hb
    all_goals rcases hb with rfl | rfl <;>
      simp only [StableHlo.unary_bufs, StableHlo.reshape_bufs, Finset.mem_insert, Finset.mem_singleton, not_or] <;> and_intros <;> exact StableHlo.devRef_ne_of_ne (by decide)

theorem gs_eq0 : gs 0 = 16 := by decide
theorem gs_eq1 : gs 1 = 17 := by decide
theorem sem18 : (cc0_scratch6).sem = 15 := by decide

/-- A target's row of the word table, by its place. -/
def wrowA (a : S6144.Idx → BitVec 32) (n : ℕ) : ℕ :=
  (Scalar.shrsi (a (fun | 0 => (⟨n % 6144, Nat.mod_lt _ (by decide)⟩ : Fin 6144))) 2#32).toNat
/-- The share of the word table a slot reads with. -/
def qs (s : ℕ) : PosShare TreeShare := if s = 0 then fullShare.left else fullShare.right
/-- The targets. -/
def tgA (c : Dev nD) : S6144.Idx → BitVec 32 := V m c main_arg0
/-- The word table. -/
def tabA (c : Dev nD) : BufTy.Contents (Elt F) tabW.view.ty := V m c main_v17
/-- The rows block `n` gathers. -/
def Wn (c : Dev nD) (n : ℕ) : ℕ → ℕ := fun r => wrowA (tgA m c) (256 * n + r)
/-- What block `t` is given. -/
def inp (c : Dev nD) (t : Fin cfg0.N) : Inp F where
  x := iblk m c 1 t
  w := V m c main_arg2
  lq := iblk m c 4 t
  sid := iblk m c 5 t
  cols := iblk m c 2 t
  sc := X0_3 m c t
  wd := wordsV (tabA m c) (Wn m c t.val)

abbrev sc0 : Memref sig .tc .vmem S5120x2560 .bf16 := Memref.whole cc0_scratch0
abbrev sc2 : Memref sig .tc .vmem S80x2560 .bf16 := Memref.whole cc0_scratch2
abbrev sc3 : Memref sig .tc .vmem S256x5120 .f32 := Memref.whole cc0_scratch3
abbrev sc4 : Memref sig .tc .vmem S10x256x128 .f32 := Memref.whole cc0_scratch4
abbrev sc5 : Memref sig .tc .vmem S256x2560 .f32 := Memref.whole cc0_scratch5
abbrev wsW : Memref sig .tc .hbm S5120x2560 .bf16 := Memref.whole main_arg2

/-- What the body keeps when `n` blocks are done: the weights' copy and the expansion matrix once the first block has made them,
    the block's rows on the way into their slot, the other slot free, and the rest at anything. -/
def Phi (c : Dev nD) (n : ℕ) : sProp 𝕄 :=
  iprop((∃ f : BufTy.Contents (Elt F) sc0.view.ty, (sc0.view.loc (c : Thread nD τ) ↦[sc0.view.set]{fullShare} f) ∗ ⌜n ≠ 0 → sc0.view.read (Elt F) f = wsW.view.read (Elt F) (V m c main_arg2)⌝)
    ∗ (∃ f : BufTy.Contents (Elt F) sc2.view.ty, (sc2.view.loc (c : Thread nD τ) ↦[sc2.view.set]{fullShare} f) ∗ ⌜n ≠ 0 → sc2.view.read (Elt F) f = k0_pay19 (F := F)⌝)
    ∗ (∃ f : BufTy.Contents (Elt F) sc3.view.ty, (sc3.view.loc (c : Thread nD τ) ↦[sc3.view.set]{fullShare} f))
    ∗ (∃ f : BufTy.Contents (Elt F) sc4.view.ty, (sc4.view.loc (c : Thread nD τ) ↦[sc4.view.set]{fullShare} f))
    ∗ (∃ f : BufTy.Contents (Elt F) sc5.view.ty, (sc5.view.loc (c : Thread nD τ) ↦[sc5.view.set]{fullShare} f))
    ∗ semVal ((c : Thread nD τ), SemLoc.dma (cc0_scratch6).sem) 0 ∗ (∃ r, prngReg c r)
    ∗ (wsW.view.loc (c : Thread nD τ) ↦[wsW.view.set]{fullShare} V m c main_arg2)
    ∗ slotAt (F := F) c (n % 2) (tabA m c) (qs (n % 2)) (Wn m c n) (n ≠ 0 ∧ n < 24)
    ∗ free (F := F) c (1 - n % 2) (tabA m c) (qs (1 - n % 2)))

theorem slot_halves (c : Dev nD) : Disjoint (slotSet c 0) (slotSet c 1) ∧ slotSet c 0 ∪ slotSet c 1 = Finset.univ := by
  constructor
  · rw [Finset.disjoint_left]
    intro x h0 h1
    have h0 := (Finset.mem_filter.mp h0).2
    have h1 := (Finset.mem_filter.mp h1).2
    exact absurd (h0.symm.trans h1) (by decide)
  · apply Finset.eq_univ_of_forall
    intro x
    have hx : (x 0).val < 2 := (x 0).isLt
    rcases (by omega : (x 0).val = 0 ∨ (x 0).val = 1) with h | h
    · exact Finset.mem_union_left _ (Finset.mem_filter.mpr ⟨Finset.mem_univ _, h⟩)
    · exact Finset.mem_union_right _ (Finset.mem_filter.mpr ⟨Finset.mem_univ _, h⟩)

/-- Both slots free are the slots' buffer, its two semaphores and the word table whole. -/
theorem slots_free (c : Dev nD) (T : BufTy.Contents (Elt F) tabW.view.ty) :
    (iprop(free (F := F) c 0 T (qs 0) ∗ free (F := F) c 1 T (qs 1)) : sProp 𝕄)
      ⊣⊢ iprop((∃ f : Buf (Elt F) ((c : Thread nD τ).loc cc0_scratch1), ((c : Thread nD τ).loc cc0_scratch1) ↦{fullShare} f)
        ∗ semVal ((c : Thread nD τ), SemLoc.dma 16) 0 ∗ semVal ((c : Thread nD τ), SemLoc.dma 17) 0
        ∗ (((c : Thread nD τ).loc main_v17) ↦{fullShare} (T : Buf (Elt F) ((c : Thread nD τ).loc main_v17)))) := by
  obtain ⟨hd, hu⟩ := slot_halves c
  unfold free
  rw [gs_eq0, gs_eq1, show qs 0 = fullShare.left from rfl, show qs 1 = fullShare.right from rfl]
  constructor
  · iintro ⟨⟨HS0, ⟨%g0, H0⟩, HT0⟩, ⟨HS1, ⟨%g1, H1⟩, HT1⟩⟩
    isplitl [H0 H1]
    · iexists _
      iapply (Entails.of_eq (congrArg (fun S => (((c : Thread nD τ).loc cc0_scratch1) ↦[S]{fullShare} _ : sProp 𝕄)) hu))
      iapply (pointsTo_join hd)
      isplitl [H0]; · iexact H0
      iexact H1
    isplitl [HS0]; · iexact HS0
    isplitl [HS1]; · iexact HS1
    iapply (pointsTo_share (PosShare.mem_left_op_right fullShare)).2
    isplitl [HT0]; · iexact HT0
    iexact HT1
  · iintro ⟨⟨%f, H⟩, HS0, HS1, HT⟩
    ihave H' := (Entails.of_eq (congrArg (fun S => (((c : Thread nD τ).loc cc0_scratch1) ↦[S]{fullShare} f : sProp 𝕄)) hu.symm)) $$ H
    ihave H'' := (pointsTo_union hd).1 $$ H'
    icases H'' with ⟨H0, H1⟩
    ihave HT' := (pointsTo_share (PosShare.mem_left_op_right fullShare)).1 $$ HT
    icases HT' with ⟨HT0, HT1⟩
    isplitl [HS0 H0 HT0]
    · isplitl [HS0]; · iexact HS0
      isplitl [H0]; · iexists _; iexact H0
      iexact HT0
    isplitl [HS1]; · iexact HS1
    isplitl [H1]; · iexists _; iexact H1
    iexact HT1

theorem whole_pt (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  exact congrArg (fun S => (((c : Thread nD τ).loc b) ↦[S]{fullShare} f : sProp 𝕄)) (View.set_whole (sig := sig) b).symm

/-- The proof data of the region. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => (inp m c t).dh
    | ⟨7, _⟩ => (inp m c t).dz
    | ⟨8, _⟩ => (inp m c t).stat
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (inp m c t).dh := by dsimp only [dats]
theorem after0_7 (c : Dev nD) (t : Fin cfg0.N) : (dats m 0 c).after 7 t = (inp m c t).dz := by dsimp only [dats]
theorem after0_8 (c : Dev nD) (t : Fin cfg0.N) : (dats m 0 c).after 8 t = (inp m c t).stat := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- And what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem coord0 : ∀ t : Fin cfg0.N, (grid0.coords t 0).val = t.val := by decide +kernel
theorem iblk0_eq (c : Dev nD) (t : Fin cfg0.N) : (iblk m c 0 t : S6144.Idx → BitVec 32) = tgA m c := by
  funext y
  show V m c main_arg0 _ = V m c main_arg0 y
  congr 1
  funext a
  apply Fin.ext
  match a with
  | 0 =>
    show (0 : ℕ) * 6144 + 1 * (y 0).val = (y 0).val
    omega

theorem slotAt_congr (c : Dev nD) (s : ℕ) (T : BufTy.Contents (Elt F) tabW.view.ty) (q : PosShare TreeShare) (W : ℕ → ℕ) {b b' : Prop} [Decidable b] [Decidable b'] (h : Iff b b') :
    slotAt (F := F) c s T q W b = slotAt (F := F) c s T q W b' := by
  unfold slotAt
  by_cases hb : b
  · rw [if_pos hb, if_pos (h.1 hb)]
  · rw [if_neg hb, if_neg (fun h' => hb (h.2 h'))]

theorem sound_body (c : Dev nD) (hX : ∀ n < 6144, wrowA (tgA m c) n < 12576) (t : Fin cfg0.N) :
    bodyPre m c t ⊢ wp frame (wpE (defs₀ (F := F)) Variants.none c none) Set.univ (bodyAt0 t) (fun _ => bodyPost m c t) := by
  have ht : t.val < 24 := t.isLt
  unfold bodyPre bodyPost bodyAt0
  rw [after0_0, after0_1, after0_2, after0_3, after0_4, after0_5, after0_6, after0_7, after0_8]
  simp only [before0_0, before0_1, before0_2, before0_3, before0_4, before0_5]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi owns
  rw [slotAt_congr c (t.val % 2) (tabA m c) (qs (t.val % 2)) (Wn m c t.val) (b' := t.val ≠ 0) ⟨fun h => h.1, fun h => ⟨h, ht⟩⟩,
    slotAt_congr c ((t.val + 1) % 2) (tabA m c) (qs ((t.val + 1) % 2)) (Wn m c (t.val + 1)) (b' := t.val + 1 < 24) ⟨fun h => h.2, fun h => ⟨by omega, h⟩⟩,
    show (t.val + 1) % 2 = 1 - t.val % 2 from by omega, show 1 - (1 - t.val % 2) = t.val % 2 from by omega]
  iintro ⟨⟨⟨%f12, H12, %h12⟩, ⟨%f14, H14, %h14⟩, ⟨%f15, H15⟩, ⟨%f16, H16⟩, ⟨%f17, H17⟩, HS, Hg, H3, HT, HF⟩, ⟨%W, -, HW⟩,
    ⟨%d1, %X1, %h1, H1⟩, ⟨%d4, %X4, %h4, H4⟩, ⟨%d5, %X5, %h5, H5⟩, ⟨%d6, %X6, %h6, H6⟩, ⟨%d7, %X7, %h7, H7⟩, ⟨%d8, %X8, %h8, H8⟩,
    ⟨%d9, %f9, %h9, H9⟩, ⟨%d10, %f10, %h10, H10⟩, ⟨%d11, %f11, %h11, H11⟩⟩
  have h1' : ∀ n, wrow (win0_0.stage (cfg0.slots t 0)) X1 n = wrowA (tgA m c) n := by
    intro n; rw [← iblk0_eq m c t, ← h1]; rfl
  have hW1 : ∀ k, (fun r => wrow (win0_0.stage (cfg0.slots t 0)) X1 (256 * k + r)) = Wn m c k := fun k => funext fun r => h1' _
  have hb := body_L (F := F) c (grid0.coords t) (win0_0.stage (cfg0.slots t 0)) (hstage0_0 ((cfg0.slots t 0).cast nbuf0_0)) (Memref.whole main_arg2) (Memref.isWhole_whole _) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 X1 (V m c main_arg2) (inp m c t) X4 X5 X6 X7 X8 h4 h5 h6 h7 h8 rfl
      (fun n hn => by rw [h1' n]; exact hX n hn)
      f9 f10 f11 f12 f14 f15 f16 f17 (fun h => h12 (by rwa [coord0 t] at h)) (fun h => h14 (by rwa [coord0 t] at h)) (tabA m c) (qs (t.val % 2)) (qs (1 - t.val % 2))
      (by rw [coord0 t, hW1]; rfl) W
  rw [coord0 t, hW1, hW1] at hb
  iapply (wp_wand_r _ _ _)
  isplitr [Hg]
  · iapply hb
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H15]; · iexact H15
    isplitl [H16]; · iexact H16
    isplitl [H17]; · iexact H17
    isplitl [HS]; · iexact HS
    isplitl [HW]; · iexact HW
    isplitl [HT]; · iexact HT
    iexact HF
  iintro %_ ⟨H1, H3, H4, H5, H6, H7, H8, ⟨%g9, H9, %h9'⟩, ⟨%g10, H10, %h10'⟩, ⟨%g11, H11, %h11'⟩, ⟨%g12, H12, %h12'⟩, ⟨%g14, H14, %h14'⟩, ⟨%g15, H15⟩, ⟨%g16, H16⟩, ⟨%g17, H17⟩, HS, ⟨%S', HW⟩, HT, HF⟩
  isplitl [H12 H14 H15 H16 H17 HS Hg H3 HT HF]
  · isplitl [H12]
    · iexists g12
      isplitl [H12]; · iexact H12
      ipureintro; exact fun _ => h12'
    isplitl [H14]
    · iexists g14
      isplitl [H14]; · iexact H14
      ipureintro; exact fun _ => h14'
    isplitl [H15]; · iexists g15; iexact H15
    isplitl [H16]; · iexists g16; iexact H16
    isplitl [H17]; · iexists g17; iexact H17
    isplitl [HS]; · iexact HS
    isplitl [Hg]; · iexact Hg
    isplitl [H3]; · iexact H3
    isplitl [HT]; · iexact HT
    iexact HF
  isplitl [HW]
  · iexists S'
    isplitr
    · ipureintro; exact fun _ _ => Or.inl trivial
    iexact HW
  isplitl [H1]
  · iexists X1
    isplitr
    · ipureintro; exact h1
    iexact H1
  isplitl [H4]
  · iexists X4
    isplitr
    · ipureintro; exact h4
    iexact H4
  isplitl [H5]
  · iexists X5
    isplitr
    · ipureintro; exact h5
    iexact H5
  isplitl [H6]
  · iexists X6
    isplitr
    · ipureintro; exact h6
    iexact H6
  isplitl [H7]
  · iexists X7
    isplitr
    · ipureintro; exact h7
    iexact H7
  isplitl [H8]
  · iexists X8
    isplitr
    · ipureintro; exact h8
    iexact H8
  isplitl [H9]
  · iexists g9
    isplitr
    · ipureintro; exact h9'
    iexact H9
  isplitl [H10]
  · iexists g10
    isplitr
    · ipureintro; exact h10'
    iexact H10
  iexists g11
  isplitr
  · ipureintro; exact h11'
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) (hX : ∀ n < 6144, wrowA (tgA m c) n < 12576) : BodyObligation (dats (F := F) m 0 c) (defs₀ (F := F)) Variants.none () Set.univ := fun t => by
  rw [bigSep_W0, bigSep_W0, defs₀_row]
  exact triple_restated (sound_body m c hX t) rfl .rfl fun _ => .rfl

theorem phi_in (c : Dev nD) : Pipeline.ΦD osem0 spec0 H0 (fun c b => V0 m c (Proc.devRef .tc b)) c ⊢ Phi m c 0 := by
  rw [Pipeline.ΦD_eq, scopedRest0_eq, ownSems00_eq, hbmPts0_eq]
  unfold Phi slotAt
  rw [if_neg (by decide)]
  iintro ⟨⟨⟨%f0, H0⟩, H1, ⟨%f2, H2⟩, ⟨%f3, H3⟩, ⟨%f4, H4⟩, ⟨%f5, H5⟩⟩, Hg, ⟨S5, S6, S7⟩, HT, HW⟩
  isplitl [H0]
  · iexists f0
    isplitl [H0]; · iapply (Entails.of_eq (whole_pt c cc0_scratch0 f0)); iexact H0
    ipureintro; exact fun h => absurd rfl h
  isplitl [H2]
  · iexists f2
    isplitl [H2]; · iapply (Entails.of_eq (whole_pt c cc0_scratch2 f2)); iexact H2
    ipureintro; exact fun h => absurd rfl h
  isplitl [H3]; · iexists f3; iapply (Entails.of_eq (whole_pt c cc0_scratch3 f3)); iexact H3
  isplitl [H4]; · iexists f4; iapply (Entails.of_eq (whole_pt c cc0_scratch4 f4)); iexact H4
  isplitl [H5]; · iexists f5; iapply (Entails.of_eq (whole_pt c cc0_scratch5 f5)); iexact H5
  isplitl [S5]; · iexact S5
  isplitl [Hg]; · iexact Hg
  isplitl [HW]; · iapply (Entails.of_eq (whole_pt c main_arg2 (V m c main_arg2))); iexact HW
  iapply (slots_free c (tabA m c)).2
  isplitl [H1]; · iexact H1
  isplitl [S6]; · iexact S6
  isplitl [S7]; · iexact S7
  iexact HT

theorem phi_out (c : Dev nD) : Phi m c 24 ⊢ Pipeline.ΦD osem0 spec0 H0 (fun c b => V0 m c (Proc.devRef .tc b)) c := by
  rw [Pipeline.ΦD_eq, scopedRest0_eq, ownSems00_eq, hbmPts0_eq]
  unfold Phi slotAt
  rw [if_neg (by decide)]
  iintro ⟨⟨%f0, H0, -⟩, ⟨%f2, H2, -⟩, ⟨%f3, H3⟩, ⟨%f4, H4⟩, ⟨%f5, H5⟩, S5, Hg, HW, HT, HF⟩
  ihave HS := (slots_free c (tabA m c)).1 $$ [HT HF]
  · isplitl [HT]; · iexact HT
    iexact HF
  icases HS with ⟨H1, S6, S7, HT⟩
  isplitl [H0 H1 H2 H3 H4 H5]
  · isplitl [H0]; · iexists f0; iapply (Entails.of_eq (whole_pt c cc0_scratch0 f0).symm); iexact H0
    isplitl [H1]; · iexact H1
    isplitl [H2]; · iexists f2; iapply (Entails.of_eq (whole_pt c cc0_scratch2 f2).symm); iexact H2
    isplitl [H3]; · iexists f3; iapply (Entails.of_eq (whole_pt c cc0_scratch3 f3).symm); iexact H3
    isplitl [H4]; · iexists f4; iapply (Entails.of_eq (whole_pt c cc0_scratch4 f4).symm); iexact H4
    iexists f5; iapply (Entails.of_eq (whole_pt c cc0_scratch5 f5).symm); iexact H5
  isplitl [Hg]; · iexact Hg
  isplitl [S5 S6 S7]
  · isplitl [S5]; · iexact S5
    isplitl [S6]; · iexact S6
    iexact S7
  isplitl [HT]; · iexact HT
  iapply (Entails.of_eq (whole_pt c main_arg2 (V m c main_arg2)).symm); iexact HW

set_option backward.isDefEq.respectTransparency.types false in
/-- The region's run, the semaphores back at zero. -/
theorem run_main (hX : ∀ c, ∀ n < 6144, wrowA (tgA m c) n < 12576) :
    θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c (hX c)).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := phi_in m) (hout := phi_out m)

/-- The program runs, its arguments end unchanged and the semaphores at zero. -/
theorem frame_run (hX : ∀ c, ∀ n < 6144, wrowA (tgA m c) n < 12576) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  frame_of m ρ (dats m) (A_eq m) (run_main m ρ hX)

end Cert.LogitGrads.Hand
end
-- ==== Proof.LgMath.lean ====
/- The arithmetic of a log-sum over the extended reals: shifting the exponentials by a running maximum and putting the shift
   back changes nothing, sums over tiles are sums over the row, and the softmax's product of two exponentials is one. -/
module

public import Idealize.ShloMosaic.PureOps.Ideal
public import Mathlib.Analysis.SpecialFunctions.Log.Basic

@[expose] public section

noncomputable section

namespace Cert.LgMath

open Idealize.ShloMosaic

/-- A sum over `a` tiles of `b` is the sum over the row. -/
theorem sum_tiles {M : Type} [AddCommMonoid M] (f : ℕ → M) (a b : ℕ) :
    ∑ i ∈ Finset.range a, ∑ j ∈ Finset.range b, f (b * i + j) = ∑ n ∈ Finset.range (b * a), f n := by
  induction a with
  | zero => simp
  | succ a ih => rw [Finset.sum_range_succ, ih, Nat.mul_succ, Finset.sum_range_add]

theorem exp_bot : Ideal.exp ⊥ = 0 := rfl
theorem exp_top : Ideal.exp ⊤ = ⊤ := rfl
theorem exp_coe (r : ℝ) : Ideal.exp (r : EReal) = (Real.exp r : EReal) := rfl
theorem log_coe (r : ℝ) : Ideal.log (r : EReal) = if r ≤ 0 then ⊥ else (Real.log r : EReal) := rfl

/-- The exponential as a real number (what is not `⊤` has one). -/
def E (z : EReal) : ℝ := (Ideal.exp z).toReal

theorem E_nonneg (z : EReal) : 0 ≤ E z := by
  unfold E
  induction z with
  | bot => simp [exp_bot, exp_top, exp_coe]
  | coe r => simpa [exp_coe] using (Real.exp_pos r).le
  | top => simp [exp_bot, exp_top, exp_coe]

theorem exp_eq {z : EReal} (h : z ≠ ⊤) : Ideal.exp z = (E z : EReal) := by
  unfold E
  induction z with
  | bot => simp [exp_bot, exp_top, exp_coe]
  | coe r => simp [exp_bot, exp_top, exp_coe]
  | top => exact absurd rfl h

/-- The exponential of a difference with a real number. -/
theorem exp_sub {z : EReal} (h : z ≠ ⊤) (m : ℝ) : Ideal.exp (z - (m : EReal)) = ((E z * Real.exp (-m) : ℝ) : EReal) := by
  unfold E
  induction z with
  | bot => simp [exp_bot, sub_eq_add_neg]
  | coe r =>
    rw [← EReal.coe_sub]
    simp only [exp_coe, EReal.toReal_coe]
    rw [← Real.exp_add, sub_eq_add_neg]
  | top => exact absurd rfl h

/-- Shifted by a real number and shifted back, an exponential is itself, whatever is subtracted after. -/
theorem exp_mul_exp {z : EReal} (h : z ≠ ⊤) (m : ℝ) (l : EReal) :
    Ideal.exp (z - (m : EReal)) * Ideal.exp ((m : EReal) - l) = Ideal.exp (z - l) := by
  rw [exp_sub h]
  induction z with
  | bot => simp [E, exp_bot, sub_eq_add_neg]
  | top => exact absurd rfl h
  | coe r =>
    have hE : E (r : EReal) = Real.exp r := by simp [E, exp_coe]
    rw [hE, ← Real.exp_add]
    induction l with
    | bot =>
      have h1 : (m : EReal) - ⊥ = ⊤ := by simp [sub_eq_add_neg]
      have h2 : (r : EReal) - ⊥ = ⊤ := by simp [sub_eq_add_neg]
      rw [h1, h2]
      exact EReal.coe_mul_top_of_pos (Real.exp_pos _)
    | top =>
      have h1 : (m : EReal) - ⊤ = ⊥ := by simp [sub_eq_add_neg]
      have h2 : (r : EReal) - ⊤ = ⊥ := by simp [sub_eq_add_neg]
      rw [h1, h2]
      simp [exp_bot, exp_top, exp_coe]
    | coe l =>
      rw [← EReal.coe_sub, ← EReal.coe_sub]
      simp only [exp_coe]
      rw [← EReal.coe_mul, ← Real.exp_add]
      congr 2
      ring

/-- A sum of real numbers among the extended ones. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A log-sum taken under a shift `m` is the log-sum. -/
theorem log_shift {S : ℝ} (hS : 0 ≤ S) (m : ℝ) :
    Ideal.log ((S * Real.exp (-m) : ℝ) : EReal) + (m : EReal) = Ideal.log (S : EReal) := by
  have he := Real.exp_pos (-m)
  rcases hS.eq_or_lt with rfl | h
  · simp [log_coe, ← EReal.coe_zero]
  · have h1 : ¬ S * Real.exp (-m) ≤ 0 := not_le.mpr (mul_pos h he)
    simp only [log_coe, if_neg h1, if_neg (not_le.mpr h)]
    rw [← EReal.coe_add, Real.log_mul h.ne' he.ne', Real.log_exp]
    congr 1
    ring

theorem real_of_ne {z : EReal} (h : z ≠ ⊤) (h' : z ≠ ⊥) : ∃ r : ℝ, z = (r : EReal) := by
  induction z with
  | bot => exact absurd rfl h'
  | top => exact absurd rfl h
  | coe r => exact ⟨r, rfl⟩

theorem max_real {m : ℝ} {z : EReal} (h : z ≠ ⊤) : ∃ r : ℝ, max (m : EReal) z = (r : EReal) := by
  rcases le_total (m : EReal) z with h' | h'
  · rw [max_eq_right h']
    refine real_of_ne h fun h0 => ?_
    rw [h0] at h'
    exact absurd (le_bot_iff.mp h') (EReal.coe_ne_bot m)
  · exact ⟨m, max_eq_left h'⟩

/-- What a lane carries: a real maximum `m` and a real sum `s` whose product with `exp m` is the sum so far. -/
def Lane (m s : EReal) (S : ℝ) : Prop := ∃ a b : ℝ, m = (a : EReal) ∧ s = (b : EReal) ∧ b * Real.exp a = S

/-- One chunk's step of a lane: four more logits. -/
theorem Lane.step {m s : EReal} {S : ℝ} (h : Lane m s S) {t0 t1 t2 t3 : EReal} (h0 : t0 ≠ ⊤) (h1 : t1 ≠ ⊤) (h2 : t2 ≠ ⊤) (h3 : t3 ≠ ⊤)
    {m' : EReal} (hm : m' = max (max (max (max m t0) t1) t2) t3) :
    Lane m' (s * Ideal.exp (m - m') + Ideal.exp (t0 - m') + Ideal.exp (t1 - m') + Ideal.exp (t2 - m') + Ideal.exp (t3 - m'))
      (S + E t0 + E t1 + E t2 + E t3) := by
  obtain ⟨a, b, rfl, rfl, hab⟩ := h
  obtain ⟨a0, e0⟩ := max_real (m := a) h0
  obtain ⟨a1, e1⟩ := max_real (m := a0) h1
  obtain ⟨a2, e2⟩ := max_real (m := a1) h2
  obtain ⟨a3, e3⟩ := max_real (m := a2) h3
  rw [e0, e1, e2, e3] at hm
  subst hm
  refine ⟨a3, b * (Real.exp a * Real.exp (-a3)) + E t0 * Real.exp (-a3) + E t1 * Real.exp (-a3) + E t2 * Real.exp (-a3) + E t3 * Real.exp (-a3), rfl, ?_, ?_⟩
  · have hE : E (a : EReal) = Real.exp a := by simp [E, exp_coe]
    rw [exp_sub h0, exp_sub h1, exp_sub h2, exp_sub h3, exp_sub (EReal.coe_ne_top a), hE]
    simp only [EReal.coe_add, EReal.coe_mul]
  · have h4 : Real.exp (-a3) * Real.exp a3 = 1 := by rw [← Real.exp_add]; simp
    have : ∀ q : ℝ, q * Real.exp (-a3) * Real.exp a3 = q := fun q => by rw [mul_assoc, h4, mul_one]
    rw [← mul_assoc, add_mul, add_mul, add_mul, add_mul, this, this, this, this, this, hab]

/-- A sum of exponentials under a shift. -/
theorem sum_exp_sub {ι : Type} (s : Finset ι) (z : ι → EReal) (h : ∀ i ∈ s, z i ≠ ⊤) (m : ℝ) :
    ∑ i ∈ s, Ideal.exp (z i - (m : EReal)) = (((∑ i ∈ s, E (z i)) * Real.exp (-m) : ℝ) : EReal) := by
  rw [Finset.sum_mul, ← coe_sum]
  exact Finset.sum_congr rfl fun i hi => exp_sub (h i hi) m

theorem sum_exp {ι : Type} (s : Finset ι) (z : ι → EReal) (h : ∀ i ∈ s, z i ≠ ⊤) :
    ∑ i ∈ s, Ideal.exp (z i) = ((∑ i ∈ s, E (z i) : ℝ) : EReal) := by
  rw [← coe_sum]
  exact Finset.sum_congr rfl fun i hi => exp_eq (h i hi)

/-- The maximum of finitely many real numbers, at least one, is one. -/
theorem fold_max_real {ι : Type} (s : Finset ι) (hs : s.Nonempty) (f : ι → EReal) (h : ∀ i, ∃ a : ℝ, f i = (a : EReal)) :
    ∃ a : ℝ, s.fold max ⊥ f = (a : EReal) := by
  classical
  induction s using Finset.induction_on with
  | empty => exact absurd hs (by simp)
  | insert a s ha ih =>
    rw [Finset.fold_insert ha]
    obtain ⟨r, hr⟩ := h a
    rcases s.eq_empty_or_nonempty with rfl | hs'
    · exact ⟨r, by simp [hr]⟩
    · obtain ⟨q, hq⟩ := ih hs'
      rw [hr, hq]
      exact max_real (EReal.coe_ne_top q)

/-- Lanes put together at their common maximum `M`: the row's log-sum. -/
theorem lanes_log {ι : Type} [Fintype ι] (m s : ι → EReal) (S : ι → ℝ) (h : ∀ i, Lane (m i) (s i) (S i)) (hS : ∀ i, 0 ≤ S i) (M : ℝ) :
    (M : EReal) + Ideal.log (∑ i, s i * Ideal.exp (m i - (M : EReal))) = Ideal.log ((∑ i, S i : ℝ) : EReal) := by
  have h1 : ∀ i, s i * Ideal.exp (m i - (M : EReal)) = ((S i * Real.exp (-M) : ℝ) : EReal) := by
    intro i
    obtain ⟨a, b, e1, e2, e3⟩ := h i
    have hE : E (a : EReal) = Real.exp a := by simp [E, exp_coe]
    rw [e1, e2, exp_sub (EReal.coe_ne_top a), hE, ← EReal.coe_mul, ← mul_assoc, e3]
  rw [Finset.sum_congr rfl fun i _ => h1 i, coe_sum, ← Finset.sum_mul, add_comm]
  exact log_shift (Finset.sum_nonneg fun i _ => hS i) M

/-- The reference's log-sum: taken under a real shift, it is the log-sum. -/
theorem ref_log {ι : Type} [Fintype ι] (z : ι → EReal) (h : ∀ i, z i ≠ ⊤) (M : EReal) (hM : ∃ a : ℝ, M = (a : EReal)) :
    Ideal.log (∑ i, Ideal.exp (z i - M)) + M = Ideal.log (∑ i, Ideal.exp (z i)) := by
  obtain ⟨a, rfl⟩ := hM
  have h0 : 0 ≤ (∑ i, E (z i)) := Finset.sum_nonneg fun i _ => E_nonneg _
  rw [sum_exp_sub _ _ fun i _ => h i, sum_exp _ _ fun i _ => h i, log_shift h0]

/-- A real number minus or times: no sum of products of real numbers, less a real number, is `⊤`. -/
theorem dot_ne_top {ι : Type} [Fintype ι] (a b : ι → EReal) (c : EReal) (ha : ∀ i, ∃ r : ℝ, a i = (r : EReal)) (hb : ∀ i, ∃ r : ℝ, b i = (r : EReal))
    (hc : ∃ r : ℝ, c = (r : EReal)) : (∑ i, a i * b i) - c ≠ ⊤ := by
  choose p hp using ha
  choose q hq using hb
  obtain ⟨r, rfl⟩ := hc
  have : ∀ i, a i * b i = ((p i * q i : ℝ) : EReal) := fun i => by rw [hp, hq, EReal.coe_mul]
  rw [Finset.sum_congr rfl fun i _ => this i, coe_sum, ← EReal.coe_sub]
  exact EReal.coe_ne_top _

/-- An absolute value below `⊤` is a real number's. -/
theorem real_of_abs_lt {z : EReal} (h : max z (-z) < ⊤) : ∃ r : ℝ, z = (r : EReal) := by
  refine real_of_ne (fun e => ?_) (fun e => ?_)
  · subst e; simp at h
  · subst e; simp at h

end Cert.LgMath

end
-- ==== Proof.LgSpec.lean ====
/- What the logits' gradients are, written out over plain arrays: the sampled-softmax loss of each token and its gradients, every
   sum over the whole row. Both the kernel and the reference are shown to end with these. -/
module

public import proofs.«01_k».proof.Proof.LgMath
public import Idealize.ShloMosaic.Lib.Pointwise.Index

@[expose] public section

noncomputable section

namespace Cert.LgSpec

open Idealize.ShloMosaic

/-- The arguments: targets, the quantised table, the sampled rows, the hidden rows, the scales (80 rows of group scales and one of
    log-probabilities; the first 5120 columns are the sampled ids', the other 6144 the tokens'), the gradient scales, the sampled ids. -/
structure In where
  tgt : Fin 6144 → BitVec 32
  tab : Fin 50304 → Fin 2560 → BitVec 8
  ws : Fin 5120 → Fin 2560 → EReal
  x : Fin 6144 → Fin 2560 → EReal
  sc : Fin 88 → Fin 11264 → EReal
  g : Fin 6144 → EReal
  sid : Fin 5120 → BitVec 32

/-- The log-sum of the target's logit and the log-sum of the rest. -/
def lseOf (zt L : EReal) : EReal := max zt L + Ideal.log1p (Ideal.exp (-(max (zt - L) (-(zt - L)))))

namespace In
variable (A : In)

/-- Column `n` of the scales: a sampled id's. -/
def scol (n : Fin 5120) : Fin 11264 := ⟨n.val, by omega⟩
/-- Column `5120 + t`: a token's. -/
def tcol (t : Fin 6144) : Fin 11264 := ⟨5120 + t.val, by omega⟩
/-- The group a column of the table is scaled in. -/
def grp (d : Fin 2560) : Fin 88 := ⟨d.val / 32, by omega⟩
/-- The target's row of the table. -/
def row (t : Fin 6144) : Fin 50304 := ⟨(A.tgt t).toNat % 50304, Nat.mod_lt _ (by decide)⟩

/-- A negative's logit; masked where the sampled id is the target. -/
def z (t : Fin 6144) (n : Fin 5120) : EReal :=
  if A.tgt t = A.sid n then ⊥ else (∑ d, A.x t d * A.ws n d) - A.sc 80 (scol n)
/-- The target's dequantised row. -/
def wt (t : Fin 6144) (d : Fin 2560) : EReal := (((A.tab (A.row t) d).toInt : ℝ) : EReal) * A.sc (grp d) (tcol t)
/-- The target's logit. -/
def zt (t : Fin 6144) : EReal := (∑ d, A.x t d * A.wt t d) - A.sc 80 (tcol t)
/-- The log-sum of the negatives. -/
def L (t : Fin 6144) : EReal := Ideal.log (∑ n, Ideal.exp (A.z t n))
/-- The log-sum of all. -/
def lse (t : Fin 6144) : EReal := lseOf (A.zt t) (A.L t)
/-- The loss. -/
def loss (t : Fin 6144) : EReal := A.lse t - A.zt t
/-- Its gradient in a negative's logit. -/
def dz (t : Fin 6144) (n : Fin 5120) : EReal := A.g t * Ideal.exp (A.z t n - A.lse t)
/-- Its gradient in the target's logit. -/
def dzt (t : Fin 6144) : EReal := A.g t * (Ideal.exp (A.zt t - A.lse t) - 1)
/-- Its gradient in the hidden row. -/
def dh (t : Fin 6144) (d : Fin 2560) : EReal := (∑ n, A.dz t n * A.ws n d) + A.dzt t * A.wt t d

/-- The claim's precondition on the values: targets are rows of the table, and what the negatives' logits are made of is finite. -/
structure Ok : Prop where
  tgt : ∀ t, 0 ≤ (A.tgt t).toInt ∧ (A.tgt t).toInt < 50304
  ws : ∀ n d, ∃ r : ℝ, A.ws n d = (r : EReal)
  x : ∀ t d, ∃ r : ℝ, A.x t d = (r : EReal)
  sc : ∀ n, ∃ r : ℝ, A.sc 80 (scol n) = (r : EReal)

variable {A}

/-- A negative's logit is not `⊤`. -/
theorem z_ne_top (h : A.Ok) (t : Fin 6144) (n : Fin 5120) : A.z t n ≠ ⊤ := by
  unfold z
  split
  · exact bot_ne_top
  · exact LgMath.dot_ne_top _ _ _ (h.x t) (h.ws n) (h.sc n)

/-- The target's row number. -/
theorem row_val (h : A.Ok) (t : Fin 6144) : (A.row t).val = (A.tgt t).toNat := by
  obtain ⟨h0, h1⟩ := h.tgt t
  have : (A.tgt t).toNat < 50304 := by
    rw [BitVec.toInt_eq_toNat_cond] at h0 h1
    split at h0 <;> split at h1 <;> omega
  exact Nat.mod_eq_of_lt this

end In

/-- The arguments as arrays, read at plain indices. -/
def ofArgs (tgt : (⟨1, ![6144]⟩ : Shape).Idx → BitVec 32) (tab : (⟨2, ![50304, 2560]⟩ : Shape).Idx → BitVec 8)
    (ws : (⟨2, ![5120, 2560]⟩ : Shape).Idx → EReal) (x : (⟨2, ![6144, 2560]⟩ : Shape).Idx → EReal)
    (sc : (⟨2, ![88, 11264]⟩ : Shape).Idx → EReal) (g : (⟨1, ![6144]⟩ : Shape).Idx → EReal)
    (sid : (⟨1, ![5120]⟩ : Shape).Idx → BitVec 32) : In where
  tgt t := tgt (ix1 t)
  tab v d := tab (ix2 v d)
  ws n d := ws (ix2 n d)
  x t d := x (ix2 t d)
  sc k n := sc (ix2 k n)
  g t := g (ix1 t)
  sid n := sid (ix1 n)

end Cert.LgSpec

end
-- ==== Proof.LiPay.lean ====
/- The body's values at an index, over the extended reals. -/
module

public import proofs.«01_k».proof.Proof.Gen.LogitGradsIdeal.Skeleton
public import proofs.«01_k».proof.Proof.LgSpec
public import Idealize.ShloMosaic.Lib.Pointwise
public import Idealize.ShloMosaic.Lib.Tactic.WordOmega

@[expose] public section

set_option maxRecDepth 16384
set_option maxHeartbeats 4000000

noncomputable section

namespace Cert.LogitGradsIdeal.Pay

open Idealize.ShloMosaic
open Cert.LogitGradsIdeal Cert.LogitGradsIdeal.Gen

theorem ofBits_neg_inf : Ideal.ofBits .f32 0xFF800000#32 = ⊥ := by simp [Ideal.ofBits, Ideal.ieee]

/-- A chunk's logits. -/
theorem pay5_apply (v9 : FVec Ideal S256x1 .f32) (x : Vec Ideal S256x2560 .bf16) (w : Vec Ideal S512x2560 .bf16) (lq sid : Vec Ideal S1x512 .f32)
    (r : Fin 256) (n : Fin 512) : k0_pay5 v9 x w lq sid (ix2 r n)
      = if v9 (ix2 r 0) = sid (ix2 0 n) then (⊥ : EReal) else (∑ d : Fin 2560, x (ix2 r d) * w (ix2 n d)) - lq (ix2 0 n) := by
  pointwise [k0_pay5]
  rw [ofBits_neg_inf]

theorem pay6_apply (v9 : FVec Ideal S256x1 .f32) (x : Vec Ideal S256x2560 .bf16) (w : Vec Ideal S512x2560 .bf16) (lq sid : Vec Ideal S1x512 .f32) (r : Fin 256) (l : Fin 128) :
    k0_pay6 v9 x w lq sid (ix2 r l) = k0_pay5 v9 x w lq sid (ix2 r ⟨l.val, by omega⟩) := by
  pointwise [k0_pay6]

theorem pay7_apply (v9 : FVec Ideal S256x1 .f32) (x : Vec Ideal S256x2560 .bf16) (w : Vec Ideal S512x2560 .bf16) (lq sid : Vec Ideal S1x512 .f32) (r : Fin 256) (l : Fin 128) :
    k0_pay7 v9 x w lq sid (ix2 r l) = k0_pay5 v9 x w lq sid (ix2 r ⟨128 + l.val, by omega⟩) := by
  pointwise [k0_pay7]

theorem pay8_apply (v9 : FVec Ideal S256x1 .f32) (x : Vec Ideal S256x2560 .bf16) (w : Vec Ideal S512x2560 .bf16) (lq sid : Vec Ideal S1x512 .f32) (r : Fin 256) (l : Fin 128) :
    k0_pay8 v9 x w lq sid (ix2 r l) = k0_pay5 v9 x w lq sid (ix2 r ⟨256 + l.val, by omega⟩) := by
  pointwise [k0_pay8]

theorem pay9_apply (v9 : FVec Ideal S256x1 .f32) (x : Vec Ideal S256x2560 .bf16) (w : Vec Ideal S512x2560 .bf16) (lq sid : Vec Ideal S1x512 .f32) (r : Fin 256) (l : Fin 128) :
    k0_pay9 v9 x w lq sid (ix2 r l) = k0_pay5 v9 x w lq sid (ix2 r ⟨384 + l.val, by omega⟩) := by
  pointwise [k0_pay9]

/-- The running maximum after a chunk. -/
theorem pay10_apply (v9 : FVec Ideal S256x1 .f32) (m : FVec Ideal S256x128 .f32) (x : Vec Ideal S256x2560 .bf16) (w : Vec Ideal S512x2560 .bf16) (lq sid : Vec Ideal S1x512 .f32) (r : Fin 256) (l : Fin 128) :
    k0_pay10 v9 m x w lq sid (ix2 r l) = max (max (max (max (m (ix2 r l)) (k0_pay6 v9 x w lq sid (ix2 r l))) (k0_pay7 v9 x w lq sid (ix2 r l)))
      (k0_pay8 v9 x w lq sid (ix2 r l))) (k0_pay9 v9 x w lq sid (ix2 r l)) := by
  pointwise [k0_pay10]

theorem pay11_apply (v9 : FVec Ideal S256x1 .f32) (m : FVec Ideal S256x128 .f32) (x : Vec Ideal S256x2560 .bf16) (w : Vec Ideal S512x2560 .bf16) (lq sid : Vec Ideal S1x512 .f32) (r : Fin 256) (l : Fin 128) :
    k0_pay11 v9 m x w lq sid (ix2 r l) = Ideal.exp (k0_pay6 v9 x w lq sid (ix2 r l) - k0_pay10 v9 m x w lq sid (ix2 r l)) := by
  pointwise [k0_pay11]

theorem pay12_apply (v9 : FVec Ideal S256x1 .f32) (m : FVec Ideal S256x128 .f32) (x : Vec Ideal S256x2560 .bf16) (w : Vec Ideal S512x2560 .bf16) (lq sid : Vec Ideal S1x512 .f32) (r : Fin 256) (l : Fin 128) :
    k0_pay12 v9 m x w lq sid (ix2 r l) = Ideal.exp (k0_pay6 v9 x w lq sid (ix2 r l) - k0_pay10 v9 m x w lq sid (ix2 r l)) := by
  pointwise [k0_pay12, k0_pay11]

theorem pay13_apply (v9 : FVec Ideal S256x1 .f32) (m : FVec Ideal S256x128 .f32) (x : Vec Ideal S256x2560 .bf16) (w : Vec Ideal S512x2560 .bf16) (lq sid : Vec Ideal S1x512 .f32) (r : Fin 256) (l : Fin 128) :
    k0_pay13 v9 m x w lq sid (ix2 r l) = Ideal.exp (k0_pay7 v9 x w lq sid (ix2 r l) - k0_pay10 v9 m x w lq sid (ix2 r l)) := by
  pointwise [k0_pay13]

theorem pay14_apply (v9 : FVec Ideal S256x1 .f32) (m s : FVec Ideal S256x128 .f32) (x : Vec Ideal S256x2560 .bf16) (w : Vec Ideal S512x2560 .bf16) (lq sid : Vec Ideal S1x512 .f32) (r : Fin 256) (l : Fin 128) :
    k0_pay14 v9 m s x w lq sid (ix2 r l) = s (ix2 r l) * Ideal.exp (m (ix2 r l) - k0_pay10 v9 m x w lq sid (ix2 r l))
      + k0_pay11 v9 m x w lq sid (ix2 r l) + k0_pay13 v9 m x w lq sid (ix2 r l) := by
  pointwise [k0_pay14]

theorem pay15_apply (g ls : FVec Ideal S256x1 .f32) (m : Vec Ideal S1x256x128 .f32) (r : Fin 256) (l : Fin 128) :
    k0_pay15 g ls m (ix2 r l) = g (ix2 r 0) * Ideal.exp (m (ix3 0 r l) - ls (ix2 r 0)) := by
  pointwise [k0_pay15]

theorem pay16_apply (g ls : FVec Ideal S256x1 .f32) (m : Vec Ideal S1x256x128 .f32) (e : Vec Ideal S256x128 .f32) (r : Fin 256) (l : Fin 128) :
    k0_pay16 g ls m e (ix2 r l) = e (ix2 r l) * k0_pay15 g ls m (ix2 r l) := by
  pointwise [k0_pay16]

theorem pay17_apply (g ls : FVec Ideal S256x1 .f32) (m : Vec Ideal S1x256x128 .f32) (e : Vec Ideal S256x128 .f32) (r : Fin 256) (l : Fin 128) :
    k0_pay17 g ls m e (ix2 r l) = e (ix2 r l) * k0_pay15 g ls m (ix2 r l) := by
  pointwise [k0_pay17]

theorem pay18_apply (g ls : FVec Ideal S256x1 .f32) (m : Vec Ideal S1x256x128 .f32) (e : Vec Ideal S256x128 .f32) (r : Fin 256) (l : Fin 128) :
    k0_pay18 g ls m e (ix2 r l) = e (ix2 r l) * k0_pay15 g ls m (ix2 r l) := by
  pointwise [k0_pay18]

theorem pay2_apply (a e : Vec Ideal S256x128 .f32) (r : Fin 256) (l : Fin 128) :
    k0_pay2 a e (ix2 r l) = e (ix2 r l) * a (ix2 r l) := by
  pointwise [k0_pay2]

theorem pay1_apply (w : FVec Ideal S256x2560 .f32) (a : FVec Ideal S256x1 .f32) (r : Fin 256) (d : Fin 2560) :
    k0_pay1 w a (ix2 r d) = a (ix2 r 0) * w (ix2 r d) := by
  pointwise [k0_pay1]

theorem pay4_apply (w : Vec Ideal S256x2560 .f32) (r : Fin 256) (d : Fin 2560) :
    k0_pay4 w (ix2 r d) = w (ix2 r d) := by
  pointwise [k0_pay4]

theorem pay20_apply (v : Vec Ideal S256x1 .f32) (r : Fin 256) : k0_pay20 v (ix2 r 0) = v (ix2 r 0) := by
  pointwise [k0_pay20]
theorem pay21_apply (v : Vec Ideal S256x1 .f32) (r : Fin 256) : k0_pay21 v (ix2 r 0) = v (ix2 r 0) := by
  pointwise [k0_pay21]
theorem pay22_apply (v : Vec Ideal S256x1 .f32) (r : Fin 256) : k0_pay22 v (ix2 r 0) = v (ix2 r 0) := by
  pointwise [k0_pay22]

theorem pay26_apply (v : FVec Ideal S256x128 .f32) (r : Fin 256) (l : Fin 128) : k0_pay26 v (ix2 r l) = v (ix2 r l) := by
  pointwise [k0_pay26]
theorem pay28_apply (t m : FVec Ideal S256x128 .f32) (r : Fin 256) (l : Fin 128) : k0_pay28 t m (ix2 r l) = Ideal.exp (t (ix2 r l) - m (ix2 r l)) := by
  pointwise [k0_pay28, k0_pay27]
theorem pay31_apply (t m : FVec Ideal S256x128 .f32) (r : Fin 256) (l : Fin 128) : k0_pay31 t m (ix2 r l) = Ideal.exp (t (ix2 r l) - m (ix2 r l)) := by
  pointwise [k0_pay31, k0_pay29]
theorem pay30_apply (t u m s : FVec Ideal S256x128 .f32) (r : Fin 256) (l : Fin 128) :
    k0_pay30 t u m s (ix2 r l) = s (ix2 r l) + Ideal.exp (t (ix2 r l) - m (ix2 r l)) + Ideal.exp (u (ix2 r l) - m (ix2 r l)) := by
  pointwise [k0_pay30, k0_pay27, k0_pay29]

/-- The dequantised target row: the byte shifted out of its word, times its group's scale. -/
theorem pay34_apply (v16 : IVec S256x1 32) (v24 : IVec S256x2560 32) (v25 : Vec Ideal S80x256 .f32) (v26 : Vec Ideal S80x2560 .bf16) (r : Fin 256) (d : Fin 2560) :
    k0_pay34 v16 v24 v25 v26 (ix2 r d) = (((IntOp.shrsi ArithUnit.vector (IntOp.shli ArithUnit.vector (v24 (ix2 r d)) (v16 (ix2 r 0))) 24#32).toInt : ℝ) : EReal)
      * ∑ k : Fin 80, v25 (ix2 k r) * v26 (ix2 k d) := by
  pointwise [k0_pay34]
  rfl

theorem pay35_apply (v11 : FVec Ideal S256x1 .f32) (v16 : IVec S256x1 32) (v24 : IVec S256x2560 32) (v25 : Vec Ideal S80x256 .f32) (v26 : Vec Ideal S80x2560 .bf16) (x : Vec Ideal S256x2560 .bf16) (r : Fin 256) :
    k0_pay35 v11 v16 v24 v25 v26 x (ix2 r 0) = (∑ d : Fin 2560, x (ix2 r d) * k0_pay34 v16 v24 v25 v26 (ix2 r d)) - v11 (ix2 r 0) := by
  pointwise [k0_pay35]

/-- The log-sum of a row from its lanes. -/
theorem pay36_apply (v11 : FVec Ideal S256x1 .f32) (v16 : IVec S256x1 32) (m s : FVec Ideal S256x128 .f32) (v24 : IVec S256x2560 32) (v25 : Vec Ideal S80x256 .f32) (v26 : Vec Ideal S80x2560 .bf16) (x : Vec Ideal S256x2560 .bf16) (r : Fin 256) (M : EReal)
    (hM : M = Finset.univ.fold max ⊥ fun l : Fin 128 => m (ix2 r l)) :
    k0_pay36 v11 v16 m s v24 v25 v26 x (ix2 r 0) = LgSpec.lseOf (k0_pay35 v11 v16 v24 v25 v26 x (ix2 r 0))
      (M + Ideal.log (∑ l : Fin 128, s (ix2 r l) * Ideal.exp (m (ix2 r l) - M))) := by
  subst hM
  pointwise [k0_pay36]
  rw [ofBits_neg_inf]
  unfold LgSpec.lseOf
  rw [zero_sub]
  rfl

theorem pay37_apply (v11 v13 : FVec Ideal S256x1 .f32) (v16 : IVec S256x1 32) (m s : FVec Ideal S256x128 .f32) (v24 : IVec S256x2560 32) (v25 : Vec Ideal S80x256 .f32) (v26 : Vec Ideal S80x2560 .bf16) (x : Vec Ideal S256x2560 .bf16) (r : Fin 256) :
    k0_pay37 v11 v13 v16 m s v24 v25 v26 x (ix2 r 0) = v13 (ix2 r 0)
      * (Ideal.exp (k0_pay35 v11 v16 v24 v25 v26 x (ix2 r 0) - k0_pay36 v11 v16 m s v24 v25 v26 x (ix2 r 0)) - 1) := by
  pointwise [k0_pay37]

theorem lane_zero : ∀ l : Fin 128, Scalar.select (IntOp.cmpi CmpIPredicate.eq (BitVec.ofNat 32 l.val) 0#32) true false = decide (l.val = 0) := by decide +kernel

theorem select_eq {α : Type} (c : BitVec 1) (a b : α) : Scalar.select c a b = if c = 1#1 then a else b := rfl

theorem pay38_apply (v11 v13 : FVec Ideal S256x1 .f32) (v16 : IVec S256x1 32) (m s : FVec Ideal S256x128 .f32) (v24 : IVec S256x2560 32) (v25 : Vec Ideal S80x256 .f32) (v26 : Vec Ideal S80x2560 .bf16) (x : Vec Ideal S256x2560 .bf16) (r : Fin 256) (l : Fin 128) :
    k0_pay38 v11 v13 v16 m s v24 v25 v26 x (ix2 r l) = if l.val = 0
      then k0_pay36 v11 v16 m s v24 v25 v26 x (ix2 r 0) - k0_pay35 v11 v16 v24 v25 v26 x (ix2 r 0)
      else k0_pay37 v11 v13 v16 m s v24 v25 v26 x (ix2 r 0) := by
  pointwise [k0_pay38]
  have h := lane_zero l
  rw [select_eq] at h ⊢
  by_cases h0 : l.val = 0
  · rw [if_pos h0]
    by_cases h1 : IntOp.cmpi CmpIPredicate.eq (BitVec.ofNat 32 l.val) 0#32 = 1#1
    · rw [if_pos h1]
    · rw [if_neg h1] at h; simp [h0] at h
  · rw [if_neg h0]
    by_cases h1 : IntOp.cmpi CmpIPredicate.eq (BitVec.ofNat 32 l.val) 0#32 = 1#1
    · rw [if_pos h1] at h; simp [h0] at h
    · rw [if_neg h1]

theorem div32 : ∀ d : Fin 2560, (Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 d.val) 32#32) 0#32))
          (IntOp.subi (IntOp.divsi ArithUnit.vector (BitVec.ofNat 32 d.val) 32#32) 1#32)
          (IntOp.divsi ArithUnit.vector (BitVec.ofNat 32 d.val) 32#32)) = BitVec.ofNat 32 (d.val / 32) := by decide +kernel

theorem eq80 : ∀ a k : Fin 80, Iff (IntOp.cmpi CmpIPredicate.eq (BitVec.ofNat 32 a.val) (BitVec.ofNat 32 k.val) = 1#1) (a.val = k.val) := by decide +kernel

/-- The expansion matrix: one where the column is in the group. -/
theorem pay19_apply (k : Fin 80) (d : Fin 2560) :
    k0_pay19 (F := Ideal) (ix2 k d) = if d.val / 32 = k.val then (1 : EReal) else 0 := by
  pointwise [k0_pay19]
  rw [div32, select_eq]
  have h := eq80 ⟨d.val / 32, by omega⟩ k
  exact if_congr h rfl rfl

/-- A shift count carried as a float is the count. -/
theorem pay23_apply (v : Vec Ideal S256x1 .f32) (r : Fin 256) (b : BitVec 32) (h : v (ix2 r 0) = ((b.toInt : ℝ) : EReal)) :
    k0_pay23 v (ix2 r 0) = b := by
  pointwise [k0_pay23]
  rw [h]
  show Ideal.fptosi 32 ((b.toInt : ℝ) : EReal) = b
  unfold Ideal.fptosi
  rw [Ideal.toIntClamped_coe]
  have h1 := BitVec.le_toInt b
  have h2 := BitVec.toInt_lt (x := b)
  have e : (if (0:ℝ) ≤ (b.toInt : ℝ) then ⌊(b.toInt : ℝ)⌋ else ⌈(b.toInt : ℝ)⌉) = b.toInt := by split <;> simp
  rw [e, min_eq_right (by push_cast; norm_num at h2 ⊢; omega), max_eq_right (by push_cast; norm_num at h1 ⊢; omega), BitVec.ofInt_toInt]

theorem pay33_apply (v : Vec Ideal S1x256x2560 .i32) (r : Fin 256) (d : Fin 2560) :
    k0_pay33 v (ix2 r d) = v (ix3 0 r d) := by
  pointwise [k0_pay33]

theorem pay32_apply (v : FVec Ideal S256x128 .f32) (r : Fin 256) (d : Fin 128) :
    k0_pay32 v (ix3 0 r d) = v (ix2 r d) := by
  pointwise [k0_pay32]

theorem pay3_apply (a : Vec Ideal S256x2560 .f32) (z : Vec Ideal S256x512 .bf16) (w : Vec Ideal S512x2560 .bf16) (r : Fin 256) (d : Fin 2560) :
    k0_pay3 a z w (ix2 r d) = a (ix2 r d) + ∑ n : Fin 512, z (ix2 r n) * w (ix2 n d) := by
  pointwise [k0_pay3]

/-- The first maximum is a real number. -/
theorem pay24_apply (r : Fin 256) (d : Fin 128) :
    ∃ a : ℝ, k0_pay24 (F := Ideal) (ix2 r d) = (a : EReal) := by
  pointwise [k0_pay24]
  refine ⟨-(16777215 * 2 ^ 104 : ℝ), ?_⟩
  simp [Ideal.ofBits, Ideal.ieee]

theorem pay25_apply (r : Fin 256) (d : Fin 128) :
    k0_pay25 (F := Ideal) (ix2 r d) = (0 : EReal) := by
  pointwise [k0_pay25]

end Cert.LogitGradsIdeal.Pay

end
-- ==== Proof.LiRows.lean ====
/- The gathered rows: where a row of the word table and a row of a slot lie, what a row's transfer leaves, and the batch of
   256 row transfers a slot has in flight. -/
module

public import proofs.«01_k».proof.Proof.Gen.LogitGradsIdeal.Frame
public import Idealize.ShloMosaic.Lib.Batch
public import Idealize.ShloMosaic.Lib.Ring

@[expose] public section

set_option maxRecDepth 8192

noncomputable section

namespace Cert.LogitGradsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGradsIdeal.Gen

variable {F : FTy → Type} [FloatOps F]

/-- The resource algebra: the frame kit's with counters. -/
local notation "𝕄" => MT nD τ sig Unit (Elt F) ℕ (Pipeline.UD sig nD τ) ℕ

/-- The two slots of gathered words, in fast memory. -/
abbrev bufW : Memref sig .tc .vmem S2x256x2560 .i32 := Memref.whole cc0_scratch1
/-- The word table, in main memory. -/
abbrev tabW : Memref sig .tc .hbm S12576x2560 .i32 := Memref.whole main_v17
/-- A slot's semaphore. -/
def gs (s : ℕ) : DmaSem sig := cc0_scratch7.ix (fun | 0 => (⟨s % 2, Nat.mod_lt _ (by decide)⟩ : Fin 2))

theorem gs_of {off : Fin 1 → ℕ} {h} {hq} (s : ℕ) (hs : s < 2) (ho : off = ![s]) :
    ((cc0_scratch7.slice (Rect.unit (s := S2) off S1.size h)).squeeze S_ hq).sem = gs s := by
  subst ho
  unfold gs
  show cc0_scratch7.ix _ = cc0_scratch7.ix _
  congr 1
  funext a
  apply Fin.ext
  have key : ∀ x : S1.Idx, s + 1 * (x 0).val = s % 2 := by
    intro x
    have : (x 0).val < 1 := (x 0).isLt
    omega
  fin_cases a
  exact key _

/-- The rows of a slot as a view: the slot cut out at `off`, squeezed, then the row cut out at `off2`. -/
abbrev dstM (off : Fin 3 → ℕ) (h : ∀ a, off a + S1x256x2560.size a ≤ S2x256x2560.size a) (off2 : Fin 2 → ℕ) (h2 : ∀ a, off2 a + S1x2560.size a ≤ S256x2560.size a) (hq : S1x256x2560.Squeezes S256x2560) : Memref sig .tc .vmem S1x2560 .i32 :=
  (((bufW.slice (Rect.unit (s := S2x256x2560) off S1x256x2560.size h) (fun _ => rfl)).squeeze S256x2560 hq).slice
    (Rect.unit (s := S256x2560) off2 S1x2560.size h2) (fun _ => rfl))

/-- A row of the word table as a view. -/
abbrev srcM (off : Fin 2 → ℕ) (h : ∀ a, off a + S1x2560.size a ≤ S12576x2560.size a) : Memref sig .tc .hbm S1x2560 .i32 :=
  tabW.slice (Rect.unit (s := S12576x2560) off S1x2560.size h) (fun _ => rfl)

/-- The elements of row `r` of slot `s`. -/
def rowSet (c : Dev nD) (s r : ℕ) : Finset (Idx ((c : Thread nD τ).loc cc0_scratch1)) :=
  (Finset.univ : Finset S2x256x2560.Idx).filter fun x => (x 0).val = s ∧ (x 1).val = r
/-- The elements of slot `s`. -/
def slotSet (c : Dev nD) (s : ℕ) : Finset (Idx ((c : Thread nD τ).loc cc0_scratch1)) :=
  (Finset.univ : Finset S2x256x2560.Idx).filter fun x => (x 0).val = s

theorem dstM_emb {off h off2 h2 hq} (s r : ℕ) (ho : off = ![s, 0, 0]) (ho2 : off2 = ![r, 0]) (j : S1x2560.Idx) :
    (((dstM off h off2 h2 hq).view.emb j : S2x256x2560.Idx) 0).val = s
    ∧ (((dstM off h off2 h2 hq).view.emb j : S2x256x2560.Idx) 1).val = r
    ∧ (((dstM off h off2 h2 hq).view.emb j : S2x256x2560.Idx) 2).val = (j 1).val := by
  subst ho; subst ho2
  have e : (dstM ![s, 0, 0] h ![r, 0] h2 hq).view.emb j
      = (Rect.unit (s := S2x256x2560) ![s, 0, 0] S1x256x2560.size h).emb
          (Shape.reshapeEquiv hq.numel_eq ((Rect.unit (s := S256x2560) ![r, 0] S1x2560.size h2).emb j)) := rfl
  rw [e, Shape.reshapeEquiv_cons_one (n := 2) (d := ![256, 2560]) hq.numel_eq]
  have hj : (j 0).val = 0 := by have := (j 0).isLt; change (j 0).val < 1 at this; omega
  refine ⟨?_, ?_, ?_⟩
  · show s + 1 * 0 = s; omega
  · show 0 + 1 * (r + 1 * (j 0).val) = r; omega
  · show 0 + 1 * (0 + 1 * (j 1).val) = (j 1).val; omega

theorem srcM_emb {off h} (w : ℕ) (ho : off = ![w, 0]) (j : S1x2560.Idx) :
    (((srcM off h).view.emb j : S12576x2560.Idx) 0).val = w
    ∧ (((srcM off h).view.emb j : S12576x2560.Idx) 1).val = (j 1).val := by
  subst ho
  have hj : (j 0).val = 0 := by have := (j 0).isLt; change (j 0).val < 1 at this; omega
  refine ⟨?_, ?_⟩
  · show w + 1 * (j 0).val = w; omega
  · show 0 + 1 * (j 1).val = (j 1).val; omega

theorem dstM_set (c : Dev nD) {off h off2 h2 hq} (s r : ℕ) (ho : off = ![s, 0, 0]) (ho2 : off2 = ![r, 0]) :
    (dstM off h off2 h2 hq).view.set = rowSet c s r := by
  ext x
  unfold rowSet
  rw [Finset.mem_filter]
  constructor
  · intro hx
    obtain ⟨j, -, rfl⟩ := Finset.mem_map.mp hx
    obtain ⟨a, b, -⟩ := dstM_emb (h := h) (h2 := h2) (hq := hq) s r ho ho2 j
    exact ⟨Finset.mem_univ _, a, b⟩
  · rintro ⟨-, a, b⟩
    refine Finset.mem_map.mpr ⟨(fun | 0 => (⟨0, by decide⟩ : Fin 1) | 1 => ((x : S2x256x2560.Idx) 2 : Fin 2560) : S1x2560.Idx), Finset.mem_univ _, ?_⟩
    obtain ⟨a', b', c'⟩ := dstM_emb (h := h) (h2 := h2) (hq := hq) s r ho ho2
      (fun | 0 => (⟨0, by decide⟩ : Fin 1) | 1 => ((x : S2x256x2560.Idx) 2 : Fin 2560) : S1x2560.Idx)
    funext k
    apply Fin.ext
    fin_cases k
    · exact a'.trans a.symm
    · exact b'.trans b.symm
    · exact c'

/-- The table's element at row `w` (of those there are), column `d`. -/
def tix (w : ℕ) (d : Fin 2560) : S12576x2560.Idx := fun | 0 => (⟨w % 12576, Nat.mod_lt _ (by decide)⟩ : Fin 12576) | 1 => d
/-- Slots filled with the table rows `W r`. -/
def gath (T : BufTy.Contents (Elt F) tabW.view.ty) (W : ℕ → ℕ) : BufTy.Contents (Elt F) bufW.view.ty :=
  fun x => T (tix (W ((x : S2x256x2560.Idx) 1).val) ((x : S2x256x2560.Idx) 2))

theorem write_row (c : Dev nD) {off h off2 h2 hq off3 h3} (s r : ℕ) (W : ℕ → ℕ) (hW : W r < 12576)
    (ho : off = ![s, 0, 0]) (ho2 : off2 = ![r, 0]) (ho3 : off3 = ![W r, 0])
    (T : BufTy.Contents (Elt F) tabW.view.ty) (fd : BufTy.Contents (Elt F) bufW.view.ty) :
    ∀ x ∈ rowSet c s r, (dstM off h off2 h2 hq).view.write (Elt F) fd ((srcM off3 h3).view.read (Elt F) T) Finset.univ x = gath T W x := by
  intro x hx
  rw [← dstM_set c (h := h) (h2 := h2) (hq := hq) s r ho ho2] at hx
  obtain ⟨j, -, rfl⟩ := Finset.mem_map.mp hx
  rw [View.write_emb_of_mem _ _ (Finset.mem_univ j), View.read_apply]
  obtain ⟨a, b, d⟩ := dstM_emb (h := h) (h2 := h2) (hq := hq) s r ho ho2 j
  obtain ⟨p, q⟩ := srcM_emb (h := h3) (W r) ho3 j
  show T ((srcM off3 h3).view.emb j) = gath T W _
  unfold gath
  congr 1
  funext k
  apply Fin.ext
  fin_cases k
  · refine p.trans ?_
    show W r = W _ % 12576
    rw [b, Nat.mod_eq_of_lt hW]
  · exact q.trans d.symm

/-- The amount a row's transfer counts. -/
def NN : ℕ := (dstM ![0, 0, 0] inb_S2x256x2560_S1x256x2560_0_0_0 ![0, 0] (by decide) squeezes_S1x256x2560_S256x2560).view.amount (.dma (gs 0))

/-- A row of slot `s` holding the table row `W r`, and the read token of the table its transfer used. -/
def D (c : Dev nD) (s : ℕ) (T : BufTy.Contents (Elt F) tabW.view.ty) (q : PosShare TreeShare) (W : ℕ → ℕ) (r : Fin 256) : sProp 𝕄 :=
  iprop((bufW.view.loc (c : Thread nD τ) ↦[rowSet c s r.val]{fullShare} (gath T W : Buf (Elt F) _)) ∗ (tabW.view.loc (c : Thread nD τ) ↦{Transfers.shareTokN q r.val} (T : Buf (Elt F) _)))

instance D_storable (c : Dev nD) (s : ℕ) (T : BufTy.Contents (Elt F) tabW.view.ty) (q : PosShare TreeShare) (W : ℕ → ℕ) (r : Fin 256) :
    BI.Storable (upEmb : UEmb _ 𝕄) (D (F := F) c s T q W r) := by
  unfold D; infer_instance

/-- What is left to hand to the transfers from row `j` on: their rows, at any contents, and their tokens. -/
def left (c : Dev nD) (s : ℕ) (T : BufTy.Contents (Elt F) tabW.view.ty) (q : PosShare TreeShare) (r : Fin 256) : sProp 𝕄 :=
  iprop((∃ g : Buf (Elt F) (bufW.view.loc (c : Thread nD τ)), bufW.view.loc (c : Thread nD τ) ↦[rowSet c s r.val]{fullShare} g) ∗ (tabW.view.loc (c : Thread nD τ) ↦{Transfers.shareTokN q r.val} (T : Buf (Elt F) _)))

/-- Slot `s` with `j` of its 256 row transfers issued and none waited for. -/
def issuing (c : Dev nD) (s : ℕ) (T : BufTy.Contents (Elt F) tabW.view.ty) (q : PosShare TreeShare) (W : ℕ → ℕ) (j : ℕ) : sProp 𝕄 :=
  iprop(Transfers.Batch (countersEmb (U := Pipeline.UD sig nD τ)) (c : Thread nD τ) (.dma (gs s)) () NN (D (F := F) c s T q W) j 0
    ∗ bigSep (Transfers.pending (n := 256) j) (left (F := F) c s T q)
    ∗ (tabW.view.loc (c : Thread nD τ) ↦{Transfers.shareDrop q 256} (T : Buf (Elt F) _)))

/-- A batch's next transfer, the issuer adding resources `put` of its own to the delivery. -/
theorem wp_dmaBatchWith (c : Dev nD) (bd : Option Variants.none.V) {n : ℕ} {sp sp' : Space} {s : Shape} {e : EltTy}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (.here dst)}
    {α : Type} {Q : α → sProp 𝕄}
    {k : PUnit → Prog (TpuEff nD τ sig (Elt F) Λ₀ (c : Thread nD τ).2) α} {q : PosShare TreeShare} {fs : Buf (Elt F) (src.view.loc (c : Thread nD τ))}
    {Sd : Finset (Idx (dst.view.loc (c : Thread nD τ)))} {fd : Buf (Elt F) (dst.view.loc (c : Thread nD τ))}
    {D : Fin n → sProp 𝕄} {j u : ℕ} (put : sProp 𝕄)
    (N : ℕ) (hN : dst.view.amount sm = N) (hSd : dst.view.set ⊆ Sd) (hj : j < n) (hu : u ≤ j * N)
    (hD : iprop(put ∗ (dst.view.loc (c : Thread nD τ) ↦[Sd]{fullShare} (dst.view.write (Elt F) fd (src.view.read (Elt F) fs) Finset.univ))
              ∗ (src.view.loc (c : Thread nD τ) ↦[src.view.set]{q} fs)) ⊢ D ⟨j, hj⟩) :
    iprop(put ∗ (src.view.loc (c : Thread nD τ) ↦[src.view.set]{q} fs) ∗ (dst.view.loc (c : Thread nD τ) ↦[Sd]{fullShare} fd)
        ∗ Transfers.Batch (countersEmb (U := Pipeline.UD sig nD τ)) (c : Thread nD τ) sm () N D j u)
      ⊢ iprop((Transfers.Batch (countersEmb (U := Pipeline.UD sig nD τ)) (c : Thread nD τ) sm () N D (j + 1) u
            -∗ wp frame (wpE (defs₀ (F := F)) Variants.none (c : Thread nD τ) bd) Set.univ (k ⟨⟩) Q)
          -∗ wp frame (wpE (defs₀ (F := F)) Variants.none (c : Thread nD τ) bd) Set.univ (.op (.enqueueDmaAs src (.here dst) .same sm hsrc hdst hsem) k) Q) := by
  unfold Transfers.Batch
  iintro ⟨Hput, Hs, Hd, ⟨%γ, %γ₀, %κ, #Hinv, HI, H0, Hcred⟩⟩ Hk
  ihave HI' := (Entails.of_eq (Transfers.bigSep_pending_step _ j hj)) $$ HI
  icases HI' with ⟨Ht, HI⟩
  iapply (wp_enqueueDmaAs Variants.none (c : Thread nD τ) bd Set.univ () N hN) $$ [Hs Hd] [Ht Hput]
  · isplitl [Hs]; · iexact Hs
    iapply (pointsTo_writeUpdate (c : Thread nD τ) hSd) $$ Hd
  · iapply (Transfers.batch_creditUpdate_with (countersEmb (U := Pipeline.UD sig nD τ)) ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

theorem NN_pos : 0 < NN := by unfold NN; decide

theorem dstM_amount {off h off2 h2 hq} (s : ℕ) : (dstM off h off2 h2 hq).view.amount (.dma (gs s)) = NN := rfl

/-- ONE ROW ISSUED: the transfer of row `j`, from the table row `W j` to slot `s`. -/
theorem wp_issueRow (c : Dev nD) (bd : Option Variants.none.V) {s : ℕ} {T : BufTy.Contents (Elt F) tabW.view.ty}
    {q : PosShare TreeShare} {W : ℕ → ℕ} {j : ℕ} (hj : j < 256) (hW : W j < 12576)
    {off h off2 h2 hq off3 h3} (ho : off = ![s, 0, 0]) (ho2 : off2 = ![j, 0]) (ho3 : off3 = ![W j, 0])
    {sm : SemLoc sig} (hsm : sm = .dma (gs s)) {α : Type} {Q : α → sProp 𝕄}
    {hsrc hdst hsem} {k : PUnit → Prog (TpuEff nD τ sig (Elt F) Λ₀ (c : Thread nD τ).2) α} :
    issuing (F := F) c s T q W j
      ⊢ iprop((issuing (F := F) c s T q W (j + 1) -∗ wp frame (wpE (defs₀ (F := F)) Variants.none (c : Thread nD τ) bd) Set.univ (k ⟨⟩) Q)
          -∗ wp frame (wpE (defs₀ (F := F)) Variants.none (c : Thread nD τ) bd) Set.univ
            (.op (.enqueueDmaAs (srcM off3 h3) (.here (dstM off h off2 h2 hq)) .same sm hsrc hdst hsem) k) Q) := by
  subst hsm
  unfold issuing
  rw [Transfers.bigSep_pending_step (left (F := F) c s T q) j hj]
  unfold left
  iintro ⟨HB, ⟨⟨⟨%g, Hrow⟩, Htok⟩, Hleft⟩, Hrest⟩ Hk
  ihave Htok' := (show (tabW.view.loc (c : Thread nD τ) ↦{Transfers.shareTokN q j} (T : Buf (Elt F) _) : sProp 𝕄)
    ⊢ iprop(((srcM off3 h3).view.loc (c : Thread nD τ) ↦[(srcM off3 h3).view.set]{Transfers.shareTokN q j} (T : Buf (Elt F) _))
      ∗ (tabW.view.loc (c : Thread nD τ) ↦[Finset.univ \ (srcM off3 h3).view.set]{Transfers.shareTokN q j} (T : Buf (Elt F) _)))
    from (pointsTo_split_subset (Finset.subset_univ _)).1) $$ Htok
  icases Htok' with ⟨Hs, Hcompl⟩
  iapply (wp_dmaBatchWith (F := F) c bd (src := srcM off3 h3) (dst := dstM off h off2 h2 hq) (D := D (F := F) c s T q W) (j := j) (u := 0) (fs := (T : Buf (Elt F) _)) (fd := g) (Sd := rowSet c s j) (q := Transfers.shareTokN q j)
    iprop(tabW.view.loc (c : Thread nD τ) ↦[Finset.univ \ (srcM off3 h3).view.set]{Transfers.shareTokN q j} (T : Buf (Elt F) _))
    NN (dstM_amount s) (by rw [dstM_set c s j ho ho2]) hj (Nat.zero_le _) (hD := by
      unfold D
      rw [pointsTo_congr (write_row (F := F) c (h := h) (h2 := h2) (hq := hq) (h3 := h3) s j W hW ho ho2 ho3 T g)]
      iintro ⟨Hcompl, Hrow, Hs⟩
      isplitl [Hrow]; · iexact Hrow
      iapply (pointsTo_split_subset (Finset.subset_univ (srcM off3 h3).view.set)).2
      isplitl [Hs]; · iexact Hs
      iexact Hcompl)) $$ [Hcompl Hs Hrow HB]
  · isplitl [Hcompl]; · iexact Hcompl
    isplitl [Hs]; · iexact Hs
    isplitl [Hrow]; · iexact Hrow
    iexact HB
  iintro HB
  iapply Hk
  isplitl [HB]; · iexact HB
  isplitl [Hleft]; · iexact Hleft
  iexact Hrest

/-- Slot `s` with nothing in flight: its semaphore at zero, its elements at any contents, and its share of the table. -/
def free (c : Dev nD) (s : ℕ) (T : BufTy.Contents (Elt F) tabW.view.ty) (q : PosShare TreeShare) : sProp 𝕄 :=
  iprop(semVal ((c : Thread nD τ), SemLoc.dma (gs s)) 0
    ∗ (∃ g : Buf (Elt F) (bufW.view.loc (c : Thread nD τ)), bufW.view.loc (c : Thread nD τ) ↦[slotSet c s]{fullShare} g)
    ∗ (tabW.view.loc (c : Thread nD τ) ↦{q} (T : Buf (Elt F) _)))

theorem slotSet_eq (c : Dev nD) (s : ℕ) : slotSet c s = (Finset.univ : Finset (Fin 256)).biUnion fun r => rowSet c s r.val := by
  ext x
  rw [Finset.mem_biUnion]
  unfold slotSet rowSet
  constructor
  · intro h
    exact ⟨(x : S2x256x2560.Idx) 1, Finset.mem_univ _, Finset.mem_filter.mpr ⟨Finset.mem_univ _, (Finset.mem_filter.mp h).2, rfl⟩⟩
  · rintro ⟨r, -, h⟩
    exact Finset.mem_filter.mpr ⟨Finset.mem_univ _, (Finset.mem_filter.mp h).2.1⟩

theorem rowSet_disjoint (c : Dev nD) (s : ℕ) (a : Fin 256) (b : Fin 256) (h : a ≠ b) : Disjoint (rowSet c s a.val) (rowSet c s b.val) := by
  rw [Finset.disjoint_left]
  intro x hx hy
  exact h (Fin.ext ((Finset.mem_filter.mp hx).2.2.symm.trans (Finset.mem_filter.mp hy).2.2))

theorem slot_rows (c : Dev nD) (s : ℕ) (g : Buf (Elt F) (bufW.view.loc (c : Thread nD τ))) :
    (bufW.view.loc (c : Thread nD τ) ↦[slotSet c s]{fullShare} g : sProp 𝕄)
      = bigSep (Finset.univ : Finset (Fin 256)) fun r => (bufW.view.loc (c : Thread nD τ) ↦[rowSet c s r.val]{fullShare} g) := by
  rw [slotSet_eq]
  exact pointsTo_biUnion _ _ (fun a _ b _ h => rowSet_disjoint c s a b h)

theorem table_toksN (c : Dev nD) (T : BufTy.Contents (Elt F) tabW.view.ty) (q : PosShare TreeShare) (n : ℕ) :
    (tabW.view.loc (c : Thread nD τ) ↦{q} (T : Buf (Elt F) _) : sProp 𝕄)
      ⊣⊢ iprop((tabW.view.loc (c : Thread nD τ) ↦{Transfers.shareDrop q n} (T : Buf (Elt F) _))
        ∗ bigSep (Finset.univ : Finset (Fin n)) fun r => (tabW.view.loc (c : Thread nD τ) ↦{Transfers.shareTokN q r.val} (T : Buf (Elt F) _))) := by
  have e := Ring.bigSep_fin_eq_range n (fun r : Fin n => (fun r : ℕ => (tabW.view.loc (c : Thread nD τ) ↦{Transfers.shareTokN q r} (T : Buf (Elt F) _) : sProp 𝕄)) r.val)
    (fun r => (tabW.view.loc (c : Thread nD τ) ↦{Transfers.shareTokN q r} (T : Buf (Elt F) _))) (by intro t h; dsimp only)
  rw [e]
  exact Transfers.pointsTo_toks_range q n

theorem table_toks (c : Dev nD) (T : BufTy.Contents (Elt F) tabW.view.ty) (q : PosShare TreeShare) :
    (tabW.view.loc (c : Thread nD τ) ↦{q} (T : Buf (Elt F) _) : sProp 𝕄)
      ⊣⊢ iprop((tabW.view.loc (c : Thread nD τ) ↦{Transfers.shareDrop q 256} (T : Buf (Elt F) _))
        ∗ bigSep (Finset.univ : Finset (Fin 256)) fun r => (tabW.view.loc (c : Thread nD τ) ↦{Transfers.shareTokN q r.val} (T : Buf (Elt F) _))) :=
  table_toksN c T q 256

theorem rows_sep (s : Finset (Fin 256)) (Φ Ψ : Fin 256 → sProp 𝕄) :
    bigSep s (fun i => iprop(Φ i ∗ Ψ i)) = (iprop(bigSep s Φ ∗ bigSep s Ψ) : sProp 𝕄) := bigSep_sep s Φ Ψ

theorem rows_some (c : Dev nD) (s : ℕ) (g : Buf (Elt F) (bufW.view.loc (c : Thread nD τ))) :
    (bigSep (Finset.univ : Finset (Fin 256)) (fun r => iprop(bufW.view.loc (c : Thread nD τ) ↦[rowSet c s r.val]{fullShare} g)) : sProp 𝕄)
      ⊢ bigSep (Finset.univ : Finset (Fin 256)) (fun r => iprop(∃ g : Buf (Elt F) (bufW.view.loc (c : Thread nD τ)), bufW.view.loc (c : Thread nD τ) ↦[rowSet c s r.val]{fullShare} g)) := by
  exact bigSep_mono fun r _ => (show (iprop(bufW.view.loc (c : Thread nD τ) ↦[rowSet c s r.val]{fullShare} g) : sProp 𝕄)
      ⊢ iprop(∃ g : Buf (Elt F) (bufW.view.loc (c : Thread nD τ)), bufW.view.loc (c : Thread nD τ) ↦[rowSet c s r.val]{fullShare} g) from by
    iintro H
    iexists g
    iexact H)

/-- THE START of a slot's gather. -/
theorem issue_start (c : Dev nD) (s : ℕ) (T : BufTy.Contents (Elt F) tabW.view.ty) (q : PosShare TreeShare) (W : ℕ → ℕ) :
    free (F := F) c s T q ⊢ |={Set.univ}=> issuing (F := F) c s T q W 0 := by
  unfold free issuing
  iintro ⟨Hc, ⟨%g, Hg⟩, Ht⟩
  imod (Transfers.batch_alloc' (Lvl := ℕ) (countersEmb (U := Pipeline.UD sig nD τ)) (c : Thread nD τ) () NN (D (F := F) c s T q W) (sm := .dma (gs s)) (E := Set.univ)) $$ Hc with HB
  imodintro
  isplitl [HB]; · iexact HB
  ihave Ht' := (table_toks c T q).1 $$ Ht
  icases Ht' with ⟨Hd, Htoks⟩
  isplitl [Hg Htoks]
  · rw [← Transfers.bigSep_pending_zero]
    unfold left
    iapply (Entails.of_eq (rows_sep (Finset.univ : Finset (Fin 256)) (fun r => iprop(∃ g : Buf (Elt F) (bufW.view.loc (c : Thread nD τ)), bufW.view.loc (c : Thread nD τ) ↦[rowSet c s r.val]{fullShare} g)) (fun r => iprop(tabW.view.loc (c : Thread nD τ) ↦{Transfers.shareTokN q r.val} (T : Buf (Elt F) _)))).symm)
    isplitl [Hg]
    · ihave Hg' := (Entails.of_eq (slot_rows c s g)) $$ Hg
      iapply (rows_some c s g) $$ Hg'
    · iexact Htoks
  · iexact Hd

/-- THE END of a slot's gather: every row landed. -/
theorem drain_done (c : Dev nD) (s : ℕ) (T : BufTy.Contents (Elt F) tabW.view.ty) (q : PosShare TreeShare) (W : ℕ → ℕ) :
    iprop(bigSep Finset.univ (D (F := F) c s T q W) ∗ (tabW.view.loc (c : Thread nD τ) ↦{Transfers.shareDrop q 256} (T : Buf (Elt F) _)))
      ⊢ (iprop((bufW.view.loc (c : Thread nD τ) ↦[slotSet c s]{fullShare} (gath T W : Buf (Elt F) _)) ∗ (tabW.view.loc (c : Thread nD τ) ↦{q} (T : Buf (Elt F) _))) : sProp 𝕄) := by
  unfold D
  iintro ⟨H, Hd⟩
  ihave H' := (Entails.of_eq (rows_sep (Finset.univ : Finset (Fin 256)) (fun r => iprop(bufW.view.loc (c : Thread nD τ) ↦[rowSet c s r.val]{fullShare} (gath T W : Buf (Elt F) _))) (fun r => iprop(tabW.view.loc (c : Thread nD τ) ↦{Transfers.shareTokN q r.val} (T : Buf (Elt F) _))))) $$ H
  icases H' with ⟨Hr, Ht⟩
  isplitl [Hr]
  · iapply (Entails.of_eq (slot_rows c s (gath T W)).symm) $$ Hr
  iapply (table_toks c T q).2
  isplitl [Hd]; · iexact Hd
  iexact Ht

end Cert.LogitGradsIdeal.Hand

end
-- ==== Proof.LiGather.lean ====
/- The gathers' loops: a slot's 256 rows issued eight to a trip, and the 256 waits of a slot's drain. -/
module

public import proofs.«01_k».proof.Proof.LiRows
public import proofs.«01_k».proof.Proof.Gen.LogitGradsIdeal.Loops

@[expose] public section

set_option maxRecDepth 8192
set_option maxHeartbeats 4000000

noncomputable section

namespace Cert.LogitGradsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGradsIdeal.Gen

variable {F : FTy → Type} [FloatOps F]

/-- The resource algebra: the frame kit's with counters. -/
local notation "𝕄" => MT nD τ sig Unit (Elt F) ℕ (Pipeline.UD sig nD τ) ℕ

/-- The target word at index `n`. -/
def tword (arg1 : Memref sig .tc .smem S6144 .i32) (X : BufTy.Contents (Elt F) arg1.view.ty) (n : ℕ) : BitVec 32 :=
  arg1.view.read (Elt F) X (fun | 0 => (⟨n % 6144, Nat.mod_lt _ (by decide)⟩ : Fin 6144))
/-- The table row of the target at index `n`: four vocabulary rows to a row of words. -/
def wrow (arg1 : Memref sig .tc .smem S6144 .i32) (X : BufTy.Contents (Elt F) arg1.view.ty) (n : ℕ) : ℕ :=
  (Scalar.shrsi (tword arg1 X n) 2#32).toNat

theorem read_word (arg1 : Memref sig .tc .smem S6144 .i32) (X : BufTy.Contents (Elt F) arg1.view.ty) {off : Fin 1 → ℕ} {h} (n : ℕ) (ho : off = ![n]) (hn : n < 6144)
    (x : (Rect.unit (s := S6144) off S1.size h).toLoadRect.shape.Idx) :
    View.readAt (Elt F) arg1.view (Rect.unit (s := S6144) off S1.size h).toLoadRect X x = tword arg1 X n := by
  subst ho
  unfold tword
  show arg1.view.read (Elt F) X ((Rect.unit (s := S6144) ![n] S1.size h).emb x) = _
  congr 1
  funext a
  apply Fin.ext
  fin_cases a
  have hx : (x 0).val < 1 := (x 0).isLt
  show n + 1 * (x 0).val = n % 6144
  rw [Nat.mod_eq_of_lt hn]; omega

theorem chk_of (arg1 : Memref sig .tc .smem S6144 .i32) (X : BufTy.Contents (Elt F) arg1.view.ty)
    (hX : ∀ n < 6144, wrow arg1 X n < 12576) (w : BitVec 32) (n : ℕ) (hn : n < 6144) (hw : w = tword arg1 X n) :
    ∀ a, (![(Scalar.shrsi w 2#32).toNat, 0] : Fin 2 → ℕ) a + S1x2560.size a ≤ S12576x2560.size a := by
  subst hw
  have := hX n hn
  unfold wrow at this
  intro a
  fin_cases a
  · show (Scalar.shrsi (tword arg1 X n) 2#32).toNat + 1 ≤ 12576; omega
  · show 0 + 2560 ≤ 2560; omega

theorem off_of (arg1 : Memref sig .tc .smem S6144 .i32) (X : BufTy.Contents (Elt F) arg1.view.ty)
    (w : BitVec 32) (n : ℕ) (hw : w = tword arg1 X n) :
    (![(Scalar.shrsi w 2#32).toNat, 0] : Fin 2 → ℕ) = ![wrow arg1 X n, 0] := by
  subst hw; rfl

theorem vec1 {off : Fin 1 → ℕ} {a b : ℕ} (h : off = ![a]) (e : a = b) : off = ![b] := e ▸ h

section T1
variable (c : Dev nD) (i : grid0.Coords)

theorem trip_t1 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (k0_h1 : k0_cond1 i = 1#1) (X : BufTy.Contents (Elt F) arg1.view.ty)
    (hX : ∀ n < 6144, wrow arg1 X n < 12576) (T : BufTy.Contents (Elt F) tabW.view.ty) (q : PosShare TreeShare) (k : Fin k0_t1_loop.trips) :
    iprop((arg1.view.loc (c : Thread nD τ) ↦[arg1.view.set]{fullShare} X) ∗ issuing (F := F) c 0 T q (fun r => wrow arg1 X r) (8 * k.val))
      ⊢ wp frame (wpE (defs₀ (F := F)) Variants.none (c : Thread nD τ) none) Set.univ (k0_t1_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 k0_h1 k PUnit.unit)
          (fun _ => iprop((arg1.view.loc (c : Thread nD τ) ↦[arg1.view.set]{fullShare} X) ∗ issuing (F := F) c 0 T q (fun r => wrow arg1 X r) (8 * (k.val + 1)))) := by
  have hk : k.val < 32 := Nat.lt_of_lt_of_le k.isLt k0_t1_abs.2.1
  unfold k0_t1_body
  iintro ⟨H1, HI⟩
  sl_exec
  iapply (wp_assume Variants.none (c : Thread nD τ) none Set.univ (fun _ => chk_of arg1 X hX _ (8 * k.val) (by omega) (read_word arg1 X (8 * k.val) (k0_off1_eq k) (by omega) _)))
  sl_exec
  iapply (wp_issueRow (F := F) c none (j := 8 * k.val + 0) (W := (fun r => wrow arg1 X r)) (by omega) (hX (8 * k.val) (by omega)) rfl (k0_off2_eq k) (off_of arg1 X _ (8 * k.val) (read_word arg1 X (8 * k.val) (k0_off1_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 1) (by omega) (read_word arg1 X (8 * k.val + 1) (k0_off4_eq k) (by omega) _)))
  sl_exec
  iapply (wp_issueRow (F := F) c none (j := 8 * k.val + 1) (W := (fun r => wrow arg1 X r)) (by omega) (hX (8 * k.val + 1) (by omega)) rfl (k0_off5_eq k) (off_of arg1 X _ (8 * k.val + 1) (read_word arg1 X (8 * k.val + 1) (k0_off4_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 2) (by omega) (read_word arg1 X (8 * k.val + 2) (k0_off7_eq k) (by omega) _)))
  sl_exec
  iapply (wp_issueRow (F := F) c none (j := 8 * k.val + 2) (W := (fun r => wrow arg1 X r)) (by omega) (hX (8 * k.val + 2) (by omega)) rfl (k0_off8_eq k) (off_of arg1 X _ (8 * k.val + 2) (read_word arg1 X (8 * k.val + 2) (k0_off7_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 3) (by omega) (read_word arg1 X (8 * k.val + 3) (k0_off10_eq k) (by omega) _)))
  sl_exec
  iapply (wp_issueRow (F := F) c none (j := 8 * k.val + 3) (W := (fun r => wrow arg1 X r)) (by omega) (hX (8 * k.val + 3) (by omega)) rfl (k0_off11_eq k) (off_of arg1 X _ (8 * k.val + 3) (read_word arg1 X (8 * k.val + 3) (k0_off10_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 4) (by omega) (read_word arg1 X (8 * k.val + 4) (k0_off13_eq k) (by omega) _)))
  sl_exec
  iapply (wp_issueRow (F := F) c none (j := 8 * k.val + 4) (W := (fun r => wrow arg1 X r)) (by omega) (hX (8 * k.val + 4) (by omega)) rfl (k0_off14_eq k) (off_of arg1 X _ (8 * k.val + 4) (read_word arg1 X (8 * k.val + 4) (k0_off13_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 5) (by omega) (read_word arg1 X (8 * k.val + 5) (k0_off16_eq k) (by omega) _)))
  sl_exec
  iapply (wp_issueRow (F := F) c none (j := 8 * k.val + 5) (W := (fun r => wrow arg1 X r)) (by omega) (hX (8 * k.val + 5) (by omega)) rfl (k0_off17_eq k) (off_of arg1 X _ (8 * k.val + 5) (read_word arg1 X (8 * k.val + 5) (k0_off16_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 6) (by omega) (read_word arg1 X (8 * k.val + 6) (k0_off19_eq k) (by omega) _)))
  sl_exec
  iapply (wp_issueRow (F := F) c none (j := 8 * k.val + 6) (W := (fun r => wrow arg1 X r)) (by omega) (hX (8 * k.val + 6) (by omega)) rfl (k0_off20_eq k) (off_of arg1 X _ (8 * k.val + 6) (read_word arg1 X (8 * k.val + 6) (k0_off19_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 7) (by omega) (read_word arg1 X (8 * k.val + 7) (k0_off22_eq k) (by omega) _)))
  sl_exec
  iapply (wp_issueRow (F := F) c none (j := 8 * k.val + 7) (W := (fun r => wrow arg1 X r)) (by omega) (hX (8 * k.val + 7) (by omega)) rfl (k0_off23_eq k) (off_of arg1 X _ (8 * k.val + 7) (read_word arg1 X (8 * k.val + 7) (k0_off22_eq k) (by omega) _)) (congrArg SemLoc.dma (gs_of (s := 0) (by decide) rfl))) $$ HI
  iintro HI
  sl_step
  isplitl [H1]; · iexact H1
  iexact HI

theorem trip_t2 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (k0_h2 : k0_cond2 i = 1#1) (v86 : BitVec 32) (hi : (i 0).val + 1 < 24) (X : BufTy.Contents (Elt F) arg1.view.ty)
    (hX : ∀ n < 6144, wrow arg1 X n < 12576) (T : BufTy.Contents (Elt F) tabW.view.ty) (q : PosShare TreeShare) (k : Fin k0_t2_loop.trips) :
    iprop((arg1.view.loc (c : Thread nD τ) ↦[arg1.view.set]{fullShare} X) ∗ issuing (F := F) c (1 - (i 0).val % 2) T q (fun r => wrow arg1 X (256 * ((i 0).val + 1) + r)) (8 * k.val))
      ⊢ wp frame (wpE (defs₀ (F := F)) Variants.none (c : Thread nD τ) none) Set.univ (k0_t2_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 k0_h2 v86 k PUnit.unit)
          (fun _ => iprop((arg1.view.loc (c : Thread nD τ) ↦[arg1.view.set]{fullShare} X) ∗ issuing (F := F) c (1 - (i 0).val % 2) T q (fun r => wrow arg1 X (256 * ((i 0).val + 1) + r)) (8 * (k.val + 1)))) := by
  have hk : k.val < 32 := Nat.lt_of_lt_of_le k.isLt k0_t2_abs.2.1
  unfold k0_t2_body
  iintro ⟨H1, HI⟩
  sl_exec
  iapply (wp_assume Variants.none (c : Thread nD τ) none Set.univ (fun _ => chk_of arg1 X hX _ (256 * ((i 0).val + 1) + (8 * k.val + 0)) (by omega) (read_word arg1 X (256 * ((i 0).val + 1) + (8 * k.val + 0)) (vec1 (k0_off25_eq i k) (by omega)) (by omega) _)))
  sl_exec
  iapply (wp_issueRow (F := F) c none (j := 8 * k.val + 0) (W := (fun r => wrow arg1 X (256 * ((i 0).val + 1) + r))) (by omega) (hX (256 * ((i 0).val + 1) + (8 * k.val + 0)) (by omega)) (k0_off27_eq i) (k0_off28_eq k) (off_of arg1 X _ (256 * ((i 0).val + 1) + (8 * k.val + 0)) (read_word arg1 X (256 * ((i 0).val + 1) + (8 * k.val + 0)) (vec1 (k0_off25_eq i k) (by omega)) (by omega) _)) (congrArg SemLoc.dma (gs_of (s := (1 - (i 0).val % 2)) (by omega) (k0_off26_eq i)))) $$ HI
  iintro HI
  sl_exec
  iapply (wp_assume Variants.none (c : Thread nD τ) none Set.univ (fun _ => chk_of arg1 X hX _ (256 * ((i 0).val + 1) + (8 * k.val + 1)) (by omega) (read_word arg1 X (256 * ((i 0).val + 1) + (8 * k.val + 1)) (vec1 (k0_off30_eq i k) (by omega)) (by omega) _)))
  sl_exec
  iapply (wp_issueRow (F := F) c none (j := 8 * k.val + 1) (W := (fun r => wrow arg1 X (256 * ((i 0).val + 1) + r))) (by omega) (hX (256 * ((i 0).val + 1) + (8 * k.val + 1)) (by omega)) (k0_off32_eq i) (k0_off33_eq k) (off_of arg1 X _ (256 * ((i 0).val + 1) + (8 * k.val + 1)) (read_word arg1 X (256 * ((i 0).val + 1) + (8 * k.val + 1)) (vec1 (k0_off30_eq i k) (by omega)) (by omega) _)) (congrArg SemLoc.dma (gs_of (s := (1 - (i 0).val % 2)) (by omega) (k0_off31_eq i)))) $$ HI
  iintro HI
  sl_exec
  iapply (wp_assume Variants.none (c : Thread nD τ) none Set.univ (fun _ => chk_of arg1 X hX _ (256 * ((i 0).val + 1) + (8 * k.val + 2)) (by omega) (read_word arg1 X (256 * ((i 0).val + 1) + (8 * k.val + 2)) (vec1 (k0_off35_eq i k) (by omega)) (by omega) _)))
  sl_exec
  iapply (wp_issueRow (F := F) c none (j := 8 * k.val + 2) (W := (fun r => wrow arg1 X (256 * ((i 0).val + 1) + r))) (by omega) (hX (256 * ((i 0).val + 1) + (8 * k.val + 2)) (by omega)) (k0_off37_eq i) (k0_off38_eq k) (off_of arg1 X _ (256 * ((i 0).val + 1) + (8 * k.val + 2)) (read_word arg1 X (256 * ((i 0).val + 1) + (8 * k.val + 2)) (vec1 (k0_off35_eq i k) (by omega)) (by omega) _)) (congrArg SemLoc.dma (gs_of (s := (1 - (i 0).val % 2)) (by omega) (k0_off36_eq i)))) $$ HI
  iintro HI
  sl_exec
  iapply (wp_assume Variants.none (c : Thread nD τ) none Set.univ (fun _ => chk_of arg1 X hX _ (256 * ((i 0).val + 1) + (8 * k.val + 3)) (by omega) (read_word arg1 X (256 * ((i 0).val + 1) + (8 * k.val + 3)) (vec1 (k0_off40_eq i k) (by omega)) (by omega) _)))
  sl_exec
  iapply (wp_issueRow (F := F) c none (j := 8 * k.val + 3) (W := (fun r => wrow arg1 X (256 * ((i 0).val + 1) + r))) (by omega) (hX (256 * ((i 0).val + 1) + (8 * k.val + 3)) (by omega)) (k0_off42_eq i) (k0_off43_eq k) (off_of arg1 X _ (256 * ((i 0).val + 1) + (8 * k.val + 3)) (read_word arg1 X (256 * ((i 0).val + 1) + (8 * k.val + 3)) (vec1 (k0_off40_eq i k) (by omega)) (by omega) _)) (congrArg SemLoc.dma (gs_of (s := (1 - (i 0).val % 2)) (by omega) (k0_off41_eq i)))) $$ HI
  iintro HI
  sl_exec
  iapply (wp_assume Variants.none (c : Thread nD τ) none Set.univ (fun _ => chk_of arg1 X hX _ (256 * ((i 0).val + 1) + (8 * k.val + 4)) (by omega) (read_word arg1 X (256 * ((i 0).val + 1) + (8 * k.val + 4)) (vec1 (k0_off45_eq i k) (by omega)) (by omega) _)))
  sl_exec
  iapply (wp_issueRow (F := F) c none (j := 8 * k.val + 4) (W := (fun r => wrow arg1 X (256 * ((i 0).val + 1) + r))) (by omega) (hX (256 * ((i 0).val + 1) + (8 * k.val + 4)) (by omega)) (k0_off47_eq i) (k0_off48_eq k) (off_of arg1 X _ (256 * ((i 0).val + 1) + (8 * k.val + 4)) (read_word arg1 X (256 * ((i 0).val + 1) + (8 * k.val + 4)) (vec1 (k0_off45_eq i k) (by omega)) (by omega) _)) (congrArg SemLoc.dma (gs_of (s := (1 - (i 0).val % 2)) (by omega) (k0_off46_eq i)))) $$ HI
  iintro HI
  sl_exec
  iapply (wp_assume Variants.none (c : Thread nD τ) none Set.univ (fun _ => chk_of arg1 X hX _ (256 * ((i 0).val + 1) + (8 * k.val + 5)) (by omega) (read_word arg1 X (256 * ((i 0).val + 1) + (8 * k.val + 5)) (vec1 (k0_off50_eq i k) (by omega)) (by omega) _)))
  sl_exec
  iapply (wp_issueRow (F := F) c none (j := 8 * k.val + 5) (W := (fun r => wrow arg1 X (256 * ((i 0).val + 1) + r))) (by omega) (hX (256 * ((i 0).val + 1) + (8 * k.val + 5)) (by omega)) (k0_off52_eq i) (k0_off53_eq k) (off_of arg1 X _ (256 * ((i 0).val + 1) + (8 * k.val + 5)) (read_word arg1 X (256 * ((i 0).val + 1) + (8 * k.val + 5)) (vec1 (k0_off50_eq i k) (by omega)) (by omega) _)) (congrArg SemLoc.dma (gs_of (s := (1 - (i 0).val % 2)) (by omega) (k0_off51_eq i)))) $$ HI
  iintro HI
  sl_exec
  iapply (wp_assume Variants.none (c : Thread nD τ) none Set.univ (fun _ => chk_of arg1 X hX _ (256 * ((i 0).val + 1) + (8 * k.val + 6)) (by omega) (read_word arg1 X (256 * ((i 0).val + 1) + (8 * k.val + 6)) (vec1 (k0_off55_eq i k) (by omega)) (by omega) _)))
  sl_exec
  iapply (wp_issueRow (F := F) c none (j := 8 * k.val + 6) (W := (fun r => wrow arg1 X (256 * ((i 0).val + 1) + r))) (by omega) (hX (256 * ((i 0).val + 1) + (8 * k.val + 6)) (by omega)) (k0_off57_eq i) (k0_off58_eq k) (off_of arg1 X _ (256 * ((i 0).val + 1) + (8 * k.val + 6)) (read_word arg1 X (256 * ((i 0).val + 1) + (8 * k.val + 6)) (vec1 (k0_off55_eq i k) (by omega)) (by omega) _)) (congrArg SemLoc.dma (gs_of (s := (1 - (i 0).val % 2)) (by omega) (k0_off56_eq i)))) $$ HI
  iintro HI
  sl_exec
  iapply (wp_assume Variants.none (c : Thread nD τ) none Set.univ (fun _ => chk_of arg1 X hX _ (256 * ((i 0).val + 1) + (8 * k.val + 7)) (by omega) (read_word arg1 X (256 * ((i 0).val + 1) + (8 * k.val + 7)) (vec1 (k0_off60_eq i k) (by omega)) (by omega) _)))
  sl_exec
  iapply (wp_issueRow (F := F) c none (j := 8 * k.val + 7) (W := (fun r => wrow arg1 X (256 * ((i 0).val + 1) + r))) (by omega) (hX (256 * ((i 0).val + 1) + (8 * k.val + 7)) (by omega)) (k0_off62_eq i) (k0_off63_eq k) (off_of arg1 X _ (256 * ((i 0).val + 1) + (8 * k.val + 7)) (read_word arg1 X (256 * ((i 0).val + 1) + (8 * k.val + 7)) (vec1 (k0_off60_eq i k) (by omega)) (by omega) _)) (congrArg SemLoc.dma (gs_of (s := (1 - (i 0).val % 2)) (by omega) (k0_off61_eq i)))) $$ HI
  iintro HI
  sl_step
  isplitl [H1]; · iexact H1
  iexact HI

/-- Slot `s`'s drain after `k` of its 256 waits: every transfer issued and `k` waited for, and after the last the rows
    themselves, the semaphore at zero and the table whole again. -/
def draining (c : Dev nD) (s : ℕ) (T : BufTy.Contents (Elt F) tabW.view.ty) (q : PosShare TreeShare) (W : ℕ → ℕ) (k : ℕ) : sProp 𝕄 :=
  iprop((∃ S : Waits sig Unit, owes (c : Thread nD τ) 0 S)
    ∗ (if k < 256 then iprop(Transfers.Batch (countersEmb (U := Pipeline.UD sig nD τ)) (c : Thread nD τ) (.dma (gs s)) () NN (D (F := F) c s T q W) 256 (k * NN)
          ∗ (tabW.view.loc (c : Thread nD τ) ↦{Transfers.shareDrop q 256} (T : Buf (Elt F) _)))
      else iprop(semVal ((c : Thread nD τ), SemLoc.dma (gs s)) 0
        ∗ (bufW.view.loc (c : Thread nD τ) ↦[slotSet c s]{fullShare} (gath T W : Buf (Elt F) _)) ∗ (tabW.view.loc (c : Thread nD τ) ↦{q} (T : Buf (Elt F) _)))))

theorem drain_start (c : Dev nD) (s : ℕ) (T : BufTy.Contents (Elt F) tabW.view.ty) (q : PosShare TreeShare) (W : ℕ → ℕ) (S : Waits sig Unit) :
    iprop(owes (c : Thread nD τ) 0 S ∗ issuing (F := F) c s T q W 256) ⊢ draining (F := F) c s T q W 0 := by
  unfold draining issuing
  rw [if_pos (by decide), Nat.zero_mul]
  iintro ⟨HO, HB, -, HT⟩
  isplitl [HO]; · iexists S; iexact HO
  isplitl [HB]; · iexact HB
  iexact HT

theorem drain_step (c : Dev nD) (bd : Option Variants.none.V) {s : ℕ} {T : BufTy.Contents (Elt F) tabW.view.ty} {q : PosShare TreeShare} {W : ℕ → ℕ} {j : ℕ} (hj : j < 256)
    {off h off2 h2 hq off3 h3} {sem : DmaSem sig} (hsm : sem = gs s) {α : Type} {Q : α → sProp 𝕄}
    {hsrc hdst} {k : PUnit → Prog (TpuEff nD τ sig (Elt F) Λ₀ (c : Thread nD τ).2) α} :
    draining (F := F) c s T q W j
      ⊢ iprop((draining (F := F) c s T q W (j + 1) -∗ wp frame (wpE (defs₀ (F := F)) Variants.none (c : Thread nD τ) bd) Set.univ (k ⟨⟩) Q)
          -∗ wp frame (wpE (defs₀ (F := F)) Variants.none (c : Thread nD τ) bd) Set.univ
            (.op (.waitDma2 sem (srcM off3 h3) (dstM off h off2 h2 hq) hsrc hdst) k) Q) := by
  subst hsm
  unfold draining
  rw [if_pos hj]
  iintro ⟨⟨%S, HO⟩, HB, HT⟩ Hk
  by_cases hl : j + 1 < 256
  · rw [if_pos hl]
    iapply (Transfers.wp_waitBatch (countersEmb (U := Pipeline.UD sig nD τ)) Variants.none (c : Thread nD τ) bd () (N := NN) (u := j * NN) (W := S) (show (dstM off h off2 h2 hq).view.dmaCredit = NN from rfl)
      (by have := NN_pos; rw [Nat.mul_comm NN, ← Nat.succ_mul]; exact Nat.mul_lt_mul_of_pos_right hl this)) $$ [HB HO]
    · isplitl [HB]; · iexact HB
      iexact HO
    iintro ⟨HB, HO⟩
    iapply Hk
    isplitl [HO]; · iexists _; iexact HO
    isplitl [HB]; · rw [Nat.succ_mul]; iexact HB
    iexact HT
  · rw [if_neg hl]
    obtain rfl : j = 255 := by omega
    iapply (Transfers.wp_waitBatchLast (countersEmb (U := Pipeline.UD sig nD τ)) Variants.none (c : Thread nD τ) bd () (N := NN) (u := 255 * NN) (W := S) (show (dstM off h off2 h2 hq).view.dmaCredit = NN from rfl) NN_pos
      (by rw [Nat.mul_comm NN, ← Nat.succ_mul])) $$ [HB HO]
    · isplitl [HB]; · iexact HB
      iexact HO
    iintro ⟨HD, HS, HO⟩
    iapply Hk
    isplitl [HO]; · iexists _; iexact HO
    isplitl [HS]; · iexact HS
    iapply (drain_done (F := F) c s T q W)
    isplitl [HD]; · iexact HD
    iexact HT

theorem trip_t4 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) {s : ℕ} (hs : s = (i 0).val % 2) (T : BufTy.Contents (Elt F) tabW.view.ty) (q : PosShare TreeShare) (W : ℕ → ℕ) (k : Fin k0_t4_loop.trips) :
    draining (F := F) c s T q W k.val
      ⊢ wp frame (wpE (defs₀ (F := F)) Variants.none (c : Thread nD τ) none) Set.univ (k0_t4_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 k PUnit.unit)
          (fun _ => draining (F := F) c s T q W (k.val + 1)) := by
  have hk : k.val < 256 := Nat.lt_of_lt_of_le k.isLt k0_t4_abs.2.1
  unfold k0_t4_body
  iintro H
  sl_exec
  iapply (drain_step (F := F) c none hk (gs_of (s := s) (by omega) (by rw [k0_off69_eq i, hs]))) $$ H
  iintro H
  sl_step
  iexact H

theorem trips_t1 : k0_t1_loop.trips = 32 := by decide +kernel
theorem trips_t2 : k0_t2_loop.trips = 32 := by decide +kernel
theorem trips_t4 : k0_t4_loop.trips = 256 := by decide +kernel

end T1

end Cert.LogitGradsIdeal.Hand

end
-- ==== Proof.LiChunks.lean ====
/- The two chunk loops of the logits kernel at any float instance: ten chunks of 512 sampled rows, forward (the running
   maximum and sum of each lane, the exponentials and the maximum each chunk took) and back (the gradient of the negatives'
   logits, and its product with the sampled rows added up), each trip's effect on the arrays stated as values. -/
module

public import proofs.«01_k».proof.Proof.Gen.LogitGradsIdeal.Frame
public import proofs.«01_k».proof.Proof.Gen.LogitGradsIdeal.Skeleton
public import proofs.«01_k».proof.Proof.LiRows
public import Idealize.ShloMosaic.Lib.VecWindow
public import Idealize.ShloMosaic.Lib.WritesUnit

@[expose] public section

set_option maxRecDepth 8192
set_option maxHeartbeats 1000000

noncomputable section

namespace Cert.LogitGradsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGradsIdeal.Gen

variable {F : FTy → Type} [FloatOps F]

/-- The resource algebra: the frame kit's with counters. -/
local notation "𝕄" => MT nD τ sig Unit (Elt F) ℕ (Pipeline.UD sig nD τ) ℕ

theorem inb_rows (k : ℕ) (a : Fin 2) : (![512 * (k % 10), 0] : Fin 2 → ℕ) a + S512x2560.size a ≤ S5120x2560.size a := by
  have := Nat.mod_lt k (show 0 < 10 by decide)
  match a with
  | ⟨0, _⟩ => show 512 * (k % 10) + 512 ≤ 5120; omega
  | ⟨1, _⟩ => show 0 + 2560 ≤ 2560; omega
theorem inb_line (k : ℕ) (a : Fin 2) : (![0, 512 * (k % 10)] : Fin 2 → ℕ) a + S1x512.size a ≤ S1x5120.size a := by
  have := Nat.mod_lt k (show 0 < 10 by decide)
  match a with
  | ⟨0, _⟩ => show 0 + 1 ≤ 1; omega
  | ⟨1, _⟩ => show 512 * (k % 10) + 512 ≤ 5120; omega
theorem inb_cols (k : ℕ) (a : Fin 2) : (![0, 512 * (k % 10)] : Fin 2 → ℕ) a + S256x512.size a ≤ S256x5120.size a := by
  have := Nat.mod_lt k (show 0 < 10 by decide)
  match a with
  | ⟨0, _⟩ => show 0 + 256 ≤ 256; omega
  | ⟨1, _⟩ => show 512 * (k % 10) + 512 ≤ 5120; omega
theorem inb_tile (k j : ℕ) (a : Fin 2) : (![0, 512 * (k % 10) + 128 * (j % 4)] : Fin 2 → ℕ) a + S256x128.size a ≤ S256x5120.size a := by
  have := Nat.mod_lt k (show 0 < 10 by decide)
  have := Nat.mod_lt j (show 0 < 4 by decide)
  match a with
  | ⟨0, _⟩ => show 0 + 256 ≤ 256; omega
  | ⟨1, _⟩ => show 512 * (k % 10) + 128 * (j % 4) + 128 ≤ 5120; omega
theorem inb_m (k : ℕ) (a : Fin 3) : (![k % 10, 0, 0] : Fin 3 → ℕ) a + S1x256x128.size a ≤ S10x256x128.size a := by
  have := Nat.mod_lt k (show 0 < 10 by decide)
  match a with
  | ⟨0, _⟩ => show k % 10 + 1 ≤ 10; omega
  | ⟨1, _⟩ => show 0 + 256 ≤ 256; omega
  | ⟨2, _⟩ => show 0 + 128 ≤ 128; omega

/-- The sampled rows of chunk `k`. -/
def wsC (w : Vec F S5120x2560 .bf16) (k : ℕ) : Vec F S512x2560 .bf16 := VecWindow.window (s := S5120x2560) w ![512 * (k % 10), 0] S512x2560.size (inb_rows k)
/-- Chunk `k` of a line over the sampled ids. -/
def lineC (l : Vec F S1x5120 .f32) (k : ℕ) : Vec F S1x512 .f32 := VecWindow.window (s := S1x5120) l ![0, 512 * (k % 10)] S1x512.size (inb_line k)

/-- What a block of tokens is given: its `x`, the sampled rows, their log-probabilities and ids, and the block's targets. -/
structure Arg (F : FTy → Type) [FloatOps F] where
  x : Vec F S256x2560 .bf16
  w : Vec F S5120x2560 .bf16
  lq : Vec F S1x5120 .f32
  sid : Vec F S1x5120 .f32
  tg : Vec F S256x1 .f32

namespace Arg
variable (A : Arg F)
/-- The running maximum and sum of each lane before chunk `k`. -/
def st : ℕ → FVec F S256x128 .f32 × FVec F S256x128 .f32
  | 0 => (k0_pay24 (F := F), k0_pay25 (F := F))
  | k + 1 => (k0_pay10 (k0_pay20 A.tg) (st k).1 A.x (wsC A.w k) (lineC A.lq k) (lineC A.sid k),
      k0_pay30 (k0_pay8 (k0_pay20 A.tg) A.x (wsC A.w k) (lineC A.lq k) (lineC A.sid k)) (k0_pay9 (k0_pay20 A.tg) A.x (wsC A.w k) (lineC A.lq k) (lineC A.sid k))
        (k0_pay10 (k0_pay20 A.tg) (st k).1 A.x (wsC A.w k) (lineC A.lq k) (lineC A.sid k))
        (k0_pay14 (k0_pay20 A.tg) (st k).1 (st k).2 A.x (wsC A.w k) (lineC A.lq k) (lineC A.sid k)))
/-- Tile `j` of the exponentials of chunk `k`. -/
def eT (k : ℕ) : ℕ → FVec F S256x128 .f32
  | 0 => k0_pay12 (k0_pay20 A.tg) (A.st k).1 A.x (wsC A.w k) (lineC A.lq k) (lineC A.sid k)
  | 1 => k0_pay26 (k0_pay13 (k0_pay20 A.tg) (A.st k).1 A.x (wsC A.w k) (lineC A.lq k) (lineC A.sid k))
  | 2 => k0_pay28 (k0_pay8 (k0_pay20 A.tg) A.x (wsC A.w k) (lineC A.lq k) (lineC A.sid k)) (A.st (k + 1)).1
  | _ => k0_pay31 (k0_pay9 (k0_pay20 A.tg) A.x (wsC A.w k) (lineC A.lq k) (lineC A.sid k)) (A.st (k + 1)).1
/-- All the exponentials. -/
def eA : Vec F S256x5120 .f32 := fun y => A.eT ((y 1).val / 512) ((y 1).val % 512 / 128)
  (fun | 0 => (y 0 : Fin 256) | 1 => (⟨(y 1).val % 128, Nat.mod_lt _ (by decide)⟩ : Fin 128) : S256x128.Idx)
/-- The maximum each chunk took. -/
def mA : Vec F S10x256x128 .f32 := fun y => k0_pay32 (A.st ((y 0).val + 1)).1
  (fun | 0 => (⟨0, by decide⟩ : Fin 1) | 1 => (y 1 : Fin 256) | 2 => (y 2 : Fin 128) : S1x256x128.Idx)
/-- The gradient of the negatives' logits, tile `j` of chunk `k`, with the gradient scale `g` and the log-sum `l`. -/
def dT (g l : FVec F S256x1 .f32) (k : ℕ) : ℕ → FVec F S256x128 .bf16
  | 0 => k0_pay16 g l (VecWindow.window (s := S10x256x128) A.mA ![k % 10, 0, 0] S1x256x128.size (inb_m k)) (VecWindow.window (s := S256x5120) A.eA ![0, 512 * (k % 10) + 128 * (0 % 4)] S256x128.size (inb_tile k 0))
  | 1 => k0_pay17 g l (VecWindow.window (s := S10x256x128) A.mA ![k % 10, 0, 0] S1x256x128.size (inb_m k)) (VecWindow.window (s := S256x5120) A.eA ![0, 512 * (k % 10) + 128 * (1 % 4)] S256x128.size (inb_tile k 1))
  | 2 => k0_pay18 g l (VecWindow.window (s := S10x256x128) A.mA ![k % 10, 0, 0] S1x256x128.size (inb_m k)) (VecWindow.window (s := S256x5120) A.eA ![0, 512 * (k % 10) + 128 * (2 % 4)] S256x128.size (inb_tile k 2))
  | _ => k0_pay2 (k0_pay15 g l (VecWindow.window (s := S10x256x128) A.mA ![k % 10, 0, 0] S1x256x128.size (inb_m k))) (VecWindow.window (s := S256x5120) A.eA ![0, 512 * (k % 10) + 128 * (3 % 4)] S256x128.size (inb_tile k 3))
/-- All of it. -/
def dA (g l : FVec F S256x1 .f32) : Vec F S256x5120 .bf16 := fun y => A.dT g l ((y 1).val / 512) ((y 1).val % 512 / 128)
  (fun | 0 => (y 0 : Fin 256) | 1 => (⟨(y 1).val % 128, Nat.mod_lt _ (by decide)⟩ : Fin 128) : S256x128.Idx)
/-- The accumulator before chunk `k` of the way back, from `a0`. -/
def ac (g l : FVec F S256x1 .f32) (a0 : Vec F S256x2560 .f32) : ℕ → Vec F S256x2560 .f32
  | 0 => a0
  | k + 1 => k0_pay3 (ac g l a0 k) (VecWindow.window (s := S256x5120) (A.dA g l) ![0, 512 * (k % 10)] S256x512.size (inb_cols k)) (wsC A.w k)
end Arg

/-- Four tiles of 128 columns written side by side over the columns of chunk `k`, read back: what each tile holds there, and
    before chunk `k` what was there. -/
theorem four_tiles {e : EltTy} (v : View sig .tc .vmem S256x5120 e) (f : v.ty.Contents (Elt F)) (G : S256x5120.Idx → Elt F e) (k : ℕ)
    {o0 o1 o2 o3 : Fin 2 → ℕ} {b0 : ∀ a, o0 a + S256x128.size a ≤ S256x5120.size a} {b1 : ∀ a, o1 a + S256x128.size a ≤ S256x5120.size a} {b2 : ∀ a, o2 a + S256x128.size a ≤ S256x5120.size a} {b3 : ∀ a, o3 a + S256x128.size a ≤ S256x5120.size a}
    (h0 : o0 = ![0, 512 * k + 128 * 0]) (h1 : o1 = ![0, 512 * k + 128 * 1]) (h2 : o2 = ![0, 512 * k + 128 * 2]) (h3 : o3 = ![0, 512 * k + 128 * 3])
    (w0 w1 w2 w3 : S256x128.Idx → Elt F e)
    (g0 : ∀ (y : S256x5120.Idx) (x : S256x128.Idx), (y 0).val = (x 0).val → (y 1).val = 512 * k + 128 * 0 + (x 1).val → w0 x = G y)
    (g1 : ∀ (y : S256x5120.Idx) (x : S256x128.Idx), (y 0).val = (x 0).val → (y 1).val = 512 * k + 128 * 1 + (x 1).val → w1 x = G y)
    (g2 : ∀ (y : S256x5120.Idx) (x : S256x128.Idx), (y 0).val = (x 0).val → (y 1).val = 512 * k + 128 * 2 + (x 1).val → w2 x = G y)
    (g3 : ∀ (y : S256x5120.Idx) (x : S256x128.Idx), (y 0).val = (x 0).val → (y 1).val = 512 * k + 128 * 3 + (x 1).val → w3 x = G y)
    (y : S256x5120.Idx) (hy : (y 1).val < 512 * (k + 1)) (hold : (y 1).val < 512 * k → v.read (Elt F) f y = G y) :
    v.read (Elt F) (v.writes (Elt F) f [⟨Rect.unit (s := S256x5120) o3 S256x128.size b3, w3⟩, ⟨Rect.unit (s := S256x5120) o2 S256x128.size b2, w2⟩,
      ⟨Rect.unit (s := S256x5120) o1 S256x128.size b1, w1⟩, ⟨Rect.unit (s := S256x5120) o0 S256x128.size b0, w0⟩]) y = G y := by
  have key : ∀ (n : ℕ) (hn : (y 1).val / 128 = 4 * k + n) , (y 1).val = 512 * k + 128 * n + (y 1).val % 128 := by intro n hn; omega
  have mem : ∀ (n : ℕ) (hn : (y 1).val / 128 = 4 * k + n) (a : Fin 2), (y a).val = (![0, 512 * k + 128 * n] : Fin 2 → ℕ) a
      + ((fun | 0 => (y 0 : Fin 256) | 1 => (⟨(y 1).val % 128, Nat.mod_lt _ (by decide)⟩ : Fin 128) : S256x128.Idx) a).val := by
    intro n hn a
    match a with
    | ⟨0, _⟩ => show (y 0).val = 0 + (y 0).val; omega
    | ⟨1, _⟩ => show (y 1).val = 512 * k + 128 * n + (y 1).val % 128; omega
  by_cases hb : (y 1).val < 512 * k
  · rw [View.read_writes_cons_unit_of_not_mem v f b3 w3 _ y h3 (1 : Fin 2) (Or.inl (by show (y 1).val < 512 * k + 128 * 3; omega)),
      View.read_writes_cons_unit_of_not_mem v f b2 w2 _ y h2 (1 : Fin 2) (Or.inl (by show (y 1).val < 512 * k + 128 * 2; omega)),
      View.read_writes_cons_unit_of_not_mem v f b1 w1 _ y h1 (1 : Fin 2) (Or.inl (by show (y 1).val < 512 * k + 128 * 1; omega)),
      View.read_writes_cons_unit_of_not_mem v f b0 w0 _ y h0 (1 : Fin 2) (Or.inl (by show (y 1).val < 512 * k + 128 * 0; omega)), View.writes_nil]
    exact hold hb
  have hc : (y 1).val / 128 = 4 * k + 0 ∨ (y 1).val / 128 = 4 * k + 1 ∨ (y 1).val / 128 = 4 * k + 2 ∨ (y 1).val / 128 = 4 * k + 3 := by omega
  rcases hc with hn | hn | hn | hn
  · rw [View.read_writes_cons_unit_of_not_mem v f b3 w3 _ y h3 (1 : Fin 2) (Or.inl (by show (y 1).val < 512 * k + 128 * 3; omega)),
      View.read_writes_cons_unit_of_not_mem v f b2 w2 _ y h2 (1 : Fin 2) (Or.inl (by show (y 1).val < 512 * k + 128 * 2; omega)),
      View.read_writes_cons_unit_of_not_mem v f b1 w1 _ y h1 (1 : Fin 2) (Or.inl (by show (y 1).val < 512 * k + 128 * 1; omega)),
      View.read_writes_cons_unit_of_mem v f b0 w0 _ y _ h0 (mem 0 hn)]
    exact g0 y _ rfl (key 0 hn)
  · rw [View.read_writes_cons_unit_of_not_mem v f b3 w3 _ y h3 (1 : Fin 2) (Or.inl (by show (y 1).val < 512 * k + 128 * 3; omega)),
      View.read_writes_cons_unit_of_not_mem v f b2 w2 _ y h2 (1 : Fin 2) (Or.inl (by show (y 1).val < 512 * k + 128 * 2; omega)),
      View.read_writes_cons_unit_of_mem v f b1 w1 _ y _ h1 (mem 1 hn)]
    exact g1 y _ rfl (key 1 hn)
  · rw [View.read_writes_cons_unit_of_not_mem v f b3 w3 _ y h3 (1 : Fin 2) (Or.inl (by show (y 1).val < 512 * k + 128 * 3; omega)),
      View.read_writes_cons_unit_of_mem v f b2 w2 _ y _ h2 (mem 2 hn)]
    exact g2 y _ rfl (key 2 hn)
  · rw [View.read_writes_cons_unit_of_mem v f b3 w3 _ y _ h3 (mem 3 hn)]
    exact g3 y _ rfl (key 3 hn)

/-- The exponentials at a place of tile `j` of chunk `k`. -/
theorem Arg.eA_at (A : Arg F) (k j : ℕ) (hj : j < 4) (y : S256x5120.Idx) (x : S256x128.Idx) (h0 : (y 0).val = (x 0).val) (h1 : (y 1).val = 512 * k + 128 * j + (x 1).val) :
    A.eT k j x = A.eA y := by
  have hx : (x 1).val < 128 := (x 1).isLt
  unfold Arg.eA
  rw [show (y 1).val / 512 = k by omega, show (y 1).val % 512 / 128 = j by omega]
  congr 1
  funext a
  apply Fin.ext
  match a with
  | ⟨0, _⟩ => exact h0.symm
  | ⟨1, _⟩ => show (x 1).val = (y 1).val % 128; omega

/-- A slab written at place `k` of the maxima's array, read back. -/
theorem one_slab (v : View sig .tc .vmem S10x256x128 .f32) (f : v.ty.Contents (Elt F)) (G : S10x256x128.Idx → Elt F .f32) (k : ℕ)
    {o : Fin 3 → ℕ} {b : ∀ a, o a + S1x256x128.size a ≤ S10x256x128.size a} (h : o = ![k, 0, 0]) (w : S1x256x128.Idx → Elt F .f32)
    (g : ∀ (y : S10x256x128.Idx) (x : S1x256x128.Idx), (y 0).val = k → (y 1).val = (x 1).val → (y 2).val = (x 2).val → w x = G y)
    (hold : ∀ y : S10x256x128.Idx, (y 0).val < k → v.read (Elt F) f y = G y) (y : S10x256x128.Idx) (hy : (y 0).val < k + 1) :
    v.read (Elt F) (v.writes (Elt F) f [⟨Rect.unit (s := S10x256x128) o S1x256x128.size b, w⟩]) y = G y := by
  by_cases hb : (y 0).val < k
  · rw [View.read_writes_cons_unit_of_not_mem v f b w _ y h (0 : Fin 3) (Or.inl (by show (y 0).val < k; omega)), View.writes_nil]
    exact hold y hb
  · have e : (y 0).val = k := by omega
    rw [View.read_writes_cons_unit_of_mem v f b w _ y (fun | 0 => (⟨0, by decide⟩ : Fin 1) | 1 => (y 1 : Fin 256) | 2 => (y 2 : Fin 128) : S1x256x128.Idx) h (fun a => by
      match a with
      | ⟨0, _⟩ => show (y 0).val = k + 0; omega
      | ⟨1, _⟩ => show (y 1).val = 0 + (y 1).val; omega
      | ⟨2, _⟩ => show (y 2).val = 0 + (y 2).val; omega)]
    exact g y _ e rfl rfl

theorem Arg.mA_at (A : Arg F) (k : ℕ) (y : S10x256x128.Idx) (x : S1x256x128.Idx) (h0 : (y 0).val = k) (h1 : (y 1).val = (x 1).val) (h2 : (y 2).val = (x 2).val) :
    k0_pay32 (A.st (k + 1)).1 x = A.mA y := by
  have hx : (x 0).val < 1 := (x 0).isLt
  unfold Arg.mA
  rw [h0]
  congr 1
  funext a
  apply Fin.ext
  match a with
  | ⟨0, _⟩ => show (x 0).val = 0; omega
  | ⟨1, _⟩ => exact h1.symm
  | ⟨2, _⟩ => exact h2.symm

theorem Arg.dA_at (A : Arg F) (g l : FVec F S256x1 .f32) (k j : ℕ) (hj : j < 4) (y : S256x5120.Idx) (x : S256x128.Idx) (h0 : (y 0).val = (x 0).val) (h1 : (y 1).val = 512 * k + 128 * j + (x 1).val) :
    A.dT g l k j x = A.dA g l y := by
  have hx : (x 1).val < 128 := (x 1).isLt
  unfold Arg.dA
  rw [show (y 1).val / 512 = k by omega, show (y 1).val % 512 / 128 = j by omega]
  congr 1
  funext a
  apply Fin.ext
  match a with
  | ⟨0, _⟩ => exact h0.symm
  | ⟨1, _⟩ => show (x 1).val = (y 1).val % 128; omega

section T1
variable (c : Dev nD) (i : grid0.Coords)

theorem trip_t3 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (A : Arg F) (X4 : BufTy.Contents (Elt F) arg4.view.ty) (X7 : BufTy.Contents (Elt F) arg7.view.ty) (X8 : BufTy.Contents (Elt F) arg8.view.ty) (X12 : BufTy.Contents (Elt F) arg12.view.ty)
    (h4 : arg4.view.read (Elt F) X4 = A.x) (h7 : arg7.view.read (Elt F) X7 = A.lq) (h8 : arg8.view.read (Elt F) X8 = A.sid) (h12 : arg12.view.read (Elt F) X12 = A.w)
    (f15 : BufTy.Contents (Elt F) arg15.view.ty) (f16 : BufTy.Contents (Elt F) arg16.view.ty) (k : Fin k0_t3_loop.trips)
    (h15 : ∀ y : S256x5120.Idx, (y 1).val < 512 * k.val → arg15.view.read (Elt F) f15 y = A.eA y)
    (h16 : ∀ y : S10x256x128.Idx, (y 0).val < k.val → arg16.view.read (Elt F) f16 y = A.mA y) :
    (iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (arg15.view.loc (c : Thread nD τ) ↦[arg15.view.set]{fullShare} f15) ∗ (arg16.view.loc (c : Thread nD τ) ↦[arg16.view.set]{fullShare} f16)) : sProp 𝕄)
      ⊢ wp frame (wpE (defs₀ (F := F)) Variants.none (c : Thread nD τ) none) Set.univ (k0_t3_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 A.tg k (A.st k.val))
          (fun yld => iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (∃ f15 : BufTy.Contents (Elt F) arg15.view.ty, (arg15.view.loc (c : Thread nD τ) ↦[arg15.view.set]{fullShare} f15) ∗ ⌜∀ y : S256x5120.Idx, (y 1).val < 512 * (k.val + 1) → arg15.view.read (Elt F) f15 y = A.eA y⌝)
      ∗ (∃ f16 : BufTy.Contents (Elt F) arg16.view.ty, (arg16.view.loc (c : Thread nD τ) ↦[arg16.view.set]{fullShare} f16) ∗ ⌜∀ y : S10x256x128.Idx, (y 0).val < k.val + 1 → arg16.view.read (Elt F) f16 y = A.mA y⌝)
      ∗ ⌜yld = A.st (k.val + 1)⌝)) := by
  have hk : k.val < 10 := Nat.lt_of_lt_of_le k.isLt k0_t3_abs.2.1
  have hkm : k.val % 10 = k.val := Nat.mod_eq_of_lt hk
  have e4 := View.readAt_full arg4.view X4 (off := ![0, 0]) inb_S256x2560_S256x2560_0_0
  have e12 := View.readAt_unit arg12.view X12 (k0_off65_inb k) (show k0_off65 k = ![512 * (k.val % 10), 0] by rw [hkm]; exact k0_off65_eq k) (inb_rows k.val)
  have e7 := View.readAt_unit arg7.view X7 (k0_off66_inb k) (show k0_off66 k = ![0, 512 * (k.val % 10)] by rw [hkm]; exact k0_off66_eq k) (inb_line k.val)
  have e8 := View.readAt_unit arg8.view X8 (k0_off66_inb k) (show k0_off66 k = ![0, 512 * (k.val % 10)] by rw [hkm]; exact k0_off66_eq k) (inb_line k.val)
  rw [h4] at e4; rw [h12] at e12; rw [h7] at e7; rw [h8] at e8
  unfold k0_t3_body
  iintro ⟨H4, H7, H8, H12, H15, H16⟩
  sl_exec
  sl_step
  isplitl [H4]; · iexact H4
  isplitl [H7]; · iexact H7
  isplitl [H8]; · iexact H8
  isplitl [H12]; · iexact H12
  isplitl [H15]
  · iexists _; isplitl [H15]; · iexact H15
    ipureintro
    exact fun y hy => four_tiles arg15.view f15 A.eA k.val (k0_off67_eq k 0) (k0_off67_eq k 1) (k0_off67_eq k 2) (k0_off67_eq k 3)
      (A.eT k.val 0) (A.eT k.val 1) (A.eT k.val 2) (A.eT k.val 3) (A.eA_at k.val 0 (by decide)) (A.eA_at k.val 1 (by decide)) (A.eA_at k.val 2 (by decide)) (A.eA_at k.val 3 (by decide)) y hy (h15 y)
  isplitl [H16]
  · iexists _; isplitl [H16]; · iexact H16
    ipureintro
    exact one_slab arg16.view f16 A.mA k.val (k0_off68_eq k) (k0_pay32 (A.st (k.val + 1)).1) (A.mA_at k.val) h16
  ipureintro
  rfl

theorem trip_t5 (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (A : Arg F) (g l : FVec F S256x1 .f32) (a0 : Vec F S256x2560 .f32) (X12 : BufTy.Contents (Elt F) arg12.view.ty) (X15 : BufTy.Contents (Elt F) arg15.view.ty) (X16 : BufTy.Contents (Elt F) arg16.view.ty)
    (h12 : arg12.view.read (Elt F) X12 = A.w) (h15 : arg15.view.read (Elt F) X15 = A.eA) (h16 : arg16.view.read (Elt F) X16 = A.mA)
    (f10 : BufTy.Contents (Elt F) arg10.view.ty) (f17 : BufTy.Contents (Elt F) arg17.view.ty) (k : Fin k0_t5_loop.trips)
    (h10 : ∀ y : S256x5120.Idx, (y 1).val < 512 * k.val → arg10.view.read (Elt F) f10 y = A.dA g l y)
    (h17 : arg17.view.read (Elt F) f17 = A.ac g l a0 k.val) :
    (iprop((arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16)
      ∗ (arg10.view.loc (c : Thread nD τ) ↦[arg10.view.set]{fullShare} f10) ∗ (arg17.view.loc (c : Thread nD τ) ↦[arg17.view.set]{fullShare} f17)) : sProp 𝕄)
      ⊢ wp frame (wpE (defs₀ (F := F)) Variants.none (c : Thread nD τ) none) Set.univ (k0_t5_body (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7 g l k PUnit.unit)
          (fun _ => iprop((arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16)
      ∗ (∃ f10 : BufTy.Contents (Elt F) arg10.view.ty, (arg10.view.loc (c : Thread nD τ) ↦[arg10.view.set]{fullShare} f10) ∗ ⌜∀ y : S256x5120.Idx, (y 1).val < 512 * (k.val + 1) → arg10.view.read (Elt F) f10 y = A.dA g l y⌝)
      ∗ (∃ f17 : BufTy.Contents (Elt F) arg17.view.ty, (arg17.view.loc (c : Thread nD τ) ↦[arg17.view.set]{fullShare} f17) ∗ ⌜arg17.view.read (Elt F) f17 = A.ac g l a0 (k.val + 1)⌝))) := by
  have hk : k.val < 10 := Nat.lt_of_lt_of_le k.isLt k0_t5_abs.2.1
  have hkm : k.val % 10 = k.val := Nat.mod_eq_of_lt hk
  have e12 := View.readAt_unit arg12.view X12 (k0_off76_inb k) (show k0_off76 k = ![512 * (k.val % 10), 0] by rw [hkm]; exact k0_off76_eq k) (inb_rows k.val)
  have e16 := View.readAt_unit arg16.view X16 (k0_off73_inb k) (show k0_off73 k = ![k.val % 10, 0, 0] by rw [hkm]; exact k0_off73_eq k) (inb_m k.val)
  have e15_0 := View.readAt_unit arg15.view X15 (k0_off74_inb k 0) (show k0_off74 k (BitVec.ofNat 32 (128 * (0 : Fin 4).val)) = ![0, 512 * (k.val % 10) + 128 * (0 % 4)] by rw [hkm]; exact k0_off74_eq k 0) (inb_tile k.val 0)
  have e15_1 := View.readAt_unit arg15.view X15 (k0_off74_inb k 1) (show k0_off74 k (BitVec.ofNat 32 (128 * (1 : Fin 4).val)) = ![0, 512 * (k.val % 10) + 128 * (1 % 4)] by rw [hkm]; exact k0_off74_eq k 1) (inb_tile k.val 1)
  have e15_2 := View.readAt_unit arg15.view X15 (k0_off74_inb k 2) (show k0_off74 k (BitVec.ofNat 32 (128 * (2 : Fin 4).val)) = ![0, 512 * (k.val % 10) + 128 * (2 % 4)] by rw [hkm]; exact k0_off74_eq k 2) (inb_tile k.val 2)
  have e15_3 := View.readAt_unit arg15.view X15 (k0_off74_inb k 3) (show k0_off74 k (BitVec.ofNat 32 (128 * (3 : Fin 4).val)) = ![0, 512 * (k.val % 10) + 128 * (3 % 4)] by rw [hkm]; exact k0_off74_eq k 3) (inb_tile k.val 3)
  have e17 := View.readAt_full arg17.view f17 (off := ![0, 0]) inb_S256x2560_S256x2560_0_0
  rw [h12] at e12; rw [h15] at e15_0 e15_1 e15_2 e15_3; rw [h16] at e16; rw [h17] at e17
  unfold k0_t5_body
  iintro ⟨H12, H15, H16, H10, H17⟩
  sl_exec
  sl_step
  isplitl [H12]; · iexact H12
  isplitl [H15]; · iexact H15
  isplitl [H16]; · iexact H16
  have p10 := fun y hy => four_tiles arg10.view f10 (A.dA g l) k.val (b0 := k0_off74_inb k 0) (b1 := k0_off74_inb k 1) (b2 := k0_off74_inb k 2) (b3 := k0_off74_inb k 3) (k0_off74_eq k 0) (k0_off74_eq k 1) (k0_off74_eq k 2) (k0_off74_eq k 3)
      (A.dT g l k.val 0) (A.dT g l k.val 1) (A.dT g l k.val 2) (A.dT g l k.val 3) (A.dA_at g l k.val 0 (by decide)) (A.dA_at g l k.val 1 (by decide)) (A.dA_at g l k.val 2 (by decide)) (A.dA_at g l k.val 3 (by decide)) y hy (h10 y)
  have p17 := (View.readAt_unit arg10.view (arg10.view.writes (Elt F) arg10.view.junk [⟨Rect.unit (k0_off74 k (BitVec.ofNat 32 (128 * (3 : Fin 4).val))) S256x128.size (k0_off74_inb k 3), A.dT g l k.val 3⟩,
        ⟨Rect.unit (k0_off74 k (BitVec.ofNat 32 (128 * (2 : Fin 4).val))) S256x128.size (k0_off74_inb k 2), A.dT g l k.val 2⟩,
        ⟨Rect.unit (k0_off74 k (BitVec.ofNat 32 (128 * (1 : Fin 4).val))) S256x128.size (k0_off74_inb k 1), A.dT g l k.val 1⟩,
        ⟨Rect.unit (k0_off74 k (BitVec.ofNat 32 (128 * (0 : Fin 4).val))) S256x128.size (k0_off74_inb k 0), A.dT g l k.val 0⟩])
      (k0_off75_inb k) (show k0_off75 k = ![0, 512 * (k.val % 10)] by rw [hkm]; exact k0_off75_eq k) (inb_cols k.val)).trans
    (show _ = VecWindow.window (s := S256x5120) (A.dA g l) ![0, 512 * (k.val % 10)] S256x512.size (inb_cols k.val) from funext fun x => by
      have hx : (x 1).val < 512 := (x 1).isLt
      refine four_tiles arg10.view _ (A.dA g l) k.val (b0 := k0_off74_inb k 0) (b1 := k0_off74_inb k 1) (b2 := k0_off74_inb k 2) (b3 := k0_off74_inb k 3) (k0_off74_eq k 0) (k0_off74_eq k 1) (k0_off74_eq k 2) (k0_off74_eq k 3)
        (A.dT g l k.val 0) (A.dT g l k.val 1) (A.dT g l k.val 2) (A.dT g l k.val 3) (A.dA_at g l k.val 0 (by decide)) (A.dA_at g l k.val 1 (by decide)) (A.dA_at g l k.val 2 (by decide)) (A.dA_at g l k.val 3 (by decide)) _ ?_ ?_
      · show 512 * (k.val % 10) + 1 * (x 1).val < _; omega
      · intro h; exfalso; have h' : 512 * (k.val % 10) + 1 * (x 1).val < 512 * k.val := h; omega)
  isplitl [H10]
  · iexists _; isplitl [H10]; · iexact H10
    ipureintro
    sl_unfold_words
    simp only [e16, e15_0, e15_1, e15_2, e15_3]
    exact p10
  iexists _; isplitl [H17]; · iexact H17
  ipureintro
  sl_unfold_words
  simp only [e16, e15_0, e15_1, e15_2, e15_3, e17, e12]
  refine (View.read_writes_full arg17.view f17 _ _ []).trans ?_
  exact congrArg (fun z => k0_pay3 (A.ac g l a0 k.val) z (wsC A.w k.val)) p17
end T1

end Cert.LogitGradsIdeal.Hand

end
-- ==== Proof.LiParts.lean ====
/- The kernel's body cut in three: the first point's work, the next block's issue, the rest. -/
module

public import proofs.«01_k».proof.Proof.Gen.LogitGradsIdeal.Frame
public import proofs.«01_k».proof.Proof.Gen.LogitGradsIdeal.Skeleton

@[expose] public section

set_option maxRecDepth 8192
set_option maxHeartbeats 4000000

noncomputable section

namespace Cert.LogitGradsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGradsIdeal.Gen

variable {F : FTy → Type} [FloatOps F]

/-- The resource algebra: the frame kit's with counters. -/
local notation "𝕄" => MT nD τ sig Unit (Elt F) ℕ (Pipeline.UD sig nD τ) ℕ

/-- The first point's work: the weights fetched, the expansion matrix made, block 0's rows issued. -/
def headA (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) PUnit := do
  let arg0 : BitVec 32 := BitVec.ofNat 32 (i 0).val
  if k0_h1 : k0_cond1 i = 1#1 then do
    Prog.lift (.enqueueDma arg3 (.here arg12) (.dma arg18.sem) harg3.wordExact harg12.wordExact ⟨Or.inl rfl, trivial⟩)
    let v116 : Vec F S80x2560 .bf16 ← Prog.lift (.load arg14 (Rect.unit (s := S80x2560) ![0, 0] S80x2560.size inb_S80x2560_S80x2560_0_0).toLoadRect (View.loadsAt_vmem h_S80x2560))
    Prog.lift (.store arg14 (Rect.unit (s := S80x2560) ![0, 0] S80x2560.size inb_S80x2560_S80x2560_0_0) (k0_pay19 (F := F)) Finset.univ (View.stores_vmem h_S80x2560 (harg14.storeExact_slice rfl _ packedbf16_S80x2560_S80x2560_0_0) (fun _ => rfl)) (.inl rfl))
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 k0_h1)
    Prog.lift (.waitDma2 arg18.sem arg3 arg12 harg3.wordExact harg12.wordExact)
    pure ⟨⟩
  else do
    pure ⟨⟩

/-- The next block's rows issued, if there is a next block. -/
def headB (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) PUnit := do
  let arg0 : BitVec 32 := BitVec.ofNat 32 (i 0).val
  if k0_h2 : k0_cond2 i = 1#1 then do
    let v85 : BitVec 32 := Scalar.addi arg0 1#32
    let v86 : BitVec 32 := Scalar.muli v85 256#32
    Scf.Loop.for k0_t2_loop (k0_t2_ok i k0_h2) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 k0_h2 v86)
    pure ⟨⟩
  else do
    pure ⟨⟩

/-- The forward pass over the chunks and the drain of this block's rows. -/
def partC (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) (Σ' (v11 : FVec F S256x1 .f32) (v13 : FVec F S256x1 .f32) (v16 : IVec S256x1 32) (v20_0 : FVec F S256x128 .f32) (v20_1 : FVec F S256x128 .f32) (v24 : IVec S256x2560 32), Vec F S80x256 .f32) := do
  let v8 : Vec F S256x1 .f32 ← Prog.lift (.load arg5 (Rect.unit (s := S256x4) ![0, 0] S256x1.size inb_S256x4_S256x1_0_0).toLoadRect (View.loadsAt_vmem h_S256x1))
  let v10 : Vec F S256x1 .f32 ← Prog.lift (.load arg5 (Rect.unit (s := S256x4) ![0, 1] S256x1.size inb_S256x4_S256x1_0_1).toLoadRect (View.loadsAt_vmem h_S256x1))
  let v12 : Vec F S256x1 .f32 ← Prog.lift (.load arg5 (Rect.unit (s := S256x4) ![0, 2] S256x1.size inb_S256x4_S256x1_0_2).toLoadRect (View.loadsAt_vmem h_S256x1))
  let v14 : Vec F S256x1 .f32 ← Prog.lift (.load arg5 (Rect.unit (s := S256x4) ![0, 3] S256x1.size inb_S256x4_S256x1_0_3).toLoadRect (View.loadsAt_vmem h_S256x1))
  let (v20_0, v20_1) ← Scf.Loop.for k0_t3_loop k0_t3_ok (k0_pay24 (F := F), k0_pay25 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v8)
  Scf.Loop.for k0_t4_loop k0_t4_ok ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19)
  let v23 : Vec F S1x256x2560 .i32 ← Prog.lift (.load arg13 (Rect.unit (s := S2x256x2560) (k0_off72 i) S1x256x2560.size (k0_off72_inb i)).toLoadRect (View.loadsAt_vmem h_S1x256x2560))
  let v25 : Vec F S80x256 .f32 ← Prog.lift (.load arg6 (Rect.unit (s := S80x256) ![0, 0] S80x256.size inb_S80x256_S80x256_0_0).toLoadRect (View.loadsAt_vmem h_S80x256))
  pure ⟨k0_pay21 v10, k0_pay22 v12, k0_pay23 v14, v20_0, v20_1, k0_pay33 v23, v25⟩

/-- The rest of the body. -/
def tailC (i : grid0.Coords) (arg1 : Memref sig .tc .smem S6144 .i32) (harg1 : arg1.IsWhole) (arg2 : Memref sig .tc .hbm S12576x2560 .i32) (harg2 : arg2.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg13 : Memref sig .tc .vmem S2x256x2560 .i32) (harg13 : arg13.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (arg19 : DmaSems sig S2) : Prog (TpuEff nD τ sig (Elt F) Λ₀ .tc) PUnit := do
  let ⟨v11, v13, v16, v20_0, v20_1, v24, v25⟩ : Σ' (v11 : FVec F S256x1 .f32) (v13 : FVec F S256x1 .f32) (v16 : IVec S256x1 32) (v20_0 : FVec F S256x128 .f32) (v20_1 : FVec F S256x128 .f32) (v24 : IVec S256x2560 32), Vec F S80x256 .f32 ← partC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
  let ⟨v36, v60, v65, v74⟩ : Σ' (v36 : FVec F S256x2560 .f32) (v60 : FVec F S256x1 .f32) (v65 : FVec F S256x1 .f32), FVec F S256x128 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v11 v13 v16 v20_0 v20_1 v24 v25
  let v75 : Vec F S256x128 .f32 ← Prog.lift (.load arg11 (Rect.unit (s := S256x128) ![0, 0] S256x128.size inb_S256x128_S256x128_0_0).toLoadRect (View.loadsAt_vmem h_S256x128))
  Prog.lift (.store arg11 (Rect.unit (s := S256x128) ![0, 0] S256x128.size inb_S256x128_S256x128_0_0) v74 Finset.univ (View.stores_vmem_bits_univ h_S256x128 rfl) (.inl rfl))
  let v78 : Vec F S256x2560 .f32 ← Prog.lift (.load arg17 (Rect.unit (s := S256x2560) ![0, 0] S256x2560.size inb_S256x2560_S256x2560_0_0).toLoadRect (View.loadsAt_vmem h_S256x2560))
  Prog.lift (.store arg17 (Rect.unit (s := S256x2560) ![0, 0] S256x2560.size inb_S256x2560_S256x2560_0_0) (k0_pay1 v36 v65) Finset.univ (View.stores_vmem_bits_univ h_S256x2560 rfl) (.inl rfl))
  Scf.Loop.for k0_t5_loop k0_t5_ok ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v13 v60)
  let v82 : Vec F S256x2560 .f32 ← Prog.lift (.load arg17 (Rect.unit (s := S256x2560) ![0, 0] S256x2560.size inb_S256x2560_S256x2560_0_0).toLoadRect (View.loadsAt_vmem h_S256x2560))
  let v84 : Vec F S256x2560 .bf16 ← Prog.lift (.load arg9 (Rect.unit (s := S256x2560) ![0, 0] S256x2560.size inb_S256x2560_S256x2560_0_0).toLoadRect (View.loadsAt_vmem h_S256x2560))
  Prog.lift (.store arg9 (Rect.unit (s := S256x2560) ![0, 0] S256x2560.size inb_S256x2560_S256x2560_0_0) (k0_pay4 v82) Finset.univ (View.stores_vmem h_S256x2560 (harg9.storeExact_slice rfl _ packedbf16_S256x2560_S256x2560_0_0) (fun _ => rfl)) (.inl rfl))
  pure ⟨⟩

theorem part7_split : k0_part7_skel (F := F) = fun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 => headA (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => headB (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => partC (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 := by
  funext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
  unfold k0_part7_skel headA headB partC
  by_cases h1 : k0_cond1 i = 1#1 <;> by_cases h2 : k0_cond2 i = 1#1
  all_goals simp only [h1, h2, dif_pos, dif_neg, ↓reduceDIte, Prog.bind_assoc, Prog.pure_eq_ret, Prog.bind_ret, not_false_eq_true]
theorem body_split : cc0_logit_grads (F := F) = fun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 => headA (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => headB (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => tailC (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 := by
  rw [cc0_logit_grads_eq_skeleton]
  funext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
  unfold cc0_logit_grads_skel tailC
  rw [k0_part7_eq_skeleton, part7_split]
  simp only [Prog.bind_assoc]

end Cert.LogitGradsIdeal.Hand
end
-- ==== Proof.LiBody.lean ====
/- The kernel's body on whole staging buffers: one block of 256 rows. -/
module

public import proofs.«01_k».proof.Proof.LiGather
public import proofs.«01_k».proof.Proof.LiChunks
public import proofs.«01_k».proof.Proof.LiParts

@[expose] public section

set_option maxRecDepth 8192
set_option maxHeartbeats 4000000

noncomputable section

namespace Cert.LogitGradsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LogitGradsIdeal.Gen

variable {F : FTy → Type} [FloatOps F]

/-- The resource algebra: the frame kit's with counters. -/
local notation "𝕄" => MT nD τ sig Unit (Elt F) ℕ (Pipeline.UD sig nD τ) ℕ

/-- What slot `s` is in before point `t`: at the first point nothing is in flight, after it block `t`'s rows are. -/
def slotAt (c : Dev nD) (s : ℕ) (T : BufTy.Contents (Elt F) tabW.view.ty) (q : PosShare TreeShare) (W : ℕ → ℕ) (b : Prop) [Decidable b] : sProp 𝕄 :=
  if b then issuing (F := F) c s T q W 256 else free (F := F) c s T q

section T1
variable (c : Dev nD) (i : grid0.Coords)

theorem cond1_iff : Iff (k0_cond1 i = 1#1) ((i 0).val = 0) := by
  have h : ∀ t : Fin 24, Iff (Scalar.cmpi .ne (Scalar.extui (Scalar.cmpi .eq (BitVec.ofNat 32 t.val) 0#32) : BitVec 32) 0#32 = 1#1) (t.val = 0) := by decide +kernel
  exact h (i 0)
theorem cond2_iff : Iff (k0_cond2 i = 1#1) ((i 0).val + 1 < 24) := by
  have h : ∀ t : Fin 24, Iff (Scalar.cmpi .ne (Scalar.extui (Scalar.cmpi .slt (Scalar.addi (BitVec.ofNat 32 t.val) 1#32) 24#32) : BitVec 32) 0#32 = 1#1) (t.val + 1 < 24) := by decide +kernel
  exact h (i 0)

/-- The first point's work, or none: after it the weights and the expansion matrix are in place and this block's rows are in flight. -/
theorem head_A (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (X : BufTy.Contents (Elt F) arg1.view.ty) (X3 : BufTy.Contents (Elt F) arg3.view.ty)
    (hX : ∀ n < 6144, wrow arg1 X n < 12576) (T : BufTy.Contents (Elt F) tabW.view.ty) (q : PosShare TreeShare) (W : ℕ → ℕ)
    (hW : (i 0).val = 0 → W = fun r => wrow arg1 X r)
    (f12 : BufTy.Contents (Elt F) arg12.view.ty) (f14 : BufTy.Contents (Elt F) arg14.view.ty)
    (h12 : (i 0).val ≠ 0 → arg12.view.read (Elt F) f12 = arg3.view.read (Elt F) X3) (h14 : (i 0).val ≠ 0 → arg14.view.read (Elt F) f14 = k0_pay19 (F := F)) (S : Waits sig Unit) :
    (iprop((arg1.view.loc (c : Thread nD τ) ↦[arg1.view.set]{fullShare} X) ∗ (arg3.view.loc (c : Thread nD τ) ↦[arg3.view.set]{fullShare} X3)
      ∗ (arg12.view.loc (c : Thread nD τ) ↦[arg12.view.set]{fullShare} f12) ∗ (arg14.view.loc (c : Thread nD τ) ↦[arg14.view.set]{fullShare} f14)
      ∗ semVal ((c : Thread nD τ), SemLoc.dma arg18.sem) 0 ∗ owes (c : Thread nD τ) 0 S
      ∗ slotAt (F := F) c ((i 0).val % 2) T q W ((i 0).val ≠ 0)) : sProp 𝕄)
      ⊢ wp frame (wpE (defs₀ (F := F)) Variants.none (c : Thread nD τ) none) Set.univ (headA (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg1.view.loc (c : Thread nD τ) ↦[arg1.view.set]{fullShare} X) ∗ (arg3.view.loc (c : Thread nD τ) ↦[arg3.view.set]{fullShare} X3)
      ∗ (∃ f12 : BufTy.Contents (Elt F) arg12.view.ty, (arg12.view.loc (c : Thread nD τ) ↦[arg12.view.set]{fullShare} f12) ∗ ⌜arg12.view.read (Elt F) f12 = arg3.view.read (Elt F) X3⌝)
      ∗ (∃ f14 : BufTy.Contents (Elt F) arg14.view.ty, (arg14.view.loc (c : Thread nD τ) ↦[arg14.view.set]{fullShare} f14) ∗ ⌜arg14.view.read (Elt F) f14 = k0_pay19 (F := F)⌝)
      ∗ semVal ((c : Thread nD τ), SemLoc.dma arg18.sem) 0 ∗ (∃ S : Waits sig Unit, owes (c : Thread nD τ) 0 S)
      ∗ issuing (F := F) c ((i 0).val % 2) T q W 256)) := by
  unfold headA slotAt
  by_cases hi : (i 0).val = 0
  · have hc : k0_cond1 i = 1#1 := (cond1_iff i).2 hi
    rw [dif_pos hc, if_neg (not_not.mpr hi), hi, Nat.zero_mod]
    obtain rfl := hW hi
    iintro ⟨H1, H3, H12, H14, HS, HO, HT⟩
    imod (issue_start (F := F) c 0 T q (fun r => wrow arg1 X r)) $$ HT with HI
    sl_exec
    sl_for (fun (k : ℕ) (_ : PUnit) => iprop((arg1.view.loc (c : Thread nD τ) ↦[arg1.view.set]{fullShare} X) ∗ issuing (F := F) c 0 T q (fun r => wrow arg1 X r) (8 * k))) $$ [H1 HI]
    · intro k _
      exact trip_t1 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 hc X hX T q k
    · isplitl [H1]; · iexact H1
      iexact HI
    iintro %acc ⟨H1, HI⟩
    sl_exec
    sl_step
    isplitl [H1]; · iexact H1
    isplitl [H3]; · iexact H3
    isplitl [H12]
    · iexists _; isplitl [H12]; · iexact H12
      ipureintro
      sl_unfold_words
      exact View.read_writes_full arg12.view f12 _ _ []
    isplitl [H14]
    · iexists _; isplitl [H14]; · iexact H14
      ipureintro
      sl_unfold_words
      exact View.read_writes_full arg14.view _ _ _ []
    isplitl [HS]; · iexact HS
    isplitl [HO]; · iexists _; iexact HO
    iexact HI
  · have hc : ¬ k0_cond1 i = 1#1 := fun h => hi ((cond1_iff i).1 h)
    rw [dif_neg hc, if_pos hi]
    iintro ⟨H1, H3, H12, H14, HS, HO, HT⟩
    sl_step
    isplitl [H1]; · iexact H1
    isplitl [H3]; · iexact H3
    isplitl [H12]; · iexists f12; isplitl [H12]; · iexact H12
                     ipureintro; exact h12 hi
    isplitl [H14]; · iexists f14; isplitl [H14]; · iexact H14
                     ipureintro; exact h14 hi
    isplitl [HS]; · iexact HS
    isplitl [HO]; · iexists S; iexact HO
    iexact HT

/-- The next block's rows issued, when there is a next block. -/
theorem head_B (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (X : BufTy.Contents (Elt F) arg1.view.ty)
    (hX : ∀ n < 6144, wrow arg1 X n < 12576) (T : BufTy.Contents (Elt F) tabW.view.ty) (q : PosShare TreeShare) :
    (iprop((arg1.view.loc (c : Thread nD τ) ↦[arg1.view.set]{fullShare} X) ∗ free (F := F) c (1 - (i 0).val % 2) T q) : sProp 𝕄)
      ⊢ wp frame (wpE (defs₀ (F := F)) Variants.none (c : Thread nD τ) none) Set.univ (headB (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg1.view.loc (c : Thread nD τ) ↦[arg1.view.set]{fullShare} X)
            ∗ slotAt (F := F) c (1 - (i 0).val % 2) T q (fun r => wrow arg1 X (256 * ((i 0).val + 1) + r)) ((i 0).val + 1 < 24))) := by
  unfold headB slotAt
  by_cases hi : (i 0).val + 1 < 24
  · have hc : k0_cond2 i = 1#1 := (cond2_iff i).2 hi
    simp only [hc, hi, ↓reduceDIte, ↓reduceIte]
    iintro ⟨H1, HT⟩
    imod (issue_start (F := F) c (1 - (i 0).val % 2) T q (fun r => wrow arg1 X (256 * ((i 0).val + 1) + r))) $$ HT with HI
    sl_exec
    sl_for (fun (k : ℕ) (_ : PUnit) => iprop((arg1.view.loc (c : Thread nD τ) ↦[arg1.view.set]{fullShare} X) ∗ issuing (F := F) c (1 - (i 0).val % 2) T q (fun r => wrow arg1 X (256 * ((i 0).val + 1) + r)) (8 * k))) $$ [H1 HI]
    · intro k _
      exact trip_t2 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 hc _ hi X hX T q k
    · isplitl [H1]; · iexact H1
      iexact HI
    iintro %acc ⟨H1, HI⟩
    sl_exec
    sl_step
    isplitl [H1]; · iexact H1
    iexact HI
  · have hc : ¬ k0_cond2 i = 1#1 := fun h => hi ((cond2_iff i).1 h)
    simp only [hc, hi, ↓reduceDIte, ↓reduceIte]
    iintro ⟨H1, HT⟩
    sl_step
    isplitl [H1]; · iexact H1
    iexact HT

/-- A block's gathered words as the body reads them. -/
def wordsV (T : BufTy.Contents (Elt F) tabW.view.ty) (W : ℕ → ℕ) : Vec F S1x256x2560 .i32 :=
  fun x => T (tix (W ((x : S1x256x2560.Idx) 1).val) ((x : S1x256x2560.Idx) 2))

theorem slot_load (s : ℕ) {off : Fin 3 → ℕ} {h} (ho : off = ![s, 0, 0]) :
    bufW.view.setOn (Rect.unit (s := S2x256x2560) off S1x256x2560.size h).toLoadRect.set ⊆ slotSet c s := by
  subst ho
  intro x hx
  obtain ⟨y, hy, rfl⟩ := Finset.mem_map.mp hx
  have h1 := (Rect.mem_set_unit.mp hy) 0
  refine Finset.mem_filter.mpr ⟨Finset.mem_univ _, ?_⟩
  have h2 : s ≤ (y 0).val ∧ (y 0).val < s + 1 := h1
  show (y 0).val = s
  omega

theorem words_load (T : BufTy.Contents (Elt F) tabW.view.ty) (W : ℕ → ℕ) (s : ℕ) {off : Fin 3 → ℕ} {h} (ho : off = ![s, 0, 0]) :
    View.readAt (Elt F) bufW.view (Rect.unit (s := S2x256x2560) off S1x256x2560.size h).toLoadRect (gath T W) = wordsV T W := by
  subst ho
  funext x
  show T (tix (W (0 + 1 * (x 1).val)) _) = T (tix (W (x 1).val) (x 2))
  congr 2
  · congr 1; omega
  · apply Fin.ext; show 0 + 1 * (x 2).val = (x 2).val; omega

/-- The load of a block's gathered words. -/
theorem load_words (c : Dev nD) (bd : Option Variants.none.V) (T : BufTy.Contents (Elt F) tabW.view.ty) (W : ℕ → ℕ) (s : ℕ) {off : Fin 3 → ℕ} {h} (ho : off = ![s, 0, 0])
    {hl} {α : Type} {Q : α → sProp 𝕄} {k : Vec F S1x256x2560 .i32 → Prog (TpuEff nD τ sig (Elt F) Λ₀ (c : Thread nD τ).2) α} :
    (iprop(bufW.view.loc (c : Thread nD τ) ↦[slotSet c s]{fullShare} (gath T W : Buf (Elt F) _)) : sProp 𝕄)
      ⊢ iprop(((bufW.view.loc (c : Thread nD τ) ↦[slotSet c s]{fullShare} (gath T W : Buf (Elt F) _)) -∗ wp frame (wpE (defs₀ (F := F)) Variants.none (c : Thread nD τ) bd) Set.univ (k (wordsV T W)) Q)
        -∗ wp frame (wpE (defs₀ (F := F)) Variants.none (c : Thread nD τ) bd) Set.univ
          (Prog.lift (.load bufW (Rect.unit (s := S2x256x2560) off S1x256x2560.size h).toLoadRect hl) >>= k) Q) := by
  rw [← words_load T W s (h := h) ho]
  exact wp_load Variants.none (c : Thread nD τ) bd Set.univ (slot_load c s (h := h) ho)

/-- What one block of tokens is given, whole. -/
structure Inp (F : FTy → Type) [FloatOps F] where
  x : Vec F S256x2560 .bf16
  w : Vec F S5120x2560 .bf16
  lq : Vec F S1x5120 .f32
  sid : Vec F S1x5120 .f32
  cols : Vec F S256x4 .f32
  sc : Vec F S80x256 .f32
  wd : Vec F S1x256x2560 .i32

namespace Inp
variable (I : Inp F)
/-- Column `k` of the block's four. -/
def c0 : Vec F S256x1 .f32 := VecWindow.window (s := S256x4) I.cols ![0, 0] S256x1.size inb_S256x4_S256x1_0_0
def c1 : Vec F S256x1 .f32 := VecWindow.window (s := S256x4) I.cols ![0, 1] S256x1.size inb_S256x4_S256x1_0_1
def c2 : Vec F S256x1 .f32 := VecWindow.window (s := S256x4) I.cols ![0, 2] S256x1.size inb_S256x4_S256x1_0_2
def c3 : Vec F S256x1 .f32 := VecWindow.window (s := S256x4) I.cols ![0, 3] S256x1.size inb_S256x4_S256x1_0_3
/-- What the chunks are given. -/
def arg : Arg F := ⟨I.x, I.w, I.lq, I.sid, I.c0⟩
/-- The log-sum of the block. -/
def lse : FVec F S256x1 .f32 := k0_pay36 (k0_pay21 I.c1) (k0_pay23 I.c3) (I.arg.st 10).1 (I.arg.st 10).2 (k0_pay33 I.wd) I.sc (k0_pay19 (F := F)) I.x
/-- The gradient of the targets' logits. -/
def dzt : FVec F S256x1 .f32 := k0_pay37 (k0_pay21 I.c1) (k0_pay22 I.c2) (k0_pay23 I.c3) (I.arg.st 10).1 (I.arg.st 10).2 (k0_pay33 I.wd) I.sc (k0_pay19 (F := F)) I.x
/-- The loss and that gradient, a lane each. -/
def stat : FVec F S256x128 .f32 := k0_pay38 (k0_pay21 I.c1) (k0_pay22 I.c2) (k0_pay23 I.c3) (I.arg.st 10).1 (I.arg.st 10).2 (k0_pay33 I.wd) I.sc (k0_pay19 (F := F)) I.x
/-- The gradient of the negatives' logits. -/
def dz : Vec F S256x5120 .bf16 := I.arg.dA (k0_pay22 I.c2) I.lse
/-- The gradient of the hidden rows. -/
def dh : Vec F S256x2560 .bf16 := k0_pay4 (I.arg.ac (k0_pay22 I.c2) I.lse (k0_pay1 (k0_pay34 (k0_pay23 I.c3) (k0_pay33 I.wd) I.sc (k0_pay19 (F := F))) I.dzt) 10)
end Inp

theorem trips_t3 : k0_t3_loop.trips = 10 := by decide +kernel
theorem trips_t5 : k0_t5_loop.trips = 10 := by decide +kernel

theorem full15 {A : Arg F} {r : Vec F S256x5120 .f32} (h : ∀ y : S256x5120.Idx, (y 1).val < 512 * k0_t3_loop.trips → r y = A.eA y) : r = A.eA := by
  rw [trips_t3] at h
  funext y
  have hy : (y 1).val < 5120 := (y 1).isLt
  exact h y (by omega)

theorem full16 {A : Arg F} {r : Vec F S10x256x128 .f32} (h : ∀ y : S10x256x128.Idx, (y 0).val < k0_t3_loop.trips → r y = A.mA y) : r = A.mA := by
  rw [trips_t3] at h
  funext y
  have hy : (y 0).val < 10 := (y 0).isLt
  exact h y hy

theorem full10 {A : Arg F} {g l : FVec F S256x1 .f32} {r : Vec F S256x5120 .bf16} (h : ∀ y : S256x5120.Idx, (y 1).val < 512 * k0_t5_loop.trips → r y = A.dA g l y) : r = A.dA g l := by
  rw [trips_t5] at h
  funext y
  have hy : (y 1).val < 5120 := (y 1).isLt
  exact h y (by omega)

theorem stDone {A : Arg F} {acc : FVec F S256x128 .f32 × FVec F S256x128 .f32} (h : acc = A.st k0_t3_loop.trips) : acc = A.st 10 := by
  rwa [trips_t3] at h

theorem acDone {A : Arg F} {g l : FVec F S256x1 .f32} {a0 r : Vec F S256x2560 .f32} (h : r = A.ac g l a0 k0_t5_loop.trips) : r = A.ac g l a0 10 := by
  rwa [trips_t5] at h

/-- All rows waited for. -/
theorem drained (c : Dev nD) (s : ℕ) (T : BufTy.Contents (Elt F) tabW.view.ty) (q : PosShare TreeShare) (W : ℕ → ℕ) :
    draining (F := F) c s T q W k0_t4_loop.trips ⊢ iprop((∃ S : Waits sig Unit, owes (c : Thread nD τ) 0 S) ∗ semVal ((c : Thread nD τ), SemLoc.dma (gs s)) 0
        ∗ (bufW.view.loc (c : Thread nD τ) ↦[slotSet c s]{fullShare} (gath T W : Buf (Elt F) _)) ∗ (tabW.view.loc (c : Thread nD τ) ↦{q} (T : Buf (Elt F) _))) := by
  rw [trips_t4]
  unfold draining
  rw [if_neg (by decide)]

/-- The chunks' first pass and the wait for the rows. -/
theorem part_C (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (I : Inp F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (X12 : BufTy.Contents (Elt F) arg12.view.ty)
    (h4 : arg4.view.read (Elt F) X4 = I.x) (h5 : arg5.view.read (Elt F) X5 = I.cols) (h6 : arg6.view.read (Elt F) X6 = I.sc) (h7 : arg7.view.read (Elt F) X7 = I.lq) (h8 : arg8.view.read (Elt F) X8 = I.sid)
    (h12 : arg12.view.read (Elt F) X12 = I.w)
    (f15 : BufTy.Contents (Elt F) arg15.view.ty) (f16 : BufTy.Contents (Elt F) arg16.view.ty)
    (T : BufTy.Contents (Elt F) tabW.view.ty) (q : PosShare TreeShare) (W : ℕ → ℕ) (hI : I.wd = wordsV T W) (S : Waits sig Unit) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12) ∗ (arg15.view.loc (c : Thread nD τ) ↦[arg15.view.set]{fullShare} f15) ∗ (arg16.view.loc (c : Thread nD τ) ↦[arg16.view.set]{fullShare} f16) ∗ owes (c : Thread nD τ) 0 S ∗ issuing (F := F) c ((i 0).val % 2) T q W 256) : sProp 𝕄)
      ⊢ wp frame (wpE (defs₀ (F := F)) Variants.none (c : Thread nD τ) none) Set.univ (partC (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun r => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (∃ f15 : BufTy.Contents (Elt F) arg15.view.ty, (arg15.view.loc (c : Thread nD τ) ↦[arg15.view.set]{fullShare} f15) ∗ ⌜arg15.view.read (Elt F) f15 = I.arg.eA⌝)
      ∗ (∃ f16 : BufTy.Contents (Elt F) arg16.view.ty, (arg16.view.loc (c : Thread nD τ) ↦[arg16.view.set]{fullShare} f16) ∗ ⌜arg16.view.read (Elt F) f16 = I.arg.mA⌝)
      ∗ (∃ S : Waits sig Unit, owes (c : Thread nD τ) 0 S) ∗ free (F := F) c ((i 0).val % 2) T q
      ∗ ⌜r = ⟨k0_pay21 I.c1, k0_pay22 I.c2, k0_pay23 I.c3, (I.arg.st 10).1, (I.arg.st 10).2, k0_pay33 I.wd, I.sc⟩⌝)) := by
  have e5_0 := View.readAt_unit arg5.view X5 inb_S256x4_S256x1_0_0 rfl inb_S256x4_S256x1_0_0
  have e5_1 := View.readAt_unit arg5.view X5 inb_S256x4_S256x1_0_1 rfl inb_S256x4_S256x1_0_1
  have e5_2 := View.readAt_unit arg5.view X5 inb_S256x4_S256x1_0_2 rfl inb_S256x4_S256x1_0_2
  have e5_3 := View.readAt_unit arg5.view X5 inb_S256x4_S256x1_0_3 rfl inb_S256x4_S256x1_0_3
  have e6 := View.readAt_full arg6.view X6 (off := ![0, 0]) inb_S80x256_S80x256_0_0
  rw [h5] at e5_0 e5_1 e5_2 e5_3; rw [h6] at e6
  unfold partC
  iintro ⟨H4, H5, H6, H7, H8, H12, H15, H16, HO, HI⟩
  sl_exec
  sl_for (fun (k : ℕ) (acc : FVec F S256x128 .f32 × FVec F S256x128 .f32) => iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12)
      ∗ (∃ f15 : BufTy.Contents (Elt F) arg15.view.ty, (arg15.view.loc (c : Thread nD τ) ↦[arg15.view.set]{fullShare} f15) ∗ ⌜∀ y : S256x5120.Idx, (y 1).val < 512 * k → arg15.view.read (Elt F) f15 y = I.arg.eA y⌝)
      ∗ (∃ f16 : BufTy.Contents (Elt F) arg16.view.ty, (arg16.view.loc (c : Thread nD τ) ↦[arg16.view.set]{fullShare} f16) ∗ ⌜∀ y : S10x256x128.Idx, (y 0).val < k → arg16.view.read (Elt F) f16 y = I.arg.mA y⌝)
      ∗ ⌜acc = I.arg.st k⌝)) $$ [H4 H7 H8 H12 H15 H16]
  · intro k acc
    iintro ⟨H4, H7, H8, H12, ⟨%f15, H15, %h15⟩, ⟨%f16, H16, %h16⟩, %hacc⟩
    subst hacc
    iapply (trip_t3 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I.arg X4 X7 X8 X12 h4 h7 h8 h12 f15 f16 k h15 h16)
    isplitl [H4]; · iexact H4
    isplitl [H7]; · iexact H7
    isplitl [H8]; · iexact H8
    isplitl [H12]; · iexact H12
    isplitl [H15]; · iexact H15
    iexact H16
  · isplitl [H4]; · iexact H4
    isplitl [H7]; · iexact H7
    isplitl [H8]; · iexact H8
    isplitl [H12]; · iexact H12
    isplitl [H15]
    · iexists f15; isplitl [H15]; · iexact H15
      ipureintro; intro y hy; omega
    isplitl [H16]
    · iexists f16; isplitl [H16]; · iexact H16
      ipureintro; intro y hy; omega
    ipureintro; rfl
  iintro %acc ⟨H4, H7, H8, H12, ⟨%g15, H15, %h15⟩, ⟨%g16, H16, %h16⟩, %hacc⟩
  replace h15 := full15 h15
  replace h16 := full16 h16
  replace hacc := stDone hacc
  obtain ⟨acc0, acc1⟩ := acc
  ihave HD := (drain_start (F := F) c ((i 0).val % 2) T q W S) $$ [HO HI]
  · isplitl [HO]; · iexact HO
    iexact HI
  sl_exec
  sl_for (fun (k : ℕ) (_ : PUnit) => draining (F := F) c ((i 0).val % 2) T q W k) $$ [HD]
  · intro k _
    exact trip_t4 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 rfl T q W k
  · iexact HD
  iintro %acc HD
  ihave HD := (drained c ((i 0).val % 2) T q W) $$ HD
  icases HD with ⟨HO, Hsem, Hbuf, Htab⟩
  iapply (load_words c none T W ((i 0).val % 2) (k0_off72_eq i)) $$ Hbuf
  iintro Hbuf
  sl_exec
  sl_step
  isplitl [H4]; · iexact H4
  isplitl [H5]; · iexact H5
  isplitl [H6]; · iexact H6
  isplitl [H7]; · iexact H7
  isplitl [H8]; · iexact H8
  isplitl [H12]; · iexact H12
  isplitl [H15]
  · iexists g15; isplitl [H15]; · iexact H15
    ipureintro; exact h15
  isplitl [H16]
  · iexists g16; isplitl [H16]; · iexact H16
    ipureintro; exact h16
  isplitl [HO]; · iexact HO
  unfold free
  isplitl [Hsem Hbuf Htab]
  · isplitl [Hsem]; · iexact Hsem
    isplitl [Hbuf]; · iexists _; iexact Hbuf
    iexact Htab
  ipureintro
  rw [← hacc, hI]
  rfl

/-- Where the way back starts. -/
def Inp.a0 (I : Inp F) : Vec F S256x2560 .f32 := k0_pay1 (k0_pay34 (k0_pay23 I.c3) (k0_pay33 I.wd) I.sc (k0_pay19 (F := F))) I.dzt

/-- The rest of the body: the outputs as functions of what the block is given. -/
theorem tail_C (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (I : Inp F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (X12 : BufTy.Contents (Elt F) arg12.view.ty) (X14 : BufTy.Contents (Elt F) arg14.view.ty)
    (h4 : arg4.view.read (Elt F) X4 = I.x) (h5 : arg5.view.read (Elt F) X5 = I.cols) (h6 : arg6.view.read (Elt F) X6 = I.sc) (h7 : arg7.view.read (Elt F) X7 = I.lq) (h8 : arg8.view.read (Elt F) X8 = I.sid)
    (h12 : arg12.view.read (Elt F) X12 = I.w) (h14 : arg14.view.read (Elt F) X14 = k0_pay19 (F := F))
    (f9 : BufTy.Contents (Elt F) arg9.view.ty) (f10 : BufTy.Contents (Elt F) arg10.view.ty) (f11 : BufTy.Contents (Elt F) arg11.view.ty)
    (f15 : BufTy.Contents (Elt F) arg15.view.ty) (f16 : BufTy.Contents (Elt F) arg16.view.ty) (f17 : BufTy.Contents (Elt F) arg17.view.ty)
    (T : BufTy.Contents (Elt F) tabW.view.ty) (q : PosShare TreeShare) (W : ℕ → ℕ) (hI : I.wd = wordsV T W) (S : Waits sig Unit) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg12.view.loc (c : Thread nD τ) ↦[arg12.view.set]{fullShare} X12) ∗ (arg14.view.loc (c : Thread nD τ) ↦[arg14.view.set]{fullShare} X14)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ owes (c : Thread nD τ) 0 S ∗ issuing (F := F) c ((i 0).val % 2) T q W 256) : sProp 𝕄)
      ⊢ wp frame (wpE (defs₀ (F := F)) Variants.none (c : Thread nD τ) none) Set.univ (tailC (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg12.view.loc (c : Thread nD τ) ↦[arg12.view.set]{fullShare} X12) ∗ (arg14.view.loc (c : Thread nD τ) ↦[arg14.view.set]{fullShare} X14)
      ∗ (∃ f : BufTy.Contents (Elt F) arg9.view.ty, (arg9.view.loc (c : Thread nD τ) ↦[arg9.view.set]{fullShare} f) ∗ ⌜arg9.view.read (Elt F) f = I.dh⌝)
      ∗ (∃ f : BufTy.Contents (Elt F) arg10.view.ty, (arg10.view.loc (c : Thread nD τ) ↦[arg10.view.set]{fullShare} f) ∗ ⌜arg10.view.read (Elt F) f = I.dz⌝)
      ∗ (∃ f : BufTy.Contents (Elt F) arg11.view.ty, (arg11.view.loc (c : Thread nD τ) ↦[arg11.view.set]{fullShare} f) ∗ ⌜arg11.view.read (Elt F) f = I.stat⌝)
      ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))
      ∗ (∃ S : Waits sig Unit, owes (c : Thread nD τ) 0 S) ∗ free (F := F) c ((i 0).val % 2) T q)) := by
  have e14 := View.readAt_full arg14.view X14 (off := ![0, 0]) inb_S80x2560_S80x2560_0_0
  have e4 := View.readAt_full arg4.view X4 (off := ![0, 0]) inb_S256x2560_S256x2560_0_0
  rw [h14] at e14; rw [h4] at e4
  unfold tailC
  rw [wp_bind]
  iintro ⟨H4, H5, H6, H7, H8, H12, H14, H9, H10, H11, H15, H16, H17, HO, HI⟩
  iapply (wp_wand_r _ _ _)
  isplitl [H4 H5 H6 H7 H8 H12 H15 H16 HO HI]
  · iapply (part_C c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I X4 X5 X6 X7 X8 X12 h4 h5 h6 h7 h8 h12 f15 f16 T q W hI S)
    isplitl [H4]; · iexact H4
    isplitl [H5]; · iexact H5
    isplitl [H6]; · iexact H6
    isplitl [H7]; · iexact H7
    isplitl [H8]; · iexact H8
    isplitl [H12]; · iexact H12
    isplitl [H15]; · iexact H15
    isplitl [H16]; · iexact H16
    isplitl [HO]; · iexact HO
    iexact HI
  iintro %r ⟨H4, H5, H6, H7, H8, H12, ⟨%g15, H15, %h15⟩, ⟨%g16, H16, %h16⟩, HO, HF, %hr⟩
  subst hr
  rw [k0_part8_eq_skeleton]
  sl_exec
  sl_for (fun (k : ℕ) (_ : PUnit) => iprop((arg12.view.loc (c : Thread nD τ) ↦[arg12.view.set]{fullShare} X12) ∗ (arg15.view.loc (c : Thread nD τ) ↦[arg15.view.set]{fullShare} g15) ∗ (arg16.view.loc (c : Thread nD τ) ↦[arg16.view.set]{fullShare} g16)
      ∗ (∃ f10 : BufTy.Contents (Elt F) arg10.view.ty, (arg10.view.loc (c : Thread nD τ) ↦[arg10.view.set]{fullShare} f10) ∗ ⌜∀ y : S256x5120.Idx, (y 1).val < 512 * k → arg10.view.read (Elt F) f10 y = I.arg.dA (k0_pay22 I.c2) I.lse y⌝)
      ∗ (∃ f17 : BufTy.Contents (Elt F) arg17.view.ty, (arg17.view.loc (c : Thread nD τ) ↦[arg17.view.set]{fullShare} f17) ∗ ⌜arg17.view.read (Elt F) f17 = I.arg.ac (k0_pay22 I.c2) I.lse I.a0 k⌝))) $$ [H12 H15 H16 H10 H17]
  · intro k _
    iintro ⟨H12, H15, H16, ⟨%f10, H10, %h10⟩, ⟨%f17, H17, %h17⟩⟩
    iapply (trip_t5 c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I.arg (k0_pay22 I.c2) I.lse I.a0 X12 g15 g16 h12 h15 h16 f10 f17 k h10 h17)
    isplitl [H12]; · iexact H12
    isplitl [H15]; · iexact H15
    isplitl [H16]; · iexact H16
    isplitl [H10]; · iexact H10
    iexact H17
  · isplitl [H12]; · iexact H12
    isplitl [H15]; · iexact H15
    isplitl [H16]; · iexact H16
    isplitl [H10]
    · iexists f10; isplitl [H10]; · iexact H10
      ipureintro; intro y hy; omega
    iexists _; isplitl [H17]; · iexact H17
    ipureintro
    sl_unfold_words
    exact View.read_writes_full _ _ _ _ []
  iintro %acc ⟨H12, H15, H16, ⟨%g10, H10, %h10⟩, ⟨%g17, H17, %h17⟩⟩
  replace h10 := full10 h10
  replace h17 := acDone h17
  have e17 := View.readAt_full arg17.view g17 (off := ![0, 0]) inb_S256x2560_S256x2560_0_0
  rw [h17] at e17
  sl_exec
  sl_step
  isplitl [H4]; · iexact H4
  isplitl [H5]; · iexact H5
  isplitl [H6]; · iexact H6
  isplitl [H7]; · iexact H7
  isplitl [H8]; · iexact H8
  isplitl [H12]; · iexact H12
  isplitl [H14]; · iexact H14
  isplitl [H9]
  · iexists _; isplitl [H9]; · iexact H9
    ipureintro
    sl_unfold_words
    exact View.read_writes_full _ _ _ _ []
  isplitl [H10]
  · iexists _; isplitl [H10]; · iexact H10
    ipureintro; exact h10
  isplitl [H11]
  · iexists _; isplitl [H11]; · iexact H11
    ipureintro
    sl_unfold_words
    exact View.read_writes_full _ _ _ _ []
  isplitl [H15]; · iexists _; iexact H15
  isplitl [H16]; · iexists _; iexact H16
  isplitl [H17]; · iexists _; iexact H17
  isplitl [HO]; · iexact HO
  iexact HF

/-- One block of tokens, whole: what the body leaves in its outputs, with this block's rows on the way when it starts (but for the
    first block) and the next block's on the way when it ends (but for the last). -/
theorem body_L (arg1 : Memref sig .tc .smem S6144 .i32) (harg1 : arg1.IsWhole) (arg3 : Memref sig .tc .hbm S5120x2560 .bf16) (harg3 : arg3.IsWhole) (arg4 : Memref sig .tc .vmem S256x2560 .bf16) (harg4 : arg4.IsWhole) (arg5 : Memref sig .tc .vmem S256x4 .f32) (harg5 : arg5.IsWhole) (arg6 : Memref sig .tc .vmem S80x256 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S256x2560 .bf16) (harg9 : arg9.IsWhole) (arg10 : Memref sig .tc .vmem S256x5120 .bf16) (harg10 : arg10.IsWhole) (arg11 : Memref sig .tc .vmem S256x128 .f32) (harg11 : arg11.IsWhole) (arg12 : Memref sig .tc .vmem S5120x2560 .bf16) (harg12 : arg12.IsWhole) (arg14 : Memref sig .tc .vmem S80x2560 .bf16) (harg14 : arg14.IsWhole) (arg15 : Memref sig .tc .vmem S256x5120 .f32) (harg15 : arg15.IsWhole) (arg16 : Memref sig .tc .vmem S10x256x128 .f32) (harg16 : arg16.IsWhole) (arg17 : Memref sig .tc .vmem S256x2560 .f32) (harg17 : arg17.IsWhole) (arg18 : DmaSems sig S_) (X1 : BufTy.Contents (Elt F) arg1.view.ty) (X3 : BufTy.Contents (Elt F) arg3.view.ty) (I : Inp F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (h4 : arg4.view.read (Elt F) X4 = I.x) (h5 : arg5.view.read (Elt F) X5 = I.cols) (h6 : arg6.view.read (Elt F) X6 = I.sc) (h7 : arg7.view.read (Elt F) X7 = I.lq) (h8 : arg8.view.read (Elt F) X8 = I.sid)
    (h3 : arg3.view.read (Elt F) X3 = I.w)
    (hX : ∀ n < 6144, wrow arg1 X1 n < 12576)
    (f9 : BufTy.Contents (Elt F) arg9.view.ty) (f10 : BufTy.Contents (Elt F) arg10.view.ty) (f11 : BufTy.Contents (Elt F) arg11.view.ty)
    (f12 : BufTy.Contents (Elt F) arg12.view.ty) (f14 : BufTy.Contents (Elt F) arg14.view.ty)
    (f15 : BufTy.Contents (Elt F) arg15.view.ty) (f16 : BufTy.Contents (Elt F) arg16.view.ty) (f17 : BufTy.Contents (Elt F) arg17.view.ty)
    (h12 : (i 0).val ≠ 0 → arg12.view.read (Elt F) f12 = arg3.view.read (Elt F) X3) (h14 : (i 0).val ≠ 0 → arg14.view.read (Elt F) f14 = k0_pay19 (F := F))
    (T : BufTy.Contents (Elt F) tabW.view.ty) (q q' : PosShare TreeShare)
    (hI : I.wd = wordsV T (fun r => wrow arg1 X1 (256 * (i 0).val + r))) (S : Waits sig Unit) :
    (iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ semVal ((c : Thread nD τ), SemLoc.dma arg18.sem) 0 ∗ owes (c : Thread nD τ) 0 S
      ∗ slotAt (F := F) c ((i 0).val % 2) T q (fun r => wrow arg1 X1 (256 * (i 0).val + r)) ((i 0).val ≠ 0) ∗ free (F := F) c (1 - (i 0).val % 2) T q') : sProp 𝕄)
      ⊢ wp frame (wpE (defs₀ (F := F)) Variants.none (c : Thread nD τ) none) Set.univ (cc0_logit_grads (F := F) i arg1 harg1 tabW (Memref.isWhole_whole _) arg3 harg3 arg4 harg4 arg5 harg5 arg6 harg6 arg7 harg7 arg8 harg8 arg9 harg9 arg10 harg10 arg11 harg11 arg12 harg12 bufW (Memref.isWhole_whole _) arg14 harg14 arg15 harg15 arg16 harg16 arg17 harg17 arg18 cc0_scratch7)
          (fun _ => iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f : BufTy.Contents (Elt F) arg9.view.ty, (arg9.view.loc (c : Thread nD τ) ↦[arg9.view.set]{fullShare} f) ∗ ⌜arg9.view.read (Elt F) f = I.dh⌝) ∗ (∃ f : BufTy.Contents (Elt F) arg10.view.ty, (arg10.view.loc (c : Thread nD τ) ↦[arg10.view.set]{fullShare} f) ∗ ⌜arg10.view.read (Elt F) f = I.dz⌝) ∗ (∃ f : BufTy.Contents (Elt F) arg11.view.ty, (arg11.view.loc (c : Thread nD τ) ↦[arg11.view.set]{fullShare} f) ∗ ⌜arg11.view.read (Elt F) f = I.stat⌝)
      ∗ (∃ f : BufTy.Contents (Elt F) arg12.view.ty, (arg12.view.loc (c : Thread nD τ) ↦[arg12.view.set]{fullShare} f) ∗ ⌜arg12.view.read (Elt F) f = I.w⌝) ∗ (∃ f : BufTy.Contents (Elt F) arg14.view.ty, (arg14.view.loc (c : Thread nD τ) ↦[arg14.view.set]{fullShare} f) ∗ ⌜arg14.view.read (Elt F) f = k0_pay19 (F := F)⌝) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))
      ∗ semVal ((c : Thread nD τ), SemLoc.dma arg18.sem) 0 ∗ (∃ S : Waits sig Unit, owes (c : Thread nD τ) 0 S)
      ∗ slotAt (F := F) c (1 - (i 0).val % 2) T q' (fun r => wrow arg1 X1 (256 * ((i 0).val + 1) + r)) ((i 0).val + 1 < 24) ∗ free (F := F) c ((i 0).val % 2) T q)) := by
  have hW : (i 0).val = 0 → (fun r => wrow arg1 X1 (256 * (i 0).val + r)) = fun r => wrow arg1 X1 r := by
    intro h0; funext r; rw [h0, Nat.mul_zero, Nat.zero_add]
  rw [body_split, wp_bind]
  iintro ⟨H1, H3, H4, H5, H6, H7, H8, H9, H10, H11, H12, H14, H15, H16, H17, HS, HO, HT, HF⟩
  iapply (wp_wand_r _ _ _)
  isplitl [H1 H3 H12 H14 HS HO HT]
  · iapply (head_A c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 X1 X3 hX T q (fun r => wrow arg1 X1 (256 * (i 0).val + r)) hW f12 f14 h12 h14 S)
    isplitl [H1]; · iexact H1
    isplitl [H3]; · iexact H3
    isplitl [H12]; · iexact H12
    isplitl [H14]; · iexact H14
    isplitl [HS]; · iexact HS
    isplitl [HO]; · iexact HO
    iexact HT
  iintro %_ ⟨H1, H3, ⟨%g12, H12, %h12'⟩, ⟨%g14, H14, %h14'⟩, HS, ⟨%S', HO⟩, HI⟩
  iapply (Entails.of_eq (wp_bind _ _ _ _ _ _).symm)
  iapply (wp_wand_r _ _ _)
  isplitl [H1 HF]
  · iapply (head_B c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 X1 hX T q')
    isplitl [H1]; · iexact H1
    iexact HF
  iintro %_ ⟨H1, HN⟩
  iapply (wp_wand_r _ _ _)
  isplitl [H4 H5 H6 H7 H8 H12 H14 H9 H10 H11 H15 H16 H17 HO HI]
  · iapply (tail_C c i arg1 harg1 arg3 harg3 arg4 harg4 arg5 harg5 arg6 harg6 arg7 harg7 arg8 harg8 arg9 harg9 arg10 harg10 arg11 harg11 arg12 harg12 arg14 harg14 arg15 harg15 arg16 harg16 arg17 harg17 arg18 I X4 X5 X6 X7 X8 g12 g14 h4 h5 h6 h7 h8 (h12'.trans h3) h14' f9 f10 f11 f15 f16 f17 T q (fun r => wrow arg1 X1 (256 * (i 0).val + r)) hI S')
    isplitl [H4]; · iexact H4
    isplitl [H5]; · iexact H5
    isplitl [H6]; · iexact H6
    isplitl [H7]; · iexact H7
    isplitl [H8]; · iexact H8
    isplitl [H12]; · iexact H12
    isplitl [H14]; · iexact H14
    isplitl [H9]; · iexact H9
    isplitl [H10]; · iexact H10
    isplitl [H11]; · iexact H11
    isplitl [H15]; · iexact H15
    isplitl [H16]; · iexact H16
    isplitl [H17]; · iexact H17
    isplitl [HO]; · iexact HO
    iexact HI
  iintro %_ ⟨H4, H5, H6, H7, H8, H12, H14, H9, H10, H11, H15, H16, H17, HO, HF⟩
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists g12; isplitl [H12]; · iexact H12
    ipureintro; exact h12'.trans h3
  isplitl [H14]
  · iexists g14; isplitl [H14]; · iexact H14
    ipureintro; exact h14'
  isplitl [H15]; · iexact H15
  isplitl [H16]; · iexact H16
  isplitl [H17]; · iexact H17
  isplitl [HS]; · iexact HS
  isplitl [HO]; · iexact HO
  isplitl [HN]; · iexact HN
  iexact HF

end T1
end Cert.LogitGradsIdeal.Hand
end
-- ==== Proof.LiVal.lean ====
/- One block of tokens over the extended reals: what the body leaves is the loss's gradients of those tokens. -/
module

public import proofs.«01_k».proof.Proof.LiPay
public import proofs.«01_k».proof.Proof.LiBody

@[expose] public section

set_option maxRecDepth 16384
set_option maxHeartbeats 4000000

noncomputable section

namespace Cert.LogitGradsIdeal.Val

open Idealize.ShloMosaic
open Cert.LogitGradsIdeal Cert.LogitGradsIdeal.Gen Cert.LogitGradsIdeal.Hand Cert.LogitGradsIdeal.Pay
open Cert.LgSpec Cert.LgMath

variable (A : In)

/-- Row `r` of block `b`. -/
def tk (b : Fin 24) (r : Fin 256) : Fin 6144 := ⟨256 * b.val + r.val, by omega⟩

/-- The block holds the arguments' values for its tokens. -/
structure Blk (b : Fin 24) (I : Inp Ideal) : Prop where
  x : ∀ r d, I.x (ix2 r d) = A.x (tk b r) d
  w : ∀ n d, I.w (ix2 n d) = A.ws n d
  lq : ∀ n, I.lq (ix2 0 n) = A.sc 80 (In.scol n)
  sid : ∀ n, I.sid (ix2 0 n) = (((A.sid n).toInt : ℝ) : EReal)
  c0 : ∀ r, I.cols (ix2 r 0) = (((A.tgt (tk b r)).toInt : ℝ) : EReal)
  c1 : ∀ r, I.cols (ix2 r 1) = A.sc 80 (In.tcol (tk b r))
  c2 : ∀ r, I.cols (ix2 r 2) = A.g (tk b r)
  c3 : ∀ r, ∃ s : BitVec 32, I.cols (ix2 r 3) = ((s.toInt : ℝ) : EReal) ∧ ∀ d,
    (IntOp.shrsi ArithUnit.vector (IntOp.shli ArithUnit.vector (I.wd (ix3 0 r d)) s) 24#32).toInt = (A.tab (A.row (tk b r)) d).toInt
  sc : ∀ (k : Fin 80) r, I.sc (ix2 k r) = A.sc ⟨k.val, by omega⟩ (In.tcol (tk b r))

/-- A token's negatives' logits by number. -/
def zN (t : Fin 6144) (n : ℕ) : EReal := if h : n < 5120 then A.z t ⟨n, h⟩ else ⊥

variable {A} {b : Fin 24} {I : Inp Ideal}

theorem zN_ne_top (hA : A.Ok) (t : Fin 6144) (n : ℕ) : zN A t n ≠ ⊤ := by
  unfold zN
  split
  · exact In.z_ne_top hA _ _
  · exact bot_ne_top

theorem col_eq (a k : ℕ) (hk : k < 4) {inb} (I : Vec Ideal S256x4 .f32) (r : Fin 256) :
    VecWindow.window (s := S256x4) I ![0, k] S256x1.size inb (ix2 r 0) = I (ix2 r ⟨k, hk⟩) := by
  unfold VecWindow.window
  congr 1
  funext a
  match a with
  | ⟨0, _⟩ => exact Fin.ext (by show 0 + 1 * r.val = r.val; omega)
  | ⟨1, _⟩ => exact Fin.ext (by show k + 1 * 0 = k; omega)

theorem wsC_eq (w : Vec Ideal S5120x2560 .bf16) (k : ℕ) (hk : k < 10) (j : Fin 512) (d : Fin 2560) :
    wsC w k (ix2 j d) = w (ix2 ⟨512 * k + j.val, by omega⟩ d) := by
  unfold wsC VecWindow.window
  congr 1
  funext a
  match a with
  | ⟨0, _⟩ => exact Fin.ext (by show 512 * (k % 10) + 1 * j.val = 512 * k + j.val; omega)
  | ⟨1, _⟩ => exact Fin.ext (by show 0 + 1 * d.val = d.val; omega)

theorem lineC_eq (w : Vec Ideal S1x5120 .f32) (k : ℕ) (hk : k < 10) (j : Fin 512) :
    lineC w k (ix2 0 j) = w (ix2 0 ⟨512 * k + j.val, by omega⟩) := by
  unfold lineC VecWindow.window
  congr 1
  funext a
  match a with
  | ⟨0, _⟩ => exact Fin.ext (by show 0 + 1 * 0 = 0; omega)
  | ⟨1, _⟩ => exact Fin.ext (by show 512 * (k % 10) + 1 * j.val = 512 * k + j.val; omega)

theorem coe_toInt_inj (a c : BitVec 32) : (((a.toInt : ℝ) : EReal) = ((c.toInt : ℝ) : EReal)) ↔ a = c := by
  rw [EReal.coe_eq_coe_iff, Int.cast_inj, BitVec.toInt_inj]

/-- A chunk's logits are the row's. -/
theorem z5 (h : Blk A b I) (k : ℕ) (hk : k < 10) (r : Fin 256) (j : Fin 512) :
    k0_pay5 (k0_pay20 I.arg.tg) I.arg.x (wsC I.arg.w k) (lineC I.arg.lq k) (lineC I.arg.sid k) (ix2 r j) = zN A (tk b r) (512 * k + j.val) := by
  rw [pay5_apply, pay20_apply, lineC_eq _ k hk, lineC_eq _ k hk]
  have e0 : I.arg.tg (ix2 r 0) = (((A.tgt (tk b r)).toInt : ℝ) : EReal) := (col_eq 0 0 (by decide) I.cols r).trans (h.c0 r)
  have e1 : I.arg.sid (ix2 0 ⟨512 * k + j.val, by omega⟩) = (((A.sid ⟨512 * k + j.val, by omega⟩).toInt : ℝ) : EReal) := h.sid _
  have e2 : I.arg.lq (ix2 0 ⟨512 * k + j.val, by omega⟩) = A.sc 80 (In.scol ⟨512 * k + j.val, by omega⟩) := h.lq _
  have e3 : (∑ d : Fin 2560, I.arg.x (ix2 r d) * wsC I.arg.w k (ix2 j d)) = ∑ d, A.x (tk b r) d * A.ws ⟨512 * k + j.val, by omega⟩ d := by
    refine Finset.sum_congr rfl fun d _ => ?_
    rw [wsC_eq _ k hk]
    exact congrArg₂ _ (h.x r d) (h.w _ d)
  rw [e0, e1, e2, e3]
  unfold zN In.z
  rw [dif_pos (by omega)]
  exact if_congr (coe_toInt_inj _ _) rfl rfl

/-- The lanes' running maximum and sum. -/
theorem lane (hA : A.Ok) (h : Blk A b I) (r : Fin 256) (l : Fin 128) : ∀ k, k ≤ 10 →
    Lane ((I.arg.st k).1 (ix2 r l)) ((I.arg.st k).2 (ix2 r l))
      (∑ i ∈ Finset.range k, ∑ j ∈ Finset.range 4, E (zN A (tk b r) (512 * i + (128 * j + l.val)))) := by
  intro k
  induction k with
  | zero =>
    intro _
    obtain ⟨a, ha⟩ := pay24_apply r l
    exact ⟨a, 0, ha, by rw [EReal.coe_zero]; exact pay25_apply r l, by simp⟩
  | succ k ih =>
    intro hk
    have hk' : k < 10 := by omega
    have h1 := ih (by omega)
    have hz := zN_ne_top hA (tk b r)
    have t0 : k0_pay6 (k0_pay20 I.arg.tg) I.arg.x (wsC I.arg.w k) (lineC I.arg.lq k) (lineC I.arg.sid k) (ix2 r l) = zN A (tk b r) (512 * k + (128 * 0 + l.val)) := by
      rw [pay6_apply, z5 h k hk']; congr 1; show 512 * k + l.val = _; omega
    have t1 : k0_pay7 (k0_pay20 I.arg.tg) I.arg.x (wsC I.arg.w k) (lineC I.arg.lq k) (lineC I.arg.sid k) (ix2 r l) = zN A (tk b r) (512 * k + (128 * 1 + l.val)) := by
      rw [pay7_apply, z5 h k hk']
    have t2 : k0_pay8 (k0_pay20 I.arg.tg) I.arg.x (wsC I.arg.w k) (lineC I.arg.lq k) (lineC I.arg.sid k) (ix2 r l) = zN A (tk b r) (512 * k + (128 * 2 + l.val)) := by
      rw [pay8_apply, z5 h k hk']
    have t3 : k0_pay9 (k0_pay20 I.arg.tg) I.arg.x (wsC I.arg.w k) (lineC I.arg.lq k) (lineC I.arg.sid k) (ix2 r l) = zN A (tk b r) (512 * k + (128 * 3 + l.val)) := by
      rw [pay9_apply, z5 h k hk']
    have hm := pay10_apply (k0_pay20 I.arg.tg) (I.arg.st k).1 I.arg.x (wsC I.arg.w k) (lineC I.arg.lq k) (lineC I.arg.sid k) r l
    rw [t0, t1, t2, t3] at hm
    have h2 := h1.step (hz _) (hz _) (hz _) (hz _) hm
    have h4 : ∀ f : ℕ → ℝ, ∑ j ∈ Finset.range 4, f j = f 0 + f 1 + f 2 + f 3 := fun f => by simp [Finset.sum_range_succ]
    rw [Finset.sum_range_succ, h4 fun j => E (zN A (tk b r) (512 * k + (128 * j + l.val)))]
    rw [← add_assoc, ← add_assoc, ← add_assoc]
    have hs := pay30_apply (k0_pay8 (k0_pay20 I.arg.tg) I.arg.x (wsC I.arg.w k) (lineC I.arg.lq k) (lineC I.arg.sid k))
      (k0_pay9 (k0_pay20 I.arg.tg) I.arg.x (wsC I.arg.w k) (lineC I.arg.lq k) (lineC I.arg.sid k))
      (k0_pay10 (k0_pay20 I.arg.tg) (I.arg.st k).1 I.arg.x (wsC I.arg.w k) (lineC I.arg.lq k) (lineC I.arg.sid k))
      (k0_pay14 (k0_pay20 I.arg.tg) (I.arg.st k).1 (I.arg.st k).2 I.arg.x (wsC I.arg.w k) (lineC I.arg.lq k) (lineC I.arg.sid k)) r l
    rw [pay14_apply, pay11_apply, pay13_apply, t0, t1, t2, t3] at hs
    rw [← hs] at h2
    exact h2

/-- The maximum a chunk took is a real number. -/
theorem m_real (hA : A.Ok) (h : Blk A b I) (r : Fin 256) (l : Fin 128) (k : ℕ) (hk : k ≤ 10) : ∃ a : ℝ, (I.arg.st k).1 (ix2 r l) = (a : EReal) := by
  obtain ⟨a, _, e, _⟩ := lane hA h r l k hk
  exact ⟨a, e⟩

/-- All lanes' sums together are the row's. -/
theorem row_sum (f : ℕ → ℝ) : ∑ l : Fin 128, ∑ i ∈ Finset.range 10, ∑ j ∈ Finset.range 4, f (512 * i + (128 * j + l.val)) = ∑ n ∈ Finset.range 5120, f n := by
  rw [Finset.sum_comm]
  have h1 : ∀ i, ∑ l : Fin 128, ∑ j ∈ Finset.range 4, f (512 * i + (128 * j + l.val)) = ∑ q ∈ Finset.range 512, f (512 * i + q) := by
    intro i
    rw [Finset.sum_comm]
    rw [← sum_tiles (fun q => f (512 * i + q)) 4 128]
    exact Finset.sum_congr rfl fun j _ => (Finset.sum_range (fun l => f (512 * i + (128 * j + l)))).symm
  rw [Finset.sum_congr rfl fun i _ => h1 i]
  exact sum_tiles f 10 512

theorem sum_zN (t : Fin 6144) : (∑ n ∈ Finset.range 5120, E (zN A t n)) = ∑ n : Fin 5120, E (A.z t n) := by
  rw [Finset.sum_range]
  refine Finset.sum_congr rfl fun n _ => ?_
  unfold zN
  rw [dif_pos n.isLt]

theorem pay34_eq (h : Blk A b I) (r : Fin 256) (d : Fin 2560) :
    k0_pay34 (k0_pay23 I.c3) (k0_pay33 I.wd) I.sc (k0_pay19 (F := Ideal)) (ix2 r d) = A.wt (tk b r) d := by
  obtain ⟨s, hs, hw⟩ := h.c3 r
  have e0 : I.c3 (ix2 r 0) = ((s.toInt : ℝ) : EReal) := (col_eq 0 3 (by decide) I.cols r).trans hs
  rw [pay34_apply, pay23_apply _ _ _ e0, pay33_apply, hw d]
  have hd : d.val / 32 < 80 := by omega
  have e1 : ∑ k : Fin 80, I.sc (ix2 k r) * k0_pay19 (F := Ideal) (ix2 k d) = A.sc (In.grp d) (In.tcol (tk b r)) := by
    rw [Finset.sum_eq_single (⟨d.val / 32, hd⟩ : Fin 80)]
    · rw [pay19_apply, if_pos rfl]
      refine (mul_one _).trans (h.sc _ r)
    · intro k _ hne
      rw [pay19_apply, if_neg fun e => hne (Fin.ext e.symm)]
      exact mul_zero _
    · intro hne; exact absurd (Finset.mem_univ _) hne
  rw [e1]
  rfl

theorem zt_eq (h : Blk A b I) (r : Fin 256) :
    k0_pay35 (k0_pay21 I.c1) (k0_pay23 I.c3) (k0_pay33 I.wd) I.sc (k0_pay19 (F := Ideal)) I.x (ix2 r 0) = A.zt (tk b r) := by
  have e0 : I.c1 (ix2 r 0) = A.sc 80 (In.tcol (tk b r)) := (col_eq 0 1 (by decide) I.cols r).trans (h.c1 r)
  rw [pay35_apply, pay21_apply, e0]
  unfold In.zt
  congr 1
  refine Finset.sum_congr rfl fun d _ => ?_
  rw [pay34_eq h, h.x]

theorem lse_eq (hA : A.Ok) (h : Blk A b I) (r : Fin 256) : I.lse (ix2 r 0) = A.lse (tk b r) := by
  obtain ⟨M, hM⟩ := fold_max_real (Finset.univ : Finset (Fin 128)) ⟨0, Finset.mem_univ _⟩ (fun l => (I.arg.st 10).1 (ix2 r l)) (fun l => m_real hA h r l 10 le_rfl)
  unfold Inp.lse
  rw [pay36_apply _ _ _ _ _ _ _ _ _ _ hM.symm, zt_eq h]
  rw [lanes_log _ _ _ (fun l => lane hA h r l 10 le_rfl) (fun l => Finset.sum_nonneg fun i _ => Finset.sum_nonneg fun j _ => E_nonneg _) M]
  rw [row_sum (fun n => E (zN A (tk b r) n)), sum_zN]
  unfold In.lse In.L
  rw [sum_exp _ _ fun n _ => In.z_ne_top hA _ _]

theorem g_eq (h : Blk A b I) (r : Fin 256) : k0_pay22 I.c2 (ix2 r 0) = A.g (tk b r) := by
  rw [pay22_apply]
  exact (col_eq 0 2 (by decide) I.cols r).trans (h.c2 r)

theorem dzt_eq (hA : A.Ok) (h : Blk A b I) (r : Fin 256) : I.dzt (ix2 r 0) = A.dzt (tk b r) := by
  have := lse_eq hA h r
  unfold Inp.lse at this
  unfold Inp.dzt
  rw [pay37_apply, this, zt_eq h, g_eq h]
  rfl

/-- The loss and the gradient of the target's logit. -/
theorem stat_eq (hA : A.Ok) (h : Blk A b I) (r : Fin 256) (l : Fin 128) :
    I.stat (ix2 r l) = if l.val = 0 then A.loss (tk b r) else A.dzt (tk b r) := by
  have h1 := lse_eq hA h r
  have h2 := dzt_eq hA h r
  unfold Inp.lse at h1
  unfold Inp.dzt at h2
  unfold Inp.stat
  rw [pay38_apply, h1, h2, zt_eq h]
  rfl

/-- An exponential of a negative's logit under its chunk's maximum. -/
theorem e_eq (hA : A.Ok) (h : Blk A b I) (r : Fin 256) (k j : ℕ) (hk : k < 10) (hj : j < 4) (l : Fin 128) :
    I.arg.eT k j (ix2 r l) = Ideal.exp (zN A (tk b r) (512 * k + (128 * j + l.val)) - (I.arg.st (k + 1)).1 (ix2 r l)) := by
  match j, hj with
  | 0, _ =>
    show k0_pay12 _ _ _ _ _ _ (ix2 r l) = _
    rw [pay12_apply, pay6_apply, z5 h k hk]
    congr 3
    show 512 * k + l.val = _
    omega
  | 1, _ =>
    show k0_pay26 (k0_pay13 _ _ _ _ _ _) (ix2 r l) = _
    rw [pay26_apply, pay13_apply, pay7_apply, z5 h k hk]
    rfl
  | 2, _ =>
    show k0_pay28 _ _ (ix2 r l) = _
    rw [pay28_apply, pay8_apply, z5 h k hk]
  | 3, _ =>
    show k0_pay31 _ _ (ix2 r l) = _
    rw [pay31_apply, pay9_apply, z5 h k hk]

theorem eWin_eq (X : Vec Ideal S256x5120 .f32) (k j : ℕ) (hk : k < 10) (hj : j < 4) {inb} (r : Fin 256) (l : Fin 128) :
    VecWindow.window (s := S256x5120) X ![0, 512 * (k % 10) + 128 * (j % 4)] S256x128.size inb (ix2 r l) = X (ix2 r ⟨512 * k + (128 * j + l.val), by omega⟩) := by
  unfold VecWindow.window
  congr 1
  funext a
  match a with
  | ⟨0, _⟩ => exact Fin.ext (by show 0 + 1 * r.val = r.val; omega)
  | ⟨1, _⟩ => exact Fin.ext (by show 512 * (k % 10) + 128 * (j % 4) + 1 * l.val = 512 * k + (128 * j + l.val); omega)

theorem mWin_eq (hA : A.Ok) (k : ℕ) (hk : k < 10) {inb} (r : Fin 256) (l : Fin 128) :
    VecWindow.window (s := S10x256x128) I.arg.mA ![k % 10, 0, 0] S1x256x128.size inb (ix3 0 r l) = (I.arg.st (k + 1)).1 (ix2 r l) := by
  have e : VecWindow.window (s := S10x256x128) I.arg.mA ![k % 10, 0, 0] S1x256x128.size inb (ix3 0 r l) = I.arg.mA (ix3 ⟨k, hk⟩ r l) := by
    unfold VecWindow.window
    congr 1
    funext a
    match a with
    | ⟨0, _⟩ => exact Fin.ext (by show k % 10 + 1 * 0 = k; omega)
    | ⟨1, _⟩ => exact Fin.ext (by show 0 + 1 * r.val = r.val; omega)
    | ⟨2, _⟩ => exact Fin.ext (by show 0 + 1 * l.val = l.val; omega)
  rw [e]
  unfold Arg.mA
  exact (congrArg (k0_pay32 (I.arg.st (k + 1)).1) (eq_ix3 _)).trans (pay32_apply _ r l)

theorem eA_eq (r : Fin 256) (k j : ℕ) (hk : k < 10) (hj : j < 4) (l : Fin 128) :
    I.arg.eA (ix2 r ⟨512 * k + (128 * j + l.val), by omega⟩) = I.arg.eT k j (ix2 r l) := by
  unfold Arg.eA
  have h1 : (512 * k + (128 * j + l.val)) / 512 = k := by omega
  have h2 : (512 * k + (128 * j + l.val)) % 512 / 128 = j := by omega
  have h3 : (512 * k + (128 * j + l.val)) % 128 = l.val := by omega
  show I.arg.eT ((512 * k + (128 * j + l.val)) / 512) ((512 * k + (128 * j + l.val)) % 512 / 128) _ = _
  rw [h1, h2]
  congr 1
  funext a
  match a with
  | ⟨0, _⟩ => rfl
  | ⟨1, _⟩ => exact Fin.ext h3

/-- A tile of the gradient of the negatives' logits. -/
theorem dT_eq (hA : A.Ok) (h : Blk A b I) (r : Fin 256) (k j : ℕ) (hk : k < 10) (hj : j < 4) (l : Fin 128) :
    I.arg.dT (k0_pay22 I.c2) I.lse k j (ix2 r l)
      = A.g (tk b r) * Ideal.exp (zN A (tk b r) (512 * k + (128 * j + l.val)) - A.lse (tk b r)) := by
  obtain ⟨a, ha⟩ := m_real hA h r l (k + 1) (by omega)
  have fin : ∀ v u : EReal, v = Ideal.exp (zN A (tk b r) (512 * k + (128 * j + l.val)) - (I.arg.st (k + 1)).1 (ix2 r l)) →
      u = A.g (tk b r) * Ideal.exp ((I.arg.st (k + 1)).1 (ix2 r l) - A.lse (tk b r)) →
      v * u = A.g (tk b r) * Ideal.exp (zN A (tk b r) (512 * k + (128 * j + l.val)) - A.lse (tk b r)) := by
    rintro _ _ rfl rfl
    rw [ha, mul_left_comm, exp_mul_exp (zN_ne_top hA _ _)]
  have hu : k0_pay15 (k0_pay22 I.c2) I.lse (VecWindow.window (s := S10x256x128) I.arg.mA ![k % 10, 0, 0] S1x256x128.size (inb_m k)) (ix2 r l)
      = A.g (tk b r) * Ideal.exp ((I.arg.st (k + 1)).1 (ix2 r l) - A.lse (tk b r)) := by
    rw [pay15_apply, g_eq h, lse_eq hA h, mWin_eq hA k hk]
  have hv : ∀ {inb}, VecWindow.window (s := S256x5120) I.arg.eA ![0, 512 * (k % 10) + 128 * (j % 4)] S256x128.size inb (ix2 r l)
      = Ideal.exp (zN A (tk b r) (512 * k + (128 * j + l.val)) - (I.arg.st (k + 1)).1 (ix2 r l)) := by
    intro inb
    rw [eWin_eq _ k j hk hj, eA_eq r k j hk hj, e_eq hA h r k j hk hj]
  match j, hj with
  | 0, _ => exact (pay16_apply _ _ _ _ r l).trans (fin _ _ hv hu)
  | 1, _ => exact (pay17_apply _ _ _ _ r l).trans (fin _ _ hv hu)
  | 2, _ => exact (pay18_apply _ _ _ _ r l).trans (fin _ _ hv hu)
  | 3, _ => exact (pay2_apply _ _ r l).trans (fin _ _ hv hu)

/-- The gradient of the negatives' logits. -/
theorem dz_eq (hA : A.Ok) (h : Blk A b I) (r : Fin 256) (n : Fin 5120) : I.dz (ix2 r n) = A.dz (tk b r) n := by
  unfold Inp.dz Arg.dA
  have e := dT_eq hA h r (n.val / 512) (n.val % 512 / 128) (by omega) (by omega) ⟨n.val % 128, Nat.mod_lt _ (by decide)⟩
  refine (congrArg (I.arg.dT (k0_pay22 I.c2) I.lse (n.val / 512) (n.val % 512 / 128)) (eq_ix2 _)).trans (e.trans ?_)
  unfold In.dz
  have hn : 512 * (n.val / 512) + (128 * (n.val % 512 / 128) + n.val % 128) = n.val := by omega
  show A.g (tk b r) * Ideal.exp (zN A (tk b r) (512 * (n.val / 512) + (128 * (n.val % 512 / 128) + n.val % 128)) - A.lse (tk b r)) = _
  rw [hn]
  unfold zN
  rw [dif_pos n.isLt]

/-- A term of the hidden row's gradient by number. -/
def hN (A : In) (t : Fin 6144) (d : Fin 2560) (n : ℕ) : EReal := if h : n < 5120 then A.dz t ⟨n, h⟩ * A.ws ⟨n, h⟩ d else 0

theorem ac_eq (hA : A.Ok) (h : Blk A b I) (a0 : Vec Ideal S256x2560 .f32) (r : Fin 256) (d : Fin 2560) : ∀ k, k ≤ 10 →
    I.arg.ac (k0_pay22 I.c2) I.lse a0 k (ix2 r d) = a0 (ix2 r d) + ∑ i ∈ Finset.range k, ∑ j ∈ Finset.range 512, hN A (tk b r) d (512 * i + j) := by
  intro k
  induction k with
  | zero => intro _; simp [Arg.ac]
  | succ k ih =>
    intro hk
    have hk' : k < 10 := by omega
    show k0_pay3 _ _ _ (ix2 r d) = _
    rw [pay3_apply, ih (by omega), Finset.sum_range_succ, add_assoc]
    congr 2
    rw [Finset.sum_range]
    refine Finset.sum_congr rfl fun j _ => ?_
    rw [wsC_eq _ k hk']
    unfold hN
    rw [dif_pos (by omega)]
    have e : VecWindow.window (s := S256x5120) (I.arg.dA (k0_pay22 I.c2) I.lse) ![0, 512 * (k % 10)] S256x512.size (inb_cols k) (ix2 r j)
        = I.arg.dA (k0_pay22 I.c2) I.lse (ix2 r ⟨512 * k + j.val, by omega⟩) := by
      unfold VecWindow.window
      congr 1
      funext a
      match a with
      | ⟨0, _⟩ => exact Fin.ext (by show 0 + 1 * r.val = r.val; omega)
      | ⟨1, _⟩ => exact Fin.ext (by show 512 * (k % 10) + 1 * j.val = 512 * k + j.val; omega)
    rw [e]
    exact congrArg₂ _ (dz_eq hA h r _) (h.w _ d)

/-- The gradient of the hidden rows. -/
theorem dh_eq (hA : A.Ok) (h : Blk A b I) (r : Fin 256) (d : Fin 2560) : I.dh (ix2 r d) = A.dh (tk b r) d := by
  unfold Inp.dh
  rw [pay4_apply, ac_eq hA h _ r d 10 le_rfl, pay1_apply, dzt_eq hA h, pay34_eq h, sum_tiles (hN A (tk b r) d) 10 512, add_comm]
  have e : ∑ n ∈ Finset.range 5120, hN A (tk b r) d n = ∑ n : Fin 5120, A.dz (tk b r) n * A.ws n d := by
    rw [Finset.sum_range]
    refine Finset.sum_congr rfl fun n _ => ?_
    unfold hN
    rw [dif_pos n.isLt]
  exact congrArg (· + A.dzt (tk b r) * A.wt (tk b r) d) e

end Cert.LogitGradsIdeal.Val

end
-- ==== Proof.LiFrame.lean ====
/- The region run: what is kept from block to block, the body at each point, the launch. -/
module

public import proofs.«01_k».proof.Proof.LiBody

@[expose] public section

set_option maxRecDepth 8192
set_option maxHeartbeats 4000000

noncomputable section

namespace Cert.LogitGradsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LogitGradsIdeal.Gen hiding hmain W_main_arg1 W_main_arg2 W_main_arg5 W_main_arg6 before0_0_of before0_1_of before0_2_of before0_3_of before0_4_of before0_5_of frame_of

variable {F : FTy → Type} [FloatOps F]

/-- The resource algebra: the frame kit's with counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes this argument. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes this argument. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes this argument. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes this argument. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- What the staging buffer holds when the body runs. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = X0_3 m c t) (t : Fin cfg0.N) (d) : dat.before 3 t d = X0_3 m c t :=
  (dat.before_in_eq_fetched 3 rfl (fun _ => rfl)
      (fun t t' h => funext fun a => congrArg (fun n => Pipeline.Clip.of n ((cfg0.win 3).size a) (S88x11264.size a)) (congrFun h a))
      (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)

/-- What the staging buffer holds when the body runs. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged and the semaphores at zero, from the region's run. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (Pipeline.afterTail₀ cfgs dats 0 (V0 m) [hostOps1]) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 0).trans (((dats 0 c).arrAt_in 0 rfl _).trans ((hA c 0).trans (V_main_arg0 m c))),
      (((h.1 c).2 main_arg1 (Pipeline.mem_restRefs_of main_arg1 (by decide) (by decide))).trans (W_main_arg1 m dats c)),
      (((h.1 c).2 main_arg2 (Pipeline.mem_restRefs_of main_arg2 (by decide) (by decide))).trans (W_main_arg2 m dats c)),
      ((h.1 c).1 1).trans (((dats 0 c).arrAt_in 1 rfl _).trans ((hA c 1).trans (V_main_arg3 m c))),
      ((h.1 c).1 3).trans (((dats 0 c).arrAt_in 3 rfl _).trans ((hA c 3).trans (V_main_arg4 m c))),
      (((h.1 c).2 main_arg5 (Pipeline.mem_restRefs_of main_arg5 (by decide) (by decide))).trans (W_main_arg5 m dats c)),
      (((h.1 c).2 main_arg6 (Pipeline.mem_restRefs_of main_arg6 (by decide) (by decide))).trans (W_main_arg6 m dats c))⟩, h.2⟩) h

/-! ## What the body keeps from block to block -/

abbrev H0 : Finset (Ref sig .tc) := {main_v17, main_arg2}
theorem H0_sub : H0 ⊆ Pipeline.restRefs sig spec0 := by decide
abbrev osem0 : Fin 3 → SemLoc sig := fun j => (![SemLoc.dma 15, SemLoc.dma 16, SemLoc.dma 17] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0
          ∗ semVal ((c : Thread nD τ), SemLoc.dma 17) 0) := by
  rw [Pipeline.ownSems0_eq_of_list c osem0 [0, 1, 2] (by decide) (by decide)]; rfl
theorem hbmPts0_eq (c : Dev nD) :
    (bigSep H0 (fun b => ((c : Thread nD τ).loc b) ↦{fullShare} V m c b) : sProp 𝕄)
      = iprop((((c : Thread nD τ).loc main_v17) ↦{fullShare} V m c main_v17) ∗ (((c : Thread nD τ).loc main_arg2) ↦{fullShare} V m c main_arg2)) := by
  rw [BI.bigSep_eq_bigSepL_of_eq [main_v17, main_arg2] (by decide) (by decide)]; rfl

/-- The lines after the region touch neither the word table nor the negatives' weights. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl
    all_goals intro b hb; simp only [H0, Finset.mem_insert, Finset.mem_singleton] at hb
    all_goals rcases hb with rfl | rfl <;>
      simp only [StableHlo.unary_bufs, StableHlo.reshape_bufs, Finset.mem_insert, Finset.mem_singleton, not_or] <;> and_intros <;> exact StableHlo.devRef_ne_of_ne (by decide)

theorem gs_eq0 : gs 0 = 16 := by decide
theorem gs_eq1 : gs 1 = 17 := by decide
theorem sem18 : (cc0_scratch6).sem = 15 := by decide

/-- A target's row of the word table, by its place. -/
def wrowA (a : S6144.Idx → BitVec 32) (n : ℕ) : ℕ :=
  (Scalar.shrsi (a (fun | 0 => (⟨n % 6144, Nat.mod_lt _ (by decide)⟩ : Fin 6144))) 2#32).toNat
/-- The share of the word table a slot reads with. -/
def qs (s : ℕ) : PosShare TreeShare := if s = 0 then fullShare.left else fullShare.right
/-- The targets. -/
def tgA (c : Dev nD) : S6144.Idx → BitVec 32 := V m c main_arg0
/-- The word table. -/
def tabA (c : Dev nD) : BufTy.Contents (Elt F) tabW.view.ty := V m c main_v17
/-- The rows block `n` gathers. -/
def Wn (c : Dev nD) (n : ℕ) : ℕ → ℕ := fun r => wrowA (tgA m c) (256 * n + r)
/-- What block `t` is given. -/
def inp (c : Dev nD) (t : Fin cfg0.N) : Inp F where
  x := iblk m c 1 t
  w := V m c main_arg2
  lq := iblk m c 4 t
  sid := iblk m c 5 t
  cols := iblk m c 2 t
  sc := X0_3 m c t
  wd := wordsV (tabA m c) (Wn m c t.val)

abbrev sc0 : Memref sig .tc .vmem S5120x2560 .bf16 := Memref.whole cc0_scratch0
abbrev sc2 : Memref sig .tc .vmem S80x2560 .bf16 := Memref.whole cc0_scratch2
abbrev sc3 : Memref sig .tc .vmem S256x5120 .f32 := Memref.whole cc0_scratch3
abbrev sc4 : Memref sig .tc .vmem S10x256x128 .f32 := Memref.whole cc0_scratch4
abbrev sc5 : Memref sig .tc .vmem S256x2560 .f32 := Memref.whole cc0_scratch5
abbrev wsW : Memref sig .tc .hbm S5120x2560 .bf16 := Memref.whole main_arg2

/-- What the body keeps when `n` blocks are done: the weights' copy and the expansion matrix once the first block has made them,
    the block's rows on the way into their slot, the other slot free, and the rest at anything. -/
def Phi (c : Dev nD) (n : ℕ) : sProp 𝕄 :=
  iprop((∃ f : BufTy.Contents (Elt F) sc0.view.ty, (sc0.view.loc (c : Thread nD τ) ↦[sc0.view.set]{fullShare} f) ∗ ⌜n ≠ 0 → sc0.view.read (Elt F) f = wsW.view.read (Elt F) (V m c main_arg2)⌝)
    ∗ (∃ f : BufTy.Contents (Elt F) sc2.view.ty, (sc2.view.loc (c : Thread nD τ) ↦[sc2.view.set]{fullShare} f) ∗ ⌜n ≠ 0 → sc2.view.read (Elt F) f = k0_pay19 (F := F)⌝)
    ∗ (∃ f : BufTy.Contents (Elt F) sc3.view.ty, (sc3.view.loc (c : Thread nD τ) ↦[sc3.view.set]{fullShare} f))
    ∗ (∃ f : BufTy.Contents (Elt F) sc4.view.ty, (sc4.view.loc (c : Thread nD τ) ↦[sc4.view.set]{fullShare} f))
    ∗ (∃ f : BufTy.Contents (Elt F) sc5.view.ty, (sc5.view.loc (c : Thread nD τ) ↦[sc5.view.set]{fullShare} f))
    ∗ semVal ((c : Thread nD τ), SemLoc.dma (cc0_scratch6).sem) 0 ∗ (∃ r, prngReg c r)
    ∗ (wsW.view.loc (c : Thread nD τ) ↦[wsW.view.set]{fullShare} V m c main_arg2)
    ∗ slotAt (F := F) c (n % 2) (tabA m c) (qs (n % 2)) (Wn m c n) (n ≠ 0 ∧ n < 24)
    ∗ free (F := F) c (1 - n % 2) (tabA m c) (qs (1 - n % 2)))

theorem slot_halves (c : Dev nD) : Disjoint (slotSet c 0) (slotSet c 1) ∧ slotSet c 0 ∪ slotSet c 1 = Finset.univ := by
  constructor
  · rw [Finset.disjoint_left]
    intro x h0 h1
    have h0 := (Finset.mem_filter.mp h0).2
    have h1 := (Finset.mem_filter.mp h1).2
    exact absurd (h0.symm.trans h1) (by decide)
  · apply Finset.eq_univ_of_forall
    intro x
    have hx : (x 0).val < 2 := (x 0).isLt
    rcases (by omega : (x 0).val = 0 ∨ (x 0).val = 1) with h | h
    · exact Finset.mem_union_left _ (Finset.mem_filter.mpr ⟨Finset.mem_univ _, h⟩)
    · exact Finset.mem_union_right _ (Finset.mem_filter.mpr ⟨Finset.mem_univ _, h⟩)

/-- Both slots free are the slots' buffer, its two semaphores and the word table whole. -/
theorem slots_free (c : Dev nD) (T : BufTy.Contents (Elt F) tabW.view.ty) :
    (iprop(free (F := F) c 0 T (qs 0) ∗ free (F := F) c 1 T (qs 1)) : sProp 𝕄)
      ⊣⊢ iprop((∃ f : Buf (Elt F) ((c : Thread nD τ).loc cc0_scratch1), ((c : Thread nD τ).loc cc0_scratch1) ↦{fullShare} f)
        ∗ semVal ((c : Thread nD τ), SemLoc.dma 16) 0 ∗ semVal ((c : Thread nD τ), SemLoc.dma 17) 0
        ∗ (((c : Thread nD τ).loc main_v17) ↦{fullShare} (T : Buf (Elt F) ((c : Thread nD τ).loc main_v17)))) := by
  obtain ⟨hd, hu⟩ := slot_halves c
  unfold free
  rw [gs_eq0, gs_eq1, show qs 0 = fullShare.left from rfl, show qs 1 = fullShare.right from rfl]
  constructor
  · iintro ⟨⟨HS0, ⟨%g0, H0⟩, HT0⟩, ⟨HS1, ⟨%g1, H1⟩, HT1⟩⟩
    isplitl [H0 H1]
    · iexists _
      iapply (Entails.of_eq (congrArg (fun S => (((c : Thread nD τ).loc cc0_scratch1) ↦[S]{fullShare} _ : sProp 𝕄)) hu))
      iapply (pointsTo_join hd)
      isplitl [H0]; · iexact H0
      iexact H1
    isplitl [HS0]; · iexact HS0
    isplitl [HS1]; · iexact HS1
    iapply (pointsTo_share (PosShare.mem_left_op_right fullShare)).2
    isplitl [HT0]; · iexact HT0
    iexact HT1
  · iintro ⟨⟨%f, H⟩, HS0, HS1, HT⟩
    ihave H' := (Entails.of_eq (congrArg (fun S => (((c : Thread nD τ).loc cc0_scratch1) ↦[S]{fullShare} f : sProp 𝕄)) hu.symm)) $$ H
    ihave H'' := (pointsTo_union hd).1 $$ H'
    icases H'' with ⟨H0, H1⟩
    ihave HT' := (pointsTo_share (PosShare.mem_left_op_right fullShare)).1 $$ HT
    icases HT' with ⟨HT0, HT1⟩
    isplitl [HS0 H0 HT0]
    · isplitl [HS0]; · iexact HS0
      isplitl [H0]; · iexists _; iexact H0
      iexact HT0
    isplitl [HS1]; · iexact HS1
    isplitl [H1]; · iexists _; iexact H1
    iexact HT1

theorem whole_pt (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  exact congrArg (fun S => (((c : Thread nD τ).loc b) ↦[S]{fullShare} f : sProp 𝕄)) (View.set_whole (sig := sig) b).symm

/-- The proof data of the region. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => (inp m c t).dh
    | ⟨7, _⟩ => (inp m c t).dz
    | ⟨8, _⟩ => (inp m c t).stat
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (inp m c t).dh := by dsimp only [dats]
theorem after0_7 (c : Dev nD) (t : Fin cfg0.N) : (dats m 0 c).after 7 t = (inp m c t).dz := by dsimp only [dats]
theorem after0_8 (c : Dev nD) (t : Fin cfg0.N) : (dats m 0 c).after 8 t = (inp m c t).stat := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- And what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem coord0 : ∀ t : Fin cfg0.N, (grid0.coords t 0).val = t.val := by decide +kernel
theorem iblk0_eq (c : Dev nD) (t : Fin cfg0.N) : (iblk m c 0 t : S6144.Idx → BitVec 32) = tgA m c := by
  funext y
  show V m c main_arg0 _ = V m c main_arg0 y
  congr 1
  funext a
  apply Fin.ext
  match a with
  | 0 =>
    show (0 : ℕ) * 6144 + 1 * (y 0).val = (y 0).val
    omega

theorem slotAt_congr (c : Dev nD) (s : ℕ) (T : BufTy.Contents (Elt F) tabW.view.ty) (q : PosShare TreeShare) (W : ℕ → ℕ) {b b' : Prop} [Decidable b] [Decidable b'] (h : Iff b b') :
    slotAt (F := F) c s T q W b = slotAt (F := F) c s T q W b' := by
  unfold slotAt
  by_cases hb : b
  · rw [if_pos hb, if_pos (h.1 hb)]
  · rw [if_neg hb, if_neg (fun h' => hb (h.2 h'))]

theorem sound_body (c : Dev nD) (hX : ∀ n < 6144, wrowA (tgA m c) n < 12576) (t : Fin cfg0.N) :
    bodyPre m c t ⊢ wp frame (wpE (defs₀ (F := F)) Variants.none c none) Set.univ (bodyAt0 t) (fun _ => bodyPost m c t) := by
  have ht : t.val < 24 := t.isLt
  unfold bodyPre bodyPost bodyAt0
  rw [after0_0, after0_1, after0_2, after0_3, after0_4, after0_5, after0_6, after0_7, after0_8]
  simp only [before0_0, before0_1, before0_2, before0_3, before0_4, before0_5]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi owns
  rw [slotAt_congr c (t.val % 2) (tabA m c) (qs (t.val % 2)) (Wn m c t.val) (b' := t.val ≠ 0) ⟨fun h => h.1, fun h => ⟨h, ht⟩⟩,
    slotAt_congr c ((t.val + 1) % 2) (tabA m c) (qs ((t.val + 1) % 2)) (Wn m c (t.val + 1)) (b' := t.val + 1 < 24) ⟨fun h => h.2, fun h => ⟨by omega, h⟩⟩,
    show (t.val + 1) % 2 = 1 - t.val % 2 from by omega, show 1 - (1 - t.val % 2) = t.val % 2 from by omega]
  iintro ⟨⟨⟨%f12, H12, %h12⟩, ⟨%f14, H14, %h14⟩, ⟨%f15, H15⟩, ⟨%f16, H16⟩, ⟨%f17, H17⟩, HS, Hg, H3, HT, HF⟩, ⟨%W, -, HW⟩,
    ⟨%d1, %X1, %h1, H1⟩, ⟨%d4, %X4, %h4, H4⟩, ⟨%d5, %X5, %h5, H5⟩, ⟨%d6, %X6, %h6, H6⟩, ⟨%d7, %X7, %h7, H7⟩, ⟨%d8, %X8, %h8, H8⟩,
    ⟨%d9, %f9, %h9, H9⟩, ⟨%d10, %f10, %h10, H10⟩, ⟨%d11, %f11, %h11, H11⟩⟩
  have h1' : ∀ n, wrow (win0_0.stage (cfg0.slots t 0)) X1 n = wrowA (tgA m c) n := by
    intro n; rw [← iblk0_eq m c t, ← h1]; rfl
  have hW1 : ∀ k, (fun r => wrow (win0_0.stage (cfg0.slots t 0)) X1 (256 * k + r)) = Wn m c k := fun k => funext fun r => h1' _
  have hb := body_L (F := F) c (grid0.coords t) (win0_0.stage (cfg0.slots t 0)) (hstage0_0 ((cfg0.slots t 0).cast nbuf0_0)) (Memref.whole main_arg2) (Memref.isWhole_whole _) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 X1 (V m c main_arg2) (inp m c t) X4 X5 X6 X7 X8 h4 h5 h6 h7 h8 rfl
      (fun n hn => by rw [h1' n]; exact hX n hn)
      f9 f10 f11 f12 f14 f15 f16 f17 (fun h => h12 (by rwa [coord0 t] at h)) (fun h => h14 (by rwa [coord0 t] at h)) (tabA m c) (qs (t.val % 2)) (qs (1 - t.val % 2))
      (by rw [coord0 t, hW1]; rfl) W
  rw [coord0 t, hW1, hW1] at hb
  iapply (wp_wand_r _ _ _)
  isplitr [Hg]
  · iapply hb
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H15]; · iexact H15
    isplitl [H16]; · iexact H16
    isplitl [H17]; · iexact H17
    isplitl [HS]; · iexact HS
    isplitl [HW]; · iexact HW
    isplitl [HT]; · iexact HT
    iexact HF
  iintro %_ ⟨H1, H3, H4, H5, H6, H7, H8, ⟨%g9, H9, %h9'⟩, ⟨%g10, H10, %h10'⟩, ⟨%g11, H11, %h11'⟩, ⟨%g12, H12, %h12'⟩, ⟨%g14, H14, %h14'⟩, ⟨%g15, H15⟩, ⟨%g16, H16⟩, ⟨%g17, H17⟩, HS, ⟨%S', HW⟩, HT, HF⟩
  isplitl [H12 H14 H15 H16 H17 HS Hg H3 HT HF]
  · isplitl [H12]
    · iexists g12
      isplitl [H12]; · iexact H12
      ipureintro; exact fun _ => h12'
    isplitl [H14]
    · iexists g14
      isplitl [H14]; · iexact H14
      ipureintro; exact fun _ => h14'
    isplitl [H15]; · iexists g15; iexact H15
    isplitl [H16]; · iexists g16; iexact H16
    isplitl [H17]; · iexists g17; iexact H17
    isplitl [HS]; · iexact HS
    isplitl [Hg]; · iexact Hg
    isplitl [H3]; · iexact H3
    isplitl [HT]; · iexact HT
    iexact HF
  isplitl [HW]
  · iexists S'
    isplitr
    · ipureintro; exact fun _ _ => Or.inl trivial
    iexact HW
  isplitl [H1]
  · iexists X1
    isplitr
    · ipureintro; exact h1
    iexact H1
  isplitl [H4]
  · iexists X4
    isplitr
    · ipureintro; exact h4
    iexact H4
  isplitl [H5]
  · iexists X5
    isplitr
    · ipureintro; exact h5
    iexact H5
  isplitl [H6]
  · iexists X6
    isplitr
    · ipureintro; exact h6
    iexact H6
  isplitl [H7]
  · iexists X7
    isplitr
    · ipureintro; exact h7
    iexact H7
  isplitl [H8]
  · iexists X8
    isplitr
    · ipureintro; exact h8
    iexact H8
  isplitl [H9]
  · iexists g9
    isplitr
    · ipureintro; exact h9'
    iexact H9
  isplitl [H10]
  · iexists g10
    isplitr
    · ipureintro; exact h10'
    iexact H10
  iexists g11
  isplitr
  · ipureintro; exact h11'
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) (hX : ∀ n < 6144, wrowA (tgA m c) n < 12576) : BodyObligation (dats (F := F) m 0 c) (defs₀ (F := F)) Variants.none () Set.univ := fun t => by
  rw [bigSep_W0, bigSep_W0, defs₀_row]
  exact triple_restated (sound_body m c hX t) rfl .rfl fun _ => .rfl

theorem phi_in (c : Dev nD) : Pipeline.ΦD osem0 spec0 H0 (fun c b => V0 m c (Proc.devRef .tc b)) c ⊢ Phi m c 0 := by
  rw [Pipeline.ΦD_eq, scopedRest0_eq, ownSems00_eq, hbmPts0_eq]
  unfold Phi slotAt
  rw [if_neg (by decide)]
  iintro ⟨⟨⟨%f0, H0⟩, H1, ⟨%f2, H2⟩, ⟨%f3, H3⟩, ⟨%f4, H4⟩, ⟨%f5, H5⟩⟩, Hg, ⟨S5, S6, S7⟩, HT, HW⟩
  isplitl [H0]
  · iexists f0
    isplitl [H0]; · iapply (Entails.of_eq (whole_pt c cc0_scratch0 f0)); iexact H0
    ipureintro; exact fun h => absurd rfl h
  isplitl [H2]
  · iexists f2
    isplitl [H2]; · iapply (Entails.of_eq (whole_pt c cc0_scratch2 f2)); iexact H2
    ipureintro; exact fun h => absurd rfl h
  isplitl [H3]; · iexists f3; iapply (Entails.of_eq (whole_pt c cc0_scratch3 f3)); iexact H3
  isplitl [H4]; · iexists f4; iapply (Entails.of_eq (whole_pt c cc0_scratch4 f4)); iexact H4
  isplitl [H5]; · iexists f5; iapply (Entails.of_eq (whole_pt c cc0_scratch5 f5)); iexact H5
  isplitl [S5]; · iexact S5
  isplitl [Hg]; · iexact Hg
  isplitl [HW]; · iapply (Entails.of_eq (whole_pt c main_arg2 (V m c main_arg2))); iexact HW
  iapply (slots_free c (tabA m c)).2
  isplitl [H1]; · iexact H1
  isplitl [S6]; · iexact S6
  isplitl [S7]; · iexact S7
  iexact HT

theorem phi_out (c : Dev nD) : Phi m c 24 ⊢ Pipeline.ΦD osem0 spec0 H0 (fun c b => V0 m c (Proc.devRef .tc b)) c := by
  rw [Pipeline.ΦD_eq, scopedRest0_eq, ownSems00_eq, hbmPts0_eq]
  unfold Phi slotAt
  rw [if_neg (by decide)]
  iintro ⟨⟨%f0, H0, -⟩, ⟨%f2, H2, -⟩, ⟨%f3, H3⟩, ⟨%f4, H4⟩, ⟨%f5, H5⟩, S5, Hg, HW, HT, HF⟩
  ihave HS := (slots_free c (tabA m c)).1 $$ [HT HF]
  · isplitl [HT]; · iexact HT
    iexact HF
  icases HS with ⟨H1, S6, S7, HT⟩
  isplitl [H0 H1 H2 H3 H4 H5]
  · isplitl [H0]; · iexists f0; iapply (Entails.of_eq (whole_pt c cc0_scratch0 f0).symm); iexact H0
    isplitl [H1]; · iexact H1
    isplitl [H2]; · iexists f2; iapply (Entails.of_eq (whole_pt c cc0_scratch2 f2).symm); iexact H2
    isplitl [H3]; · iexists f3; iapply (Entails.of_eq (whole_pt c cc0_scratch3 f3).symm); iexact H3
    isplitl [H4]; · iexists f4; iapply (Entails.of_eq (whole_pt c cc0_scratch4 f4).symm); iexact H4
    iexists f5; iapply (Entails.of_eq (whole_pt c cc0_scratch5 f5).symm); iexact H5
  isplitl [Hg]; · iexact Hg
  isplitl [S5 S6 S7]
  · isplitl [S5]; · iexact S5
    isplitl [S6]; · iexact S6
    iexact S7
  isplitl [HT]; · iexact HT
  iapply (Entails.of_eq (whole_pt c main_arg2 (V m c main_arg2)).symm); iexact HW

set_option backward.isDefEq.respectTransparency.types false in
/-- The region's run, the semaphores back at zero. -/
theorem run_main (hX : ∀ c, ∀ n < 6144, wrowA (tgA m c) n < 12576) :
    θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c (hX c)).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := phi_in m) (hout := phi_out m)

/-- The program runs, its arguments end unchanged and the semaphores at zero. -/
theorem frame_run (hX : ∀ c, ∀ n < 6144, wrowA (tgA m c) n < 12576) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  frame_of m ρ (dats m) (A_eq m) (run_main m ρ hX)

end Cert.LogitGradsIdeal.Hand
end
-- ==== Proof.LgWord.lean ====
/- Four bytes in a word: shifted left until byte `p` is the top one and arithmetically back, the word is that byte with its sign. -/
module

public import Idealize.ShloMosaic.PureOps.Float
public import Mathlib.Tactic.FinCases

@[expose] public section

namespace Cert.LgWord

open Idealize.ShloMosaic

/-- Byte `p` of a word, by shifts. -/
theorem word_byte (w : BitVec 32) (b : Fin 4 → BitVec 8) (h : ∀ (q : ℕ) (hq : q < 32), w.getLsbD q = (b ⟨q / 8, by omega⟩).getLsbD (q % 8)) (p : Fin 4) :
    IntOp.shrsi ArithUnit.vector (IntOp.shli ArithUnit.vector w (BitVec.ofNat 32 (24 - 8 * p.val))) 24#32 = (b p).signExtend 32 := by
  have hs : (BitVec.ofNat 32 (24 - 8 * p.val)).toNat = 24 - 8 * p.val := by
    rw [BitVec.toNat_ofNat]; apply Nat.mod_eq_of_lt; omega
  have e1 : IntOp.shli ArithUnit.vector w (BitVec.ofNat 32 (24 - 8 * p.val)) = w <<< (24 - 8 * p.val) := by
    unfold IntOp.shli
    rw [if_pos (by rw [hs]; omega), BitVec.shiftLeft_eq', hs]
  have e2 : ∀ v : BitVec 32, IntOp.shrsi ArithUnit.vector v 24#32 = v.sshiftRight 24 := fun v => by
    unfold IntOp.shrsi
    rw [if_pos (by decide)]
    rfl
  rw [e1, e2]
  apply BitVec.eq_of_getLsbD_eq
  intro i hi
  have hp := p.isLt
  have key : ∀ q, q < 8 → (w <<< (24 - 8 * p.val)).getLsbD (24 + q) = (b p).getLsbD q := by
    intro q hq
    rw [BitVec.getLsbD_shiftLeft]
    have h3 : 24 + q - (24 - 8 * p.val) = 8 * p.val + q := by omega
    rw [h3, h _ (by omega)]
    have h4 : (⟨(8 * p.val + q) / 8, by omega⟩ : Fin 4) = p := Fin.ext (by show (8 * p.val + q) / 8 = p.val; omega)
    have h5 : (8 * p.val + q) % 8 = q := by omega
    rw [h4, h5]
    have h6 : decide (24 + q < 32) = true := decide_eq_true (by omega)
    have h7 : decide (24 + q < 24 - 8 * p.val) = false := decide_eq_false (by omega)
    simp [h6, h7]
  have hmsb : (w <<< (24 - 8 * p.val)).msb = (b p).msb := by
    rw [BitVec.msb_eq_getLsbD_last, BitVec.msb_eq_getLsbD_last]
    exact key 7 (by omega)
  rw [BitVec.getLsbD_sshiftRight, BitVec.getLsbD_signExtend]
  by_cases h8 : i < 8
  · have : 24 + i < 32 := by omega
    rw [if_pos h8, if_pos this, key i h8]
    simp [hi, show ¬ 32 ≤ i by omega]
  · have : ¬ 24 + i < 32 := by omega
    simp [hi, h8, this, hmsb, show ¬ 32 ≤ i by omega]

/-- Its value is the byte's. -/
theorem word_byte_toInt (w : BitVec 32) (b : Fin 4 → BitVec 8) (h : ∀ (q : ℕ) (hq : q < 32), w.getLsbD q = (b ⟨q / 8, by omega⟩).getLsbD (q % 8)) (p : Fin 4) :
    (IntOp.shrsi ArithUnit.vector (IntOp.shli ArithUnit.vector w (BitVec.ofNat 32 (24 - 8 * p.val))) 24#32).toInt = (b p).toInt := by
  rw [word_byte w b h p, BitVec.toInt_signExtend_of_le (by decide)]

end Cert.LgWord
-- ==== Proof.LiHost.lean ====
/- What the lines before the region hand to the kernel, read at an index of the arguments. -/
module

public import proofs.«01_k».proof.Proof.LiVal
public import proofs.«01_k».proof.Proof.LiFrame
public import proofs.«01_k».proof.Proof.LgWord
public import Idealize.ShloMosaic.Lib.StableHlo.ReadAt
public import Idealize.ShloMosaic.Lib.BitcastConvert
public import Idealize.ShloMosaic.Lib.Pointwise
public import Idealize.ShloMosaic.Lib.Tactic.WordOmega

@[expose] public section

set_option maxRecDepth 16384
set_option maxHeartbeats 4000000

noncomputable section

namespace Cert.LogitGradsIdeal.HostV

open Idealize.ShloMosaic Idealize.ShloMosaic.TcCoe
open Cert.LogitGradsIdeal Cert.LogitGradsIdeal.Gen Cert.LogitGradsIdeal.Hand Cert.LogitGradsIdeal.Val
open Cert.LgSpec Cert.LgMath

variable (m : (ℓ : Loc nD τ sig) → Buf (Elt Ideal) ℓ)

/-- The arguments of one core. -/
abbrev argA (c : Dev nD) : In := ofArgs (m (c.tc.loc main_arg0) : IVec S6144 32) (m (c.tc.loc main_arg1) : IVec S50304x2560 8)
  (m (c.tc.loc main_arg2) : FVec Ideal S5120x2560 .bf16) (m (c.tc.loc main_arg3) : FVec Ideal S6144x2560 .bf16)
  (m (c.tc.loc main_arg4) : FVec Ideal S88x11264 .f32) (m (c.tc.loc main_arg5) : FVec Ideal S6144 .f32) (m (c.tc.loc main_arg6) : IVec S5120 32)

/-- Column 0: the target's number. -/
theorem v14_0 (c : Dev nD) (t : Fin 6144) :
    (V m c main_v14 : FVec Ideal S6144x4 .f32) (ix2 t 0) = ((((m (c.tc.loc main_arg0) : IVec S6144 32) (ix1 t)).toInt : ℝ) : EReal) := by
  unfold V
  after_reads_at
  after_reads_at
  rfl

/-- Column 1: the offset of the target's column. -/
theorem v14_1 (c : Dev nD) (t : Fin 6144) :
    (V m c main_v14 : FVec Ideal S6144x4 .f32) (ix2 t 1) = (m (c.tc.loc main_arg4) : FVec Ideal S88x11264 .f32) (ix2 80 (In.tcol t)) := by
  unfold V
  after_reads_at
  after_reads_at
  rfl

/-- Column 2: the gradient's scale. -/
theorem v14_2 (c : Dev nD) (t : Fin 6144) :
    (V m c main_v14 : FVec Ideal S6144x4 .f32) (ix2 t 2) = (m (c.tc.loc main_arg5) : FVec Ideal S6144 .f32) (ix1 t) := by
  unfold V
  after_reads_at
  after_reads_at

/-- Column 3: the byte's shift. -/
theorem v14_3 (c : Dev nD) (t : Fin 6144) :
    (V m c main_v14 : FVec Ideal S6144x4 .f32) (ix2 t 3) = ((((24#32 : BitVec 32) - 8#32 * ((argA m c).tgt t &&& 3#32)).toInt : ℝ) : EReal) := by
  unfold V
  after_reads_at
  after_reads_at
  rfl

/-- The offsets of the sampled columns. -/
theorem v18_at (c : Dev nD) (n : Fin 5120) :
    (V m c main_v18 : FVec Ideal S1x5120 .f32) (ix2 0 n) = (m (c.tc.loc main_arg4) : FVec Ideal S88x11264 .f32) (ix2 80 (In.scol n)) := by
  unfold V
  after_reads_at
  rfl

/-- The sampled numbers. -/
theorem v20_at (c : Dev nD) (n : Fin 5120) :
    (V m c main_v20 : FVec Ideal S1x5120 .f32) (ix2 0 n) = ((((m (c.tc.loc main_arg6) : IVec S5120 32) (ix1 n)).toInt : ℝ) : EReal) := by
  unfold V
  after_reads_at
  rfl

/-- A word of the regrouped table, bit by bit: byte `q / 8` of word row `a` is row `4 a + q / 8`. -/
theorem words_bit (T : IVec S50304x2560 8) (h1 : S50304x2560.ShapeCasts S12576x4x2560) (h2 : S12576x4x2560.Transposes [0, 2, 1] S12576x2560x4)
    (h3 : S12576x2560.SplitsWords 32 S12576x2560x4 8) (a : Fin 12576) (d : Fin 2560) (q : ℕ) (hq : q < 32) :
    (Host.bitcastConvertWiden S12576x2560 32 (transpose S12576x2560x4 [0, 2, 1] (shapeCast S12576x4x2560 T h1) h2) h3 (ix2 a d)).getLsbD q
      = (T (ix2 ⟨4 * a.val + q / 8, by omega⟩ d)).getLsbD (q % 8) := by
  rw [Host.bitcastConvertWiden_getLsbD _ _ _ _ _ q hq]
  congr 1
  have ei : h3.snoc (ix2 a d) ⟨q / 8, h3.div_lt hq⟩ = ix3 a d ⟨q / 8, by omega⟩ := by
    funext k; apply Fin.ext
    match k with
    | 0 => rfl
    | 1 => rfl
    | 2 => rfl
  refine (congrArg _ ei).trans ?_
  pointwise
  exact congrArg (fun k => T (ix2 k d)) (Fin.ext (by dsimp only; omega))

/-- The table's words, bit by bit. -/
theorem v17_bit (c : Dev nD) (a : Fin 12576) (d : Fin 2560) (q : ℕ) (hq : q < 32) :
    ((V m c main_v17 : IVec S12576x2560 32) (ix2 a d)).getLsbD q
      = ((argA m c).tab ⟨4 * a.val + q / 8, by omega⟩ d).getLsbD (q % 8) := by
  have e := words_bit (m (c.tc.loc main_arg1) : IVec S50304x2560 8) (by decide) (by decide) (by decide) a d q hq
  refine Eq.trans ?_ e
  congr 1

end Cert.LogitGradsIdeal.HostV

end
-- ==== Proof.LiOut.lean ====
/- The kernel's whole run over the extended reals: every block is the arguments' block, and the arrays it leaves are the
   loss's gradients. -/
module

public import proofs.«01_k».proof.Proof.LiHost
public import Idealize.ShloMosaic.Lib.Pipeline.ValueKit.Geometry

@[expose] public section

set_option maxRecDepth 16384
set_option maxHeartbeats 4000000

noncomputable section

namespace Cert.LogitGradsIdeal.HostV

open Idealize.ShloMosaic Idealize.ShloMosaic.TcCoe Idealize.SL.Sem
open Cert.LogitGradsIdeal Cert.LogitGradsIdeal.Gen Cert.LogitGradsIdeal.Hand Cert.LogitGradsIdeal.Val
open Cert.LgSpec Cert.LgMath

variable (m : (ℓ : Loc nD τ sig) → Buf (Elt Ideal) ℓ)

/-- A grid point as a block number. -/
def bk (t : Fin cfg0.N) : Fin 24 := ⟨t.val, lt_of_lt_of_eq t.isLt (show cfg0.N = 24 from N_0)⟩

/-- The block of token rows. -/
theorem blk_x (c : Dev nD) (t : Fin cfg0.N) (r : Fin 256) (d : Fin 2560) :
    (iblk m c 1 t : Vec Ideal S256x2560 .bf16) (ix2 r d) = (argA m c).x (tk (bk t) r) d := by
  unfold iblk
  rw [View.read_apply]
  show V m c main_arg3 _ = (m (c.tc.loc main_arg3) : FVec Ideal S6144x2560 .bf16) (ix2 (tk (bk t) r) d)
  rw [V_main_arg3]
  congr 1
  have hi : win0_1.index t 0 = t.val ∧ win0_1.index t 1 = 0 :=
    (by decide +kernel : ∀ t : Fin grid0.N, win0_1.index t 0 = t.val ∧ win0_1.index t 1 = 0) t
  funext a; apply Fin.ext
  match a with
  | ⟨0, _⟩ => show win0_1.index t 0 * 256 + 1 * r.val = 256 * t.val + r.val; rw [hi.1]; omega
  | ⟨1, _⟩ => show win0_1.index t 1 * 2560 + 1 * d.val = d.val; rw [hi.2]; omega

/-- The block of columns. -/
theorem blk_cols (c : Dev nD) (t : Fin cfg0.N) (r : Fin 256) (k : Fin 4) :
    (iblk m c 2 t : Vec Ideal S256x4 .f32) (ix2 r k) = (V m c main_v14 : FVec Ideal S6144x4 .f32) (ix2 (tk (bk t) r) k) := by
  unfold iblk
  rw [View.read_apply]
  show V m c main_v14 _ = V m c main_v14 _
  congr 1
  have hi : win0_2.index t 0 = t.val ∧ win0_2.index t 1 = 0 :=
    (by decide +kernel : ∀ t : Fin grid0.N, win0_2.index t 0 = t.val ∧ win0_2.index t 1 = 0) t
  funext a; apply Fin.ext
  match a with
  | ⟨0, _⟩ => show win0_2.index t 0 * 256 + 1 * r.val = 256 * t.val + r.val; rw [hi.1]; omega
  | ⟨1, _⟩ => show win0_2.index t 1 * 4 + 1 * k.val = k.val; rw [hi.2]; omega

/-- The row of offsets is whole. -/
theorem blk_lq (c : Dev nD) (t : Fin cfg0.N) (n : Fin 5120) :
    (iblk m c 4 t : Vec Ideal S1x5120 .f32) (ix2 0 n) = (V m c main_v18 : FVec Ideal S1x5120 .f32) (ix2 0 n) := by
  unfold iblk
  rw [View.read_apply]
  show V m c main_v18 _ = V m c main_v18 _
  congr 1
  have hi : win0_4.index t 0 = 0 ∧ win0_4.index t 1 = 0 :=
    (by decide +kernel : ∀ t : Fin grid0.N, win0_4.index t 0 = 0 ∧ win0_4.index t 1 = 0) t
  funext a; apply Fin.ext
  match a with
  | ⟨0, _⟩ => show win0_4.index t 0 * 1 + 1 * 0 = 0; rw [hi.1]
  | ⟨1, _⟩ => show win0_4.index t 1 * 5120 + 1 * n.val = n.val; rw [hi.2]; omega

/-- The row of sampled numbers is whole. -/
theorem blk_sid (c : Dev nD) (t : Fin cfg0.N) (n : Fin 5120) :
    (iblk m c 5 t : Vec Ideal S1x5120 .f32) (ix2 0 n) = (V m c main_v20 : FVec Ideal S1x5120 .f32) (ix2 0 n) := by
  unfold iblk
  rw [View.read_apply]
  show V m c main_v20 _ = V m c main_v20 _
  congr 1
  have hi : win0_5.index t 0 = 0 ∧ win0_5.index t 1 = 0 :=
    (by decide +kernel : ∀ t : Fin grid0.N, win0_5.index t 0 = 0 ∧ win0_5.index t 1 = 0) t
  funext a; apply Fin.ext
  match a with
  | ⟨0, _⟩ => show win0_5.index t 0 * 1 + 1 * 0 = 0; rw [hi.1]
  | ⟨1, _⟩ => show win0_5.index t 1 * 5120 + 1 * n.val = n.val; rw [hi.2]; omega

/-- The block of group scales. -/
theorem blk_sc (c : Dev nD) (t : Fin cfg0.N) (k : Fin 80) (r : Fin 256) :
    (X0_3 m c t : Vec Ideal S80x256 .f32) (ix2 k r) = (argA m c).sc ⟨k.val, by omega⟩ (In.tcol (tk (bk t) r)) := by
  unfold X0_3 Pipeline.Window.fill
  rw [dif_pos (moved0_3 t (ix2 k r))]
  unfold iblk
  rw [View.read_apply]
  show V m c main_arg4 _ = (m (c.tc.loc main_arg4) : FVec Ideal S88x11264 .f32) _
  rw [V_main_arg4]
  congr 1
  have hi : win0_3.index t 0 = 0 ∧ win0_3.index t 1 = t.val + 20 :=
    (by decide +kernel : ∀ t : Fin grid0.N, win0_3.index t 0 = 0 ∧ win0_3.index t 1 = t.val + 20) t
  funext a; apply Fin.ext
  match a with
  | ⟨0, _⟩ => show win0_3.index t 0 * 80 + 1 * k.val = k.val; rw [hi.1]; omega
  | ⟨1, _⟩ => show win0_3.index t 1 * 256 + 1 * r.val = 5120 + (256 * t.val + r.val); rw [hi.2]; omega

/-- A nonnegative word shifted right by two is its quarter. -/
theorem shr2 (a : BitVec 32) (h : 0 ≤ a.toInt) : (Scalar.shrsi a 2#32).toNat = a.toNat / 4 := by
  have hm : a.msb = false := by
    rw [BitVec.msb_eq_toInt]; exact decide_eq_false (by omega)
  have e : Scalar.shrsi a 2#32 = a.sshiftRight' 2#32 := by
    unfold Scalar.shrsi IntOp.shrsi
    exact if_pos (by decide)
  rw [e, BitVec.sshiftRight', BitVec.sshiftRight_eq_of_msb_false hm, BitVec.toNat_ushiftRight, Nat.shiftRight_eq_div_pow]
  rfl

/-- The shift word of a byte. -/
theorem shift_word (a : BitVec 32) : (24#32 : BitVec 32) - 8#32 * (a &&& 3#32) = BitVec.ofNat 32 (24 - 8 * (a.toNat % 4)) := by
  have h : a &&& 3#32 = BitVec.ofNat 32 (a.toNat % 4) := by
    apply BitVec.eq_of_toNat_eq
    rw [BitVec.toNat_and, BitVec.toNat_ofNat]
    show a.toNat &&& 3 = _
    refine (Nat.and_two_pow_sub_one_eq_mod a.toNat 2).trans (Nat.mod_eq_of_lt (a := a.toNat % 4) ?_).symm
    exact lt_trans (Nat.mod_lt _ (by decide)) (by decide)
  rw [h]
  have : a.toNat % 4 < 4 := Nat.mod_lt _ (by decide)
  generalize a.toNat % 4 = p at this
  interval_cases p <;> decide

/-- A target's word row is one of the table's. -/
theorem word_row {tgt : S6144.Idx → BitVec 32} (h : ∀ t : Fin 6144, 0 ≤ (tgt (ix1 t)).toInt ∧ (tgt (ix1 t)).toInt < 50304) (n : ℕ) (hn : n < 6144) :
    wrowA tgt n = (tgt (ix1 ⟨n, hn⟩)).toNat / 4 ∧ wrowA tgt n < 12576 := by
  have e : wrowA tgt n = (tgt (ix1 ⟨n, hn⟩)).toNat / 4 := by
    have ei : (fun | 0 => (⟨n % 6144, Nat.mod_lt _ (by decide)⟩ : Fin 6144) : S6144.Idx) = ix1 ⟨n, hn⟩ := by
      funext a
      match a with
      | 0 => exact Fin.ext (Nat.mod_eq_of_lt hn)
    refine Eq.trans (congrArg (fun i => (Scalar.shrsi (tgt i) 2#32).toNat) ei) ?_
    exact shr2 _ (h _).1
  refine ⟨e, ?_⟩
  obtain ⟨h0, h1⟩ := h ⟨n, hn⟩
  rw [e]
  have : (tgt (ix1 ⟨n, hn⟩)).toNat < 50304 := by
    rw [BitVec.toInt_eq_toNat_cond] at h0 h1
    split at h0 <;> split at h1 <;> omega
  omega

/-- Every block the body is given is the arguments' block. -/
theorem blk (c : Dev nD) (t : Fin cfg0.N) (hA : (argA m c).Ok) : Blk (argA m c) (bk t) (inp m c t) := by
  have hg : tgA m c = (m (c.tc.loc main_arg0) : IVec S6144 32) := V_main_arg0 m c
  refine ⟨blk_x m c t, fun n d => ?_, fun n => (blk_lq m c t n).trans (v18_at m c n), fun n => (blk_sid m c t n).trans (v20_at m c n),
    fun r => (blk_cols m c t r 0).trans (v14_0 m c _), fun r => (blk_cols m c t r 1).trans (v14_1 m c _),
    fun r => (blk_cols m c t r 2).trans (v14_2 m c _), fun r => ⟨_, (blk_cols m c t r 3).trans (v14_3 m c _), fun d => ?_⟩, blk_sc m c t⟩
  · show (V m c main_arg2 : FVec Ideal S5120x2560 .bf16) (ix2 n d) = _
    rw [V_main_arg2]; rfl
  · rw [shift_word]
    have hlt : 256 * t.val + r.val < 6144 := (tk (bk t) r).isLt
    obtain ⟨e, hw⟩ := word_row (tgt := (m (c.tc.loc main_arg0) : IVec S6144 32)) hA.tgt (256 * t.val + r.val) hlt
    have hr := In.row_val hA (tk (bk t) r)
    have hw' : ((argA m c).tgt (tk (bk t) r)).toNat / 4 < 12576 := lt_of_eq_of_lt e.symm hw
    have ew : (inp m c t).wd (ix3 0 r d) = (V m c main_v17 : IVec S12576x2560 32) (ix2 ⟨((argA m c).tgt (tk (bk t) r)).toNat / 4, hw'⟩ d) := by
      show (V m c main_v17 : IVec S12576x2560 32) (tix (wrowA (tgA m c) (256 * t.val + r.val)) d) = _
      rw [hg]
      congr 1
      funext a
      match a with
      | 0 => exact Fin.ext ((congrArg (· % 12576) e).trans (Nat.mod_eq_of_lt hw'))
      | 1 => rfl
    rw [ew]
    have hq := LgWord.word_byte_toInt ((V m c main_v17 : IVec S12576x2560 32) (ix2 ⟨((argA m c).tgt (tk (bk t) r)).toNat / 4, hw'⟩ d))
      (fun p => (argA m c).tab ⟨4 * (((argA m c).tgt (tk (bk t) r)).toNat / 4) + p.val, by omega⟩ d) (fun q hq => v17_bit m c _ d q hq)
      ⟨((argA m c).tgt (tk (bk t) r)).toNat % 4, Nat.mod_lt _ (by decide)⟩
    refine hq.trans ?_
    congr 2
    apply Fin.ext
    rw [hr]
    dsimp only
    omega

/-- What the first output array ends with. -/
def dhArr (A : In) : FVec Ideal S6144x2560 .bf16 := fun i => A.dh (i 0) (i 1)
/-- What the second output array ends with. -/
def dzArr (A : In) : FVec Ideal S6144x5120 .bf16 := fun i => A.dz (i 0) (i 1)
/-- What the third output array ends with. -/
def stArr (A : In) : FVec Ideal S6144x128 .f32 := fun i => if (i 1).val = 0 then A.loss (i 0) else A.dzt (i 0)

/-- The first output array ends with the gradients of the tokens' rows. -/
theorem final6 (c : Dev nD) (hA : (argA m c).Ok) : (dats m 0 c).arrAt 6 cfg0.N = dhArr (argA m c) := by
  refine (dats m 0 c).arrAt_eq_of_covers 6 _ (by decide +kernel) fun t hf y => ?_
  rw [after0_6 m c t]
  have h0 : (y 0).val < 256 := (y 0).isLt
  have h1 : (y 1).val < 2560 := (y 1).isLt
  have hi : win0_6.index t 0 = t.val ∧ win0_6.index t 1 = 0 :=
    (by decide +kernel : ∀ t : Fin grid0.N, win0_6.index t 0 = t.val ∧ win0_6.index t 1 = 0) t
  refine Eq.trans ?_ ((dh_eq hA (blk m c t hA) ⟨(y 0).val, h0⟩ ⟨(y 1).val, h1⟩).trans ?_)
  · refine congrArg (inp m c t).dh ?_
    funext a; apply Fin.ext
    match a with
    | ⟨0, _⟩ => rfl
    | ⟨1, _⟩ => rfl
  · show dhArr (argA m c) (ix2 (tk (bk t) ⟨(y 0).val, h0⟩) ⟨(y 1).val, h1⟩) = dhArr (argA m c) _
    congr 1
    funext a; apply Fin.ext
    match a with
    | ⟨0, _⟩ => show 256 * t.val + (y 0).val = win0_6.index t 0 * 256 + 1 * (y 0).val; rw [hi.1]; omega
    | ⟨1, _⟩ => show (y 1).val = win0_6.index t 1 * 2560 + 1 * (y 1).val; rw [hi.2]; omega

/-- The second output array ends with the gradients of the negatives' logits. -/
theorem final7 (c : Dev nD) (hA : (argA m c).Ok) : (dats m 0 c).arrAt 7 cfg0.N = dzArr (argA m c) := by
  refine (dats m 0 c).arrAt_eq_of_covers 7 _ (by decide +kernel) fun t hf y => ?_
  rw [after0_7 m c t]
  have h0 : (y 0).val < 256 := (y 0).isLt
  have h1 : (y 1).val < 5120 := (y 1).isLt
  have hi : win0_7.index t 0 = t.val ∧ win0_7.index t 1 = 0 :=
    (by decide +kernel : ∀ t : Fin grid0.N, win0_7.index t 0 = t.val ∧ win0_7.index t 1 = 0) t
  refine Eq.trans ?_ ((dz_eq hA (blk m c t hA) ⟨(y 0).val, h0⟩ ⟨(y 1).val, h1⟩).trans ?_)
  · refine congrArg (inp m c t).dz ?_
    funext a; apply Fin.ext
    match a with
    | ⟨0, _⟩ => rfl
    | ⟨1, _⟩ => rfl
  · show dzArr (argA m c) (ix2 (tk (bk t) ⟨(y 0).val, h0⟩) ⟨(y 1).val, h1⟩) = dzArr (argA m c) _
    congr 1
    funext a; apply Fin.ext
    match a with
    | ⟨0, _⟩ => show 256 * t.val + (y 0).val = win0_7.index t 0 * 256 + 1 * (y 0).val; rw [hi.1]; omega
    | ⟨1, _⟩ => show (y 1).val = win0_7.index t 1 * 5120 + 1 * (y 1).val; rw [hi.2]; omega

/-- The third output array ends with the losses in lane 0 and the gradients of the targets' logits in the others. -/
theorem final8 (c : Dev nD) (hA : (argA m c).Ok) : (dats m 0 c).arrAt 8 cfg0.N = stArr (argA m c) := by
  refine (dats m 0 c).arrAt_eq_of_covers 8 _ (by decide +kernel) fun t hf y => ?_
  rw [after0_8 m c t]
  have h0 : (y 0).val < 256 := (y 0).isLt
  have h1 : (y 1).val < 128 := (y 1).isLt
  have hi : win0_8.index t 0 = t.val ∧ win0_8.index t 1 = 0 :=
    (by decide +kernel : ∀ t : Fin grid0.N, win0_8.index t 0 = t.val ∧ win0_8.index t 1 = 0) t
  refine Eq.trans ?_ ((stat_eq hA (blk m c t hA) ⟨(y 0).val, h0⟩ ⟨(y 1).val, h1⟩).trans ?_)
  · refine congrArg (inp m c t).stat ?_
    funext a; apply Fin.ext
    match a with
    | ⟨0, _⟩ => rfl
    | ⟨1, _⟩ => rfl
  · show stArr (argA m c) (ix2 (tk (bk t) ⟨(y 0).val, h0⟩) ⟨(y 1).val, h1⟩) = stArr (argA m c) _
    congr 1
    funext a; apply Fin.ext
    match a with
    | ⟨0, _⟩ => show 256 * t.val + (y 0).val = win0_8.index t 0 * 256 + 1 * (y 0).val; rw [hi.1]; omega
    | ⟨1, _⟩ => show (y 1).val = win0_8.index t 1 * 128 + 1 * (y 1).val; rw [hi.2]; omega

/-- The losses, cut out of the third array after the region. -/
theorem tail23 (c : Dev nD) (hA : (argA m c).Ok) (t : Fin 6144) :
    (Pipeline.afterTail₀ cfgs (dats m) 0 (V0 m) [hostOps1] c main_v23 : FVec Ideal S6144 .f32) (ix1 t) = (argA m c).loss t := by
  have h8 := (Pipeline.withArrays_arr spec0 (by decide) c (V0 m c) (fun w => (dats m 0 c).arrAt w cfg0.N) 8).trans (final8 m c hA)
  unfold Pipeline.afterTail₀
  after_reads_at
  exact congrFun h8 (ix2 t 0)

/-- The gradients of the targets' logits, cut out of the third array after the region. -/
theorem tail25 (c : Dev nD) (hA : (argA m c).Ok) (t : Fin 6144) :
    (Pipeline.afterTail₀ cfgs (dats m) 0 (V0 m) [hostOps1] c main_v25 : FVec Ideal S6144 .f32) (ix1 t) = (argA m c).dzt t := by
  have h8 := (Pipeline.withArrays_arr spec0 (by decide) c (V0 m c) (fun w => (dats m 0 c).arrAt w cfg0.N) 8).trans (final8 m c hA)
  unfold Pipeline.afterTail₀
  after_reads_at
  exact congrFun h8 (ix2 t 1)

/-- The whole run: where the arguments are as asked, the four results are the gradients and the losses of the arguments,
    and the arguments are kept. -/
theorem run (ρ : Dev nD → PrngReg) (hA : ∀ c, (argA m c).Ok) :
    θ_run defs (onTc (τ := τ) (main (F := Ideal))) ⟨m, fun _ => 0, ρ⟩ fun r => ∀ c : Dev nD,
      r.2.mem (c.tc.loc main_v21_0) = dhArr (argA m c) ∧ r.2.mem (c.tc.loc main_v21_1) = dzArr (argA m c)
        ∧ r.2.mem (c.tc.loc main_v23) = (fun i => (argA m c).loss (i 0) : FVec Ideal S6144 .f32)
        ∧ r.2.mem (c.tc.loc main_v25) = (fun i => (argA m c).dzt (i 0) : FVec Ideal S6144 .f32)
        ∧ r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4) ∧ r.2.mem (c.tc.loc main_arg5) = m (c.tc.loc main_arg5)
        ∧ r.2.mem (c.tc.loc main_arg6) = m (c.tc.loc main_arg6) := by
  have hX : ∀ c, ∀ n < 6144, wrowA (tgA m c) n < 12576 := fun c n hn => by
    rw [show tgA m c = (m (c.tc.loc main_arg0) : IVec S6144 32) from V_main_arg0 m c]
    exact (word_row (hA c).tgt n hn).2
  refine (θ_run defs _ _).mono (fun r h c => ?_) (run_main m ρ hX)
  obtain ⟨ho, hr⟩ := h.1 c
  refine ⟨(ho 6).trans (final6 m c (hA c)), (ho 7).trans (final7 m c (hA c)),
    (hr main_v23 (by decide)).trans ?_, (hr main_v25 (by decide)).trans ?_,
    (ho 0).trans (((dats m 0 c).arrAt_in 0 rfl _).trans ((A_eq m c 0).trans (V_main_arg0 m c))),
    (hr main_arg1 (by decide)).trans (Hand.W_main_arg1 m (dats m) c), (hr main_arg2 (by decide)).trans (Hand.W_main_arg2 m (dats m) c),
    (ho 1).trans (((dats m 0 c).arrAt_in 1 rfl _).trans ((A_eq m c 1).trans (V_main_arg3 m c))),
    (ho 3).trans (((dats m 0 c).arrAt_in 3 rfl _).trans ((A_eq m c 3).trans (V_main_arg4 m c))),
    (hr main_arg5 (by decide)).trans (Hand.W_main_arg5 m (dats m) c), (hr main_arg6 (by decide)).trans (Hand.W_main_arg6 m (dats m) c)⟩
  · funext i
    rw [eq_ix1 i]
    exact tail23 m c (hA c) (i 0)
  · funext i
    rw [eq_ix1 i]
    exact tail25 m c (hA c) (i 0)

end Cert.LogitGradsIdeal.HostV

end
-- ==== Proof.LgRefVal.lean ====
/- The reference over the extended reals: each of its results, read at an index, is the loss or its gradient (`Proof/LgSpec.lean`). -/
module

public import proofs.«01_k».proof.Proof.Gen.LogitGradsRefIdeal.Run
public import proofs.«01_k».proof.Proof.LgSpec
public import Idealize.ShloMosaic.Lib.Pointwise
public import Idealize.ShloMosaic.Lib.Tactic.CleanTypes
public import Idealize.ShloMosaic.Lib.Routing.Ops
public import Idealize.ShloMosaic.Lib.Routing.OpsPair

@[expose] public section

set_option maxRecDepth 16384
set_option maxHeartbeats 4000000

noncomputable section

namespace Cert.LogitGradsRefIdeal.Val

open Idealize.ShloMosaic
open Cert.LogitGradsRefIdeal Cert.LogitGradsRefIdeal.Gen
open Cert.LgSpec Cert.LgMath

variable (tgt : IVec S6144 32) (tab : IVec S50304x2560 8) (ws : FVec Ideal S5120x2560 .bf16) (x : FVec Ideal S6144x2560 .bf16)
  (sc : FVec Ideal S88x11264 .f32) (g : FVec Ideal S6144 .f32) (sid : IVec S5120 32)

/-! ## The reference's steps, each a definition -/

/-- The target's row number. -/
def idx : IVec S6144x1 32 :=
  broadcastInDim S6144x1 ![0] bcast_S6144_S6144x1_0 (select (cmpi .slt tgt (broadcastInDim S6144 ![] bcast_S_S6144 (constantI S_ 32 0#32))) (addi tgt (broadcastInDim S6144 ![] bcast_S_S6144 (constantI S_ 32 50304#32))) tgt)

/-- The targets' rows of bytes. -/
def rows : IVec S6144x2560 8 := Host.gather gather_S50304x2560_S6144x1_S6144x2560_1_0_n_n_0_1_12560 tab (idx tgt)

/-- The targets' dequantised rows from their bytes. -/
def wtOf (b : IVec S6144x2560 8) : FVec Ideal S6144x2560 .bf16 :=
  shapeCast _ (mulf (shapeCast _ (truncf .bf16 (sitofp .f32 (extsi 32 b natLt_8_32) : FVec Ideal S6144x2560 .f32) bitsLt_bf16_f32) shapeCasts_S6144x2560_S6144x80x32) (broadcastInDim S6144x80x32 ![0, 1, 2] bcast_S6144x80x1_S6144x80x32_0_1_2 (broadcastInDim S6144x80x1 ![0, 1] bcast_S6144x80_S6144x80x1_0_1 (truncf .bf16 (transpose S6144x80 [1, 0] (extractStridedSlice S80x6144 ![0, 5120] sc slices_S88x11264_S80x6144_0_5120) transposes_S80x6144_S6144x80_1_0) bitsLt_bf16_f32)))) shapeCasts_S6144x80x32_S6144x2560

/-- The negatives' logits. -/
def zs : FVec Ideal S6144x5120 .f32 :=
  select (cmpi .eq (broadcastInDim S6144x5120 ![0, 1] bcast_S6144x1_S6144x5120_0_1 (broadcastInDim S6144x1 ![0] bcast_S6144_S6144x1_0 tgt)) (broadcastInDim S6144x5120 ![0, 1] bcast_S1x5120_S6144x5120_0_1 (broadcastInDim S1x5120 ![1] bcast_S5120_S1x5120_1 sid))) (broadcastInDim S6144x5120 ![] bcast_S_S6144x5120 (id (constant S_ .f32 0xFF800000#32))) (subf (Host.dotGeneral dot_S6144x2560_S5120x2560_S6144x5120_1_1_0_0_n_n none x ws) (broadcastInDim S6144x5120 ![0, 1] bcast_S1x5120_S6144x5120_0_1 (broadcastInDim S1x5120 ![1] bcast_S5120_S1x5120_1 (shapeCast _ (extractStridedSlice S1x5120 ![80, 0] sc slices_S88x11264_S1x5120_80_0) shapeCasts_S1x5120_S5120))))

/-- The targets' logits from their rows. -/
def ztOf (w : FVec Ideal S6144x2560 .bf16) : FVec Ideal S6144 .f32 :=
  subf (Host.dotGeneral dot_S6144x2560_S6144x2560_S6144_1_1_n_n_0_0 none x w) (shapeCast _ (extractStridedSlice S1x6144 ![80, 5120] sc slices_S88x11264_S1x6144_80_5120) shapeCasts_S1x6144_S6144)

/-- The rows' maxima. -/
def mx (z : FVec Ideal S6144x5120 .f32) : FVec Ideal S6144 .f32 :=
  Host.reduce FloatOps.maximumf z (constant S_ .f32 0xFF800000#32) reducesTo_S6144x5120_S6144_d1 h_S_

/-- The shift of the log-sum: the maximum where it is finite. -/
def shiftOf (M : FVec Ideal S6144 .f32) : FVec Ideal S6144 .f32 :=
  select (cmpf .olt (Host.absf M) (broadcastInDim S6144 ![] bcast_S_S6144 (constant S_ .f32 0x7F800000#32))) M (broadcastInDim S6144 ![] bcast_S_S6144 (id (constant S_ .f32 0x00000000#32)))

/-- A row of numbers along each row. -/
def along (v : FVec Ideal S6144 .f32) : FVec Ideal S6144x5120 .f32 :=
  broadcastInDim S6144x5120 ![0, 1] bcast_S6144x1_S6144x5120_0_1 (broadcastInDim S6144x1 ![0] bcast_S6144_S6144x1_0 v)

/-- The log-sum of the negatives. -/
def Lof (z : FVec Ideal S6144x5120 .f32) (M : FVec Ideal S6144 .f32) : FVec Ideal S6144 .f32 :=
  addf (Host.log (Host.reduceAdd (Host.exp (subf z (along M))) (constant S_ .f32 0x00000000#32) reducesTo_S6144x5120_S6144_d1 h_S_)) M

/-- The log-sum of all. -/
def lseRef (zt L : FVec Ideal S6144 .f32) : FVec Ideal S6144 .f32 :=
  select (cmpf .une (subf zt L) (subf zt L)) (addf zt L) (addf (maximumf zt L) (Host.log1p (Host.exp (Host.negf (Host.absf (subf zt L))))))

/-- The gradient in the negatives' logits. -/
def dzRef (z : FVec Ideal S6144x5120 .f32) (l : FVec Ideal S6144 .f32) : FVec Ideal S6144x5120 .bf16 :=
  truncf .bf16 (mulf (along g) (Host.exp (subf z (along l)))) bitsLt_bf16_f32

/-- The gradient in the targets' logits. -/
def dztRef (zt l : FVec Ideal S6144 .f32) : FVec Ideal S6144 .f32 :=
  mulf g (subf (Host.exp (subf zt l)) (broadcastInDim S6144 ![] bcast_S_S6144 (constant S_ .f32 0x3F800000#32)))

/-- The gradient in the hidden rows. -/
def dhRef (z : FVec Ideal S6144x5120 .bf16) (t : FVec Ideal S6144 .f32) (w : FVec Ideal S6144x2560 .bf16) : FVec Ideal S6144x2560 .bf16 :=
  truncf .bf16 (addf (Host.dotGeneral dot_S6144x5120_S5120x2560_S6144x2560_1_0_0_1_n_n none z ws)
    (mulf (broadcastInDim S6144x2560 ![0, 1] bcast_S6144x1_S6144x2560_0_1 (broadcastInDim S6144x1 ![0] bcast_S6144_S6144x1_0 t)) (extf .f32 w bitsLt_bf16_f32))) bitsLt_bf16_f32

def wtR := wtOf sc (rows tgt tab)
def zsR := zs tgt ws x sc sid
def ztR := ztOf x sc (wtR tgt tab sc)
def LR := Lof (zsR tgt ws x sc sid) (shiftOf (mx (zsR tgt ws x sc sid)))
def lseR := lseRef (ztR tgt tab x sc) (LR tgt ws x sc sid)

section results
variable (m : (ℓ : Loc nD τ sig) → Buf (Elt Ideal) ℓ) (c : Dev nD)

open Cert.LogitGradsRefIdeal.Value

/-- The reference's third result, in its steps. -/
theorem res2 : res_out2 m c = subf (lseR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) (ztR (m ((c.tc : Thread nD τ).loc main_arg0)) (m ((c.tc : Thread nD τ).loc main_arg1)) (m ((c.tc : Thread nD τ).loc main_arg3)) (m ((c.tc : Thread nD τ).loc main_arg4))) := rfl
/-- The reference's fourth result, in its steps. -/
theorem res3 : res_out3 m c = dztRef (m ((c.tc : Thread nD τ).loc main_arg5)) (ztR (m ((c.tc : Thread nD τ).loc main_arg0)) (m ((c.tc : Thread nD τ).loc main_arg1)) (m ((c.tc : Thread nD τ).loc main_arg3)) (m ((c.tc : Thread nD τ).loc main_arg4))) (lseR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) := rfl
/-- The reference's second result, in its steps. -/
theorem res1 : res_out1 m c = dzRef (m ((c.tc : Thread nD τ).loc main_arg5)) (zsR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6))) (lseR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) := rfl
/-- The reference's first result, in its steps. -/
theorem res0 : res_out0 m c = dhRef (m ((c.tc : Thread nD τ).loc main_arg2)) (dzRef (m ((c.tc : Thread nD τ).loc main_arg5)) (zsR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6))) (lseR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)))) (dztRef (m ((c.tc : Thread nD τ).loc main_arg5)) (ztR (m ((c.tc : Thread nD τ).loc main_arg0)) (m ((c.tc : Thread nD τ).loc main_arg1)) (m ((c.tc : Thread nD τ).loc main_arg3)) (m ((c.tc : Thread nD τ).loc main_arg4))) (lseR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)))) (wtR (m ((c.tc : Thread nD τ).loc main_arg0)) (m ((c.tc : Thread nD τ).loc main_arg1)) (m ((c.tc : Thread nD τ).loc main_arg4))) := rfl
end results

/-! ## Each read at an index -/

variable {tgt tab ws x sc g sid}

/-- The word of minus infinity. -/
theorem ofBits_neg_inf : Ideal.ofBits .f32 0xFF800000#32 = ⊥ := by simp [Ideal.ofBits, Ideal.ieee]
/-- The word of infinity. -/
theorem ofBits_inf : Ideal.ofBits .f32 0x7F800000#32 = ⊤ := by simp [Ideal.ofBits, Ideal.ieee]

/-- The gathered row of a token is its target's row. -/
theorem rows_apply (hA : In.Ok (ofArgs tgt tab ws x sc g sid)) (t : Fin 6144) (d : Fin 2560) : rows tgt tab (ix2 t d) = tab (ix2 (In.row (ofArgs tgt tab ws x sc g sid) t) d) := by
  have hv : (In.row (ofArgs tgt tab ws x sc g sid) t).val = (tgt (ix1 t)).toNat := In.row_val hA t
  have hlt : (tgt (ix1 t)).toNat < 50304 := hv ▸ (In.row (ofArgs tgt tab ws x sc g sid) t).isLt
  refine Routing.gather_row gather_S50304x2560_S6144x1_S6144x2560_1_0_n_n_0_1_12560 rfl rfl rfl rfl rfl tab (idx tgt) t d (In.row (ofArgs tgt tab ws x sc g sid) t) ?_ (by decide)
  have e : idx tgt (ix2 t 0) = Scalar.select (IntOp.cmpi .slt (tgt (ix1 t)) 0#32) (tgt (ix1 t) + 50304#32) (tgt (ix1 t)) := by
    pointwise [idx]
    rfl
  refine e.trans ?_
  rw [Routing.wrap_of_lt _ _ (by omega), hv, BitVec.ofNat_toNat, BitVec.setWidth_eq]

/-- A dequantised element is its code times its group's scale. -/
theorem wtOf_apply (b : IVec S6144x2560 8) (t : Fin 6144) (d : Fin 2560) :
    wtOf sc b (ix2 t d) = (((b (ix2 t d)).toInt : ℝ) : EReal) * sc (ix2 ⟨d.val / 32, by omega⟩ ⟨5120 + t.val, by omega⟩) := by
  pointwise [wtOf]
  refine congrArg (fun v => v * sc _) ?_
  show (((BitVec.signExtend 32 (b (ix2 t d))).toInt : ℝ) : EReal) = _
  rw [BitVec.toInt_signExtend_of_le (by decide)]

/-- A comparison of words holds where they are equal. -/
theorem cmp_eq (a b : BitVec 32) : (IntOp.cmpi CmpIPredicate.eq a b = 1#1) ↔ a = b := by
  show BitVec.ofBool (a == b) = 1#1 ↔ a = b
  by_cases h : a = b
  · simp [h]
  · rw [beq_eq_false_iff_ne.2 h]
    exact ⟨fun e => absurd e (by decide), fun e => absurd e h⟩

/-- The negatives' logits. -/
theorem zs_apply (t : Fin 6144) (n : Fin 5120) : zsR tgt ws x sc sid (ix2 t n) = In.z (ofArgs tgt tab ws x sc g sid) t n := by
  unfold zsR In.z
  pointwise [zs]
  exact if_congr (cmp_eq _ _) (show (constant (F := Ideal) S_ FTy.f32 4286578688#32) ix0 = (⊥ : EReal) from ofBits_neg_inf) rfl

/-- The target's logit before its row is named. -/
theorem ztOf_apply (w : FVec Ideal S6144x2560 .bf16) (t : Fin 6144) :
    ztOf x sc w (ix1 t) = (∑ d : Fin 2560, x (ix2 t d) * w (ix2 t d)) - sc (ix2 80 ⟨5120 + t.val, by omega⟩) := by
  pointwise [ztOf]

/-- The shift of the log-sum-exp is a real number. -/
theorem shift_apply (M : FVec Ideal S6144 .f32) (t : Fin 6144) : ∃ a : ℝ, shiftOf M (ix1 t) = (a : EReal) := by
  have e : shiftOf M (ix1 t) = if max (M (ix1 t)) (-(M (ix1 t)) : EReal) < ⊤ then M (ix1 t) else (0 : EReal) := by
    rw [← ofBits_inf]
    pointwise [shiftOf]
    exact if_congr Iff.rfl rfl (show Ideal.ofBits FTy.f32 0#32 = (0 : EReal) by simp [Ideal.ofBits, Ideal.ieee])
  rw [e]
  split
  · exact real_of_abs_lt ‹_›
  · exact ⟨0, rfl⟩

/-- The log-sum-exp at an index. -/
theorem Lof_apply (z : FVec Ideal S6144x5120 .f32) (M : FVec Ideal S6144 .f32) (t : Fin 6144) :
    Lof z M (ix1 t) = Ideal.log (∑ n : Fin 5120, Ideal.exp (z (ix2 t n) - M (ix1 t))) + M (ix1 t) := by
  pointwise [Lof, along]

/-- The log of both sums at an index. -/
theorem lseRef_apply (zt L : FVec Ideal S6144 .f32) (t : Fin 6144) : lseRef zt L (ix1 t) = lseOf (zt (ix1 t)) (L (ix1 t)) := by
  pointwise [lseRef]
  rw [if_neg (fun h => h rfl)]
  rfl

/-- The gradient in the negatives' logits at an index. -/
theorem dzRef_apply (z : FVec Ideal S6144x5120 .f32) (l : FVec Ideal S6144 .f32) (t : Fin 6144) (n : Fin 5120) :
    dzRef g z l (ix2 t n) = g (ix1 t) * Ideal.exp (z (ix2 t n) - l (ix1 t)) := by
  pointwise [dzRef, along]

/-- The gradient in the target's logit at an index. -/
theorem dztRef_apply (zt l : FVec Ideal S6144 .f32) (t : Fin 6144) :
    dztRef g zt l (ix1 t) = g (ix1 t) * (Ideal.exp (zt (ix1 t) - l (ix1 t)) - 1) := by
  pointwise [dztRef]

/-- The gradient in the hidden row at an index. -/
theorem dhRef_apply (z : FVec Ideal S6144x5120 .bf16) (s : FVec Ideal S6144 .f32) (w : FVec Ideal S6144x2560 .bf16) (t : Fin 6144) (d : Fin 2560) :
    dhRef ws z s w (ix2 t d) = (∑ n : Fin 5120, z (ix2 t n) * ws (ix2 n d)) + s (ix1 t) * w (ix2 t d) := by
  pointwise [dhRef]

/-! ## The values -/

/-- The target's dequantised row. -/
theorem wtR_eq (hA : In.Ok (ofArgs tgt tab ws x sc g sid)) (t : Fin 6144) (d : Fin 2560) : wtR tgt tab sc (ix2 t d) = In.wt (ofArgs tgt tab ws x sc g sid) t d := by
  unfold wtR
  rw [wtOf_apply, rows_apply (ws := ws) (x := x) (sc := sc) (g := g) (sid := sid) hA]
  rfl

/-- The target's logit. -/
theorem ztR_eq (hA : In.Ok (ofArgs tgt tab ws x sc g sid)) (t : Fin 6144) : ztR tgt tab x sc (ix1 t) = In.zt (ofArgs tgt tab ws x sc g sid) t := by
  unfold ztR
  rw [ztOf_apply]
  unfold In.zt
  refine congrArg (· - sc (ix2 80 ⟨5120 + t.val, by omega⟩)) (Finset.sum_congr rfl fun d _ => ?_)
  rw [wtR_eq (ws := ws) (x := x) (g := g) (sid := sid) hA]
  rfl

/-- The negatives' log-sum-exp. -/
theorem LR_eq (hA : In.Ok (ofArgs tgt tab ws x sc g sid)) (t : Fin 6144) : LR tgt ws x sc sid (ix1 t) = In.L (ofArgs tgt tab ws x sc g sid) t := by
  unfold LR
  rw [Lof_apply]
  have hz : ∀ n, zsR tgt ws x sc sid (ix2 t n) = In.z (ofArgs tgt tab ws x sc g sid) t n := fun n => zs_apply (tab := tab) (g := g) t n
  simp only [hz]
  exact ref_log _ (fun n => In.z_ne_top hA t n) _ (shift_apply _ t)

/-- The log of both sums. -/
theorem lseR_eq (hA : In.Ok (ofArgs tgt tab ws x sc g sid)) (t : Fin 6144) : lseR tgt tab ws x sc sid (ix1 t) = In.lse (ofArgs tgt tab ws x sc g sid) t := by
  unfold lseR
  rw [lseRef_apply, ztR_eq (ws := ws) (g := g) (sid := sid) hA, LR_eq (tab := tab) (g := g) hA]
  rfl

/-- The loss. -/
theorem loss_eq (hA : In.Ok (ofArgs tgt tab ws x sc g sid)) (t : Fin 6144) : (subf (lseR tgt tab ws x sc sid) (ztR tgt tab x sc) : FVec Ideal S6144 .f32) (ix1 t) = In.loss (ofArgs tgt tab ws x sc g sid) t :=
  congrArg₂ (fun a b : EReal => a - b) (lseR_eq (g := g) hA t) (ztR_eq (ws := ws) (g := g) (sid := sid) hA t)

/-- The gradient in the negatives' logits. -/
theorem dz_eq (hA : In.Ok (ofArgs tgt tab ws x sc g sid)) (t : Fin 6144) (n : Fin 5120) : dzRef g (zsR tgt ws x sc sid) (lseR tgt tab ws x sc sid) (ix2 t n) = In.dz (ofArgs tgt tab ws x sc g sid) t n := by
  rw [dzRef_apply, lseR_eq (g := g) hA, zs_apply (tab := tab) (g := g)]
  rfl

/-- The gradient in the target's logit. -/
theorem dzt_eq (hA : In.Ok (ofArgs tgt tab ws x sc g sid)) (t : Fin 6144) : dztRef g (ztR tgt tab x sc) (lseR tgt tab ws x sc sid) (ix1 t) = In.dzt (ofArgs tgt tab ws x sc g sid) t := by
  rw [dztRef_apply, lseR_eq (g := g) hA, ztR_eq (ws := ws) (g := g) (sid := sid) hA]
  rfl

/-- The gradient in the hidden row. -/
theorem dh_eq (hA : In.Ok (ofArgs tgt tab ws x sc g sid)) (t : Fin 6144) (d : Fin 2560) :
    dhRef ws (dzRef g (zsR tgt ws x sc sid) (lseR tgt tab ws x sc sid)) (dztRef g (ztR tgt tab x sc) (lseR tgt tab ws x sc sid)) (wtR tgt tab sc) (ix2 t d) = In.dh (ofArgs tgt tab ws x sc g sid) t d := by
  rw [dhRef_apply, dzt_eq hA, wtR_eq (ws := ws) (x := x) (g := g) (sid := sid) hA]
  refine congrArg (· + In.dzt (ofArgs tgt tab ws x sc g sid) t * In.wt (ofArgs tgt tab ws x sc g sid) t d) (Finset.sum_congr rfl fun n _ => ?_)
  rw [dz_eq hA]
  rfl

end Cert.LogitGradsRefIdeal.Val

end
-- ==== Proof.LgPre.lean ====
/- What the preconditions say, read off their printed functions. -/
module

public import proofs.«01_k».proof.Pre_inputs_ok
public import proofs.«01_k».proof.Pre_targets_ok
public import proofs.«01_k».proof.Proof.LgSpec
public import Idealize.ShloMosaic.Lib.ReduceAll
public import Idealize.ShloMosaic.Lib.Pointwise

@[expose] public section

set_option maxRecDepth 16384
set_option maxHeartbeats 1000000

noncomputable section

namespace Cert.LgPre

open Idealize.ShloMosaic

/-- The shape conditions the first precondition's operations take. -/
theorem factsT : Cert.Pre_targets_ok.Facts := by constructor <;> decide

/-- The shape conditions the second precondition's operations take. -/
theorem factsI : Cert.Pre_inputs_ok.Facts := by constructor <;> decide

variable {F : FTy → Type} [FloatOps F]

section T
open Cert.Pre_targets_ok

/-- Where the first precondition holds, every target is a row of the table. -/
theorem targets [Facts] (a0 : IVec S6144 32) (a1 : IVec S50304x2560 8) (a2 : FVec F S5120x2560 .bf16) (a3 : FVec F S6144x2560 .bf16)
    (a4 : FVec F S88x11264 .f32) (a5 : FVec F S6144 .f32) (a6 : IVec S5120 32) (h : Cert.Pre_targets_ok.fn a0 a1 a2 a3 a4 a5 a6 = fun _ => 1#1)
    (t : Fin 6144) : 0 ≤ (a0 (ix1 t)).toInt ∧ (a0 (ix1 t)).toInt < 50304 := by
  have h0 := congrFun h ix0
  unfold fn at h0
  have := Host.reduce_andi_all _ _ _ _ _ h0 (ix1 t)
  obtain ⟨e1, e2⟩ := IntOp.andi_eq_one.1 this
  exact ⟨IntOp.cmpi_sge.1 e1, IntOp.cmpi_slt.1 e2⟩

end T

/-- The largest bfloat16 bound is `⊤`. -/
theorem ofBits_inf16 : Ideal.ofBits .bf16 0x7F80#16 = (⊤ : EReal) := by
  simp [Ideal.ofBits, Ideal.ieee]

/-- The largest float32 bound is `⊤`. -/
theorem ofBits_inf32 : Ideal.ofBits .f32 0x7F800000#32 = (⊤ : EReal) := by
  simp [Ideal.ofBits, Ideal.ieee]

/-- A comparison that holds, of an absolute value with a bound that is `⊤`, says that the value is a real number. -/
theorem real_of_olt {φ : FTy} (z b : EReal) (hb : b = ⊤) (h : (FloatOps.cmpf (F := Ideal) (φ := φ) .olt (FloatOps.absf (F := Ideal) (φ := φ) z) b) = 1#1) :
    ∃ r : ℝ, z = (r : EReal) := by
  subst hb
  refine LgMath.real_of_abs_lt ?_
  by_contra hn
  have : (FloatOps.cmpf (F := Ideal) (φ := φ) .olt (FloatOps.absf (F := Ideal) (φ := φ) z) (⊤ : EReal)) = BitVec.ofBool (decide (max z (-z) < ⊤)) := rfl
  rw [this, decide_eq_false hn] at h
  exact absurd h (by decide)

section I
open Cert.Pre_inputs_ok

/-- Where the second precondition holds, the targets are rows and the factors of the products and the sampled offsets are finite. -/
theorem inputs [Facts] (a0 : IVec S6144 32) (a1 : IVec S50304x2560 8) (a2 : FVec Ideal S5120x2560 .bf16) (a3 : FVec Ideal S6144x2560 .bf16)
    (a4 : FVec Ideal S88x11264 .f32) (a5 : FVec Ideal S6144 .f32) (a6 : IVec S5120 32) (h : Cert.Pre_inputs_ok.fn (F := Ideal) a0 a1 a2 a3 a4 a5 a6 = fun _ => 1#1) :
    (LgSpec.ofArgs a0 a1 a2 a3 a4 a5 a6).Ok := by
  have h0 := congrFun h ix0
  unfold fn fn_part1 at h0
  obtain ⟨h0, hs⟩ := IntOp.andi_eq_one.1 h0
  obtain ⟨h0, hx⟩ := IntOp.andi_eq_one.1 h0
  obtain ⟨ht, hw⟩ := IntOp.andi_eq_one.1 h0
  refine ⟨fun t => ?_, fun n d => ?_, fun t d => ?_, fun n => ?_⟩
  · obtain ⟨e1, e2⟩ := IntOp.andi_eq_one.1 (Host.reduce_andi_all _ _ _ _ _ ht (ix1 t))
    exact ⟨IntOp.cmpi_sge.1 e1, IntOp.cmpi_slt.1 e2⟩
  · exact real_of_olt (φ := .bf16) _ _ ofBits_inf16 (Host.reduce_andi_all _ _ _ _ _ hw (ix2 n d))
  · exact real_of_olt (φ := .bf16) _ _ ofBits_inf16 (Host.reduce_andi_all _ _ _ _ _ hx (ix2 t d))
  · have e : shapeCast S5120 (extractStridedSlice S1x5120 ![80, 0] a4 Facts.slices_S88x11264_S1x5120_80_0) Facts.shapeCasts_S1x5120_S5120 (ix1 n) = a4 (ix2 80 (LgSpec.In.scol n)) := by
      pointwise
      rfl
    obtain ⟨r, hr⟩ := real_of_olt (φ := .f32) _ _ ofBits_inf32 (Host.reduce_andi_all _ _ _ _ _ hs (ix1 n))
    exact ⟨r, e.symm.trans hr⟩

end I

end Cert.LgPre

end
-- ==== Proof.SiRows.lean ====
/- The gathered rows: where a row of the word table and a row of a slot lie, what a row's transfer leaves, and the batch of
   256 row transfers a slot has in flight. -/
module

public import proofs.«01_k».proof.Proof.Gen.SampledRowsIdeal.Frame
public import Idealize.ShloMosaic.Lib.Batch
public import Idealize.ShloMosaic.Lib.Ring

@[expose] public section

set_option maxRecDepth 8192

noncomputable section

namespace Cert.SampledRowsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SampledRowsIdeal.Gen

variable {F : FTy → Type} [FloatOps F]

/-- The resource algebra: the frame kit's with counters. -/
local notation "𝕄" => MT nD τ sig Unit (Elt F) ℕ (Pipeline.UD sig nD τ) ℕ

/-- The two slots of gathered words, in fast memory. -/
abbrev bufW : Memref sig .tc .vmem S2x256x2560 .i32 := Memref.whole cc0_scratch0
/-- The word table, in main memory. -/
abbrev tabW : Memref sig .tc .hbm S12576x2560 .i32 := Memref.whole main_v8
/-- A slot's semaphore. -/
def gs (s : ℕ) : DmaSem sig := cc0_scratch2.ix (fun | 0 => (⟨s % 2, Nat.mod_lt _ (by decide)⟩ : Fin 2))

theorem gs_of {off : Fin 1 → ℕ} {h} {hq} (s : ℕ) (hs : s < 2) (ho : off = ![s]) :
    ((cc0_scratch2.slice (Rect.unit (s := S2) off S1.size h)).squeeze S_ hq).sem = gs s := by
  subst ho
  unfold gs
  show cc0_scratch2.ix _ = cc0_scratch2.ix _
  congr 1
  funext a
  apply Fin.ext
  have key : ∀ x : S1.Idx, s + 1 * (x 0).val = s % 2 := by
    intro x
    have : (x 0).val < 1 := (x 0).isLt
    omega
  fin_cases a
  exact key _

/-- The rows of a slot as a view: the slot cut out at `off`, squeezed, then the row cut out at `off2`. -/
abbrev dstM (off : Fin 3 → ℕ) (h : ∀ a, off a + S1x256x2560.size a ≤ S2x256x2560.size a) (off2 : Fin 2 → ℕ) (h2 : ∀ a, off2 a + S1x2560.size a ≤ S256x2560.size a) (hq : S1x256x2560.Squeezes S256x2560) : Memref sig .tc .vmem S1x2560 .i32 :=
  (((bufW.slice (Rect.unit (s := S2x256x2560) off S1x256x2560.size h) (fun _ => rfl)).squeeze S256x2560 hq).slice
    (Rect.unit (s := S256x2560) off2 S1x2560.size h2) (fun _ => rfl))

/-- A row of the word table as a view. -/
abbrev srcM (off : Fin 2 → ℕ) (h : ∀ a, off a + S1x2560.size a ≤ S12576x2560.size a) : Memref sig .tc .hbm S1x2560 .i32 :=
  tabW.slice (Rect.unit (s := S12576x2560) off S1x2560.size h) (fun _ => rfl)

/-- The elements of row `r` of slot `s`. -/
def rowSet (c : Dev nD) (s r : ℕ) : Finset (Idx ((c : Thread nD τ).loc cc0_scratch0)) :=
  (Finset.univ : Finset S2x256x2560.Idx).filter fun x => (x 0).val = s ∧ (x 1).val = r
/-- The elements of slot `s`. -/
def slotSet (c : Dev nD) (s : ℕ) : Finset (Idx ((c : Thread nD τ).loc cc0_scratch0)) :=
  (Finset.univ : Finset S2x256x2560.Idx).filter fun x => (x 0).val = s

theorem dstM_emb {off h off2 h2 hq} (s r : ℕ) (ho : off = ![s, 0, 0]) (ho2 : off2 = ![r, 0]) (j : S1x2560.Idx) :
    (((dstM off h off2 h2 hq).view.emb j : S2x256x2560.Idx) 0).val = s
    ∧ (((dstM off h off2 h2 hq).view.emb j : S2x256x2560.Idx) 1).val = r
    ∧ (((dstM off h off2 h2 hq).view.emb j : S2x256x2560.Idx) 2).val = (j 1).val := by
  subst ho; subst ho2
  have e : (dstM ![s, 0, 0] h ![r, 0] h2 hq).view.emb j
      = (Rect.unit (s := S2x256x2560) ![s, 0, 0] S1x256x2560.size h).emb
          (Shape.reshapeEquiv hq.numel_eq ((Rect.unit (s := S256x2560) ![r, 0] S1x2560.size h2).emb j)) := rfl
  rw [e, Shape.reshapeEquiv_cons_one (n := 2) (d := ![256, 2560]) hq.numel_eq]
  have hj : (j 0).val = 0 := by have := (j 0).isLt; change (j 0).val < 1 at this; omega
  refine ⟨?_, ?_, ?_⟩
  · show s + 1 * 0 = s; omega
  · show 0 + 1 * (r + 1 * (j 0).val) = r; omega
  · show 0 + 1 * (0 + 1 * (j 1).val) = (j 1).val; omega

theorem srcM_emb {off h} (w : ℕ) (ho : off = ![w, 0]) (j : S1x2560.Idx) :
    (((srcM off h).view.emb j : S12576x2560.Idx) 0).val = w
    ∧ (((srcM off h).view.emb j : S12576x2560.Idx) 1).val = (j 1).val := by
  subst ho
  have hj : (j 0).val = 0 := by have := (j 0).isLt; change (j 0).val < 1 at this; omega
  refine ⟨?_, ?_⟩
  · show w + 1 * (j 0).val = w; omega
  · show 0 + 1 * (j 1).val = (j 1).val; omega

theorem dstM_set (c : Dev nD) {off h off2 h2 hq} (s r : ℕ) (ho : off = ![s, 0, 0]) (ho2 : off2 = ![r, 0]) :
    (dstM off h off2 h2 hq).view.set = rowSet c s r := by
  ext x
  unfold rowSet
  rw [Finset.mem_filter]
  constructor
  · intro hx
    obtain ⟨j, -, rfl⟩ := Finset.mem_map.mp hx
    obtain ⟨a, b, -⟩ := dstM_emb (h := h) (h2 := h2) (hq := hq) s r ho ho2 j
    exact ⟨Finset.mem_univ _, a, b⟩
  · rintro ⟨-, a, b⟩
    refine Finset.mem_map.mpr ⟨(fun | 0 => (⟨0, by decide⟩ : Fin 1) | 1 => ((x : S2x256x2560.Idx) 2 : Fin 2560) : S1x2560.Idx), Finset.mem_univ _, ?_⟩
    obtain ⟨a', b', c'⟩ := dstM_emb (h := h) (h2 := h2) (hq := hq) s r ho ho2
      (fun | 0 => (⟨0, by decide⟩ : Fin 1) | 1 => ((x : S2x256x2560.Idx) 2 : Fin 2560) : S1x2560.Idx)
    funext k
    apply Fin.ext
    fin_cases k
    · exact a'.trans a.symm
    · exact b'.trans b.symm
    · exact c'

/-- The table's element at row `w` (of those there are), column `d`. -/
def tix (w : ℕ) (d : Fin 2560) : S12576x2560.Idx := fun | 0 => (⟨w % 12576, Nat.mod_lt _ (by decide)⟩ : Fin 12576) | 1 => d
/-- Slots filled with the table rows `W r`. -/
def gath (T : BufTy.Contents (Elt F) tabW.view.ty) (W : ℕ → ℕ) : BufTy.Contents (Elt F) bufW.view.ty :=
  fun x => T (tix (W ((x : S2x256x2560.Idx) 1).val) ((x : S2x256x2560.Idx) 2))

theorem write_row (c : Dev nD) {off h off2 h2 hq off3 h3} (s r : ℕ) (W : ℕ → ℕ) (hW : W r < 12576)
    (ho : off = ![s, 0, 0]) (ho2 : off2 = ![r, 0]) (ho3 : off3 = ![W r, 0])
    (T : BufTy.Contents (Elt F) tabW.view.ty) (fd : BufTy.Contents (Elt F) bufW.view.ty) :
    ∀ x ∈ rowSet c s r, (dstM off h off2 h2 hq).view.write (Elt F) fd ((srcM off3 h3).view.read (Elt F) T) Finset.univ x = gath T W x := by
  intro x hx
  rw [← dstM_set c (h := h) (h2 := h2) (hq := hq) s r ho ho2] at hx
  obtain ⟨j, -, rfl⟩ := Finset.mem_map.mp hx
  rw [View.write_emb_of_mem _ _ (Finset.mem_univ j), View.read_apply]
  obtain ⟨a, b, d⟩ := dstM_emb (h := h) (h2 := h2) (hq := hq) s r ho ho2 j
  obtain ⟨p, q⟩ := srcM_emb (h := h3) (W r) ho3 j
  show T ((srcM off3 h3).view.emb j) = gath T W _
  unfold gath
  congr 1
  funext k
  apply Fin.ext
  fin_cases k
  · refine p.trans ?_
    show W r = W _ % 12576
    rw [b, Nat.mod_eq_of_lt hW]
  · exact q.trans d.symm

/-- The amount a row's transfer counts. -/
def NN : ℕ := (dstM ![0, 0, 0] inb_S2x256x2560_S1x256x2560_0_0_0 ![0, 0] (by decide) squeezes_S1x256x2560_S256x2560).view.amount (.dma (gs 0))

/-- A row of slot `s` holding the table row `W r`, and the read token of the table its transfer used. -/
def D (c : Dev nD) (s : ℕ) (T : BufTy.Contents (Elt F) tabW.view.ty) (q : PosShare TreeShare) (W : ℕ → ℕ) (r : Fin 256) : sProp 𝕄 :=
  iprop((bufW.view.loc (c : Thread nD τ) ↦[rowSet c s r.val]{fullShare} (gath T W : Buf (Elt F) _)) ∗ (tabW.view.loc (c : Thread nD τ) ↦{Transfers.shareTokN q r.val} (T : Buf (Elt F) _)))

instance D_storable (c : Dev nD) (s : ℕ) (T : BufTy.Contents (Elt F) tabW.view.ty) (q : PosShare TreeShare) (W : ℕ → ℕ) (r : Fin 256) :
    BI.Storable (upEmb : UEmb _ 𝕄) (D (F := F) c s T q W r) := by
  unfold D; infer_instance

/-- What is left to hand to the transfers from row `j` on: their rows, at any contents, and their tokens. -/
def left (c : Dev nD) (s : ℕ) (T : BufTy.Contents (Elt F) tabW.view.ty) (q : PosShare TreeShare) (r : Fin 256) : sProp 𝕄 :=
  iprop((∃ g : Buf (Elt F) (bufW.view.loc (c : Thread nD τ)), bufW.view.loc (c : Thread nD τ) ↦[rowSet c s r.val]{fullShare} g) ∗ (tabW.view.loc (c : Thread nD τ) ↦{Transfers.shareTokN q r.val} (T : Buf (Elt F) _)))

/-- Slot `s` with `j` of its 256 row transfers issued and none waited for. -/
def issuing (c : Dev nD) (s : ℕ) (T : BufTy.Contents (Elt F) tabW.view.ty) (q : PosShare TreeShare) (W : ℕ → ℕ) (j : ℕ) : sProp 𝕄 :=
  iprop(Transfers.Batch (countersEmb (U := Pipeline.UD sig nD τ)) (c : Thread nD τ) (.dma (gs s)) () NN (D (F := F) c s T q W) j 0
    ∗ bigSep (Transfers.pending (n := 256) j) (left (F := F) c s T q)
    ∗ (tabW.view.loc (c : Thread nD τ) ↦{Transfers.shareDrop q 256} (T : Buf (Elt F) _)))

/-- A batch's next transfer, the issuer adding resources `put` of its own to the delivery. -/
theorem wp_dmaBatchWith (c : Dev nD) (bd : Option Variants.none.V) {n : ℕ} {sp sp' : Space} {s : Shape} {e : EltTy}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (.here dst)}
    {α : Type} {Q : α → sProp 𝕄}
    {k : PUnit → Prog (TpuEff nD τ sig (Elt F) Λ₀ (c : Thread nD τ).2) α} {q : PosShare TreeShare} {fs : Buf (Elt F) (src.view.loc (c : Thread nD τ))}
    {Sd : Finset (Idx (dst.view.loc (c : Thread nD τ)))} {fd : Buf (Elt F) (dst.view.loc (c : Thread nD τ))}
    {D : Fin n → sProp 𝕄} {j u : ℕ} (put : sProp 𝕄)
    (N : ℕ) (hN : dst.view.amount sm = N) (hSd : dst.view.set ⊆ Sd) (hj : j < n) (hu : u ≤ j * N)
    (hD : iprop(put ∗ (dst.view.loc (c : Thread nD τ) ↦[Sd]{fullShare} (dst.view.write (Elt F) fd (src.view.read (Elt F) fs) Finset.univ))
              ∗ (src.view.loc (c : Thread nD τ) ↦[src.view.set]{q} fs)) ⊢ D ⟨j, hj⟩) :
    iprop(put ∗ (src.view.loc (c : Thread nD τ) ↦[src.view.set]{q} fs) ∗ (dst.view.loc (c : Thread nD τ) ↦[Sd]{fullShare} fd)
        ∗ Transfers.Batch (countersEmb (U := Pipeline.UD sig nD τ)) (c : Thread nD τ) sm () N D j u)
      ⊢ iprop((Transfers.Batch (countersEmb (U := Pipeline.UD sig nD τ)) (c : Thread nD τ) sm () N D (j + 1) u
            -∗ wp frame (wpE (defs₀ (F := F)) Variants.none (c : Thread nD τ) bd) Set.univ (k ⟨⟩) Q)
          -∗ wp frame (wpE (defs₀ (F := F)) Variants.none (c : Thread nD τ) bd) Set.univ (.op (.enqueueDmaAs src (.here dst) .same sm hsrc hdst hsem) k) Q) := by
  unfold Transfers.Batch
  iintro ⟨Hput, Hs, Hd, ⟨%γ, %γ₀, %κ, #Hinv, HI, H0, Hcred⟩⟩ Hk
  ihave HI' := (Entails.of_eq (Transfers.bigSep_pending_step _ j hj)) $$ HI
  icases HI' with ⟨Ht, HI⟩
  iapply (wp_enqueueDmaAs Variants.none (c : Thread nD τ) bd Set.univ () N hN) $$ [Hs Hd] [Ht Hput]
  · isplitl [Hs]; · iexact Hs
    iapply (pointsTo_writeUpdate (c : Thread nD τ) hSd) $$ Hd
  · iapply (Transfers.batch_creditUpdate_with (countersEmb (U := Pipeline.UD sig nD τ)) ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

theorem NN_pos : 0 < NN := by unfold NN; decide

theorem dstM_amount {off h off2 h2 hq} (s : ℕ) : (dstM off h off2 h2 hq).view.amount (.dma (gs s)) = NN := rfl

/-- ONE ROW ISSUED: the transfer of row `j`, from the table row `W j` to slot `s`. -/
theorem wp_issueRow (c : Dev nD) (bd : Option Variants.none.V) {s : ℕ} {T : BufTy.Contents (Elt F) tabW.view.ty}
    {q : PosShare TreeShare} {W : ℕ → ℕ} {j : ℕ} (hj : j < 256) (hW : W j < 12576)
    {off h off2 h2 hq off3 h3} (ho : off = ![s, 0, 0]) (ho2 : off2 = ![j, 0]) (ho3 : off3 = ![W j, 0])
    {sm : SemLoc sig} (hsm : sm = .dma (gs s)) {α : Type} {Q : α → sProp 𝕄}
    {hsrc hdst hsem} {k : PUnit → Prog (TpuEff nD τ sig (Elt F) Λ₀ (c : Thread nD τ).2) α} :
    issuing (F := F) c s T q W j
      ⊢ iprop((issuing (F := F) c s T q W (j + 1) -∗ wp frame (wpE (defs₀ (F := F)) Variants.none (c : Thread nD τ) bd) Set.univ (k ⟨⟩) Q)
          -∗ wp frame (wpE (defs₀ (F := F)) Variants.none (c : Thread nD τ) bd) Set.univ
            (.op (.enqueueDmaAs (srcM off3 h3) (.here (dstM off h off2 h2 hq)) .same sm hsrc hdst hsem) k) Q) := by
  subst hsm
  unfold issuing
  rw [Transfers.bigSep_pending_step (left (F := F) c s T q) j hj]
  unfold left
  iintro ⟨HB, ⟨⟨⟨%g, Hrow⟩, Htok⟩, Hleft⟩, Hrest⟩ Hk
  ihave Htok' := (show (tabW.view.loc (c : Thread nD τ) ↦{Transfers.shareTokN q j} (T : Buf (Elt F) _) : sProp 𝕄)
    ⊢ iprop(((srcM off3 h3).view.loc (c : Thread nD τ) ↦[(srcM off3 h3).view.set]{Transfers.shareTokN q j} (T : Buf (Elt F) _))
      ∗ (tabW.view.loc (c : Thread nD τ) ↦[Finset.univ \ (srcM off3 h3).view.set]{Transfers.shareTokN q j} (T : Buf (Elt F) _)))
    from (pointsTo_split_subset (Finset.subset_univ _)).1) $$ Htok
  icases Htok' with ⟨Hs, Hcompl⟩
  iapply (wp_dmaBatchWith (F := F) c bd (src := srcM off3 h3) (dst := dstM off h off2 h2 hq) (D := D (F := F) c s T q W) (j := j) (u := 0) (fs := (T : Buf (Elt F) _)) (fd := g) (Sd := rowSet c s j) (q := Transfers.shareTokN q j)
    iprop(tabW.view.loc (c : Thread nD τ) ↦[Finset.univ \ (srcM off3 h3).view.set]{Transfers.shareTokN q j} (T : Buf (Elt F) _))
    NN (dstM_amount s) (by rw [dstM_set c s j ho ho2]) hj (Nat.zero_le _) (hD := by
      unfold D
      rw [pointsTo_congr (write_row (F := F) c (h := h) (h2 := h2) (hq := hq) (h3 := h3) s j W hW ho ho2 ho3 T g)]
      iintro ⟨Hcompl, Hrow, Hs⟩
      isplitl [Hrow]; · iexact Hrow
      iapply (pointsTo_split_subset (Finset.subset_univ (srcM off3 h3).view.set)).2
      isplitl [Hs]; · iexact Hs
      iexact Hcompl)) $$ [Hcompl Hs Hrow HB]
  · isplitl [Hcompl]; · iexact Hcompl
    isplitl [Hs]; · iexact Hs
    isplitl [Hrow]; · iexact Hrow
    iexact HB
  iintro HB
  iapply Hk
  isplitl [HB]; · iexact HB
  isplitl [Hleft]; · iexact Hleft
  iexact Hrest

/-- Slot `s` with nothing in flight: its semaphore at zero, its elements at any contents, and its share of the table. -/
def free (c : Dev nD) (s : ℕ) (T : BufTy.Contents (Elt F) tabW.view.ty) (q : PosShare TreeShare) : sProp 𝕄 :=
  iprop(semVal ((c : Thread nD τ), SemLoc.dma (gs s)) 0
    ∗ (∃ g : Buf (Elt F) (bufW.view.loc (c : Thread nD τ)), bufW.view.loc (c : Thread nD τ) ↦[slotSet c s]{fullShare} g)
    ∗ (tabW.view.loc (c : Thread nD τ) ↦{q} (T : Buf (Elt F) _)))

theorem slotSet_eq (c : Dev nD) (s : ℕ) : slotSet c s = (Finset.univ : Finset (Fin 256)).biUnion fun r => rowSet c s r.val := by
  ext x
  rw [Finset.mem_biUnion]
  unfold slotSet rowSet
  constructor
  · intro h
    exact ⟨(x : S2x256x2560.Idx) 1, Finset.mem_univ _, Finset.mem_filter.mpr ⟨Finset.mem_univ _, (Finset.mem_filter.mp h).2, rfl⟩⟩
  · rintro ⟨r, -, h⟩
    exact Finset.mem_filter.mpr ⟨Finset.mem_univ _, (Finset.mem_filter.mp h).2.1⟩

theorem rowSet_disjoint (c : Dev nD) (s : ℕ) (a : Fin 256) (b : Fin 256) (h : a ≠ b) : Disjoint (rowSet c s a.val) (rowSet c s b.val) := by
  rw [Finset.disjoint_left]
  intro x hx hy
  exact h (Fin.ext ((Finset.mem_filter.mp hx).2.2.symm.trans (Finset.mem_filter.mp hy).2.2))

theorem slot_rows (c : Dev nD) (s : ℕ) (g : Buf (Elt F) (bufW.view.loc (c : Thread nD τ))) :
    (bufW.view.loc (c : Thread nD τ) ↦[slotSet c s]{fullShare} g : sProp 𝕄)
      = bigSep (Finset.univ : Finset (Fin 256)) fun r => (bufW.view.loc (c : Thread nD τ) ↦[rowSet c s r.val]{fullShare} g) := by
  rw [slotSet_eq]
  exact pointsTo_biUnion _ _ (fun a _ b _ h => rowSet_disjoint c s a b h)

theorem table_toksN (c : Dev nD) (T : BufTy.Contents (Elt F) tabW.view.ty) (q : PosShare TreeShare) (n : ℕ) :
    (tabW.view.loc (c : Thread nD τ) ↦{q} (T : Buf (Elt F) _) : sProp 𝕄)
      ⊣⊢ iprop((tabW.view.loc (c : Thread nD τ) ↦{Transfers.shareDrop q n} (T : Buf (Elt F) _))
        ∗ bigSep (Finset.univ : Finset (Fin n)) fun r => (tabW.view.loc (c : Thread nD τ) ↦{Transfers.shareTokN q r.val} (T : Buf (Elt F) _))) := by
  have e := Ring.bigSep_fin_eq_range n (fun r : Fin n => (fun r : ℕ => (tabW.view.loc (c : Thread nD τ) ↦{Transfers.shareTokN q r} (T : Buf (Elt F) _) : sProp 𝕄)) r.val)
    (fun r => (tabW.view.loc (c : Thread nD τ) ↦{Transfers.shareTokN q r} (T : Buf (Elt F) _))) (by intro t h; dsimp only)
  rw [e]
  exact Transfers.pointsTo_toks_range q n

theorem table_toks (c : Dev nD) (T : BufTy.Contents (Elt F) tabW.view.ty) (q : PosShare TreeShare) :
    (tabW.view.loc (c : Thread nD τ) ↦{q} (T : Buf (Elt F) _) : sProp 𝕄)
      ⊣⊢ iprop((tabW.view.loc (c : Thread nD τ) ↦{Transfers.shareDrop q 256} (T : Buf (Elt F) _))
        ∗ bigSep (Finset.univ : Finset (Fin 256)) fun r => (tabW.view.loc (c : Thread nD τ) ↦{Transfers.shareTokN q r.val} (T : Buf (Elt F) _))) :=
  table_toksN c T q 256

theorem rows_sep (s : Finset (Fin 256)) (Φ Ψ : Fin 256 → sProp 𝕄) :
    bigSep s (fun i => iprop(Φ i ∗ Ψ i)) = (iprop(bigSep s Φ ∗ bigSep s Ψ) : sProp 𝕄) := bigSep_sep s Φ Ψ

theorem rows_some (c : Dev nD) (s : ℕ) (g : Buf (Elt F) (bufW.view.loc (c : Thread nD τ))) :
    (bigSep (Finset.univ : Finset (Fin 256)) (fun r => iprop(bufW.view.loc (c : Thread nD τ) ↦[rowSet c s r.val]{fullShare} g)) : sProp 𝕄)
      ⊢ bigSep (Finset.univ : Finset (Fin 256)) (fun r => iprop(∃ g : Buf (Elt F) (bufW.view.loc (c : Thread nD τ)), bufW.view.loc (c : Thread nD τ) ↦[rowSet c s r.val]{fullShare} g)) := by
  exact bigSep_mono fun r _ => (show (iprop(bufW.view.loc (c : Thread nD τ) ↦[rowSet c s r.val]{fullShare} g) : sProp 𝕄)
      ⊢ iprop(∃ g : Buf (Elt F) (bufW.view.loc (c : Thread nD τ)), bufW.view.loc (c : Thread nD τ) ↦[rowSet c s r.val]{fullShare} g) from by
    iintro H
    iexists g
    iexact H)

/-- THE START of a slot's gather. -/
theorem issue_start (c : Dev nD) (s : ℕ) (T : BufTy.Contents (Elt F) tabW.view.ty) (q : PosShare TreeShare) (W : ℕ → ℕ) :
    free (F := F) c s T q ⊢ |={Set.univ}=> issuing (F := F) c s T q W 0 := by
  unfold free issuing
  iintro ⟨Hc, ⟨%g, Hg⟩, Ht⟩
  imod (Transfers.batch_alloc' (Lvl := ℕ) (countersEmb (U := Pipeline.UD sig nD τ)) (c : Thread nD τ) () NN (D (F := F) c s T q W) (sm := .dma (gs s)) (E := Set.univ)) $$ Hc with HB
  imodintro
  isplitl [HB]; · iexact HB
  ihave Ht' := (table_toks c T q).1 $$ Ht
  icases Ht' with ⟨Hd, Htoks⟩
  isplitl [Hg Htoks]
  · rw [← Transfers.bigSep_pending_zero]
    unfold left
    iapply (Entails.of_eq (rows_sep (Finset.univ : Finset (Fin 256)) (fun r => iprop(∃ g : Buf (Elt F) (bufW.view.loc (c : Thread nD τ)), bufW.view.loc (c : Thread nD τ) ↦[rowSet c s r.val]{fullShare} g)) (fun r => iprop(tabW.view.loc (c : Thread nD τ) ↦{Transfers.shareTokN q r.val} (T : Buf (Elt F) _)))).symm)
    isplitl [Hg]
    · ihave Hg' := (Entails.of_eq (slot_rows c s g)) $$ Hg
      iapply (rows_some c s g) $$ Hg'
    · iexact Htoks
  · iexact Hd

/-- THE END of a slot's gather: every row landed. -/
theorem drain_done (c : Dev nD) (s : ℕ) (T : BufTy.Contents (Elt F) tabW.view.ty) (q : PosShare TreeShare) (W : ℕ → ℕ) :
    iprop(bigSep Finset.univ (D (F := F) c s T q W) ∗ (tabW.view.loc (c : Thread nD τ) ↦{Transfers.shareDrop q 256} (T : Buf (Elt F) _)))
      ⊢ (iprop((bufW.view.loc (c : Thread nD τ) ↦[slotSet c s]{fullShare} (gath T W : Buf (Elt F) _)) ∗ (tabW.view.loc (c : Thread nD τ) ↦{q} (T : Buf (Elt F) _))) : sProp 𝕄) := by
  unfold D
  iintro ⟨H, Hd⟩
  ihave H' := (Entails.of_eq (rows_sep (Finset.univ : Finset (Fin 256)) (fun r => iprop(bufW.view.loc (c : Thread nD τ) ↦[rowSet c s r.val]{fullShare} (gath T W : Buf (Elt F) _))) (fun r => iprop(tabW.view.loc (c : Thread nD τ) ↦{Transfers.shareTokN q r.val} (T : Buf (Elt F) _))))) $$ H
  icases H' with ⟨Hr, Ht⟩
  isplitl [Hr]
  · iapply (Entails.of_eq (slot_rows c s (gath T W)).symm) $$ Hr
  iapply (table_toks c T q).2
  isplitl [Hd]; · iexact Hd
  iexact Ht

end Cert.SampledRowsIdeal.Hand

end
-- ==== Proof.SiGather.lean ====
/- The gathers' loops: a slot's 256 rows issued eight to a trip, and the 256 waits of a slot's drain. -/
module

public import proofs.«01_k».proof.Proof.SiRows
public import proofs.«01_k».proof.Proof.Gen.SampledRowsIdeal.Loops

@[expose] public section

set_option maxRecDepth 8192
set_option maxHeartbeats 4000000

noncomputable section

namespace Cert.SampledRowsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SampledRowsIdeal.Gen

variable {F : FTy → Type} [FloatOps F]

/-- The resource algebra: the frame kit's with counters. -/
local notation "𝕄" => MT nD τ sig Unit (Elt F) ℕ (Pipeline.UD sig nD τ) ℕ

/-- The target word at index `n`. -/
def tword (arg1 : Memref sig .tc .smem S5120 .i32) (X : BufTy.Contents (Elt F) arg1.view.ty) (n : ℕ) : BitVec 32 :=
  arg1.view.read (Elt F) X (fun | 0 => (⟨n % 5120, Nat.mod_lt _ (by decide)⟩ : Fin 5120))
/-- The table row of the target at index `n`: four vocabulary rows to a row of words. -/
def wrow (arg1 : Memref sig .tc .smem S5120 .i32) (X : BufTy.Contents (Elt F) arg1.view.ty) (n : ℕ) : ℕ :=
  (Scalar.shrsi (tword arg1 X n) 2#32).toNat

theorem read_word (arg1 : Memref sig .tc .smem S5120 .i32) (X : BufTy.Contents (Elt F) arg1.view.ty) {off : Fin 1 → ℕ} {h} (n : ℕ) (ho : off = ![n]) (hn : n < 5120)
    (x : (Rect.unit (s := S5120) off S1.size h).toLoadRect.shape.Idx) :
    View.readAt (Elt F) arg1.view (Rect.unit (s := S5120) off S1.size h).toLoadRect X x = tword arg1 X n := by
  subst ho
  unfold tword
  show arg1.view.read (Elt F) X ((Rect.unit (s := S5120) ![n] S1.size h).emb x) = _
  congr 1
  funext a
  apply Fin.ext
  fin_cases a
  have hx : (x 0).val < 1 := (x 0).isLt
  show n + 1 * (x 0).val = n % 5120
  rw [Nat.mod_eq_of_lt hn]; omega

theorem chk_of (arg1 : Memref sig .tc .smem S5120 .i32) (X : BufTy.Contents (Elt F) arg1.view.ty)
    (hX : ∀ n < 5120, wrow arg1 X n < 12576) (w : BitVec 32) (n : ℕ) (hn : n < 5120) (hw : w = tword arg1 X n) :
    ∀ a, (![(Scalar.shrsi w 2#32).toNat, 0] : Fin 2 → ℕ) a + S1x2560.size a ≤ S12576x2560.size a := by
  subst hw
  have := hX n hn
  unfold wrow at this
  intro a
  fin_cases a
  · show (Scalar.shrsi (tword arg1 X n) 2#32).toNat + 1 ≤ 12576; omega
  · show 0 + 2560 ≤ 2560; omega

theorem off_of (arg1 : Memref sig .tc .smem S5120 .i32) (X : BufTy.Contents (Elt F) arg1.view.ty)
    (w : BitVec 32) (n : ℕ) (hw : w = tword arg1 X n) :
    (![(Scalar.shrsi w 2#32).toNat, 0] : Fin 2 → ℕ) = ![wrow arg1 X n, 0] := by
  subst hw; rfl

theorem vec1 {off : Fin 1 → ℕ} {a b : ℕ} (h : off = ![a]) (e : a = b) : off = ![b] := e ▸ h

section T1
variable (c : Dev nD) (i : grid0.Coords)

theorem trip_t1 (arg1 : Memref sig .tc .smem S5120 .i32) (harg1 : arg1.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg7 : Memref sig .tc .vmem S80x2560 .bf16) (harg7 : arg7.IsWhole) (k0_h1 : k0_cond1 i = 1#1) (X : BufTy.Contents (Elt F) arg1.view.ty)
    (hX : ∀ n < 5120, wrow arg1 X n < 12576) (T : BufTy.Contents (Elt F) tabW.view.ty) (q : PosShare TreeShare) (k : Fin k0_t1_loop.trips) :
    iprop((arg1.view.loc (c : Thread nD τ) ↦[arg1.view.set]{fullShare} X) ∗ issuing (F := F) c 0 T q (fun r => wrow arg1 X r) (8 * k.val))
      ⊢ wp frame (wpE (defs₀ (F := F)) Variants.none (c : Thread nD τ) none) Set.univ (k0_t1_body (F := F) i arg1 harg1 tabW (Memref.isWhole_whole _) arg3 harg3 arg4 harg4 arg5 harg5 bufW (Memref.isWhole_whole _) arg7 harg7 cc0_scratch2 k0_h1 k PUnit.unit)
          (fun _ => iprop((arg1.view.loc (c : Thread nD τ) ↦[arg1.view.set]{fullShare} X) ∗ issuing (F := F) c 0 T q (fun r => wrow arg1 X r) (8 * (k.val + 1)))) := by
  have hk : k.val < 32 := Nat.lt_of_lt_of_le k.isLt k0_t1_abs.2.1
  unfold k0_t1_body
  iintro ⟨H1, HI⟩
  sl_exec
  iapply (wp_assume Variants.none (c : Thread nD τ) none Set.univ (fun _ => chk_of arg1 X hX _ (8 * k.val) (by omega) (read_word arg1 X (8 * k.val) (k0_off1_eq k) (by omega) _)))
  sl_exec
  iapply (wp_issueRow (F := F) c none (j := 8 * k.val + 0) (W := (fun r => wrow arg1 X r)) (by omega) (hX (8 * k.val) (by omega)) rfl (k0_off2_eq k) (off_of arg1 X _ (8 * k.val) (read_word arg1 X (8 * k.val) (k0_off1_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 1) (by omega) (read_word arg1 X (8 * k.val + 1) (k0_off4_eq k) (by omega) _)))
  sl_exec
  iapply (wp_issueRow (F := F) c none (j := 8 * k.val + 1) (W := (fun r => wrow arg1 X r)) (by omega) (hX (8 * k.val + 1) (by omega)) rfl (k0_off5_eq k) (off_of arg1 X _ (8 * k.val + 1) (read_word arg1 X (8 * k.val + 1) (k0_off4_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 2) (by omega) (read_word arg1 X (8 * k.val + 2) (k0_off7_eq k) (by omega) _)))
  sl_exec
  iapply (wp_issueRow (F := F) c none (j := 8 * k.val + 2) (W := (fun r => wrow arg1 X r)) (by omega) (hX (8 * k.val + 2) (by omega)) rfl (k0_off8_eq k) (off_of arg1 X _ (8 * k.val + 2) (read_word arg1 X (8 * k.val + 2) (k0_off7_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 3) (by omega) (read_word arg1 X (8 * k.val + 3) (k0_off10_eq k) (by omega) _)))
  sl_exec
  iapply (wp_issueRow (F := F) c none (j := 8 * k.val + 3) (W := (fun r => wrow arg1 X r)) (by omega) (hX (8 * k.val + 3) (by omega)) rfl (k0_off11_eq k) (off_of arg1 X _ (8 * k.val + 3) (read_word arg1 X (8 * k.val + 3) (k0_off10_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 4) (by omega) (read_word arg1 X (8 * k.val + 4) (k0_off13_eq k) (by omega) _)))
  sl_exec
  iapply (wp_issueRow (F := F) c none (j := 8 * k.val + 4) (W := (fun r => wrow arg1 X r)) (by omega) (hX (8 * k.val + 4) (by omega)) rfl (k0_off14_eq k) (off_of arg1 X _ (8 * k.val + 4) (read_word arg1 X (8 * k.val + 4) (k0_off13_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 5) (by omega) (read_word arg1 X (8 * k.val + 5) (k0_off16_eq k) (by omega) _)))
  sl_exec
  iapply (wp_issueRow (F := F) c none (j := 8 * k.val + 5) (W := (fun r => wrow arg1 X r)) (by omega) (hX (8 * k.val + 5) (by omega)) rfl (k0_off17_eq k) (off_of arg1 X _ (8 * k.val + 5) (read_word arg1 X (8 * k.val + 5) (k0_off16_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 6) (by omega) (read_word arg1 X (8 * k.val + 6) (k0_off19_eq k) (by omega) _)))
  sl_exec
  iapply (wp_issueRow (F := F) c none (j := 8 * k.val + 6) (W := (fun r => wrow arg1 X r)) (by omega) (hX (8 * k.val + 6) (by omega)) rfl (k0_off20_eq k) (off_of arg1 X _ (8 * k.val + 6) (read_word arg1 X (8 * k.val + 6) (k0_off19_eq k) (by omega) _)) (congrArg SemLoc.dma (gs_of (s := 0) (by decide) rfl))) $$ HI
  iintro HI
  sl_exec
  iapply (wp_assume Variants.none (c : Thread nD τ) none Set.univ (fun _ => chk_of arg1 X hX _ (8 * k.val + 7) (by omega) (read_word arg1 X (8 * k.val + 7) (k0_off22_eq k) (by omega) _)))
  sl_exec
  iapply (wp_issueRow (F := F) c none (j := 8 * k.val + 7) (W := (fun r => wrow arg1 X r)) (by omega) (hX (8 * k.val + 7) (by omega)) rfl (k0_off23_eq k) (off_of arg1 X _ (8 * k.val + 7) (read_word arg1 X (8 * k.val + 7) (k0_off22_eq k) (by omega) _)) (congrArg SemLoc.dma (gs_of (s := 0) (by decide) rfl))) $$ HI
  iintro HI
  sl_step
  isplitl [H1]; · iexact H1
  iexact HI

theorem trip_t2 (arg1 : Memref sig .tc .smem S5120 .i32) (harg1 : arg1.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg7 : Memref sig .tc .vmem S80x2560 .bf16) (harg7 : arg7.IsWhole) (k0_h2 : k0_cond2 i = 1#1) (v27 : BitVec 32) (hi : (i 0).val + 1 < 20) (X : BufTy.Contents (Elt F) arg1.view.ty)
    (hX : ∀ n < 5120, wrow arg1 X n < 12576) (T : BufTy.Contents (Elt F) tabW.view.ty) (q : PosShare TreeShare) (k : Fin k0_t2_loop.trips) :
    iprop((arg1.view.loc (c : Thread nD τ) ↦[arg1.view.set]{fullShare} X) ∗ issuing (F := F) c (1 - (i 0).val % 2) T q (fun r => wrow arg1 X (256 * ((i 0).val + 1) + r)) (8 * k.val))
      ⊢ wp frame (wpE (defs₀ (F := F)) Variants.none (c : Thread nD τ) none) Set.univ (k0_t2_body (F := F) i arg1 harg1 tabW (Memref.isWhole_whole _) arg3 harg3 arg4 harg4 arg5 harg5 bufW (Memref.isWhole_whole _) arg7 harg7 cc0_scratch2 k0_h2 v27 k PUnit.unit)
          (fun _ => iprop((arg1.view.loc (c : Thread nD τ) ↦[arg1.view.set]{fullShare} X) ∗ issuing (F := F) c (1 - (i 0).val % 2) T q (fun r => wrow arg1 X (256 * ((i 0).val + 1) + r)) (8 * (k.val + 1)))) := by
  have hk : k.val < 32 := Nat.lt_of_lt_of_le k.isLt k0_t2_abs.2.1
  unfold k0_t2_body
  iintro ⟨H1, HI⟩
  sl_exec
  iapply (wp_assume Variants.none (c : Thread nD τ) none Set.univ (fun _ => chk_of arg1 X hX _ (256 * ((i 0).val + 1) + (8 * k.val + 0)) (by omega) (read_word arg1 X (256 * ((i 0).val + 1) + (8 * k.val + 0)) (vec1 (k0_off25_eq i k) (by omega)) (by omega) _)))
  sl_exec
  iapply (wp_issueRow (F := F) c none (j := 8 * k.val + 0) (W := (fun r => wrow arg1 X (256 * ((i 0).val + 1) + r))) (by omega) (hX (256 * ((i 0).val + 1) + (8 * k.val + 0)) (by omega)) (k0_off27_eq i) (k0_off28_eq k) (off_of arg1 X _ (256 * ((i 0).val + 1) + (8 * k.val + 0)) (read_word arg1 X (256 * ((i 0).val + 1) + (8 * k.val + 0)) (vec1 (k0_off25_eq i k) (by omega)) (by omega) _)) (congrArg SemLoc.dma (gs_of (s := (1 - (i 0).val % 2)) (by omega) (k0_off26_eq i)))) $$ HI
  iintro HI
  sl_exec
  iapply (wp_assume Variants.none (c : Thread nD τ) none Set.univ (fun _ => chk_of arg1 X hX _ (256 * ((i 0).val + 1) + (8 * k.val + 1)) (by omega) (read_word arg1 X (256 * ((i 0).val + 1) + (8 * k.val + 1)) (vec1 (k0_off30_eq i k) (by omega)) (by omega) _)))
  sl_exec
  iapply (wp_issueRow (F := F) c none (j := 8 * k.val + 1) (W := (fun r => wrow arg1 X (256 * ((i 0).val + 1) + r))) (by omega) (hX (256 * ((i 0).val + 1) + (8 * k.val + 1)) (by omega)) (k0_off32_eq i) (k0_off33_eq k) (off_of arg1 X _ (256 * ((i 0).val + 1) + (8 * k.val + 1)) (read_word arg1 X (256 * ((i 0).val + 1) + (8 * k.val + 1)) (vec1 (k0_off30_eq i k) (by omega)) (by omega) _)) (congrArg SemLoc.dma (gs_of (s := (1 - (i 0).val % 2)) (by omega) (k0_off31_eq i)))) $$ HI
  iintro HI
  sl_exec
  iapply (wp_assume Variants.none (c : Thread nD τ) none Set.univ (fun _ => chk_of arg1 X hX _ (256 * ((i 0).val + 1) + (8 * k.val + 2)) (by omega) (read_word arg1 X (256 * ((i 0).val + 1) + (8 * k.val + 2)) (vec1 (k0_off35_eq i k) (by omega)) (by omega) _)))
  sl_exec
  iapply (wp_issueRow (F := F) c none (j := 8 * k.val + 2) (W := (fun r => wrow arg1 X (256 * ((i 0).val + 1) + r))) (by omega) (hX (256 * ((i 0).val + 1) + (8 * k.val + 2)) (by omega)) (k0_off37_eq i) (k0_off38_eq k) (off_of arg1 X _ (256 * ((i 0).val + 1) + (8 * k.val + 2)) (read_word arg1 X (256 * ((i 0).val + 1) + (8 * k.val + 2)) (vec1 (k0_off35_eq i k) (by omega)) (by omega) _)) (congrArg SemLoc.dma (gs_of (s := (1 - (i 0).val % 2)) (by omega) (k0_off36_eq i)))) $$ HI
  iintro HI
  sl_exec
  iapply (wp_assume Variants.none (c : Thread nD τ) none Set.univ (fun _ => chk_of arg1 X hX _ (256 * ((i 0).val + 1) + (8 * k.val + 3)) (by omega) (read_word arg1 X (256 * ((i 0).val + 1) + (8 * k.val + 3)) (vec1 (k0_off40_eq i k) (by omega)) (by omega) _)))
  sl_exec
  iapply (wp_issueRow (F := F) c none (j := 8 * k.val + 3) (W := (fun r => wrow arg1 X (256 * ((i 0).val + 1) + r))) (by omega) (hX (256 * ((i 0).val + 1) + (8 * k.val + 3)) (by omega)) (k0_off42_eq i) (k0_off43_eq k) (off_of arg1 X _ (256 * ((i 0).val + 1) + (8 * k.val + 3)) (read_word arg1 X (256 * ((i 0).val + 1) + (8 * k.val + 3)) (vec1 (k0_off40_eq i k) (by omega)) (by omega) _)) (congrArg SemLoc.dma (gs_of (s := (1 - (i 0).val % 2)) (by omega) (k0_off41_eq i)))) $$ HI
  iintro HI
  sl_exec
  iapply (wp_assume Variants.none (c : Thread nD τ) none Set.univ (fun _ => chk_of arg1 X hX _ (256 * ((i 0).val + 1) + (8 * k.val + 4)) (by omega) (read_word arg1 X (256 * ((i 0).val + 1) + (8 * k.val + 4)) (vec1 (k0_off45_eq i k) (by omega)) (by omega) _)))
  sl_exec
  iapply (wp_issueRow (F := F) c none (j := 8 * k.val + 4) (W := (fun r => wrow arg1 X (256 * ((i 0).val + 1) + r))) (by omega) (hX (256 * ((i 0).val + 1) + (8 * k.val + 4)) (by omega)) (k0_off47_eq i) (k0_off48_eq k) (off_of arg1 X _ (256 * ((i 0).val + 1) + (8 * k.val + 4)) (read_word arg1 X (256 * ((i 0).val + 1) + (8 * k.val + 4)) (vec1 (k0_off45_eq i k) (by omega)) (by omega) _)) (congrArg SemLoc.dma (gs_of (s := (1 - (i 0).val % 2)) (by omega) (k0_off46_eq i)))) $$ HI
  iintro HI
  sl_exec
  iapply (wp_assume Variants.none (c : Thread nD τ) none Set.univ (fun _ => chk_of arg1 X hX _ (256 * ((i 0).val + 1) + (8 * k.val + 5)) (by omega) (read_word arg1 X (256 * ((i 0).val + 1) + (8 * k.val + 5)) (vec1 (k0_off50_eq i k) (by omega)) (by omega) _)))
  sl_exec
  iapply (wp_issueRow (F := F) c none (j := 8 * k.val + 5) (W := (fun r => wrow arg1 X (256 * ((i 0).val + 1) + r))) (by omega) (hX (256 * ((i 0).val + 1) + (8 * k.val + 5)) (by omega)) (k0_off52_eq i) (k0_off53_eq k) (off_of arg1 X _ (256 * ((i 0).val + 1) + (8 * k.val + 5)) (read_word arg1 X (256 * ((i 0).val + 1) + (8 * k.val + 5)) (vec1 (k0_off50_eq i k) (by omega)) (by omega) _)) (congrArg SemLoc.dma (gs_of (s := (1 - (i 0).val % 2)) (by omega) (k0_off51_eq i)))) $$ HI
  iintro HI
  sl_exec
  iapply (wp_assume Variants.none (c : Thread nD τ) none Set.univ (fun _ => chk_of arg1 X hX _ (256 * ((i 0).val + 1) + (8 * k.val + 6)) (by omega) (read_word arg1 X (256 * ((i 0).val + 1) + (8 * k.val + 6)) (vec1 (k0_off55_eq i k) (by omega)) (by omega) _)))
  sl_exec
  iapply (wp_issueRow (F := F) c none (j := 8 * k.val + 6) (W := (fun r => wrow arg1 X (256 * ((i 0).val + 1) + r))) (by omega) (hX (256 * ((i 0).val + 1) + (8 * k.val + 6)) (by omega)) (k0_off57_eq i) (k0_off58_eq k) (off_of arg1 X _ (256 * ((i 0).val + 1) + (8 * k.val + 6)) (read_word arg1 X (256 * ((i 0).val + 1) + (8 * k.val + 6)) (vec1 (k0_off55_eq i k) (by omega)) (by omega) _)) (congrArg SemLoc.dma (gs_of (s := (1 - (i 0).val % 2)) (by omega) (k0_off56_eq i)))) $$ HI
  iintro HI
  sl_exec
  iapply (wp_assume Variants.none (c : Thread nD τ) none Set.univ (fun _ => chk_of arg1 X hX _ (256 * ((i 0).val + 1) + (8 * k.val + 7)) (by omega) (read_word arg1 X (256 * ((i 0).val + 1) + (8 * k.val + 7)) (vec1 (k0_off60_eq i k) (by omega)) (by omega) _)))
  sl_exec
  iapply (wp_issueRow (F := F) c none (j := 8 * k.val + 7) (W := (fun r => wrow arg1 X (256 * ((i 0).val + 1) + r))) (by omega) (hX (256 * ((i 0).val + 1) + (8 * k.val + 7)) (by omega)) (k0_off62_eq i) (k0_off63_eq k) (off_of arg1 X _ (256 * ((i 0).val + 1) + (8 * k.val + 7)) (read_word arg1 X (256 * ((i 0).val + 1) + (8 * k.val + 7)) (vec1 (k0_off60_eq i k) (by omega)) (by omega) _)) (congrArg SemLoc.dma (gs_of (s := (1 - (i 0).val % 2)) (by omega) (k0_off61_eq i)))) $$ HI
  iintro HI
  sl_step
  isplitl [H1]; · iexact H1
  iexact HI

/-- Slot `s`'s drain after `k` of its 256 waits: every transfer issued and `k` waited for, and after the last the rows
    themselves, the semaphore at zero and the table whole again. -/
def draining (c : Dev nD) (s : ℕ) (T : BufTy.Contents (Elt F) tabW.view.ty) (q : PosShare TreeShare) (W : ℕ → ℕ) (k : ℕ) : sProp 𝕄 :=
  iprop((∃ S : Waits sig Unit, owes (c : Thread nD τ) 0 S)
    ∗ (if k < 256 then iprop(Transfers.Batch (countersEmb (U := Pipeline.UD sig nD τ)) (c : Thread nD τ) (.dma (gs s)) () NN (D (F := F) c s T q W) 256 (k * NN)
          ∗ (tabW.view.loc (c : Thread nD τ) ↦{Transfers.shareDrop q 256} (T : Buf (Elt F) _)))
      else iprop(semVal ((c : Thread nD τ), SemLoc.dma (gs s)) 0
        ∗ (bufW.view.loc (c : Thread nD τ) ↦[slotSet c s]{fullShare} (gath T W : Buf (Elt F) _)) ∗ (tabW.view.loc (c : Thread nD τ) ↦{q} (T : Buf (Elt F) _)))))

theorem drain_start (c : Dev nD) (s : ℕ) (T : BufTy.Contents (Elt F) tabW.view.ty) (q : PosShare TreeShare) (W : ℕ → ℕ) (S : Waits sig Unit) :
    iprop(owes (c : Thread nD τ) 0 S ∗ issuing (F := F) c s T q W 256) ⊢ draining (F := F) c s T q W 0 := by
  unfold draining issuing
  rw [if_pos (by decide), Nat.zero_mul]
  iintro ⟨HO, HB, -, HT⟩
  isplitl [HO]; · iexists S; iexact HO
  isplitl [HB]; · iexact HB
  iexact HT

theorem drain_step (c : Dev nD) (bd : Option Variants.none.V) {s : ℕ} {T : BufTy.Contents (Elt F) tabW.view.ty} {q : PosShare TreeShare} {W : ℕ → ℕ} {j : ℕ} (hj : j < 256)
    {off h off2 h2 hq off3 h3} {sem : DmaSem sig} (hsm : sem = gs s) {α : Type} {Q : α → sProp 𝕄}
    {hsrc hdst} {k : PUnit → Prog (TpuEff nD τ sig (Elt F) Λ₀ (c : Thread nD τ).2) α} :
    draining (F := F) c s T q W j
      ⊢ iprop((draining (F := F) c s T q W (j + 1) -∗ wp frame (wpE (defs₀ (F := F)) Variants.none (c : Thread nD τ) bd) Set.univ (k ⟨⟩) Q)
          -∗ wp frame (wpE (defs₀ (F := F)) Variants.none (c : Thread nD τ) bd) Set.univ
            (.op (.waitDma2 sem (srcM off3 h3) (dstM off h off2 h2 hq) hsrc hdst) k) Q) := by
  subst hsm
  unfold draining
  rw [if_pos hj]
  iintro ⟨⟨%S, HO⟩, HB, HT⟩ Hk
  by_cases hl : j + 1 < 256
  · rw [if_pos hl]
    iapply (Transfers.wp_waitBatch (countersEmb (U := Pipeline.UD sig nD τ)) Variants.none (c : Thread nD τ) bd () (N := NN) (u := j * NN) (W := S) (show (dstM off h off2 h2 hq).view.dmaCredit = NN from rfl)
      (by have := NN_pos; rw [Nat.mul_comm NN, ← Nat.succ_mul]; exact Nat.mul_lt_mul_of_pos_right hl this)) $$ [HB HO]
    · isplitl [HB]; · iexact HB
      iexact HO
    iintro ⟨HB, HO⟩
    iapply Hk
    isplitl [HO]; · iexists _; iexact HO
    isplitl [HB]; · rw [Nat.succ_mul]; iexact HB
    iexact HT
  · rw [if_neg hl]
    obtain rfl : j = 255 := by omega
    iapply (Transfers.wp_waitBatchLast (countersEmb (U := Pipeline.UD sig nD τ)) Variants.none (c : Thread nD τ) bd () (N := NN) (u := 255 * NN) (W := S) (show (dstM off h off2 h2 hq).view.dmaCredit = NN from rfl) NN_pos
      (by rw [Nat.mul_comm NN, ← Nat.succ_mul])) $$ [HB HO]
    · isplitl [HB]; · iexact HB
      iexact HO
    iintro ⟨HD, HS, HO⟩
    iapply Hk
    isplitl [HO]; · iexists _; iexact HO
    isplitl [HS]; · iexact HS
    iapply (drain_done (F := F) c s T q W)
    isplitl [HD]; · iexact HD
    iexact HT

theorem trip_t3 (arg1 : Memref sig .tc .smem S5120 .i32) (harg1 : arg1.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg7 : Memref sig .tc .vmem S80x2560 .bf16) (harg7 : arg7.IsWhole) {s : ℕ} (hs : s = (i 0).val % 2) (T : BufTy.Contents (Elt F) tabW.view.ty) (q : PosShare TreeShare) (W : ℕ → ℕ) (k : Fin k0_t3_loop.trips) :
    draining (F := F) c s T q W k.val
      ⊢ wp frame (wpE (defs₀ (F := F)) Variants.none (c : Thread nD τ) none) Set.univ (k0_t3_body (F := F) i arg1 harg1 tabW (Memref.isWhole_whole _) arg3 harg3 arg4 harg4 arg5 harg5 bufW (Memref.isWhole_whole _) arg7 harg7 cc0_scratch2 k PUnit.unit)
          (fun _ => draining (F := F) c s T q W (k.val + 1)) := by
  have hk : k.val < 256 := Nat.lt_of_lt_of_le k.isLt k0_t3_abs.2.1
  unfold k0_t3_body
  iintro H
  sl_exec
  iapply (drain_step (F := F) c none hk (gs_of (s := s) (by omega) (by rw [k0_off65_eq i, hs]))) $$ H
  iintro H
  sl_step
  iexact H

theorem trips_t1 : k0_t1_loop.trips = 32 := by decide +kernel
theorem trips_t2 : k0_t2_loop.trips = 32 := by decide +kernel
theorem trips_t3 : k0_t3_loop.trips = 256 := by decide +kernel

end T1

end Cert.SampledRowsIdeal.Hand

end
-- ==== Proof.SiBody.lean ====
/- The kernel's body on whole staging buffers: one block of 256 sampled rows. -/
module

public import proofs.«01_k».proof.Proof.SiGather
public import Idealize.ShloMosaic.Lib.VecWindow
public import Idealize.ShloMosaic.Lib.WritesUnit
public import proofs.«01_k».proof.Proof.Gen.SampledRowsIdeal.Frame
public import proofs.«01_k».proof.Proof.Gen.SampledRowsIdeal.Skeleton

@[expose] public section

set_option maxRecDepth 8192
set_option maxHeartbeats 4000000

noncomputable section

namespace Cert.SampledRowsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SampledRowsIdeal.Gen

variable {F : FTy → Type} [FloatOps F]

/-- The resource algebra: the frame kit's with counters. -/
local notation "𝕄" => MT nD τ sig Unit (Elt F) ℕ (Pipeline.UD sig nD τ) ℕ

/-- The first point's work: the expansion matrix made, block 0's rows issued. -/
def headA (i : grid0.Coords) (arg1 : Memref sig .tc .smem S5120 .i32) (harg1 : arg1.IsWhole) (arg2 : Memref sig .tc .hbm S12576x2560 .i32) (harg2 : arg2.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg6 : Memref sig .tc .vmem S2x256x2560 .i32) (harg6 : arg6.IsWhole) (arg7 : Memref sig .tc .vmem S80x2560 .bf16) (harg7 : arg7.IsWhole) (arg8 : DmaSems sig S2) : Prog (TpuEff nD τ sig (Elt F) Λ₀ .tc) PUnit :=
  if k0_h1 : k0_cond1 i = 1#1 then do
    let v57 : Vec F S80x2560 .bf16 ← Prog.lift (.load arg7 (Rect.unit (s := S80x2560) ![0, 0] S80x2560.size inb_S80x2560_S80x2560_0_0).toLoadRect (View.loadsAt_vmem h_S80x2560))
    Prog.lift (.store arg7 (Rect.unit (s := S80x2560) ![0, 0] S80x2560.size inb_S80x2560_S80x2560_0_0) (k0_pay1 (F := F)) Finset.univ (View.stores_vmem h_S80x2560 (harg7.storeExact_slice rfl _ packedbf16_S80x2560_S80x2560_0_0) (fun _ => rfl)) (.inl rfl))
    Scf.Loop.for k0_t1_loop (k0_t1_ok i k0_h1) ⟨⟩ (k0_t1_body i arg1 harg1 arg2 harg2 arg3 harg3 arg4 harg4 arg5 harg5 arg6 harg6 arg7 harg7 arg8 k0_h1)
    pure ⟨⟩
  else do
    pure ⟨⟩

/-- The next block's rows issued, if there is a next block. -/
def headB (i : grid0.Coords) (arg1 : Memref sig .tc .smem S5120 .i32) (harg1 : arg1.IsWhole) (arg2 : Memref sig .tc .hbm S12576x2560 .i32) (harg2 : arg2.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg6 : Memref sig .tc .vmem S2x256x2560 .i32) (harg6 : arg6.IsWhole) (arg7 : Memref sig .tc .vmem S80x2560 .bf16) (harg7 : arg7.IsWhole) (arg8 : DmaSems sig S2) : Prog (TpuEff nD τ sig (Elt F) Λ₀ .tc) PUnit :=
  let arg0 : BitVec 32 := BitVec.ofNat 32 (i 0).val
  if k0_h2 : k0_cond2 i = 1#1 then do
    let v26 : BitVec 32 := Scalar.addi arg0 1#32
    let v27 : BitVec 32 := Scalar.muli v26 256#32
    Scf.Loop.for k0_t2_loop (k0_t2_ok i k0_h2) ⟨⟩ (k0_t2_body i arg1 harg1 arg2 harg2 arg3 harg3 arg4 harg4 arg5 harg5 arg6 harg6 arg7 harg7 arg8 k0_h2 v27)
    pure ⟨⟩
  else do
    pure ⟨⟩

/-- The wait for this block's rows, and the block's output. -/
def tailC (i : grid0.Coords) (arg1 : Memref sig .tc .smem S5120 .i32) (harg1 : arg1.IsWhole) (arg2 : Memref sig .tc .hbm S12576x2560 .i32) (harg2 : arg2.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg6 : Memref sig .tc .vmem S2x256x2560 .i32) (harg6 : arg6.IsWhole) (arg7 : Memref sig .tc .vmem S80x2560 .bf16) (harg7 : arg7.IsWhole) (arg8 : DmaSems sig S2) : Prog (TpuEff nD τ sig (Elt F) Λ₀ .tc) PUnit := do
  Scf.Loop.for k0_t3_loop k0_t3_ok ⟨⟩ (k0_t3_body i arg1 harg1 arg2 harg2 arg3 harg3 arg4 harg4 arg5 harg5 arg6 harg6 arg7 harg7 arg8)
  let v10 : Vec F S1x256x2560 .i32 ← Prog.lift (.load arg6 (Rect.unit (s := S2x256x2560) (k0_off68 i) S1x256x2560.size (k0_off68_inb i)).toLoadRect (View.loadsAt_vmem h_S1x256x2560))
  let v12 : Vec F S256x1 .i32 ← Prog.lift (.load arg3 (Rect.unit (s := S256x1) ![0, 0] S256x1.size inb_S256x1_S256x1_0_0).toLoadRect (View.loadsAt_vmem h_S256x1))
  let v14 : Vec F S80x256 .f32 ← Prog.lift (.load arg4 (Rect.unit (s := S80x256) ![0, 0] S80x256.size inb_S80x256_S80x256_0_0).toLoadRect (View.loadsAt_vmem h_S80x256))
  let v15 : Vec F S80x2560 .bf16 ← Prog.lift (.load arg7 (Rect.unit (s := S80x2560) ![0, 0] S80x2560.size inb_S80x2560_S80x2560_0_0).toLoadRect (View.loadsAt_vmem h_S80x2560))
  let v25 : Vec F S256x2560 .bf16 ← Prog.lift (.load arg5 (Rect.unit (s := S256x2560) ![0, 0] S256x2560.size inb_S256x2560_S256x2560_0_0).toLoadRect (View.loadsAt_vmem h_S256x2560))
  Prog.lift (.store arg5 (Rect.unit (s := S256x2560) ![0, 0] S256x2560.size inb_S256x2560_S256x2560_0_0) (k0_pay2 v10 v12 v14 v15) Finset.univ (View.stores_vmem h_S256x2560 (harg5.storeExact_slice rfl _ packedbf16_S256x2560_S256x2560_0_0) (fun _ => rfl)) (.inl rfl))
  pure ⟨⟩

/-- The body is its three parts one after the other. -/
theorem body_split : cc0_gather_ws (F := F) = fun i arg1 harg1 arg2 harg2 arg3 harg3 arg4 harg4 arg5 harg5 arg6 harg6 arg7 harg7 arg8 => headA (F := F) i arg1 harg1 arg2 harg2 arg3 harg3 arg4 harg4 arg5 harg5 arg6 harg6 arg7 harg7 arg8 >>= fun _ => headB (F := F) i arg1 harg1 arg2 harg2 arg3 harg3 arg4 harg4 arg5 harg5 arg6 harg6 arg7 harg7 arg8 >>= fun _ => tailC (F := F) i arg1 harg1 arg2 harg2 arg3 harg3 arg4 harg4 arg5 harg5 arg6 harg6 arg7 harg7 arg8 := by
  rw [cc0_gather_ws_eq_skeleton]
  funext i arg1 harg1 arg2 harg2 arg3 harg3 arg4 harg4 arg5 harg5 arg6 harg6 arg7 harg7 arg8
  unfold cc0_gather_ws_skel headA headB tailC
  by_cases h1 : k0_cond1 i = 1#1 <;> by_cases h2 : k0_cond2 i = 1#1
  all_goals simp only [h1, h2, dif_pos, dif_neg, ↓reduceDIte, Prog.bind_assoc, Prog.pure_eq_ret, Prog.bind_ret, not_false_eq_true]

/-- What slot `s` is in before point `t`: at the first point nothing is in flight, after it block `t`'s rows are. -/
def slotAt (c : Dev nD) (s : ℕ) (T : BufTy.Contents (Elt F) tabW.view.ty) (q : PosShare TreeShare) (W : ℕ → ℕ) (b : Prop) [Decidable b] : sProp 𝕄 :=
  if b then issuing (F := F) c s T q W 256 else free (F := F) c s T q

section T1
variable (c : Dev nD) (i : grid0.Coords)

/-- The first branch is taken at the first point only. -/
theorem cond1_iff : Iff (k0_cond1 i = 1#1) ((i 0).val = 0) := by
  have h : ∀ t : Fin 20, Iff (Scalar.cmpi .ne (Scalar.extui (Scalar.cmpi .eq (BitVec.ofNat 32 t.val) 0#32) : BitVec 32) 0#32 = 1#1) (t.val = 0) := by decide +kernel
  exact h (i 0)
/-- The second branch is taken at every point but the last. -/
theorem cond2_iff : Iff (k0_cond2 i = 1#1) ((i 0).val + 1 < 20) := by
  have h : ∀ t : Fin 20, Iff (Scalar.cmpi .ne (Scalar.extui (Scalar.cmpi .slt (Scalar.addi (BitVec.ofNat 32 t.val) 1#32) 20#32) : BitVec 32) 0#32 = 1#1) (t.val + 1 < 20) := by decide +kernel
  exact h (i 0)

/-- The first point's work, or none: after it the expansion matrix is in place and this block's rows are in flight. -/
theorem head_A (arg1 : Memref sig .tc .smem S5120 .i32) (harg1 : arg1.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg7 : Memref sig .tc .vmem S80x2560 .bf16) (harg7 : arg7.IsWhole) (X : BufTy.Contents (Elt F) arg1.view.ty)
    (hX : ∀ n < 5120, wrow arg1 X n < 12576) (T : BufTy.Contents (Elt F) tabW.view.ty) (q : PosShare TreeShare) (W : ℕ → ℕ)
    (hW : (i 0).val = 0 → W = fun r => wrow arg1 X r)
    (f7 : BufTy.Contents (Elt F) arg7.view.ty) (h7 : (i 0).val ≠ 0 → arg7.view.read (Elt F) f7 = k0_pay1 (F := F)) (S : Waits sig Unit) :
    (iprop((arg1.view.loc (c : Thread nD τ) ↦[arg1.view.set]{fullShare} X) ∗ (arg7.view.loc (c : Thread nD τ) ↦[arg7.view.set]{fullShare} f7) ∗ owes (c : Thread nD τ) 0 S
      ∗ slotAt (F := F) c ((i 0).val % 2) T q W ((i 0).val ≠ 0)) : sProp 𝕄)
      ⊢ wp frame (wpE (defs₀ (F := F)) Variants.none (c : Thread nD τ) none) Set.univ (headA (F := F) i arg1 harg1 tabW (Memref.isWhole_whole _) arg3 harg3 arg4 harg4 arg5 harg5 bufW (Memref.isWhole_whole _) arg7 harg7 cc0_scratch2)
          (fun _ => iprop((arg1.view.loc (c : Thread nD τ) ↦[arg1.view.set]{fullShare} X)
      ∗ (∃ f7 : BufTy.Contents (Elt F) arg7.view.ty, (arg7.view.loc (c : Thread nD τ) ↦[arg7.view.set]{fullShare} f7) ∗ ⌜arg7.view.read (Elt F) f7 = k0_pay1 (F := F)⌝)
      ∗ (∃ S : Waits sig Unit, owes (c : Thread nD τ) 0 S)
      ∗ issuing (F := F) c ((i 0).val % 2) T q W 256)) := by
  unfold headA slotAt
  by_cases hi : (i 0).val = 0
  · have hc : k0_cond1 i = 1#1 := (cond1_iff i).2 hi
    rw [dif_pos hc, if_neg (not_not.mpr hi), hi, Nat.zero_mod]
    obtain rfl := hW hi
    iintro ⟨H1, H7, HO, HT⟩
    imod (issue_start (F := F) c 0 T q (fun r => wrow arg1 X r)) $$ HT with HI
    sl_exec
    sl_for (fun (k : ℕ) (_ : PUnit) => iprop((arg1.view.loc (c : Thread nD τ) ↦[arg1.view.set]{fullShare} X) ∗ issuing (F := F) c 0 T q (fun r => wrow arg1 X r) (8 * k))) $$ [H1 HI]
    · intro k _
      exact trip_t1 c i arg1 harg1 arg3 harg3 arg4 harg4 arg5 harg5 arg7 harg7 hc X hX T q k
    · isplitl [H1]; · iexact H1
      iexact HI
    iintro %acc ⟨H1, HI⟩
    sl_exec
    sl_step
    isplitl [H1]; · iexact H1
    isplitl [H7]
    · iexists _; isplitl [H7]; · iexact H7
      ipureintro
      sl_unfold_words
      exact View.read_writes_full arg7.view _ _ _ []
    isplitl [HO]; · iexists _; iexact HO
    iexact HI
  · have hc : ¬ k0_cond1 i = 1#1 := fun h => hi ((cond1_iff i).1 h)
    rw [dif_neg hc, if_pos hi]
    iintro ⟨H1, H7, HO, HT⟩
    sl_step
    isplitl [H1]; · iexact H1
    isplitl [H7]; · iexists f7; isplitl [H7]; · iexact H7
                    ipureintro; exact h7 hi
    isplitl [HO]; · iexists S; iexact HO
    iexact HT

/-- The next block's rows issued, when there is a next block. -/
theorem head_B (arg1 : Memref sig .tc .smem S5120 .i32) (harg1 : arg1.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg7 : Memref sig .tc .vmem S80x2560 .bf16) (harg7 : arg7.IsWhole) (X : BufTy.Contents (Elt F) arg1.view.ty)
    (hX : ∀ n < 5120, wrow arg1 X n < 12576) (T : BufTy.Contents (Elt F) tabW.view.ty) (q : PosShare TreeShare) :
    (iprop((arg1.view.loc (c : Thread nD τ) ↦[arg1.view.set]{fullShare} X) ∗ free (F := F) c (1 - (i 0).val % 2) T q) : sProp 𝕄)
      ⊢ wp frame (wpE (defs₀ (F := F)) Variants.none (c : Thread nD τ) none) Set.univ (headB (F := F) i arg1 harg1 tabW (Memref.isWhole_whole _) arg3 harg3 arg4 harg4 arg5 harg5 bufW (Memref.isWhole_whole _) arg7 harg7 cc0_scratch2)
          (fun _ => iprop((arg1.view.loc (c : Thread nD τ) ↦[arg1.view.set]{fullShare} X)
            ∗ slotAt (F := F) c (1 - (i 0).val % 2) T q (fun r => wrow arg1 X (256 * ((i 0).val + 1) + r)) ((i 0).val + 1 < 20))) := by
  unfold headB slotAt
  by_cases hi : (i 0).val + 1 < 20
  · have hc : k0_cond2 i = 1#1 := (cond2_iff i).2 hi
    simp only [hc, hi, ↓reduceDIte, ↓reduceIte]
    iintro ⟨H1, HT⟩
    imod (issue_start (F := F) c (1 - (i 0).val % 2) T q (fun r => wrow arg1 X (256 * ((i 0).val + 1) + r))) $$ HT with HI
    sl_exec
    sl_for (fun (k : ℕ) (_ : PUnit) => iprop((arg1.view.loc (c : Thread nD τ) ↦[arg1.view.set]{fullShare} X) ∗ issuing (F := F) c (1 - (i 0).val % 2) T q (fun r => wrow arg1 X (256 * ((i 0).val + 1) + r)) (8 * k))) $$ [H1 HI]
    · intro k _
      exact trip_t2 c i arg1 harg1 arg3 harg3 arg4 harg4 arg5 harg5 arg7 harg7 hc _ hi X hX T q k
    · isplitl [H1]; · iexact H1
      iexact HI
    iintro %acc ⟨H1, HI⟩
    sl_exec
    sl_step
    isplitl [H1]; · iexact H1
    iexact HI
  · have hc : ¬ k0_cond2 i = 1#1 := fun h => hi ((cond2_iff i).1 h)
    simp only [hc, hi, ↓reduceDIte, ↓reduceIte]
    iintro ⟨H1, HT⟩
    sl_step
    isplitl [H1]; · iexact H1
    iexact HT

/-- A block's gathered words as the body reads them. -/
def wordsV (T : BufTy.Contents (Elt F) tabW.view.ty) (W : ℕ → ℕ) : Vec F S1x256x2560 .i32 :=
  fun x => T (tix (W ((x : S1x256x2560.Idx) 1).val) ((x : S1x256x2560.Idx) 2))

theorem slot_load (s : ℕ) {off : Fin 3 → ℕ} {h} (ho : off = ![s, 0, 0]) :
    bufW.view.setOn (Rect.unit (s := S2x256x2560) off S1x256x2560.size h).toLoadRect.set ⊆ slotSet c s := by
  subst ho
  intro x hx
  obtain ⟨y, hy, rfl⟩ := Finset.mem_map.mp hx
  have h1 := (Rect.mem_set_unit.mp hy) 0
  refine Finset.mem_filter.mpr ⟨Finset.mem_univ _, ?_⟩
  have h2 : s ≤ (y 0).val ∧ (y 0).val < s + 1 := h1
  show (y 0).val = s
  omega

theorem words_load (T : BufTy.Contents (Elt F) tabW.view.ty) (W : ℕ → ℕ) (s : ℕ) {off : Fin 3 → ℕ} {h} (ho : off = ![s, 0, 0]) :
    View.readAt (Elt F) bufW.view (Rect.unit (s := S2x256x2560) off S1x256x2560.size h).toLoadRect (gath T W) = wordsV T W := by
  subst ho
  funext x
  show T (tix (W (0 + 1 * (x 1).val)) _) = T (tix (W (x 1).val) (x 2))
  congr 2
  · congr 1; omega
  · apply Fin.ext; show 0 + 1 * (x 2).val = (x 2).val; omega

/-- The load of a block's gathered words. -/
theorem load_words (c : Dev nD) (bd : Option Variants.none.V) (T : BufTy.Contents (Elt F) tabW.view.ty) (W : ℕ → ℕ) (s : ℕ) {off : Fin 3 → ℕ} {h} (ho : off = ![s, 0, 0])
    {hl} {α : Type} {Q : α → sProp 𝕄} {k : Vec F S1x256x2560 .i32 → Prog (TpuEff nD τ sig (Elt F) Λ₀ (c : Thread nD τ).2) α} :
    (iprop(bufW.view.loc (c : Thread nD τ) ↦[slotSet c s]{fullShare} (gath T W : Buf (Elt F) _)) : sProp 𝕄)
      ⊢ iprop(((bufW.view.loc (c : Thread nD τ) ↦[slotSet c s]{fullShare} (gath T W : Buf (Elt F) _)) -∗ wp frame (wpE (defs₀ (F := F)) Variants.none (c : Thread nD τ) bd) Set.univ (k (wordsV T W)) Q)
        -∗ wp frame (wpE (defs₀ (F := F)) Variants.none (c : Thread nD τ) bd) Set.univ
          (Prog.lift (.load bufW (Rect.unit (s := S2x256x2560) off S1x256x2560.size h).toLoadRect hl) >>= k) Q) := by
  rw [← words_load T W s (h := h) ho]
  exact wp_load Variants.none (c : Thread nD τ) bd Set.univ (slot_load c s (h := h) ho)

/-- All rows waited for. -/
theorem drained (c : Dev nD) (s : ℕ) (T : BufTy.Contents (Elt F) tabW.view.ty) (q : PosShare TreeShare) (W : ℕ → ℕ) :
    draining (F := F) c s T q W k0_t3_loop.trips ⊢ iprop((∃ S : Waits sig Unit, owes (c : Thread nD τ) 0 S) ∗ semVal ((c : Thread nD τ), SemLoc.dma (gs s)) 0
        ∗ (bufW.view.loc (c : Thread nD τ) ↦[slotSet c s]{fullShare} (gath T W : Buf (Elt F) _)) ∗ (tabW.view.loc (c : Thread nD τ) ↦{q} (T : Buf (Elt F) _))) := by
  rw [trips_t3]
  unfold draining
  rw [if_neg (by decide)]

/-- The wait for the rows and the block's output, a function of what the block is given. -/
theorem tail_C (arg1 : Memref sig .tc .smem S5120 .i32) (harg1 : arg1.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg7 : Memref sig .tc .vmem S80x2560 .bf16) (harg7 : arg7.IsWhole) (X3 : BufTy.Contents (Elt F) arg3.view.ty) (X4 : BufTy.Contents (Elt F) arg4.view.ty) (X7 : BufTy.Contents (Elt F) arg7.view.ty)
    (x3 : Vec F S256x1 .i32) (x4 : Vec F S80x256 .f32)
    (h3 : arg3.view.read (Elt F) X3 = x3) (h4 : arg4.view.read (Elt F) X4 = x4) (h7 : arg7.view.read (Elt F) X7 = k0_pay1 (F := F))
    (f5 : BufTy.Contents (Elt F) arg5.view.ty)
    (T : BufTy.Contents (Elt F) tabW.view.ty) (q : PosShare TreeShare) (W : ℕ → ℕ) (S : Waits sig Unit) :
    (iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg5.view.loc (c : Thread nD τ) ↦[arg5.view.set]{fullShare} f5)
      ∗ owes (c : Thread nD τ) 0 S ∗ issuing (F := F) c ((i 0).val % 2) T q W 256) : sProp 𝕄)
      ⊢ wp frame (wpE (defs₀ (F := F)) Variants.none (c : Thread nD τ) none) Set.univ (tailC (F := F) i arg1 harg1 tabW (Memref.isWhole_whole _) arg3 harg3 arg4 harg4 arg5 harg5 bufW (Memref.isWhole_whole _) arg7 harg7 cc0_scratch2)
          (fun _ => iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
      ∗ (∃ f : BufTy.Contents (Elt F) arg5.view.ty, (arg5.view.loc (c : Thread nD τ) ↦[arg5.view.set]{fullShare} f) ∗ ⌜arg5.view.read (Elt F) f = k0_pay2 (wordsV T W) x3 x4 (k0_pay1 (F := F))⌝)
      ∗ (∃ S : Waits sig Unit, owes (c : Thread nD τ) 0 S) ∗ free (F := F) c ((i 0).val % 2) T q)) := by
  have e3 := View.readAt_full arg3.view X3 (off := ![0, 0]) inb_S256x1_S256x1_0_0
  have e4 := View.readAt_full arg4.view X4 (off := ![0, 0]) inb_S80x256_S80x256_0_0
  have e7 := View.readAt_full arg7.view X7 (off := ![0, 0]) inb_S80x2560_S80x2560_0_0
  rw [h3] at e3; rw [h4] at e4; rw [h7] at e7
  unfold tailC
  iintro ⟨H3, H4, H7, H5, HO, HI⟩
  ihave HD := (drain_start (F := F) c ((i 0).val % 2) T q W S) $$ [HO HI]
  · isplitl [HO]; · iexact HO
    iexact HI
  sl_exec
  sl_for (fun (k : ℕ) (_ : PUnit) => draining (F := F) c ((i 0).val % 2) T q W k) $$ [HD]
  · intro k _
    exact trip_t3 c i arg1 harg1 arg3 harg3 arg4 harg4 arg5 harg5 arg7 harg7 rfl T q W k
  · iexact HD
  iintro %acc HD
  ihave HD := (drained c ((i 0).val % 2) T q W) $$ HD
  icases HD with ⟨HO, Hsem, Hbuf, Htab⟩
  iapply (load_words c none T W ((i 0).val % 2) (k0_off68_eq i)) $$ Hbuf
  iintro Hbuf
  sl_exec
  sl_step
  isplitl [H3]; · iexact H3
  isplitl [H4]; · iexact H4
  isplitl [H7]; · iexact H7
  isplitl [H5]
  · iexists _; isplitl [H5]; · iexact H5
    ipureintro
    sl_unfold_words
    exact View.read_writes_full _ _ _ _ []
  isplitl [HO]; · iexact HO
  unfold free
  isplitl [Hsem]; · iexact Hsem
  isplitl [Hbuf]; · iexists _; iexact Hbuf
  iexact Htab

/-- One block of sampled rows, whole: what the body leaves in its output, with this block's rows on the way when it starts (but for
    the first block) and the next block's on the way when it ends (but for the last). -/
theorem body_L (arg1 : Memref sig .tc .smem S5120 .i32) (harg1 : arg1.IsWhole) (arg3 : Memref sig .tc .vmem S256x1 .i32) (harg3 : arg3.IsWhole) (arg4 : Memref sig .tc .vmem S80x256 .f32) (harg4 : arg4.IsWhole) (arg5 : Memref sig .tc .vmem S256x2560 .bf16) (harg5 : arg5.IsWhole) (arg7 : Memref sig .tc .vmem S80x2560 .bf16) (harg7 : arg7.IsWhole) (X1 : BufTy.Contents (Elt F) arg1.view.ty) (X3 : BufTy.Contents (Elt F) arg3.view.ty) (X4 : BufTy.Contents (Elt F) arg4.view.ty)
    (x3 : Vec F S256x1 .i32) (x4 : Vec F S80x256 .f32)
    (h3 : arg3.view.read (Elt F) X3 = x3) (h4 : arg4.view.read (Elt F) X4 = x4)
    (hX : ∀ n < 5120, wrow arg1 X1 n < 12576)
    (f5 : BufTy.Contents (Elt F) arg5.view.ty) (f7 : BufTy.Contents (Elt F) arg7.view.ty)
    (h7 : (i 0).val ≠ 0 → arg7.view.read (Elt F) f7 = k0_pay1 (F := F))
    (T : BufTy.Contents (Elt F) tabW.view.ty) (q q' : PosShare TreeShare) (S : Waits sig Unit) :
    (iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg7.view.loc (c : Thread nD τ) ↦[arg7.view.set]{fullShare} f7) ∗ owes (c : Thread nD τ) 0 S
      ∗ slotAt (F := F) c ((i 0).val % 2) T q (fun r => wrow arg1 X1 (256 * (i 0).val + r)) ((i 0).val ≠ 0) ∗ free (F := F) c (1 - (i 0).val % 2) T q') : sProp 𝕄)
      ⊢ wp frame (wpE (defs₀ (F := F)) Variants.none (c : Thread nD τ) none) Set.univ (cc0_gather_ws (F := F) i arg1 harg1 tabW (Memref.isWhole_whole _) arg3 harg3 arg4 harg4 arg5 harg5 bufW (Memref.isWhole_whole _) arg7 harg7 cc0_scratch2)
          (fun _ => iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4)
      ∗ (∃ f : BufTy.Contents (Elt F) arg5.view.ty, (arg5.view.loc (c : Thread nD τ) ↦[arg5.view.set]{fullShare} f) ∗ ⌜arg5.view.read (Elt F) f = k0_pay2 (wordsV T (fun r => wrow arg1 X1 (256 * (i 0).val + r))) x3 x4 (k0_pay1 (F := F))⌝)
      ∗ (∃ f : BufTy.Contents (Elt F) arg7.view.ty, (arg7.view.loc (c : Thread nD τ) ↦[arg7.view.set]{fullShare} f) ∗ ⌜arg7.view.read (Elt F) f = k0_pay1 (F := F)⌝)
      ∗ (∃ S : Waits sig Unit, owes (c : Thread nD τ) 0 S)
      ∗ slotAt (F := F) c (1 - (i 0).val % 2) T q' (fun r => wrow arg1 X1 (256 * ((i 0).val + 1) + r)) ((i 0).val + 1 < 20) ∗ free (F := F) c ((i 0).val % 2) T q)) := by
  have hW : (i 0).val = 0 → (fun r => wrow arg1 X1 (256 * (i 0).val + r)) = fun r => wrow arg1 X1 r := by
    intro h0; funext r; rw [h0, Nat.mul_zero, Nat.zero_add]
  rw [body_split, wp_bind]
  iintro ⟨H1, H3, H4, H5, H7, HO, HT, HF⟩
  iapply (wp_wand_r _ _ _)
  isplitl [H1 H7 HO HT]
  · iapply (head_A c i arg1 harg1 arg3 harg3 arg4 harg4 arg5 harg5 arg7 harg7 X1 hX T q (fun r => wrow arg1 X1 (256 * (i 0).val + r)) hW f7 h7 S)
    isplitl [H1]; · iexact H1
    isplitl [H7]; · iexact H7
    isplitl [HO]; · iexact HO
    iexact HT
  iintro %_ ⟨H1, ⟨%g7, H7, %h7'⟩, ⟨%S', HO⟩, HI⟩
  iapply (Entails.of_eq (wp_bind _ _ _ _ _ _).symm)
  iapply (wp_wand_r _ _ _)
  isplitl [H1 HF]
  · iapply (head_B c i arg1 harg1 arg3 harg3 arg4 harg4 arg5 harg5 arg7 harg7 X1 hX T q')
    isplitl [H1]; · iexact H1
    iexact HF
  iintro %_ ⟨H1, HN⟩
  iapply (wp_wand_r _ _ _)
  isplitl [H3 H4 H7 H5 HO HI]
  · iapply (tail_C c i arg1 harg1 arg3 harg3 arg4 harg4 arg5 harg5 arg7 harg7 X3 X4 g7 x3 x4 h3 h4 h7' f5 T q (fun r => wrow arg1 X1 (256 * (i 0).val + r)) S')
    isplitl [H3]; · iexact H3
    isplitl [H4]; · iexact H4
    isplitl [H7]; · iexact H7
    isplitl [H5]; · iexact H5
    isplitl [HO]; · iexact HO
    iexact HI
  iintro %_ ⟨H3, H4, H7, H5, HO, HF⟩
  isplitl [H1]; · iexact H1
  isplitl [H3]; · iexact H3
  isplitl [H4]; · iexact H4
  isplitl [H5]; · iexact H5
  isplitl [H7]
  · iexists g7; isplitl [H7]; · iexact H7
    ipureintro; exact h7'
  isplitl [HO]; · iexact HO
  isplitl [HN]; · iexact HN
  iexact HF

end T1
end Cert.SampledRowsIdeal.Hand
end
-- ==== Proof.SiFrame.lean ====
/- The region run: what is kept from block to block, the body at each point, the launch. -/
module

public import proofs.«01_k».proof.Proof.SiBody

@[expose] public section

set_option maxRecDepth 8192
set_option maxHeartbeats 4000000

noncomputable section

namespace Cert.SampledRowsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SampledRowsIdeal.Gen hiding hmain before0_0_of before0_1_of before0_2_of frame_of

variable {F : FTy → Type} [FloatOps F]

/-- The resource algebra: the frame kit's with counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the staging buffer holds when the body runs. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the staging buffer holds when the body runs. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S88x11264.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)

/-- The arguments end unchanged and the semaphores at zero, from the region's run. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 0).trans (((dats 0 c).arrAt_in 0 rfl _).trans ((hA c 0).trans (V_main_arg0 m c))),
      ((h.1 c).2 main_arg1 (Pipeline.mem_restRefs_of main_arg1 (by decide) (by decide))).trans (V_main_arg1 m c),
      ((h.1 c).1 2).trans (((dats 0 c).arrAt_in 2 rfl _).trans ((hA c 2).trans (V_main_arg2 m c)))⟩, h.2⟩) h

/-! ## What the body keeps from block to block -/

/-- The main-memory array the kernel copies from by itself: the word table. -/
abbrev H0 : Finset (Ref sig .tc) := {main_v8}
/-- No window stages the word table. -/
theorem H0_sub : H0 ⊆ Pipeline.restRefs sig spec0 := by decide
/-- The kernel's own semaphores, one for each slot. -/
abbrev osem0 : Fin 2 → SemLoc sig := fun j => (![SemLoc.dma 7, SemLoc.dma 8] : Fin 2 → SemLoc sig) j
/-- They are no window's. -/
theorem ownSemFacts0 : Pipeline.OwnSemFacts spec0 osem0 := by decide
/-- The kernel's own semaphores one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0) := by
  rw [Pipeline.ownSems0_eq_of_list c osem0 [0, 1] (by decide) (by decide)]; rfl
/-- The arrays the kernel copies from, one by one. -/
theorem hbmPts0_eq (c : Dev nD) :
    (bigSep H0 (fun b => ((c : Thread nD τ).loc b) ↦{fullShare} V m c b) : sProp 𝕄)
      = iprop((((c : Thread nD τ).loc main_v8) ↦{fullShare} V m c main_v8)) := by
  rw [BI.bigSep_eq_bigSepL_of_eq [main_v8] (by decide) (by decide)]; rfl

/-- The first slot's semaphore. -/
theorem gs_eq0 : gs 0 = 7 := by decide
/-- The second slot's semaphore. -/
theorem gs_eq1 : gs 1 = 8 := by decide

/-- A sampled id's row of the word table, by its place. -/
def wrowA (a : S5120.Idx → BitVec 32) (n : ℕ) : ℕ :=
  (Scalar.shrsi (a (fun | 0 => (⟨n % 5120, Nat.mod_lt _ (by decide)⟩ : Fin 5120))) 2#32).toNat
/-- The share of the word table a slot reads with. -/
def qs (s : ℕ) : PosShare TreeShare := if s = 0 then fullShare.left else fullShare.right
/-- The sampled ids. -/
def idA (c : Dev nD) : S5120.Idx → BitVec 32 := V m c main_arg0
/-- The word table. -/
def tabA (c : Dev nD) : BufTy.Contents (Elt F) tabW.view.ty := V m c main_v8
/-- The rows block `n` gathers. -/
def Wn (c : Dev nD) (n : ℕ) : ℕ → ℕ := fun r => wrowA (idA m c) (256 * n + r)
/-- What block `t` leaves. -/
def outB (c : Dev nD) (t : Fin cfg0.N) : FVec F S256x2560 .bf16 :=
  k0_pay2 (wordsV (tabA m c) (Wn m c t.val)) (iblk m c 1 t) (X0_2 m c t) (k0_pay1 (F := F))

abbrev sc1 : Memref sig .tc .vmem S80x2560 .bf16 := Memref.whole cc0_scratch1

/-- What the body keeps when `n` blocks are done: the expansion matrix once the first block has made it, the block's rows on the
    way into their slot, the other slot free. -/
def Phi (c : Dev nD) (n : ℕ) : sProp 𝕄 :=
  iprop((∃ f : BufTy.Contents (Elt F) sc1.view.ty, (sc1.view.loc (c : Thread nD τ) ↦[sc1.view.set]{fullShare} f) ∗ ⌜n ≠ 0 → sc1.view.read (Elt F) f = k0_pay1 (F := F)⌝)
    ∗ (∃ r, prngReg c r)
    ∗ slotAt (F := F) c (n % 2) (tabA m c) (qs (n % 2)) (Wn m c n) (n ≠ 0 ∧ n < 20)
    ∗ free (F := F) c (1 - n % 2) (tabA m c) (qs (1 - n % 2)))

theorem slot_halves (c : Dev nD) : Disjoint (slotSet c 0) (slotSet c 1) ∧ slotSet c 0 ∪ slotSet c 1 = Finset.univ := by
  constructor
  · rw [Finset.disjoint_left]
    intro x h0 h1
    have h0 := (Finset.mem_filter.mp h0).2
    have h1 := (Finset.mem_filter.mp h1).2
    exact absurd (h0.symm.trans h1) (by decide)
  · apply Finset.eq_univ_of_forall
    intro x
    have hx : (x 0).val < 2 := (x 0).isLt
    rcases (by omega : (x 0).val = 0 ∨ (x 0).val = 1) with h | h
    · exact Finset.mem_union_left _ (Finset.mem_filter.mpr ⟨Finset.mem_univ _, h⟩)
    · exact Finset.mem_union_right _ (Finset.mem_filter.mpr ⟨Finset.mem_univ _, h⟩)

/-- Both slots free are the slots' buffer, its two semaphores and the word table whole. -/
theorem slots_free (c : Dev nD) (T : BufTy.Contents (Elt F) tabW.view.ty) :
    (iprop(free (F := F) c 0 T (qs 0) ∗ free (F := F) c 1 T (qs 1)) : sProp 𝕄)
      ⊣⊢ iprop((∃ f : Buf (Elt F) ((c : Thread nD τ).loc cc0_scratch0), ((c : Thread nD τ).loc cc0_scratch0) ↦{fullShare} f)
        ∗ semVal ((c : Thread nD τ), SemLoc.dma 7) 0 ∗ semVal ((c : Thread nD τ), SemLoc.dma 8) 0
        ∗ (((c : Thread nD τ).loc main_v8) ↦{fullShare} (T : Buf (Elt F) ((c : Thread nD τ).loc main_v8)))) := by
  obtain ⟨hd, hu⟩ := slot_halves c
  unfold free
  rw [gs_eq0, gs_eq1, show qs 0 = fullShare.left from rfl, show qs 1 = fullShare.right from rfl]
  constructor
  · iintro ⟨⟨HS0, ⟨%g0, H0⟩, HT0⟩, ⟨HS1, ⟨%g1, H1⟩, HT1⟩⟩
    isplitl [H0 H1]
    · iexists _
      iapply (Entails.of_eq (congrArg (fun S => (((c : Thread nD τ).loc cc0_scratch0) ↦[S]{fullShare} _ : sProp 𝕄)) hu))
      iapply (pointsTo_join hd)
      isplitl [H0]; · iexact H0
      iexact H1
    isplitl [HS0]; · iexact HS0
    isplitl [HS1]; · iexact HS1
    iapply (pointsTo_share (PosShare.mem_left_op_right fullShare)).2
    isplitl [HT0]; · iexact HT0
    iexact HT1
  · iintro ⟨⟨%f, H⟩, HS0, HS1, HT⟩
    ihave H' := (Entails.of_eq (congrArg (fun S => (((c : Thread nD τ).loc cc0_scratch0) ↦[S]{fullShare} f : sProp 𝕄)) hu.symm)) $$ H
    ihave H'' := (pointsTo_union hd).1 $$ H'
    icases H'' with ⟨H0, H1⟩
    ihave HT' := (pointsTo_share (PosShare.mem_left_op_right fullShare)).1 $$ HT
    icases HT' with ⟨HT0, HT1⟩
    isplitl [HS0 H0 HT0]
    · isplitl [HS0]; · iexact HS0
      isplitl [H0]; · iexists _; iexact H0
      iexact HT0
    isplitl [HS1]; · iexact HS1
    isplitl [H1]; · iexists _; iexact H1
    iexact HT1

theorem whole_pt (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  exact congrArg (fun S => (((c : Thread nD τ).loc b) ↦[S]{fullShare} f : sProp 𝕄)) (View.set_whole (sig := sig) b).symm

/-- The proof data of the region. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => outB m c t
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = outB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- And what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A point's coordinate is its number. -/
theorem coord0 : ∀ t : Fin cfg0.N, (grid0.coords t 0).val = t.val := by decide +kernel
/-- Every block is given all the sampled ids. -/
theorem iblk0_eq (c : Dev nD) (t : Fin cfg0.N) : (iblk m c 0 t : S5120.Idx → BitVec 32) = idA m c := by
  funext y
  show V m c main_arg0 _ = V m c main_arg0 y
  congr 1
  funext a
  apply Fin.ext
  match a with
  | 0 =>
    show (0 : ℕ) * 5120 + 1 * (y 0).val = (y 0).val
    omega

theorem slotAt_congr (c : Dev nD) (s : ℕ) (T : BufTy.Contents (Elt F) tabW.view.ty) (q : PosShare TreeShare) (W : ℕ → ℕ) {b b' : Prop} [Decidable b] [Decidable b'] (h : Iff b b') :
    slotAt (F := F) c s T q W b = slotAt (F := F) c s T q W b' := by
  unfold slotAt
  by_cases hb : b
  · rw [if_pos hb, if_pos (h.1 hb)]
  · rw [if_neg hb, if_neg (fun h' => hb (h.2 h'))]

/-- The body at a point. -/
theorem sound_body (c : Dev nD) (hX : ∀ n < 5120, wrowA (idA m c) n < 12576) (t : Fin cfg0.N) :
    bodyPre m c t ⊢ wp frame (wpE (defs₀ (F := F)) Variants.none c none) Set.univ (bodyAt0 t) (fun _ => bodyPost m c t) := by
  have ht : t.val < 20 := t.isLt
  unfold bodyPre bodyPost bodyAt0
  rw [after0_0, after0_1, after0_2, after0_3]
  simp only [before0_0, before0_1, before0_2]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi owns
  rw [slotAt_congr c (t.val % 2) (tabA m c) (qs (t.val % 2)) (Wn m c t.val) (b' := t.val ≠ 0) ⟨fun h => h.1, fun h => ⟨h, ht⟩⟩,
    slotAt_congr c ((t.val + 1) % 2) (tabA m c) (qs ((t.val + 1) % 2)) (Wn m c (t.val + 1)) (b' := t.val + 1 < 20) ⟨fun h => h.2, fun h => ⟨by omega, h⟩⟩,
    show (t.val + 1) % 2 = 1 - t.val % 2 from by omega, show 1 - (1 - t.val % 2) = t.val % 2 from by omega]
  iintro ⟨⟨⟨%f7, H7, %h7⟩, Hg, HT, HF⟩, ⟨%W, -, HW⟩,
    ⟨%d1, %X1, %h1, H1⟩, ⟨%d3, %X3, %h3, H3⟩, ⟨%d4, %X4, %h4, H4⟩, ⟨%d5, %f5, %h5, H5⟩⟩
  have h1' : ∀ n, wrow (win0_0.stage (cfg0.slots t 0)) X1 n = wrowA (idA m c) n := by
    intro n; rw [← iblk0_eq m c t, ← h1]; rfl
  have hW1 : ∀ k, (fun r => wrow (win0_0.stage (cfg0.slots t 0)) X1 (256 * k + r)) = Wn m c k := fun k => funext fun r => h1' _
  have hb := body_L (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch1) (Memref.isWhole_whole _) X1 X3 X4 (iblk m c 1 t) (X0_2 m c t) h3 h4
      (fun n hn => by rw [h1' n]; exact hX n hn)
      f5 f7 (fun h => h7 (by rwa [coord0 t] at h)) (tabA m c) (qs (t.val % 2)) (qs (1 - t.val % 2)) W
  rw [coord0 t, hW1, hW1] at hb
  iapply (wp_wand_r _ _ _)
  isplitr [Hg]
  · iapply hb
    isplitl [H1]; · iexact H1
    isplitl [H3]; · iexact H3
    isplitl [H4]; · iexact H4
    isplitl [H5]; · iexact H5
    isplitl [H7]; · iexact H7
    isplitl [HW]; · iexact HW
    isplitl [HT]; · iexact HT
    iexact HF
  iintro %_ ⟨H1, H3, H4, ⟨%g5, H5, %h5'⟩, ⟨%g7, H7, %h7'⟩, ⟨%S', HW⟩, HT, HF⟩
  isplitl [H7 Hg HT HF]
  · isplitl [H7]
    · iexists g7
      isplitl [H7]; · iexact H7
      ipureintro; exact fun _ => h7'
    isplitl [Hg]; · iexact Hg
    isplitl [HT]; · iexact HT
    iexact HF
  isplitl [HW]
  · iexists S'
    isplitr
    · ipureintro; exact fun _ _ => Or.inl trivial
    iexact HW
  isplitl [H1]
  · iexists X1
    isplitr
    · ipureintro; exact h1
    iexact H1
  isplitl [H3]
  · iexists X3
    isplitr
    · ipureintro; exact h3
    iexact H3
  isplitl [H4]
  · iexists X4
    isplitr
    · ipureintro; exact h4
    iexact H4
  iexists g5
  isplitr
  · ipureintro; exact h5'
  iexact H5

theorem defs₀_row (t : Fin cfg0.N) :
    defs₀ (F := F) .tc cfg0.body (cfg0.bodyArgs t (cfg0.slots t)) = bodyAt0 t := by
  unfold defs₀; rw [Defs.onTc_tc]

/-- The body at every point, as the region's run asks. -/
theorem body_obligation (c : Dev nD) (hX : ∀ n < 5120, wrowA (idA m c) n < 12576) : BodyObligation (dats (F := F) m 0 c) (defs₀ (F := F)) Variants.none () Set.univ := fun t => by
  rw [bigSep_W0, bigSep_W0, defs₀_row]
  exact triple_restated (sound_body m c hX t) rfl .rfl fun _ => .rfl

/-- What the launch hands over is what the body starts from. -/
theorem phi_in (c : Dev nD) : Pipeline.ΦD osem0 spec0 H0 (V m) c ⊢ Phi m c 0 := by
  rw [Pipeline.ΦD_eq, scopedRest0_eq, ownSems00_eq, hbmPts0_eq]
  unfold Phi slotAt
  rw [if_neg (by decide)]
  iintro ⟨⟨H0, ⟨%f1, H1⟩⟩, Hg, ⟨S7, S8⟩, HT⟩
  isplitl [H1]
  · iexists f1
    isplitl [H1]; · iapply (Entails.of_eq (whole_pt c cc0_scratch1 f1)); iexact H1
    ipureintro; exact fun h => absurd rfl h
  isplitl [Hg]; · iexact Hg
  iapply (slots_free c (tabA m c)).2
  isplitl [H0]; · iexact H0
  isplitl [S7]; · iexact S7
  isplitl [S8]; · iexact S8
  iexact HT

/-- What the body ends with is what the launch takes back. -/
theorem phi_out (c : Dev nD) : Phi m c 20 ⊢ Pipeline.ΦD osem0 spec0 H0 (V m) c := by
  rw [Pipeline.ΦD_eq, scopedRest0_eq, ownSems00_eq, hbmPts0_eq]
  unfold Phi slotAt
  rw [if_neg (by decide)]
  iintro ⟨⟨%f1, H1, -⟩, Hg, HT, HF⟩
  ihave HS := (slots_free c (tabA m c)).1 $$ [HT HF]
  · isplitl [HT]; · iexact HT
    iexact HF
  icases HS with ⟨H0, S7, S8, HT⟩
  isplitl [H0 H1]
  · isplitl [H0]; · iexact H0
    iexists f1; iapply (Entails.of_eq (whole_pt c cc0_scratch1 f1).symm); iexact H1
  isplitl [Hg]; · iexact Hg
  isplitl [S7 S8]
  · isplitl [S7]; · iexact S7
    iexact S8
  iexact HT

set_option backward.isDefEq.respectTransparency.types false in
/-- The region's run, the semaphores back at zero. -/
theorem run_main (hX : ∀ c, ∀ n < 5120, wrowA (idA m c) n < 12576) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (hX c)).loose) (hshare := fun c => (dats m 0 c).share_full fun _ => rfl)
    (howed := fun _ _ => rfl) (V := V m)
    (hmain := hmain m Variants.none) (hA := A_eq m) (hin := phi_in m) (hout := phi_out m)

/-- The program runs, its arguments end unchanged and the semaphores at zero. -/
theorem frame_run (hX : ∀ c, ∀ n < 5120, wrowA (idA m c) n < 12576) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  frame_of m ρ (dats m) (A_eq m) (run_main m ρ hX)

end Cert.SampledRowsIdeal.Hand
end
-- ==== Proof.SwSpec.lean ====
/- What the gathered rows are, written out over plain arrays, and what the precondition on the sampled ids says. Both the kernel
   and the reference are shown to end with these rows. -/
module

public import proofs.«01_k».proof.Pre_ids_ok
public import Idealize.ShloMosaic.Lib.ReduceAll
public import Idealize.ShloMosaic.Lib.Pointwise
public import Idealize.ShloMosaic.PureOps.Float

@[expose] public section

set_option maxRecDepth 16384
set_option maxHeartbeats 1000000

noncomputable section

namespace Cert.SwSpec

open Idealize.ShloMosaic

/-- The table's row a sampled id names. -/
def row (ids : (⟨1, ![5120]⟩ : Shape).Idx → BitVec 32) (n : Fin 5120) : Fin 50304 :=
  ⟨(ids (ix1 n)).toNat % 50304, Nat.mod_lt _ (by decide)⟩

/-- A sampled id's dequantised weights: each code times its group's scale. -/
def w (ids : (⟨1, ![5120]⟩ : Shape).Idx → BitVec 32) (tab : (⟨2, ![50304, 2560]⟩ : Shape).Idx → BitVec 8)
    (sc : (⟨2, ![88, 11264]⟩ : Shape).Idx → EReal) (n : Fin 5120) (d : Fin 2560) : EReal :=
  (((tab (ix2 (row ids n) d)).toInt : ℝ) : EReal) * sc (ix2 ⟨d.val / 32, by omega⟩ ⟨n.val, by omega⟩)

/-- Every sampled id is a row of the table. -/
def Ok (ids : (⟨1, ![5120]⟩ : Shape).Idx → BitVec 32) : Prop :=
  ∀ n : Fin 5120, 0 ≤ (ids (ix1 n)).toInt ∧ (ids (ix1 n)).toInt < 50304

/-- A sampled id that is a row is below the number of rows as a natural number too. -/
theorem lt_of_ok {ids : (⟨1, ![5120]⟩ : Shape).Idx → BitVec 32} (h : Ok ids) (n : Fin 5120) : (ids (ix1 n)).toNat < 50304 := by
  obtain ⟨h0, h1⟩ := h n
  rw [BitVec.toInt_eq_toNat_cond] at h0 h1
  split at h0 <;> split at h1 <;> omega

/-- The row it names is its own number. -/
theorem row_val {ids : (⟨1, ![5120]⟩ : Shape).Idx → BitVec 32} (h : Ok ids) (n : Fin 5120) : (row ids n).val = (ids (ix1 n)).toNat :=
  Nat.mod_eq_of_lt (lt_of_ok h n)

/-- The shape conditions the precondition's operations take. -/
theorem facts : Cert.Pre_ids_ok.Facts := by constructor <;> decide

open Cert.Pre_ids_ok in
/-- Where the precondition holds, every sampled id is a row of the table. -/
theorem ids {F : FTy → Type} [FloatOps F] [Facts] (a0 : IVec S5120 32) (a1 : IVec S50304x2560 8) (a2 : FVec F S88x11264 .f32)
    (h : Cert.Pre_ids_ok.fn a0 a1 a2 = fun _ => 1#1) : Ok a0 := fun n => by
  have h0 := congrFun h ix0
  unfold fn at h0
  have := Host.reduce_andi_all _ _ _ _ _ h0 (ix1 n)
  obtain ⟨e1, e2⟩ := IntOp.andi_eq_one.1 this
  exact ⟨IntOp.cmpi_sge.1 e1, IntOp.cmpi_slt.1 e2⟩

end Cert.SwSpec

end
-- ==== Proof.SiOut.lean ====
/- The gathering kernel's whole run over the extended reals: the output array ends with the sampled ids' dequantised rows. -/
module

public import proofs.«01_k».proof.Proof.SiFrame
public import proofs.«01_k».proof.Proof.SwSpec
public import proofs.«01_k».proof.Proof.LiOut
public import Idealize.ShloMosaic.Lib.StableHlo.ReadAt
public import Idealize.ShloMosaic.Lib.BitcastConvert
public import Idealize.ShloMosaic.Lib.Pointwise
public import Idealize.ShloMosaic.Lib.Tactic.WordOmega
public import Idealize.ShloMosaic.Lib.Pipeline.ValueKit.Geometry

@[expose] public section

set_option maxRecDepth 16384
set_option maxHeartbeats 4000000

noncomputable section

namespace Cert.SampledRowsIdeal.Out

open Idealize.ShloMosaic Idealize.ShloMosaic.TcCoe Idealize.SL.Sem
open Cert.SampledRowsIdeal Cert.SampledRowsIdeal.Gen Cert.SampledRowsIdeal.Hand
open Cert.LogitGradsIdeal.Pay (div32 eq80 select_eq)
open Cert.LogitGradsIdeal.HostV (words_bit shr2 shift_word)

/-! ## The body's values at an index -/

/-- The expansion matrix: one where the column is in the group. -/
theorem pay1_apply (k : Fin 80) (d : Fin 2560) :
    k0_pay1 (F := Ideal) (ix2 k d) = if d.val / 32 = k.val then (1 : EReal) else 0 := by
  pointwise [k0_pay1]
  rw [div32, select_eq]
  have h := eq80 ⟨d.val / 32, by omega⟩ k
  exact if_congr h rfl rfl

/-- The dequantised row: the byte shifted out of its word, times its group's scale. -/
theorem pay2_apply (wd : Vec Ideal S1x256x2560 .i32) (sh : Vec Ideal S256x1 .i32) (s : Vec Ideal S80x256 .f32) (e : Vec Ideal S80x2560 .bf16) (r : Fin 256) (d : Fin 2560) :
    k0_pay2 wd sh s e (ix2 r d) = (((IntOp.shrsi ArithUnit.vector (IntOp.shli ArithUnit.vector (wd (ix3 0 r d)) (sh (ix2 r 0))) 24#32).toInt : ℝ) : EReal)
      * ∑ k : Fin 80, s (ix2 k r) * e (ix2 k d) := by
  pointwise [k0_pay2]
  rfl

/-- A column of group scales times the expansion matrix is the column's group's scale. -/
theorem spread (s : Vec Ideal S80x256 .f32) (r : Fin 256) (d : Fin 2560) (hd : d.val / 32 < 80) :
    ∑ k : Fin 80, s (ix2 k r) * k0_pay1 (F := Ideal) (ix2 k d) = s (ix2 ⟨d.val / 32, hd⟩ r) := by
  rw [Finset.sum_eq_single (⟨d.val / 32, hd⟩ : Fin 80)]
  · rw [pay1_apply, if_pos rfl]
    exact mul_one _
  · intro k _ hne
    rw [pay1_apply, if_neg fun e => hne (Fin.ext e.symm)]
    exact mul_zero _
  · intro hne; exact absurd (Finset.mem_univ _) hne

/-! ## What the lines before the region hand to the kernel -/

variable (m : (ℓ : Loc nD τ sig) → Buf (Elt Ideal) ℓ)

/-- The sampled ids of one core. -/
abbrev ids (c : Dev nD) : IVec S5120 32 := m (c.tc.loc main_arg0)
/-- The table of one core. -/
abbrev tab (c : Dev nD) : IVec S50304x2560 8 := m (c.tc.loc main_arg1)
/-- The scales of one core. -/
abbrev sc (c : Dev nD) : FVec Ideal S88x11264 .f32 := m (c.tc.loc main_arg2)

/-- The column of byte shifts. -/
theorem v9_at (c : Dev nD) (n : Fin 5120) :
    (V m c main_v9 : IVec S5120x1 32) (ix2 n 0) = (24#32 : BitVec 32) - 8#32 * (ids m c (ix1 n) &&& 3#32) := by
  unfold V
  after_reads_at
  rfl

/-- The table's words, bit by bit. -/
theorem v8_bit (c : Dev nD) (a : Fin 12576) (d : Fin 2560) (q : ℕ) (hq : q < 32) :
    ((V m c main_v8 : IVec S12576x2560 32) (ix2 a d)).getLsbD q
      = (tab m c (ix2 ⟨4 * a.val + q / 8, by omega⟩ d)).getLsbD (q % 8) := by
  have e := words_bit (tab m c) (by decide) (by decide) (by decide) a d q hq
  refine Eq.trans ?_ e
  congr 1

/-! ## The blocks -/

/-- The sampled id's place: row `r` of block `t`. -/
def tk (t : Fin cfg0.N) (r : Fin 256) : Fin 5120 := ⟨256 * t.val + r.val, by have : t.val < 20 := t.isLt; omega⟩

/-- The block of shifts. -/
theorem blk_sh (c : Dev nD) (t : Fin cfg0.N) (r : Fin 256) :
    (iblk m c 1 t : Vec Ideal S256x1 .i32) (ix2 r 0) = (V m c main_v9 : IVec S5120x1 32) (ix2 (tk t r) 0) := by
  unfold iblk
  rw [View.read_apply]
  show V m c main_v9 _ = V m c main_v9 _
  congr 1
  have hi : win0_1.index t 0 = t.val ∧ win0_1.index t 1 = 0 :=
    (by decide +kernel : ∀ t : Fin grid0.N, win0_1.index t 0 = t.val ∧ win0_1.index t 1 = 0) t
  funext a; apply Fin.ext
  match a with
  | ⟨0, _⟩ => show win0_1.index t 0 * 256 + 1 * r.val = 256 * t.val + r.val; rw [hi.1]; omega
  | ⟨1, _⟩ => show win0_1.index t 1 * 1 + 1 * 0 = 0; rw [hi.2]

/-- The block of group scales. -/
theorem blk_sc (c : Dev nD) (t : Fin cfg0.N) (k : Fin 80) (r : Fin 256) :
    (X0_2 m c t : Vec Ideal S80x256 .f32) (ix2 k r) = sc m c (ix2 ⟨k.val, by omega⟩ ⟨(tk t r).val, by omega⟩) := by
  unfold X0_2 Pipeline.Window.fill
  rw [dif_pos (moved0_2 t (ix2 k r))]
  unfold iblk
  rw [View.read_apply]
  show V m c main_arg2 _ = (m (c.tc.loc main_arg2) : FVec Ideal S88x11264 .f32) _
  rw [V_main_arg2]
  congr 1
  have hi : win0_2.index t 0 = 0 ∧ win0_2.index t 1 = t.val :=
    (by decide +kernel : ∀ t : Fin grid0.N, win0_2.index t 0 = 0 ∧ win0_2.index t 1 = t.val) t
  funext a; apply Fin.ext
  match a with
  | ⟨0, _⟩ => show win0_2.index t 0 * 80 + 1 * k.val = k.val; rw [hi.1]; omega
  | ⟨1, _⟩ => show win0_2.index t 1 * 256 + 1 * r.val = 256 * t.val + r.val; rw [hi.2]; omega

/-- A sampled id's word row is one of the table's. -/
theorem word_row {ids : S5120.Idx → BitVec 32} (h : SwSpec.Ok ids) (n : ℕ) (hn : n < 5120) :
    wrowA ids n = (ids (ix1 ⟨n, hn⟩)).toNat / 4 ∧ wrowA ids n < 12576 := by
  have e : wrowA ids n = (ids (ix1 ⟨n, hn⟩)).toNat / 4 := by
    have ei : (fun | 0 => (⟨n % 5120, Nat.mod_lt _ (by decide)⟩ : Fin 5120) : S5120.Idx) = ix1 ⟨n, hn⟩ := by
      funext a
      match a with
      | 0 => exact Fin.ext (Nat.mod_eq_of_lt hn)
    refine Eq.trans (congrArg (fun i => (Scalar.shrsi (ids i) 2#32).toNat) ei) ?_
    exact shr2 _ (h _).1
  refine ⟨e, ?_⟩
  have := SwSpec.lt_of_ok h ⟨n, hn⟩
  rw [e]
  omega

/-- What a block leaves is its sampled ids' dequantised rows. -/
theorem blk_out (c : Dev nD) (t : Fin cfg0.N) (hA : SwSpec.Ok (ids m c)) (r : Fin 256) (d : Fin 2560) :
    outB m c t (ix2 r d) = SwSpec.w (ids m c) (tab m c) (sc m c) (tk t r) d := by
  have hg : idA m c = ids m c := V_main_arg0 m c
  have hd : d.val / 32 < 80 := by omega
  unfold outB
  rw [pay2_apply, spread _ r d hd, blk_sc, blk_sh, v9_at, shift_word]
  have hlt : 256 * t.val + r.val < 5120 := (tk t r).isLt
  obtain ⟨e, hw⟩ := word_row hA (256 * t.val + r.val) hlt
  have hr := SwSpec.row_val hA (tk t r)
  have hw' : (ids m c (ix1 (tk t r))).toNat / 4 < 12576 := lt_of_eq_of_lt e.symm hw
  have ew : wordsV (tabA m c) (Wn m c t.val) (ix3 0 r d) = (V m c main_v8 : IVec S12576x2560 32) (ix2 ⟨(ids m c (ix1 (tk t r))).toNat / 4, hw'⟩ d) := by
    show (V m c main_v8 : IVec S12576x2560 32) (tix (wrowA (idA m c) (256 * t.val + r.val)) d) = _
    rw [hg]
    congr 1
    funext a
    match a with
    | 0 => exact Fin.ext ((congrArg (· % 12576) e).trans (Nat.mod_eq_of_lt hw'))
    | 1 => rfl
  rw [ew]
  have hq := LgWord.word_byte_toInt ((V m c main_v8 : IVec S12576x2560 32) (ix2 ⟨(ids m c (ix1 (tk t r))).toNat / 4, hw'⟩ d))
    (fun p => tab m c (ix2 ⟨4 * ((ids m c (ix1 (tk t r))).toNat / 4) + p.val, by omega⟩ d)) (fun q hq => v8_bit m c _ d q hq)
    ⟨(ids m c (ix1 (tk t r))).toNat % 4, Nat.mod_lt _ (by decide)⟩
  unfold SwSpec.w
  refine congrArg₂ (fun (a : ℤ) (b : EReal) => ((a : ℝ) : EReal) * b) (hq.trans ?_) rfl
  refine congrArg (fun k => (tab m c (ix2 k d)).toInt) ?_
  apply Fin.ext
  rw [hr]
  dsimp only
  omega

/-! ## The whole array, the whole run -/

/-- What the output array ends with. -/
def outArr (ids : IVec S5120 32) (tab : IVec S50304x2560 8) (sc : FVec Ideal S88x11264 .f32) : FVec Ideal S5120x2560 .bf16 :=
  fun i => SwSpec.w ids tab sc (i 0) (i 1)

/-- The output array ends with the dequantised rows. -/
theorem final3 (c : Dev nD) (hA : SwSpec.Ok (ids m c)) : (dats m 0 c).arrAt 3 cfg0.N = outArr (ids m c) (tab m c) (sc m c) := by
  refine (dats m 0 c).arrAt_eq_of_covers 3 _ (by decide +kernel) fun t hf y => ?_
  rw [after0_3 m c t]
  have h0 : (y 0).val < 256 := (y 0).isLt
  have h1 : (y 1).val < 2560 := (y 1).isLt
  have hi : win0_3.index t 0 = t.val ∧ win0_3.index t 1 = 0 :=
    (by decide +kernel : ∀ t : Fin grid0.N, win0_3.index t 0 = t.val ∧ win0_3.index t 1 = 0) t
  refine Eq.trans ?_ ((blk_out m c t hA ⟨(y 0).val, h0⟩ ⟨(y 1).val, h1⟩).trans ?_)
  · refine congrArg (outB m c t) ?_
    funext a; apply Fin.ext
    match a with
    | ⟨0, _⟩ => rfl
    | ⟨1, _⟩ => rfl
  · show outArr (ids m c) (tab m c) (sc m c) (ix2 (tk t ⟨(y 0).val, h0⟩) ⟨(y 1).val, h1⟩) = outArr (ids m c) (tab m c) (sc m c) _
    congr 1
    funext a; apply Fin.ext
    match a with
    | ⟨0, _⟩ => show 256 * t.val + (y 0).val = win0_3.index t 0 * 256 + 1 * (y 0).val; rw [hi.1]; omega
    | ⟨1, _⟩ => show (y 1).val = win0_3.index t 1 * 2560 + 1 * (y 1).val; rw [hi.2]; omega

/-- The whole run: where every sampled id is a row of the table, the result is the sampled ids' dequantised rows, and the
    arguments are kept. -/
theorem run (ρ : Dev nD → PrngReg) (hA : ∀ c, SwSpec.Ok (ids m c)) :
    θ_run defs (onTc (τ := τ) (main (F := Ideal))) ⟨m, fun _ => 0, ρ⟩ fun r => ∀ c : Dev nD,
      r.2.mem (c.tc.loc main_v10) = outArr (ids m c) (tab m c) (sc m c)
        ∧ r.2.mem (c.tc.loc main_arg0) = m (c.tc.loc main_arg0) ∧ r.2.mem (c.tc.loc main_arg1) = m (c.tc.loc main_arg1)
        ∧ r.2.mem (c.tc.loc main_arg2) = m (c.tc.loc main_arg2) := by
  have hX : ∀ c, ∀ n < 5120, wrowA (idA m c) n < 12576 := fun c n hn => by
    rw [show idA m c = ids m c from V_main_arg0 m c]
    exact (word_row (hA c) n hn).2
  refine (θ_run defs _ _).mono (fun r h c => ?_) (run_main m ρ hX)
  obtain ⟨ho, hr⟩ := h.1 c
  exact ⟨(ho 3).trans (final3 m c (hA c)),
    (ho 0).trans (((dats m 0 c).arrAt_in 0 rfl _).trans ((A_eq m c 0).trans (V_main_arg0 m c))),
    (hr main_arg1 (by decide)).trans (V_main_arg1 m c),
    (ho 2).trans (((dats m 0 c).arrAt_in 2 rfl _).trans ((A_eq m c 2).trans (V_main_arg2 m c)))⟩

end Cert.SampledRowsIdeal.Out

end
-- ==== Proof.SwRefVal.lean ====
/- The reference of the gathered rows over the extended reals, read at an index. -/
module

public import proofs.«01_k».proof.Proof.Gen.SampledRowsRefIdeal.Run
public import proofs.«01_k».proof.Proof.SwSpec
public import Idealize.ShloMosaic.Lib.Pointwise
public import Idealize.ShloMosaic.Lib.Routing.Ops
public import Idealize.ShloMosaic.Lib.Routing.OpsPair

@[expose] public section

set_option maxRecDepth 16384
set_option maxHeartbeats 4000000

noncomputable section

namespace Cert.SampledRowsRefIdeal.Val

open Idealize.ShloMosaic
open Cert.SampledRowsRefIdeal Cert.SampledRowsRefIdeal.Gen

variable (ids : IVec S5120 32) (tab : IVec S50304x2560 8) (sc : FVec Ideal S88x11264 .f32)

/-- The sampled ids' row numbers. -/
def idx : IVec S5120x1 32 :=
  broadcastInDim S5120x1 ![0] bcast_S5120_S5120x1_0 (select (cmpi .slt ids (broadcastInDim S5120 ![] bcast_S_S5120 (constantI S_ 32 0#32))) (addi ids (broadcastInDim S5120 ![] bcast_S_S5120 (constantI S_ 32 50304#32))) ids)

/-- The sampled ids' rows of bytes. -/
def rows : IVec S5120x2560 8 := Host.gather gather_S50304x2560_S5120x1_S5120x2560_1_0_n_n_0_1_12560 tab (idx ids)

/-- The dequantised rows from their bytes. -/
def wOf (b : IVec S5120x2560 8) : FVec Ideal S5120x2560 .bf16 :=
  shapeCast _ (mulf (shapeCast _ (truncf .bf16 (sitofp .f32 (extsi 32 b natLt_8_32) : FVec Ideal S5120x2560 .f32) bitsLt_bf16_f32) shapeCasts_S5120x2560_S5120x80x32) (broadcastInDim S5120x80x32 ![0, 1, 2] bcast_S5120x80x1_S5120x80x32_0_1_2 (broadcastInDim S5120x80x1 ![0, 1] bcast_S5120x80_S5120x80x1_0_1 (truncf .bf16 (transpose S5120x80 [1, 0] (extractStridedSlice S80x5120 ![0, 0] sc slices_S88x11264_S80x5120_0_0) transposes_S80x5120_S5120x80_1_0) bitsLt_bf16_f32)))) shapeCasts_S5120x80x32_S5120x2560

variable {ids tab sc}

/-- The gathered row of a sampled id is the row it names. -/
theorem rows_apply (hA : SwSpec.Ok ids) (n : Fin 5120) (d : Fin 2560) : rows ids tab (ix2 n d) = tab (ix2 (SwSpec.row ids n) d) := by
  have hv : (SwSpec.row ids n).val = (ids (ix1 n)).toNat := SwSpec.row_val hA n
  have hlt : (ids (ix1 n)).toNat < 50304 := SwSpec.lt_of_ok hA n
  refine Routing.gather_row gather_S50304x2560_S5120x1_S5120x2560_1_0_n_n_0_1_12560 rfl rfl rfl rfl rfl tab (idx ids) n d (SwSpec.row ids n) ?_ (by decide)
  have e : idx ids (ix2 n 0) = Scalar.select (IntOp.cmpi .slt (ids (ix1 n)) 0#32) (ids (ix1 n) + 50304#32) (ids (ix1 n)) := by
    pointwise [idx]
    rfl
  refine e.trans ?_
  rw [Routing.wrap_of_lt _ _ (by omega), hv, BitVec.ofNat_toNat, BitVec.setWidth_eq]

/-- A dequantised element is its code times its group's scale. -/
theorem wOf_apply (b : IVec S5120x2560 8) (n : Fin 5120) (d : Fin 2560) :
    wOf sc b (ix2 n d) = (((b (ix2 n d)).toInt : ℝ) : EReal) * sc (ix2 ⟨d.val / 32, by omega⟩ ⟨n.val, by omega⟩) := by
  pointwise [wOf]
  refine congrArg (fun v => v * sc _) ?_
  show (((BitVec.signExtend 32 (b (ix2 n d))).toInt : ℝ) : EReal) = _
  rw [BitVec.toInt_signExtend_of_le (by decide)]

/-- The reference's result at an index. -/
theorem out_apply (hA : SwSpec.Ok ids) (n : Fin 5120) (d : Fin 2560) :
    wOf sc (rows ids tab) (ix2 n d) = SwSpec.w ids tab sc n d := by
  rw [wOf_apply, rows_apply hA]
  rfl

end Cert.SampledRowsRefIdeal.Val

end
-- ==== Proof.lean ====
module

public import proofs.«01_k».proof.Proof.Gen.SampledRows.Skeleton
public import proofs.«01_k».proof.Proof.Gen.SampledRows.Loops
public import proofs.«01_k».proof.Proof.Gen.SampledRows.Frame
public import proofs.«01_k».proof.Proof.Gen.SampledRowsIdeal.Skeleton
public import proofs.«01_k».proof.Proof.Gen.SampledRowsIdeal.Loops
public import proofs.«01_k».proof.Proof.Gen.SampledRowsIdeal.Frame
public import proofs.«01_k».proof.Proof.Gen.SampledRowsRefIdeal.Run
public import proofs.«01_k».proof.Proof.Gen.LogitGrads.Skeleton
public import proofs.«01_k».proof.Proof.Gen.LogitGrads.Loops
public import proofs.«01_k».proof.Proof.Gen.LogitGradsIdeal.Skeleton
public import proofs.«01_k».proof.Proof.Gen.LogitGradsIdeal.Loops
public import proofs.«01_k».proof.Proof.Gen.LogitGradsRefIdeal.Run
public import proofs.«01_k».proof.Proof.Gen.LogitGrads.Frame
public import proofs.«01_k».proof.Proof.Gen.LogitGradsIdeal.Frame
public import proofs.«01_k».proof.Defs
public import proofs.«01_k».proof.Proof.Gen.SampledDw
public import proofs.«01_k».proof.Proof.Gen.SampledDw.Skeleton
public import proofs.«01_k».proof.Proof.Gen.SampledDw.Loops
public import proofs.«01_k».proof.Proof.Gen.SampledDw.Launch
public import proofs.«01_k».proof.Proof.Gen.SampledDw.Points
public import proofs.«01_k».proof.Proof.Gen.SampledDw.Frame
public import proofs.«01_k».proof.Proof.Gen.SampledDwIdeal
public import proofs.«01_k».proof.Proof.Gen.SampledDwIdeal.Skeleton
public import proofs.«01_k».proof.Proof.Gen.SampledDwIdeal.Loops
public import proofs.«01_k».proof.Proof.Gen.SampledDwIdeal.Launch
public import proofs.«01_k».proof.Proof.Gen.SampledDwIdeal.Points
public import proofs.«01_k».proof.Proof.Gen.SampledDwIdeal.Frame
public import proofs.«01_k».proof.Proof.Gen.SampledDwRefIdeal
public import proofs.«01_k».proof.Proof.Gen.SampledDwIdeal.Value
public import proofs.«01_k».proof.Proof.Gen.SampledDwRefIdeal.Run
public import proofs.«01_k».proof.Proof.DwSum
public import proofs.«01_k».proof.Proof.LgFrame
public import proofs.«01_k».proof.Proof.LiOut
public import proofs.«01_k».proof.Proof.LgRefVal
public import proofs.«01_k».proof.Proof.LgPre
public import proofs.«01_k».proof.Proof.SiOut
public import proofs.«01_k».proof.Proof.SwRefVal
public import Idealize.ShloMosaic.Lib.Claim
public import Idealize.ShloMosaic.Adequacy
public import Idealize.ShloMosaic.Init

@[expose] public section

noncomputable section

namespace Cert.Proof

open Idealize.ShloMosaic Idealize.SL.Sem

/-- The kernel and the reference leave the same gradient: both end holding the sum over all tokens of `dz[t, n] * x[t, d]`. -/
theorem value_SampledDw : Cert.algebraic_SampledDwIdeal_SampledDwRefIdeal := by
  intro m ρ m' ρ' _ hagree
  refine ⟨fun c => Cert.SampledDwIdeal.Sum.grad m c, ?_, ?_⟩
  · exact (θ_run Cert.SampledDwIdeal.defs _ _).mono
      (fun _ h c => ⟨(h c).1.trans (Cert.SampledDwIdeal.Sum.final m c), (h c).2.1, (h c).2.2⟩)
      (Cert.SampledDwIdeal.Value.run_blocks m ρ)
  · refine (θ_run Cert.SampledDwRefIdeal.defs _ _).mono
      (fun _ h c => ⟨(h c).1.trans ?_, (h c).2.1, (h c).2.2⟩)
      (Cert.SampledDwRefIdeal.Value.run m' ρ')
    rw [(hagree c).1, (hagree c).2]
    rfl

/-- The reference runs, keeps its arguments, and has no semaphore to leave non-zero. -/
theorem frame_SampledDwRef : Cert.quiescent_SampledDwRefIdeal := fun m ρ _ =>
  (θ_run Cert.SampledDwRefIdeal.defs _ _).mono (fun r h => ⟨fun c => (h c).2,
      Idealize.ShloMosaic.sem_eq_zero_of_no_sems (by decide) r.2⟩)
    (Cert.SampledDwRefIdeal.Value.run m ρ)

/-- The reference's four results, as the arguments' gradients and losses. -/
theorem ref_results (m : (ℓ : Loc Cert.LogitGradsRefIdeal.nD Cert.LogitGradsRefIdeal.τ Cert.LogitGradsRefIdeal.sig) → Buf (Elt Ideal) ℓ)
    (c : Dev Cert.LogitGradsRefIdeal.nD) (tgt : IVec Cert.LogitGradsIdeal.S6144 32) (tab : IVec Cert.LogitGradsIdeal.S50304x2560 8)
    (ws : FVec Ideal Cert.LogitGradsIdeal.S5120x2560 .bf16) (x : FVec Ideal Cert.LogitGradsIdeal.S6144x2560 .bf16)
    (sc : FVec Ideal Cert.LogitGradsIdeal.S88x11264 .f32) (g : FVec Ideal Cert.LogitGradsIdeal.S6144 .f32) (sid : IVec Cert.LogitGradsIdeal.S5120 32)
    (e0 : m (c.tc.loc Cert.LogitGradsRefIdeal.main_arg0) = tgt) (e1 : m (c.tc.loc Cert.LogitGradsRefIdeal.main_arg1) = tab)
    (e2 : m (c.tc.loc Cert.LogitGradsRefIdeal.main_arg2) = ws) (e3 : m (c.tc.loc Cert.LogitGradsRefIdeal.main_arg3) = x)
    (e4 : m (c.tc.loc Cert.LogitGradsRefIdeal.main_arg4) = sc) (e5 : m (c.tc.loc Cert.LogitGradsRefIdeal.main_arg5) = g)
    (e6 : m (c.tc.loc Cert.LogitGradsRefIdeal.main_arg6) = sid) (hA : (LgSpec.ofArgs tgt tab ws x sc g sid).Ok) :
    Cert.LogitGradsRefIdeal.Value.res_out0 m c = Cert.LogitGradsIdeal.HostV.dhArr (LgSpec.ofArgs tgt tab ws x sc g sid)
    ∧ Cert.LogitGradsRefIdeal.Value.res_out1 m c = Cert.LogitGradsIdeal.HostV.dzArr (LgSpec.ofArgs tgt tab ws x sc g sid)
    ∧ Cert.LogitGradsRefIdeal.Value.res_out2 m c = (fun i => (LgSpec.ofArgs tgt tab ws x sc g sid).loss (i 0) : FVec Ideal Cert.LogitGradsIdeal.S6144 .f32)
    ∧ Cert.LogitGradsRefIdeal.Value.res_out3 m c = (fun i => (LgSpec.ofArgs tgt tab ws x sc g sid).dzt (i 0) : FVec Ideal Cert.LogitGradsIdeal.S6144 .f32) := by
  subst e0 e1 e2 e3 e4 e5 e6
  refine ⟨?_, ?_, ?_, ?_⟩
  · rw [Cert.LogitGradsRefIdeal.Val.res0]
    funext i
    rw [eq_ix2 i]
    exact Cert.LogitGradsRefIdeal.Val.dh_eq hA (i 0) (i 1)
  · rw [Cert.LogitGradsRefIdeal.Val.res1]
    funext i
    rw [eq_ix2 i]
    exact Cert.LogitGradsRefIdeal.Val.dz_eq hA (i 0) (i 1)
  · rw [Cert.LogitGradsRefIdeal.Val.res2]
    funext i
    rw [eq_ix1 i]
    exact Cert.LogitGradsRefIdeal.Val.loss_eq hA (i 0)
  · rw [Cert.LogitGradsRefIdeal.Val.res3]
    funext i
    rw [eq_ix1 i]
    exact Cert.LogitGradsRefIdeal.Val.dzt_eq hA (i 0)

/-- The kernel and the reference leave the same four results: the two gradients, the losses and the targets' gradients. -/
theorem value_LogitGrads : Cert.algebraic_LogitGradsIdeal_LogitGradsRefIdeal_pre_inputs_ok (hPre_inputs_ok := Cert.LgPre.factsI) := by
  intro m ρ m' ρ' hpre hagree
  have hA : ∀ c, (Cert.LogitGradsIdeal.HostV.argA m c).Ok := fun c => @Cert.LgPre.inputs Cert.LgPre.factsI _ _ _ _ _ _ _ (hpre c)
  refine ⟨fun c => Cert.LogitGradsIdeal.HostV.dhArr (Cert.LogitGradsIdeal.HostV.argA m c), fun c => Cert.LogitGradsIdeal.HostV.dzArr (Cert.LogitGradsIdeal.HostV.argA m c),
    fun c => (fun i => (Cert.LogitGradsIdeal.HostV.argA m c).loss (i 0) : FVec Ideal Cert.LogitGradsIdeal.S6144 .f32),
    fun c => (fun i => (Cert.LogitGradsIdeal.HostV.argA m c).dzt (i 0) : FVec Ideal Cert.LogitGradsIdeal.S6144 .f32),
    Cert.LogitGradsIdeal.HostV.run m ρ hA, ?_⟩
  refine (θ_run Cert.LogitGradsRefIdeal.defs _ _).mono (fun _ h c => ?_) (Cert.LogitGradsRefIdeal.Value.run m' ρ')
  obtain ⟨a0, a1, a2, a3, a4, a5, a6⟩ := hagree c
  obtain ⟨r0, r1, r2, r3⟩ := ref_results m' c _ _ _ _ _ _ _ a0 a1 a2 a3 a4 a5 a6 (hA c)
  exact ⟨(h c).1.trans r0, (h c).2.1.trans r1, (h c).2.2.1.trans r2, (h c).2.2.2.1.trans r3, (h c).2.2.2.2⟩

/-- The kernel runs and keeps its arguments where every target is a row of the table. -/
theorem frame_LogitGrads : Cert.quiescent_LogitGrads (hPre_targets_ok := Cert.LgPre.factsT) := fun m ρ hpre =>
  Cert.LogitGrads.Hand.frame_run m ρ fun c n hn => by
    rw [show Cert.LogitGrads.Hand.tgA m c = m (c.tc.loc Cert.LogitGrads.main_arg0) from Cert.LogitGrads.Gen.V_main_arg0 m c]
    exact (Cert.LogitGradsIdeal.HostV.word_row (@Cert.LgPre.targets _ _ Cert.LgPre.factsT _ _ _ _ _ _ _ (hpre c)) n hn).2

/-- The idealized kernel does too. -/
theorem frame_LogitGradsIdeal : Cert.quiescent_LogitGradsIdeal (hPre_targets_ok := Cert.LgPre.factsT) := fun m ρ hpre =>
  Cert.LogitGradsIdeal.Hand.frame_run m ρ fun c n hn => by
    rw [show Cert.LogitGradsIdeal.Hand.tgA m c = m (c.tc.loc Cert.LogitGradsIdeal.main_arg0) from Cert.LogitGradsIdeal.Gen.V_main_arg0 m c]
    exact (Cert.LogitGradsIdeal.HostV.word_row (@Cert.LgPre.targets _ _ Cert.LgPre.factsT _ _ _ _ _ _ _ (hpre c)) n hn).2

/-- And where the inputs are as the value claim asks. -/
theorem frame_LogitGradsIdeal_inputs : Cert.quiescent_LogitGradsIdeal_pre_inputs_ok (hPre_inputs_ok := Cert.LgPre.factsI) := fun m ρ hpre =>
  Cert.LogitGradsIdeal.Hand.frame_run m ρ fun c n hn => by
    rw [show Cert.LogitGradsIdeal.Hand.tgA m c = m (c.tc.loc Cert.LogitGradsIdeal.main_arg0) from Cert.LogitGradsIdeal.Gen.V_main_arg0 m c]
    exact (Cert.LogitGradsIdeal.HostV.word_row (@Cert.LgPre.inputs Cert.LgPre.factsI _ _ _ _ _ _ _ (hpre c)).tgt n hn).2

/-- The reference runs, keeps its arguments, and has no semaphore to leave non-zero. -/
theorem frame_LogitGradsRef : Cert.quiescent_LogitGradsRefIdeal := fun m ρ _ =>
  (θ_run Cert.LogitGradsRefIdeal.defs _ _).mono (fun r h => ⟨fun c => (h c).2.2.2.2,
      Idealize.ShloMosaic.sem_eq_zero_of_no_sems (by decide) r.2⟩)
    (Cert.LogitGradsRefIdeal.Value.run m ρ)

/-- The gathering kernel and its idealized reading are one program over any floats: the body table here, -/
theorem rows_body_eq {F : FTy → Type} [FloatOps F] : (Cert.SampledRows.defs₀ (F := F)) = (Cert.SampledRowsIdeal.defs₀ (F := F)) := by
  unfold Cert.SampledRows.defs₀ Cert.SampledRowsIdeal.defs₀
  refine congrArg Defs.onTc (funext fun l => funext fun x => ?_)
  match l, x with
  | 0, (t, s) => rfl
  | ⟨_ + 1, h⟩, _ => exact absurd h (Nat.not_lt.2 (Nat.le_add_left _ _))

/-- and the table with the region and its pipeline here. -/
theorem rows_defs_eq {F : FTy → Type} [FloatOps F] : (Cert.SampledRows.defs (F := F)) = (Cert.SampledRowsIdeal.defs (F := F)) :=
  congrArg (Pipeline.defs (Cert.SampledRowsIdeal.pcfgs (F := F))) rows_body_eq

set_option maxRecDepth 65536 in
set_option maxHeartbeats 4000000 in
/-- The gathering kernel runs and keeps its arguments where every sampled id is a row of the table. -/
theorem frame_SampledRows : Cert.quiescent_SampledRows (hPre_ids_ok := Cert.SwSpec.facts) := fun m ρ hpre => by
  rw [rows_defs_eq]
  exact Cert.SampledRowsIdeal.Hand.frame_run (F := Bits) m ρ fun c n hn => by
    rw [show Cert.SampledRowsIdeal.Hand.idA (F := Bits) m c = m (c.tc.loc Cert.SampledRowsIdeal.main_arg0) from Cert.SampledRowsIdeal.Gen.V_main_arg0 (F := Bits) m c]
    exact (Cert.SampledRowsIdeal.Out.word_row (@Cert.SwSpec.ids _ _ Cert.SwSpec.facts _ _ _ (hpre c)) n hn).2

/-- Its idealization does too. -/
theorem frame_SampledRowsIdeal : Cert.quiescent_SampledRowsIdeal (hPre_ids_ok := Cert.SwSpec.facts) := fun m ρ hpre =>
  Cert.SampledRowsIdeal.Hand.frame_run m ρ fun c n hn => by
    rw [show Cert.SampledRowsIdeal.Hand.idA m c = m (c.tc.loc Cert.SampledRowsIdeal.main_arg0) from Cert.SampledRowsIdeal.Gen.V_main_arg0 m c]
    exact (Cert.SampledRowsIdeal.Out.word_row (@Cert.SwSpec.ids _ _ Cert.SwSpec.facts _ _ _ (hpre c)) n hn).2

/-- The reference of the gathered rows runs, keeps its arguments, and has no semaphore to leave non-zero. -/
theorem frame_SampledRowsRef : Cert.quiescent_SampledRowsRefIdeal := fun m ρ _ =>
  (θ_run Cert.SampledRowsRefIdeal.defs _ _).mono (fun r h => ⟨fun c => (h c).2,
      Idealize.ShloMosaic.sem_eq_zero_of_no_sems (by decide) r.2⟩)
    (Cert.SampledRowsRefIdeal.Value.run m ρ)

/-- The gathering kernel and its reference leave the same rows: each sampled id's codes times their groups' scales. -/
theorem value_SampledRows : Cert.algebraic_SampledRowsIdeal_SampledRowsRefIdeal (hPre_ids_ok := Cert.SwSpec.facts) := by
  intro m ρ m' ρ' hpre hagree
  have hA : ∀ c, Cert.SwSpec.Ok (Cert.SampledRowsIdeal.Out.ids m c) := fun c => @Cert.SwSpec.ids _ _ Cert.SwSpec.facts _ _ _ (hpre c)
  refine ⟨fun c => Cert.SampledRowsIdeal.Out.outArr (Cert.SampledRowsIdeal.Out.ids m c) (Cert.SampledRowsIdeal.Out.tab m c) (Cert.SampledRowsIdeal.Out.sc m c),
    Cert.SampledRowsIdeal.Out.run m ρ hA, ?_⟩
  refine (θ_run Cert.SampledRowsRefIdeal.defs _ _).mono (fun _ h c => ⟨(h c).1.trans ?_, (h c).2⟩) (Cert.SampledRowsRefIdeal.Value.run m' ρ')
  obtain ⟨a0, a1, a2⟩ := hagree c
  rw [a0, a1, a2]
  funext i
  rw [eq_ix2 i]
  exact Cert.SampledRowsRefIdeal.Val.out_apply (hA c) (i 0) (i 1)

/-- Everything the certificate claims. -/
theorem claim : Cert.Claim := ⟨Cert.SampledDw.Gen.facts, Cert.SampledDwIdeal.Gen.facts, Cert.SampledDwRefIdeal.Gen.facts,
  Cert.LogitGrads.Gen.facts, Cert.LogitGradsIdeal.Gen.facts, Cert.LogitGradsRefIdeal.Gen.facts,
  Cert.SampledRows.Gen.facts, Cert.SampledRowsIdeal.Gen.facts, Cert.SampledRowsRefIdeal.Gen.facts,
  Cert.LgPre.factsT, Cert.LgPre.factsI, Cert.SwSpec.facts,
  fun m ρ _ => Cert.SampledDw.Gen.frame m ρ, fun m ρ _ => Cert.SampledDwIdeal.Gen.frame m ρ, frame_SampledDwRef,
  frame_LogitGrads, frame_LogitGradsIdeal, frame_LogitGradsIdeal_inputs, frame_LogitGradsRef, fun m ρ _ => frame_LogitGradsRef m ρ trivial,
  frame_SampledRows, frame_SampledRowsIdeal, frame_SampledRowsRef, fun m ρ _ => frame_SampledRowsRef m ρ trivial,
  trivial, value_SampledDw, trivial, value_LogitGrads, trivial, value_SampledRows⟩

end Cert.Proof

end
